-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In1Dw (m : (ℓ : Loc Cert.In1Dw.nD Cert.In1Dw.τ Cert.In1Dw.sig) → Buf (Elt Bits) ℓ) : Prop :=
  True

def Pre_In1DwIdeal (m : (ℓ : Loc Cert.In1DwIdeal.nD Cert.In1DwIdeal.τ Cert.In1DwIdeal.sig) → Buf (Elt Ideal) ℓ) : Prop :=
  True

def Pre_In1DwRefIdeal (m : (ℓ : Loc Cert.In1DwRefIdeal.nD Cert.In1DwRefIdeal.τ Cert.In1DwRefIdeal.sig) → Buf (Elt Ideal) ℓ) : Prop :=
  True

def Pre_In1Dx (m : (ℓ : Loc Cert.In1Dx.nD Cert.In1Dx.τ Cert.In1Dx.sig) → Buf (Elt Bits) ℓ) : Prop :=
  True

def Pre_In1DxIdeal (m : (ℓ : Loc Cert.In1DxIdeal.nD Cert.In1DxIdeal.τ Cert.In1DxIdeal.sig) → Buf (Elt Ideal) ℓ) : Prop :=
  True

def Pre_In1DxRefIdeal (m : (ℓ : Loc Cert.In1DxRefIdeal.nD Cert.In1DxRefIdeal.τ Cert.In1DxRefIdeal.sig) → Buf (Elt Ideal) ℓ) : Prop :=
  True

def Pre_In1 (m : (ℓ : Loc Cert.In1.nD Cert.In1.τ Cert.In1.sig) → Buf (Elt Bits) ℓ) : Prop :=
  True

def Pre_In1Ideal (m : (ℓ : Loc Cert.In1Ideal.nD Cert.In1Ideal.τ Cert.In1Ideal.sig) → Buf (Elt Ideal) ℓ) : Prop :=
  True

def Pre_In1RefIdeal (m : (ℓ : Loc Cert.In1RefIdeal.nD Cert.In1RefIdeal.τ Cert.In1RefIdeal.sig) → Buf (Elt Ideal) ℓ) : Prop :=
  True

def Pre_In0Dw (m : (ℓ : Loc Cert.In0Dw.nD Cert.In0Dw.τ Cert.In0Dw.sig) → Buf (Elt Bits) ℓ) : Prop :=
  True

def Pre_In0DwIdeal (m : (ℓ : Loc Cert.In0DwIdeal.nD Cert.In0DwIdeal.τ Cert.In0DwIdeal.sig) → Buf (Elt Ideal) ℓ) : Prop :=
  True

def Pre_In0DwRefIdeal (m : (ℓ : Loc Cert.In0DwRefIdeal.nD Cert.In0DwRefIdeal.τ Cert.In0DwRefIdeal.sig) → Buf (Elt Ideal) ℓ) : Prop :=
  True

def Pre_In0Dx (m : (ℓ : Loc Cert.In0Dx.nD Cert.In0Dx.τ Cert.In0Dx.sig) → Buf (Elt Bits) ℓ) : Prop :=
  True

def Pre_In0DxIdeal (m : (ℓ : Loc Cert.In0DxIdeal.nD Cert.In0DxIdeal.τ Cert.In0DxIdeal.sig) → Buf (Elt Ideal) ℓ) : Prop :=
  True

def Pre_In0DxRefIdeal (m : (ℓ : Loc Cert.In0DxRefIdeal.nD Cert.In0DxRefIdeal.τ Cert.In0DxRefIdeal.sig) → Buf (Elt Ideal) ℓ) : Prop :=
  True

def Pre_In0 (m : (ℓ : Loc Cert.In0.nD Cert.In0.τ Cert.In0.sig) → Buf (Elt Bits) ℓ) : Prop :=
  True

def Pre_In0Ideal (m : (ℓ : Loc Cert.In0Ideal.nD Cert.In0Ideal.τ Cert.In0Ideal.sig) → Buf (Elt Ideal) ℓ) : Prop :=
  True

def Pre_In0RefIdeal (m : (ℓ : Loc Cert.In0RefIdeal.nD Cert.In0RefIdeal.τ Cert.In0RefIdeal.sig) → Buf (Elt Ideal) ℓ) : Prop :=
  True

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsRefIdeal (m : (ℓ : Loc Cert.NormsRefIdeal.nD Cert.NormsRefIdeal.τ Cert.NormsRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_PoolDw (m : (ℓ : Loc Cert.PoolDw.nD Cert.PoolDw.τ Cert.PoolDw.sig) → Buf (Elt Bits) ℓ) : Prop :=
  True

def Pre_PoolDwIdeal (m : (ℓ : Loc Cert.PoolDwIdeal.nD Cert.PoolDwIdeal.τ Cert.PoolDwIdeal.sig) → Buf (Elt Ideal) ℓ) : Prop :=
  True

def Pre_PoolDwRefIdeal (m : (ℓ : Loc Cert.PoolDwRefIdeal.nD Cert.PoolDwRefIdeal.τ Cert.PoolDwRefIdeal.sig) → Buf (Elt Ideal) ℓ) : Prop :=
  True

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluIdeal_gradient_finite [hPre_gradient_finite : Cert.Pre_gradient_finite.Facts] (m : (ℓ : Loc Cert.SiluIdeal.nD Cert.SiluIdeal.τ Cert.SiluIdeal.sig) → Buf (Elt Ideal) ℓ) : Prop :=
  ∀ c : Dev Cert.SiluIdeal.nD,
    (Cert.Pre_gradient_finite.fn (F := Ideal) (m ((c.tc : Thread Cert.SiluIdeal.nD Cert.SiluIdeal.τ).loc Cert.SiluIdeal.main_arg0)) (m ((c.tc : Thread Cert.SiluIdeal.nD Cert.SiluIdeal.τ).loc Cert.SiluIdeal.main_arg1)) (m ((c.tc : Thread Cert.SiluIdeal.nD Cert.SiluIdeal.τ).loc Cert.SiluIdeal.main_arg2)) (m ((c.tc : Thread Cert.SiluIdeal.nD Cert.SiluIdeal.τ).loc Cert.SiluIdeal.main_arg3))) = (fun _ => 1#1)

def Pre_SiluRefIdeal (m : (ℓ : Loc Cert.SiluRefIdeal.nD Cert.SiluRefIdeal.τ Cert.SiluRefIdeal.sig) → Buf (Elt Ideal) ℓ) : Prop :=
  True

def Pre_SiluRefIdeal_gradient_finite [hPre_gradient_finite : Cert.Pre_gradient_finite.Facts] (m : (ℓ : Loc Cert.SiluRefIdeal.nD Cert.SiluRefIdeal.τ Cert.SiluRefIdeal.sig) → Buf (Elt Ideal) ℓ) : Prop :=
  ∀ c : Dev Cert.SiluRefIdeal.nD,
    (Cert.Pre_gradient_finite.fn (F := Ideal) (m ((c.tc : Thread Cert.SiluRefIdeal.nD Cert.SiluRefIdeal.τ).loc Cert.SiluRefIdeal.main_arg0)) (m ((c.tc : Thread Cert.SiluRefIdeal.nD Cert.SiluRefIdeal.τ).loc Cert.SiluRefIdeal.main_arg1)) (m ((c.tc : Thread Cert.SiluRefIdeal.nD Cert.SiluRefIdeal.τ).loc Cert.SiluRefIdeal.main_arg2)) (m ((c.tc : Thread Cert.SiluRefIdeal.nD Cert.SiluRefIdeal.τ).loc Cert.SiluRefIdeal.main_arg3))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_AdamGains (m : (ℓ : Loc Cert.AdamGains.nD Cert.AdamGains.τ Cert.AdamGains.sig) → Buf (Elt Bits) ℓ) : Prop :=
  True

def Pre_AdamGainsIdeal (m : (ℓ : Loc Cert.AdamGainsIdeal.nD Cert.AdamGainsIdeal.τ Cert.AdamGainsIdeal.sig) → Buf (Elt Ideal) ℓ) : Prop :=
  True

def Pre_AdamGainsRefIdeal (m : (ℓ : Loc Cert.AdamGainsRefIdeal.nD Cert.AdamGainsRefIdeal.τ Cert.AdamGainsRefIdeal.sig) → Buf (Elt Ideal) ℓ) : Prop :=
  True

def Pre_AdamAbIn (m : (ℓ : Loc Cert.AdamAbIn.nD Cert.AdamAbIn.τ Cert.AdamAbIn.sig) → Buf (Elt Bits) ℓ) : Prop :=
  True

def Pre_AdamAbInIdeal (m : (ℓ : Loc Cert.AdamAbInIdeal.nD Cert.AdamAbInIdeal.τ Cert.AdamAbInIdeal.sig) → Buf (Elt Ideal) ℓ) : Prop :=
  True

def Pre_AdamAbInRefIdeal (m : (ℓ : Loc Cert.AdamAbInRefIdeal.nD Cert.AdamAbInRefIdeal.τ Cert.AdamAbInRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamChannels (m : (ℓ : Loc Cert.AdamChannels.nD Cert.AdamChannels.τ Cert.AdamChannels.sig) → Buf (Elt Bits) ℓ) : Prop :=
  True

def Pre_AdamChannelsIdeal (m : (ℓ : Loc Cert.AdamChannelsIdeal.nD Cert.AdamChannelsIdeal.τ Cert.AdamChannelsIdeal.sig) → Buf (Elt Ideal) ℓ) : Prop :=
  True

def Pre_AdamChannelsRefIdeal (m : (ℓ : Loc Cert.AdamChannelsRefIdeal.nD Cert.AdamChannelsRefIdeal.τ Cert.AdamChannelsRefIdeal.sig) → Buf (Elt Ideal) ℓ) : Prop :=
  True

def Pre_AdamTaps (m : (ℓ : Loc Cert.AdamTaps.nD Cert.AdamTaps.τ Cert.AdamTaps.sig) → Buf (Elt Bits) ℓ) : Prop :=
  True

def Pre_AdamTapsIdeal (m : (ℓ : Loc Cert.AdamTapsIdeal.nD Cert.AdamTapsIdeal.τ Cert.AdamTapsIdeal.sig) → Buf (Elt Ideal) ℓ) : Prop :=
  True

def Pre_AdamTapsRefIdeal (m : (ℓ : Loc Cert.AdamTapsRefIdeal.nD Cert.AdamTapsRefIdeal.τ Cert.AdamTapsRefIdeal.sig) → Buf (Elt Ideal) ℓ) : Prop :=
  True

def Pre_AdamShortTaps (m : (ℓ : Loc Cert.AdamShortTaps.nD Cert.AdamShortTaps.τ Cert.AdamShortTaps.sig) → Buf (Elt Bits) ℓ) : Prop :=
  True

def Pre_AdamShortTapsIdeal (m : (ℓ : Loc Cert.AdamShortTapsIdeal.nD Cert.AdamShortTapsIdeal.τ Cert.AdamShortTapsIdeal.sig) → Buf (Elt Ideal) ℓ) : Prop :=
  True

def Pre_AdamShortTapsRefIdeal (m : (ℓ : Loc Cert.AdamShortTapsRefIdeal.nD Cert.AdamShortTapsRefIdeal.τ Cert.AdamShortTapsRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamShortIn (m : (ℓ : Loc Cert.AdamShortIn.nD Cert.AdamShortIn.τ Cert.AdamShortIn.sig) → Buf (Elt Bits) ℓ) : Prop :=
  True

def Pre_AdamShortInIdeal (m : (ℓ : Loc Cert.AdamShortInIdeal.nD Cert.AdamShortInIdeal.τ Cert.AdamShortInIdeal.sig) → Buf (Elt Ideal) ℓ) : Prop :=
  True

def Pre_AdamShortInRefIdeal (m : (ℓ : Loc Cert.AdamShortInRefIdeal.nD Cert.AdamShortInRefIdeal.τ Cert.AdamShortInRefIdeal.sig) → Buf (Elt Ideal) ℓ) : Prop :=
  True

def Pre_AdamFfnB (m : (ℓ : Loc Cert.AdamFfnB.nD Cert.AdamFfnB.τ Cert.AdamFfnB.sig) → Buf (Elt Bits) ℓ) : Prop :=
  True

def Pre_AdamFfnBIdeal (m : (ℓ : Loc Cert.AdamFfnBIdeal.nD Cert.AdamFfnBIdeal.τ Cert.AdamFfnBIdeal.sig) → Buf (Elt Ideal) ℓ) : Prop :=
  True

def Pre_AdamFfnBRefIdeal (m : (ℓ : Loc Cert.AdamFfnBRefIdeal.nD Cert.AdamFfnBRefIdeal.τ Cert.AdamFfnBRefIdeal.sig) → Buf (Elt Ideal) ℓ) : Prop :=
  True

def Pre_AdamFfnA (m : (ℓ : Loc Cert.AdamFfnA.nD Cert.AdamFfnA.τ Cert.AdamFfnA.sig) → Buf (Elt Bits) ℓ) : Prop :=
  True

def Pre_AdamFfnAIdeal (m : (ℓ : Loc Cert.AdamFfnAIdeal.nD Cert.AdamFfnAIdeal.τ Cert.AdamFfnAIdeal.sig) → Buf (Elt Ideal) ℓ) : Prop :=
  True

def Pre_AdamFfnARefIdeal (m : (ℓ : Loc Cert.AdamFfnARefIdeal.nD Cert.AdamFfnARefIdeal.τ Cert.AdamFfnARefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_In1Dw [hIn1Dw : Cert.In1Dw.Facts] : Prop :=
  ∀ (m : (ℓ : Loc Cert.In1Dw.nD Cert.In1Dw.τ Cert.In1Dw.sig) → Buf (Elt Bits) ℓ) (g : Dev Cert.In1Dw.nD → PrngReg), Pre_In1Dw m →
    θ_run (Cert.In1Dw.defs (F := Bits)) (onTc (τ := Cert.In1Dw.τ) (Cert.In1Dw.main (F := Bits))) ⟨m, fun _ => 0, g⟩ (fun r => (∀ c : Dev Cert.In1Dw.nD,
      r.2.mem ((c.tc : Thread Cert.In1Dw.nD Cert.In1Dw.τ).loc Cert.In1Dw.main_arg0) = m ((c.tc : Thread Cert.In1Dw.nD Cert.In1Dw.τ).loc Cert.In1Dw.main_arg0)
      ∧ r.2.mem ((c.tc : Thread Cert.In1Dw.nD Cert.In1Dw.τ).loc Cert.In1Dw.main_arg1) = m ((c.tc : Thread Cert.In1Dw.nD Cert.In1Dw.τ).loc Cert.In1Dw.main_arg1))
      ∧ r.2.sem = fun _ => 0)

def quiescent_In1DwIdeal [hIn1DwIdeal : Cert.In1DwIdeal.Facts] : Prop :=
  ∀ (m : (ℓ : Loc Cert.In1DwIdeal.nD Cert.In1DwIdeal.τ Cert.In1DwIdeal.sig) → Buf (Elt Ideal) ℓ) (g : Dev Cert.In1DwIdeal.nD → PrngReg), Pre_In1DwIdeal m →
    θ_run (Cert.In1DwIdeal.defs (F := Ideal)) (onTc (τ := Cert.In1DwIdeal.τ) (Cert.In1DwIdeal.main (F := Ideal))) ⟨m, fun _ => 0, g⟩ (fun r => (∀ c : Dev Cert.In1DwIdeal.nD,
      r.2.mem ((c.tc : Thread Cert.In1DwIdeal.nD Cert.In1DwIdeal.τ).loc Cert.In1DwIdeal.main_arg0) = m ((c.tc : Thread Cert.In1DwIdeal.nD Cert.In1DwIdeal.τ).loc Cert.In1DwIdeal.main_arg0)
      ∧ r.2.mem ((c.tc : Thread Cert.In1DwIdeal.nD Cert.In1DwIdeal.τ).loc Cert.In1DwIdeal.main_arg1) = m ((c.tc : Thread Cert.In1DwIdeal.nD Cert.In1DwIdeal.τ).loc Cert.In1DwIdeal.main_arg1))
      ∧ r.2.sem = fun _ => 0)

def quiescent_In1DwRefIdeal [hIn1DwRefIdeal : Cert.In1DwRefIdeal.Facts] : Prop :=
  ∀ (m : (ℓ : Loc Cert.In1DwRefIdeal.nD Cert.In1DwRefIdeal.τ Cert.In1DwRefIdeal.sig) → Buf (Elt Ideal) ℓ) (g : Dev Cert.In1DwRefIdeal.nD → PrngReg), Pre_In1DwRefIdeal m →
    θ_run (Cert.In1DwRefIdeal.defs (F := Ideal)) (onTc (τ := Cert.In1DwRefIdeal.τ) (Cert.In1DwRefIdeal.main (F := Ideal))) ⟨m, fun _ => 0, g⟩ (fun r => (∀ c : Dev Cert.In1DwRefIdeal.nD,
      r.2.mem ((c.tc : Thread Cert.In1DwRefIdeal.nD Cert.In1DwRefIdeal.τ).loc Cert.In1DwRefIdeal.main_arg0) = m ((c.tc : Thread Cert.In1DwRefIdeal.nD Cert.In1DwRefIdeal.τ).loc Cert.In1DwRefIdeal.main_arg0)
      ∧ r.2.mem ((c.tc : Thread Cert.In1DwRefIdeal.nD Cert.In1DwRefIdeal.τ).loc Cert.In1DwRefIdeal.main_arg1) = m ((c.tc : Thread Cert.In1DwRefIdeal.nD Cert.In1DwRefIdeal.τ).loc Cert.In1DwRefIdeal.main_arg1))
      ∧ r.2.sem = fun _ => 0)

def quiescent_In1Dx [hIn1Dx : Cert.In1Dx.Facts] : Prop :=
  ∀ (m : (ℓ : Loc Cert.In1Dx.nD Cert.In1Dx.τ Cert.In1Dx.sig) → Buf (Elt Bits) ℓ) (g : Dev Cert.In1Dx.nD → PrngReg), Pre_In1Dx m →
    θ_run (Cert.In1Dx.defs (F := Bits)) (onTc (τ := Cert.In1Dx.τ) (Cert.In1Dx.main (F := Bits))) ⟨m, fun _ => 0, g⟩ (fun r => (∀ c : Dev Cert.In1Dx.nD,
      r.2.mem ((c.tc : Thread Cert.In1Dx.nD Cert.In1Dx.τ).loc Cert.In1Dx.main_arg0) = m ((c.tc : Thread Cert.In1Dx.nD Cert.In1Dx.τ).loc Cert.In1Dx.main_arg0)
      ∧ r.2.mem ((c.tc : Thread Cert.In1Dx.nD Cert.In1Dx.τ).loc Cert.In1Dx.main_arg1) = m ((c.tc : Thread Cert.In1Dx.nD Cert.In1Dx.τ).loc Cert.In1Dx.main_arg1))
      ∧ r.2.sem = fun _ => 0)

def quiescent_In1DxIdeal [hIn1DxIdeal : Cert.In1DxIdeal.Facts] : Prop :=
  ∀ (m : (ℓ : Loc Cert.In1DxIdeal.nD Cert.In1DxIdeal.τ Cert.In1DxIdeal.sig) → Buf (Elt Ideal) ℓ) (g : Dev Cert.In1DxIdeal.nD → PrngReg), Pre_In1DxIdeal m →
    θ_run (Cert.In1DxIdeal.defs (F := Ideal)) (onTc (τ := Cert.In1DxIdeal.τ) (Cert.In1DxIdeal.main (F := Ideal))) ⟨m, fun _ => 0, g⟩ (fun r => (∀ c : Dev Cert.In1DxIdeal.nD,
      r.2.mem ((c.tc : Thread Cert.In1DxIdeal.nD Cert.In1DxIdeal.τ).loc Cert.In1DxIdeal.main_arg0) = m ((c.tc : Thread Cert.In1DxIdeal.nD Cert.In1DxIdeal.τ).loc Cert.In1DxIdeal.main_arg0)
      ∧ r.2.mem ((c.tc : Thread Cert.In1DxIdeal.nD Cert.In1DxIdeal.τ).loc Cert.In1DxIdeal.main_arg1) = m ((c.tc : Thread Cert.In1DxIdeal.nD Cert.In1DxIdeal.τ).loc Cert.In1DxIdeal.main_arg1))
      ∧ r.2.sem = fun _ => 0)

def quiescent_In1DxRefIdeal [hIn1DxRefIdeal : Cert.In1DxRefIdeal.Facts] : Prop :=
  ∀ (m : (ℓ : Loc Cert.In1DxRefIdeal.nD Cert.In1DxRefIdeal.τ Cert.In1DxRefIdeal.sig) → Buf (Elt Ideal) ℓ) (g : Dev Cert.In1DxRefIdeal.nD → PrngReg), Pre_In1DxRefIdeal m →
    θ_run (Cert.In1DxRefIdeal.defs (F := Ideal)) (onTc (τ := Cert.In1DxRefIdeal.τ) (Cert.In1DxRefIdeal.main (F := Ideal))) ⟨m, fun _ => 0, g⟩ (fun r => (∀ c : Dev Cert.In1DxRefIdeal.nD,
      r.2.mem ((c.tc : Thread Cert.In1DxRefIdeal.nD Cert.In1DxRefIdeal.τ).loc Cert.In1DxRefIdeal.main_arg0) = m ((c.tc : Thread Cert.In1DxRefIdeal.nD Cert.In1DxRefIdeal.τ).loc Cert.In1DxRefIdeal.main_arg0)
      ∧ r.2.mem ((c.tc : Thread Cert.In1DxRefIdeal.nD Cert.In1DxRefIdeal.τ).loc Cert.In1DxRefIdeal.main_arg1) = m ((c.tc : Thread Cert.In1DxRefIdeal.nD Cert.In1DxRefIdeal.τ).loc Cert.In1DxRefIdeal.main_arg1))
      ∧ r.2.sem = fun _ => 0)

def quiescent_In1 [hIn1 : Cert.In1.Facts] : Prop :=
  ∀ (m : (ℓ : Loc Cert.In1.nD Cert.In1.τ Cert.In1.sig) → Buf (Elt Bits) ℓ) (g : Dev Cert.In1.nD → PrngReg), Pre_In1 m →
    θ_run (Cert.In1.defs (F := Bits)) (onTc (τ := Cert.In1.τ) (Cert.In1.main (F := Bits))) ⟨m, fun _ => 0, g⟩ (fun r => (∀ c : Dev Cert.In1.nD,
      r.2.mem ((c.tc : Thread Cert.In1.nD Cert.In1.τ).loc Cert.In1.main_arg0) = m ((c.tc : Thread Cert.In1.nD Cert.In1.τ).loc Cert.In1.main_arg0)
      ∧ r.2.mem ((c.tc : Thread Cert.In1.nD Cert.In1.τ).loc Cert.In1.main_arg1) = m ((c.tc : Thread Cert.In1.nD Cert.In1.τ).loc Cert.In1.main_arg1))
      ∧ r.2.sem = fun _ => 0)

def quiescent_In1Ideal [hIn1Ideal : Cert.In1Ideal.Facts] : Prop :=
  ∀ (m : (ℓ : Loc Cert.In1Ideal.nD Cert.In1Ideal.τ Cert.In1Ideal.sig) → Buf (Elt Ideal) ℓ) (g : Dev Cert.In1Ideal.nD → PrngReg), Pre_In1Ideal m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1))
      ∧ r.2.sem = fun _ => 0)

def quiescent_In1RefIdeal [hIn1RefIdeal : Cert.In1RefIdeal.Facts] : Prop :=
  ∀ (m : (ℓ : Loc Cert.In1RefIdeal.nD Cert.In1RefIdeal.τ Cert.In1RefIdeal.sig) → Buf (Elt Ideal) ℓ) (g : Dev Cert.In1RefIdeal.nD → PrngReg), Pre_In1RefIdeal m →
    θ_run (Cert.In1RefIdeal.defs (F := Ideal)) (onTc (τ := Cert.In1RefIdeal.τ) (Cert.In1RefIdeal.main (F := Ideal))) ⟨m, fun _ => 0, g⟩ (fun r => (∀ c : Dev Cert.In1RefIdeal.nD,
      r.2.mem ((c.tc : Thread Cert.In1RefIdeal.nD Cert.In1RefIdeal.τ).loc Cert.In1RefIdeal.main_arg0) = m ((c.tc : Thread Cert.In1RefIdeal.nD Cert.In1RefIdeal.τ).loc Cert.In1RefIdeal.main_arg0)
      ∧ r.2.mem ((c.tc : Thread Cert.In1RefIdeal.nD Cert.In1RefIdeal.τ).loc Cert.In1RefIdeal.main_arg1) = m ((c.tc : Thread Cert.In1RefIdeal.nD Cert.In1RefIdeal.τ).loc Cert.In1RefIdeal.main_arg1))
      ∧ r.2.sem = fun _ => 0)

def quiescent_In0Dw [hIn0Dw : Cert.In0Dw.Facts] : Prop :=
  ∀ (m : (ℓ : Loc Cert.In0Dw.nD Cert.In0Dw.τ Cert.In0Dw.sig) → Buf (Elt Bits) ℓ) (g : Dev Cert.In0Dw.nD → PrngReg), Pre_In0Dw m →
    θ_run (Cert.In0Dw.defs (F := Bits)) (onTc (τ := Cert.In0Dw.τ) (Cert.In0Dw.main (F := Bits))) ⟨m, fun _ => 0, g⟩ (fun r => (∀ c : Dev Cert.In0Dw.nD,
      r.2.mem ((c.tc : Thread Cert.In0Dw.nD Cert.In0Dw.τ).loc Cert.In0Dw.main_arg0) = m ((c.tc : Thread Cert.In0Dw.nD Cert.In0Dw.τ).loc Cert.In0Dw.main_arg0)
      ∧ r.2.mem ((c.tc : Thread Cert.In0Dw.nD Cert.In0Dw.τ).loc Cert.In0Dw.main_arg1) = m ((c.tc : Thread Cert.In0Dw.nD Cert.In0Dw.τ).loc Cert.In0Dw.main_arg1))
      ∧ r.2.sem = fun _ => 0)

def quiescent_In0DwIdeal [hIn0DwIdeal : Cert.In0DwIdeal.Facts] : Prop :=
  ∀ (m : (ℓ : Loc Cert.In0DwIdeal.nD Cert.In0DwIdeal.τ Cert.In0DwIdeal.sig) → Buf (Elt Ideal) ℓ) (g : Dev Cert.In0DwIdeal.nD → PrngReg), Pre_In0DwIdeal m →
    θ_run (Cert.In0DwIdeal.defs (F := Ideal)) (onTc (τ := Cert.In0DwIdeal.τ) (Cert.In0DwIdeal.main (F := Ideal))) ⟨m, fun _ => 0, g⟩ (fun r => (∀ c : Dev Cert.In0DwIdeal.nD,
      r.2.mem ((c.tc : Thread Cert.In0DwIdeal.nD Cert.In0DwIdeal.τ).loc Cert.In0DwIdeal.main_arg0) = m ((c.tc : Thread Cert.In0DwIdeal.nD Cert.In0DwIdeal.τ).loc Cert.In0DwIdeal.main_arg0)
      ∧ r.2.mem ((c.tc : Thread Cert.In0DwIdeal.nD Cert.In0DwIdeal.τ).loc Cert.In0DwIdeal.main_arg1) = m ((c.tc : Thread Cert.In0DwIdeal.nD Cert.In0DwIdeal.τ).loc Cert.In0DwIdeal.main_arg1))
      ∧ r.2.sem = fun _ => 0)

def quiescent_In0DwRefIdeal [hIn0DwRefIdeal : Cert.In0DwRefIdeal.Facts] : Prop :=
  ∀ (m : (ℓ : Loc Cert.In0DwRefIdeal.nD Cert.In0DwRefIdeal.τ Cert.In0DwRefIdeal.sig) → Buf (Elt Ideal) ℓ) (g : Dev Cert.In0DwRefIdeal.nD → PrngReg), Pre_In0DwRefIdeal m →
    θ_run (Cert.In0DwRefIdeal.defs (F := Ideal)) (onTc (τ := Cert.In0DwRefIdeal.τ) (Cert.In0DwRefIdeal.main (F := Ideal))) ⟨m, fun _ => 0, g⟩ (fun r => (∀ c : Dev Cert.In0DwRefIdeal.nD,
      r.2.mem ((c.tc : Thread Cert.In0DwRefIdeal.nD Cert.In0DwRefIdeal.τ).loc Cert.In0DwRefIdeal.main_arg0) = m ((c.tc : Thread Cert.In0DwRefIdeal.nD Cert.In0DwRefIdeal.τ).loc Cert.In0DwRefIdeal.main_arg0)
      ∧ r.2.mem ((c.tc : Thread Cert.In0DwRefIdeal.nD Cert.In0DwRefIdeal.τ).loc Cert.In0DwRefIdeal.main_arg1) = m ((c.tc : Thread Cert.In0DwRefIdeal.nD Cert.In0DwRefIdeal.τ).loc Cert.In0DwRefIdeal.main_arg1))
      ∧ r.2.sem = fun _ => 0)

def quiescent_In0Dx [hIn0Dx : Cert.In0Dx.Facts] : Prop :=
  ∀ (m : (ℓ : Loc Cert.In0Dx.nD Cert.In0Dx.τ Cert.In0Dx.sig) → Buf (Elt Bits) ℓ) (g : Dev Cert.In0Dx.nD → PrngReg), Pre_In0Dx m →
    θ_run (Cert.In0Dx.defs (F := Bits)) (onTc (τ := Cert.In0Dx.τ) (Cert.In0Dx.main (F := Bits))) ⟨m, fun _ => 0, g⟩ (fun r => (∀ c : Dev Cert.In0Dx.nD,
      r.2.mem ((c.tc : Thread Cert.In0Dx.nD Cert.In0Dx.τ).loc Cert.In0Dx.main_arg0) = m ((c.tc : Thread Cert.In0Dx.nD Cert.In0Dx.τ).loc Cert.In0Dx.main_arg0)
      ∧ r.2.mem ((c.tc : Thread Cert.In0Dx.nD Cert.In0Dx.τ).loc Cert.In0Dx.main_arg1) = m ((c.tc : Thread Cert.In0Dx.nD Cert.In0Dx.τ).loc Cert.In0Dx.main_arg1))
      ∧ r.2.sem = fun _ => 0)

def quiescent_In0DxIdeal [hIn0DxIdeal : Cert.In0DxIdeal.Facts] : Prop :=
  ∀ (m : (ℓ : Loc Cert.In0DxIdeal.nD Cert.In0DxIdeal.τ Cert.In0DxIdeal.sig) → Buf (Elt Ideal) ℓ) (g : Dev Cert.In0DxIdeal.nD → PrngReg), Pre_In0DxIdeal m →
    θ_run (Cert.In0DxIdeal.defs (F := Ideal)) (onTc (τ := Cert.In0DxIdeal.τ) (Cert.In0DxIdeal.main (F := Ideal))) ⟨m, fun _ => 0, g⟩ (fun r => (∀ c : Dev Cert.In0DxIdeal.nD,
      r.2.mem ((c.tc : Thread Cert.In0DxIdeal.nD Cert.In0DxIdeal.τ).loc Cert.In0DxIdeal.main_arg0) = m ((c.tc : Thread Cert.In0DxIdeal.nD Cert.In0DxIdeal.τ).loc Cert.In0DxIdeal.main_arg0)
      ∧ r.2.mem ((c.tc : Thread Cert.In0DxIdeal.nD Cert.In0DxIdeal.τ).loc Cert.In0DxIdeal.main_arg1) = m ((c.tc : Thread Cert.In0DxIdeal.nD Cert.In0DxIdeal.τ).loc Cert.In0DxIdeal.main_arg1))
      ∧ r.2.sem = fun _ => 0)

def quiescent_In0DxRefIdeal [hIn0DxRefIdeal : Cert.In0DxRefIdeal.Facts] : Prop :=
  ∀ (m : (ℓ : Loc Cert.In0DxRefIdeal.nD Cert.In0DxRefIdeal.τ Cert.In0DxRefIdeal.sig) → Buf (Elt Ideal) ℓ) (g : Dev Cert.In0DxRefIdeal.nD → PrngReg), Pre_In0DxRefIdeal m →
    θ_run (Cert.In0DxRefIdeal.defs (F := Ideal)) (onTc (τ := Cert.In0DxRefIdeal.τ) (Cert.In0DxRefIdeal.main (F := Ideal))) ⟨m, fun _ => 0, g⟩ (fun r => (∀ c : Dev Cert.In0DxRefIdeal.nD,
      r.2.mem ((c.tc : Thread Cert.In0DxRefIdeal.nD Cert.In0DxRefIdeal.τ).loc Cert.In0DxRefIdeal.main_arg0) = m ((c.tc : Thread Cert.In0DxRefIdeal.nD Cert.In0DxRefIdeal.τ).loc Cert.In0DxRefIdeal.main_arg0)
      ∧ r.2.mem ((c.tc : Thread Cert.In0DxRefIdeal.nD Cert.In0DxRefIdeal.τ).loc Cert.In0DxRefIdeal.main_arg1) = m ((c.tc : Thread Cert.In0DxRefIdeal.nD Cert.In0DxRefIdeal.τ).loc Cert.In0DxRefIdeal.main_arg1))
      ∧ r.2.sem = fun _ => 0)

def quiescent_In0 [hIn0 : Cert.In0.Facts] : Prop :=
  ∀ (m : (ℓ : Loc Cert.In0.nD Cert.In0.τ Cert.In0.sig) → Buf (Elt Bits) ℓ) (g : Dev Cert.In0.nD → PrngReg), Pre_In0 m →
    θ_run (Cert.In0.defs (F := Bits)) (onTc (τ := Cert.In0.τ) (Cert.In0.main (F := Bits))) ⟨m, fun _ => 0, g⟩ (fun r => (∀ c : Dev Cert.In0.nD,
      r.2.mem ((c.tc : Thread Cert.In0.nD Cert.In0.τ).loc Cert.In0.main_arg0) = m ((c.tc : Thread Cert.In0.nD Cert.In0.τ).loc Cert.In0.main_arg0)
      ∧ r.2.mem ((c.tc : Thread Cert.In0.nD Cert.In0.τ).loc Cert.In0.main_arg1) = m ((c.tc : Thread Cert.In0.nD Cert.In0.τ).loc Cert.In0.main_arg1))
      ∧ r.2.sem = fun _ => 0)

def quiescent_In0Ideal [hIn0Ideal : Cert.In0Ideal.Facts] : Prop :=
  ∀ (m : (ℓ : Loc Cert.In0Ideal.nD Cert.In0Ideal.τ Cert.In0Ideal.sig) → Buf (Elt Ideal) ℓ) (g : Dev Cert.In0Ideal.nD → PrngReg), Pre_In0Ideal m →
    θ_run (Cert.In0Ideal.defs (F := Ideal)) (onTc (τ := Cert.In0Ideal.τ) (Cert.In0Ideal.main (F := Ideal))) ⟨m, fun _ => 0, g⟩ (fun r => (∀ c : Dev Cert.In0Ideal.nD,
      r.2.mem ((c.tc : Thread Cert.In0Ideal.nD Cert.In0Ideal.τ).loc Cert.In0Ideal.main_arg0) = m ((c.tc : Thread Cert.In0Ideal.nD Cert.In0Ideal.τ).loc Cert.In0Ideal.main_arg0)
      ∧ r.2.mem ((c.tc : Thread Cert.In0Ideal.nD Cert.In0Ideal.τ).loc Cert.In0Ideal.main_arg1) = m ((c.tc : Thread Cert.In0Ideal.nD Cert.In0Ideal.τ).loc Cert.In0Ideal.main_arg1))
      ∧ r.2.sem = fun _ => 0)

def quiescent_In0RefIdeal [hIn0RefIdeal : Cert.In0RefIdeal.Facts] : Prop :=
  ∀ (m : (ℓ : Loc Cert.In0RefIdeal.nD Cert.In0RefIdeal.τ Cert.In0RefIdeal.sig) → Buf (Elt Ideal) ℓ) (g : Dev Cert.In0RefIdeal.nD → PrngReg), Pre_In0RefIdeal m →
    θ_run (Cert.In0RefIdeal.defs (F := Ideal)) (onTc (τ := Cert.In0RefIdeal.τ) (Cert.In0RefIdeal.main (F := Ideal))) ⟨m, fun _ => 0, g⟩ (fun r => (∀ c : Dev Cert.In0RefIdeal.nD,
      r.2.mem ((c.tc : Thread Cert.In0RefIdeal.nD Cert.In0RefIdeal.τ).loc Cert.In0RefIdeal.main_arg0) = m ((c.tc : Thread Cert.In0RefIdeal.nD Cert.In0RefIdeal.τ).loc Cert.In0RefIdeal.main_arg0)
      ∧ r.2.mem ((c.tc : Thread Cert.In0RefIdeal.nD Cert.In0RefIdeal.τ).loc Cert.In0RefIdeal.main_arg1) = m ((c.tc : Thread Cert.In0RefIdeal.nD Cert.In0RefIdeal.τ).loc Cert.In0RefIdeal.main_arg1))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1)
      ∧ r.2.mem ((c.tc : Thread Cert.Norms.nD Cert.Norms.τ).loc Cert.Norms.main_arg2) = m ((c.tc : Thread Cert.Norms.nD Cert.Norms.τ).loc Cert.Norms.main_arg2)
      ∧ r.2.mem ((c.tc : Thread Cert.Norms.nD Cert.Norms.τ).loc Cert.Norms.main_arg3) = m ((c.tc : Thread Cert.Norms.nD Cert.Norms.τ).loc Cert.Norms.main_arg3)
      ∧ r.2.mem ((c.tc : Thread Cert.Norms.nD Cert.Norms.τ).loc Cert.Norms.main_arg4) = m ((c.tc : Thread Cert.Norms.nD Cert.Norms.τ).loc Cert.Norms.main_arg4)
      ∧ r.2.mem ((c.tc : Thread Cert.Norms.nD Cert.Norms.τ).loc Cert.Norms.main_arg5) = m ((c.tc : Thread Cert.Norms.nD Cert.Norms.τ).loc Cert.Norms.main_arg5))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
      ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
      ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
      ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
      ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5))
      ∧ r.2.sem = fun _ => 0)

def quiescent_NormsRefIdeal [hNormsRefIdeal : Cert.NormsRefIdeal.Facts] : Prop :=
  ∀ (m : (ℓ : Loc Cert.NormsRefIdeal.nD Cert.NormsRefIdeal.τ Cert.NormsRefIdeal.sig) → Buf (Elt Ideal) ℓ) (g : Dev Cert.NormsRefIdeal.nD → PrngReg), Pre_NormsRefIdeal m →
    θ_run (Cert.NormsRefIdeal.defs (F := Ideal)) (onTc (τ := Cert.NormsRefIdeal.τ) (Cert.NormsRefIdeal.main (F := Ideal))) ⟨m, fun _ => 0, g⟩ (fun r => (∀ c : Dev Cert.NormsRefIdeal.nD,
      r.2.mem ((c.tc : Thread Cert.NormsRefIdeal.nD Cert.NormsRefIdeal.τ).loc Cert.NormsRefIdeal.main_arg0) = m ((c.tc : Thread Cert.NormsRefIdeal.nD Cert.NormsRefIdeal.τ).loc Cert.NormsRefIdeal.main_arg0)
      ∧ r.2.mem ((c.tc : Thread Cert.NormsRefIdeal.nD Cert.NormsRefIdeal.τ).loc Cert.NormsRefIdeal.main_arg1) = m ((c.tc : Thread Cert.NormsRefIdeal.nD Cert.NormsRefIdeal.τ).loc Cert.NormsRefIdeal.main_arg1)
      ∧ r.2.mem ((c.tc : Thread Cert.NormsRefIdeal.nD Cert.NormsRefIdeal.τ).loc Cert.NormsRefIdeal.main_arg2) = m ((c.tc : Thread Cert.NormsRefIdeal.nD Cert.NormsRefIdeal.τ).loc Cert.NormsRefIdeal.main_arg2)
      ∧ r.2.mem ((c.tc : Thread Cert.NormsRefIdeal.nD Cert.NormsRefIdeal.τ).loc Cert.NormsRefIdeal.main_arg3) = m ((c.tc : Thread Cert.NormsRefIdeal.nD Cert.NormsRefIdeal.τ).loc Cert.NormsRefIdeal.main_arg3)
      ∧ r.2.mem ((c.tc : Thread Cert.NormsRefIdeal.nD Cert.NormsRefIdeal.τ).loc Cert.NormsRefIdeal.main_arg4) = m ((c.tc : Thread Cert.NormsRefIdeal.nD Cert.NormsRefIdeal.τ).loc Cert.NormsRefIdeal.main_arg4)
      ∧ r.2.mem ((c.tc : Thread Cert.NormsRefIdeal.nD Cert.NormsRefIdeal.τ).loc Cert.NormsRefIdeal.main_arg5) = m ((c.tc : Thread Cert.NormsRefIdeal.nD Cert.NormsRefIdeal.τ).loc Cert.NormsRefIdeal.main_arg5))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_PoolDw [hPoolDw : Cert.PoolDw.Facts] : Prop :=
  ∀ (m : (ℓ : Loc Cert.PoolDw.nD Cert.PoolDw.τ Cert.PoolDw.sig) → Buf (Elt Bits) ℓ) (g : Dev Cert.PoolDw.nD → PrngReg), Pre_PoolDw m →
    θ_run (Cert.PoolDw.defs (F := Bits)) (onTc (τ := Cert.PoolDw.τ) (Cert.PoolDw.main (F := Bits))) ⟨m, fun _ => 0, g⟩ (fun r => (∀ c : Dev Cert.PoolDw.nD,
      r.2.mem ((c.tc : Thread Cert.PoolDw.nD Cert.PoolDw.τ).loc Cert.PoolDw.main_arg0) = m ((c.tc : Thread Cert.PoolDw.nD Cert.PoolDw.τ).loc Cert.PoolDw.main_arg0)
      ∧ r.2.mem ((c.tc : Thread Cert.PoolDw.nD Cert.PoolDw.τ).loc Cert.PoolDw.main_arg1) = m ((c.tc : Thread Cert.PoolDw.nD Cert.PoolDw.τ).loc Cert.PoolDw.main_arg1)
      ∧ r.2.mem ((c.tc : Thread Cert.PoolDw.nD Cert.PoolDw.τ).loc Cert.PoolDw.main_arg2) = m ((c.tc : Thread Cert.PoolDw.nD Cert.PoolDw.τ).loc Cert.PoolDw.main_arg2)
      ∧ r.2.mem ((c.tc : Thread Cert.PoolDw.nD Cert.PoolDw.τ).loc Cert.PoolDw.main_arg3) = m ((c.tc : Thread Cert.PoolDw.nD Cert.PoolDw.τ).loc Cert.PoolDw.main_arg3))
      ∧ r.2.sem = fun _ => 0)

def quiescent_PoolDwIdeal [hPoolDwIdeal : Cert.PoolDwIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg), Pre_PoolDwIdeal m →
    θ_run (Cert.PoolDwIdeal.defs (F := Ideal)) (onTc (τ := Cert.PoolDwIdeal.τ) (Cert.PoolDwIdeal.main (F := Ideal))) ⟨m, fun _ => 0, g⟩ (fun r => (∀ c : Dev Cert.PoolDwIdeal.nD,
      r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
      ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1)
      ∧ r.2.mem ((c.tc : Thread Cert.PoolDwIdeal.nD Cert.PoolDwIdeal.τ).loc Cert.PoolDwIdeal.main_arg2) = m ((c.tc : Thread Cert.PoolDwIdeal.nD Cert.PoolDwIdeal.τ).loc Cert.PoolDwIdeal.main_arg2)
      ∧ r.2.mem ((c.tc : Thread Cert.PoolDwIdeal.nD Cert.PoolDwIdeal.τ).loc Cert.PoolDwIdeal.main_arg3) = m ((c.tc : Thread Cert.PoolDwIdeal.nD Cert.PoolDwIdeal.τ).loc Cert.PoolDwIdeal.main_arg3))
      ∧ r.2.sem = fun _ => 0)

def quiescent_PoolDwRefIdeal [hPoolDwRefIdeal : Cert.PoolDwRefIdeal.Facts] : Prop :=
  ∀ (m : (ℓ : Loc Cert.PoolDwRefIdeal.nD Cert.PoolDwRefIdeal.τ Cert.PoolDwRefIdeal.sig) → Buf (Elt Ideal) ℓ) (g : Dev Cert.PoolDwRefIdeal.nD → PrngReg), Pre_PoolDwRefIdeal m →
    θ_run (Cert.PoolDwRefIdeal.defs (F := Ideal)) (onTc (τ := Cert.PoolDwRefIdeal.τ) (Cert.PoolDwRefIdeal.main (F := Ideal))) ⟨m, fun _ => 0, g⟩ (fun r => (∀ c : Dev Cert.PoolDwRefIdeal.nD,
      r.2.mem ((c.tc : Thread Cert.PoolDwRefIdeal.nD Cert.PoolDwRefIdeal.τ).loc Cert.PoolDwRefIdeal.main_arg0) = m ((c.tc : Thread Cert.PoolDwRefIdeal.nD Cert.PoolDwRefIdeal.τ).loc Cert.PoolDwRefIdeal.main_arg0)
      ∧ r.2.mem ((c.tc : Thread Cert.PoolDwRefIdeal.nD Cert.PoolDwRefIdeal.τ).loc Cert.PoolDwRefIdeal.main_arg1) = m ((c.tc : Thread Cert.PoolDwRefIdeal.nD Cert.PoolDwRefIdeal.τ).loc Cert.PoolDwRefIdeal.main_arg1)
      ∧ r.2.mem ((c.tc : Thread Cert.PoolDwRefIdeal.nD Cert.PoolDwRefIdeal.τ).loc Cert.PoolDwRefIdeal.main_arg2) = m ((c.tc : Thread Cert.PoolDwRefIdeal.nD Cert.PoolDwRefIdeal.τ).loc Cert.PoolDwRefIdeal.main_arg2)
      ∧ r.2.mem ((c.tc : Thread Cert.PoolDwRefIdeal.nD Cert.PoolDwRefIdeal.τ).loc Cert.PoolDwRefIdeal.main_arg3) = m ((c.tc : Thread Cert.PoolDwRefIdeal.nD Cert.PoolDwRefIdeal.τ).loc Cert.PoolDwRefIdeal.main_arg3))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0)
      ∧ r.2.mem ((c.tc : Thread Cert.Silu.nD Cert.Silu.τ).loc Cert.Silu.main_arg1) = m ((c.tc : Thread Cert.Silu.nD Cert.Silu.τ).loc Cert.Silu.main_arg1)
      ∧ r.2.mem ((c.tc : Thread Cert.Silu.nD Cert.Silu.τ).loc Cert.Silu.main_arg2) = m ((c.tc : Thread Cert.Silu.nD Cert.Silu.τ).loc Cert.Silu.main_arg2)
      ∧ r.2.mem ((c.tc : Thread Cert.Silu.nD Cert.Silu.τ).loc Cert.Silu.main_arg3) = m ((c.tc : Thread Cert.Silu.nD Cert.Silu.τ).loc Cert.Silu.main_arg3))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
      ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2)
      ∧ r.2.mem ((c.tc : Thread Cert.SiluIdeal.nD Cert.SiluIdeal.τ).loc Cert.SiluIdeal.main_arg3) = m ((c.tc : Thread Cert.SiluIdeal.nD Cert.SiluIdeal.τ).loc Cert.SiluIdeal.main_arg3))
      ∧ r.2.sem = fun _ => 0)

def quiescent_SiluIdeal_pre_gradient_finite [hSiluIdeal : Cert.SiluIdeal.Facts] [hPre_gradient_finite : Cert.Pre_gradient_finite.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal_gradient_finite m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
      ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2)
      ∧ r.2.mem ((c.tc : Thread Cert.SiluIdeal.nD Cert.SiluIdeal.τ).loc Cert.SiluIdeal.main_arg3) = m ((c.tc : Thread Cert.SiluIdeal.nD Cert.SiluIdeal.τ).loc Cert.SiluIdeal.main_arg3))
      ∧ r.2.sem = fun _ => 0)

def quiescent_SiluRefIdeal [hSiluRefIdeal : Cert.SiluRefIdeal.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0)
      ∧ r.2.mem ((c.tc : Thread Cert.SiluRefIdeal.nD Cert.SiluRefIdeal.τ).loc Cert.SiluRefIdeal.main_arg1) = m ((c.tc : Thread Cert.SiluRefIdeal.nD Cert.SiluRefIdeal.τ).loc Cert.SiluRefIdeal.main_arg1)
      ∧ r.2.mem ((c.tc : Thread Cert.SiluRefIdeal.nD Cert.SiluRefIdeal.τ).loc Cert.SiluRefIdeal.main_arg2) = m ((c.tc : Thread Cert.SiluRefIdeal.nD Cert.SiluRefIdeal.τ).loc Cert.SiluRefIdeal.main_arg2)
      ∧ r.2.mem ((c.tc : Thread Cert.SiluRefIdeal.nD Cert.SiluRefIdeal.τ).loc Cert.SiluRefIdeal.main_arg3) = m ((c.tc : Thread Cert.SiluRefIdeal.nD Cert.SiluRefIdeal.τ).loc Cert.SiluRefIdeal.main_arg3))
      ∧ r.2.sem = fun _ => 0)

def quiescent_SiluRefIdeal_pre_gradient_finite [hSiluRefIdeal : Cert.SiluRefIdeal.Facts] [hPre_gradient_finite : Cert.Pre_gradient_finite.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal_gradient_finite m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0)
      ∧ r.2.mem ((c.tc : Thread Cert.SiluRefIdeal.nD Cert.SiluRefIdeal.τ).loc Cert.SiluRefIdeal.main_arg1) = m ((c.tc : Thread Cert.SiluRefIdeal.nD Cert.SiluRefIdeal.τ).loc Cert.SiluRefIdeal.main_arg1)
      ∧ r.2.mem ((c.tc : Thread Cert.SiluRefIdeal.nD Cert.SiluRefIdeal.τ).loc Cert.SiluRefIdeal.main_arg2) = m ((c.tc : Thread Cert.SiluRefIdeal.nD Cert.SiluRefIdeal.τ).loc Cert.SiluRefIdeal.main_arg2)
      ∧ r.2.mem ((c.tc : Thread Cert.SiluRefIdeal.nD Cert.SiluRefIdeal.τ).loc Cert.SiluRefIdeal.main_arg3) = m ((c.tc : Thread Cert.SiluRefIdeal.nD Cert.SiluRefIdeal.τ).loc Cert.SiluRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_AdamGains [hAdamGains : Cert.AdamGains.Facts] : Prop :=
  ∀ (m : (ℓ : Loc Cert.AdamGains.nD Cert.AdamGains.τ Cert.AdamGains.sig) → Buf (Elt Bits) ℓ) (g : Dev Cert.AdamGains.nD → PrngReg), Pre_AdamGains m →
    θ_run (Cert.AdamGains.defs (F := Bits)) (onTc (τ := Cert.AdamGains.τ) (Cert.AdamGains.main (F := Bits))) ⟨m, fun _ => 0, g⟩ (fun r => (∀ c : Dev Cert.AdamGains.nD,
      r.2.mem ((c.tc : Thread Cert.AdamGains.nD Cert.AdamGains.τ).loc Cert.AdamGains.main_arg0) = m ((c.tc : Thread Cert.AdamGains.nD Cert.AdamGains.τ).loc Cert.AdamGains.main_arg0)
      ∧ r.2.mem ((c.tc : Thread Cert.AdamGains.nD Cert.AdamGains.τ).loc Cert.AdamGains.main_arg1) = m ((c.tc : Thread Cert.AdamGains.nD Cert.AdamGains.τ).loc Cert.AdamGains.main_arg1)
      ∧ r.2.mem ((c.tc : Thread Cert.AdamGains.nD Cert.AdamGains.τ).loc Cert.AdamGains.main_arg2) = m ((c.tc : Thread Cert.AdamGains.nD Cert.AdamGains.τ).loc Cert.AdamGains.main_arg2)
      ∧ r.2.mem ((c.tc : Thread Cert.AdamGains.nD Cert.AdamGains.τ).loc Cert.AdamGains.main_arg3) = m ((c.tc : Thread Cert.AdamGains.nD Cert.AdamGains.τ).loc Cert.AdamGains.main_arg3))
      ∧ r.2.sem = fun _ => 0)

def quiescent_AdamGainsIdeal [hAdamGainsIdeal : Cert.AdamGainsIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg), Pre_AdamGainsIdeal m →
    θ_run (Cert.AdamGainsIdeal.defs (F := Ideal)) (onTc (τ := Cert.AdamGainsIdeal.τ) (Cert.AdamGainsIdeal.main (F := Ideal))) ⟨m, fun _ => 0, g⟩ (fun r => (∀ c : Dev Cert.AdamGainsIdeal.nD,
      r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
      ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
      ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
      ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ r.2.sem = fun _ => 0)

def quiescent_AdamGainsRefIdeal [hAdamGainsRefIdeal : Cert.AdamGainsRefIdeal.Facts] : Prop :=
  ∀ (m : (ℓ : Loc Cert.AdamGainsRefIdeal.nD Cert.AdamGainsRefIdeal.τ Cert.AdamGainsRefIdeal.sig) → Buf (Elt Ideal) ℓ) (g : Dev Cert.AdamGainsRefIdeal.nD → PrngReg), Pre_AdamGainsRefIdeal m →
    θ_run (Cert.AdamGainsRefIdeal.defs (F := Ideal)) (onTc (τ := Cert.AdamGainsRefIdeal.τ) (Cert.AdamGainsRefIdeal.main (F := Ideal))) ⟨m, fun _ => 0, g⟩ (fun r => (∀ c : Dev Cert.AdamGainsRefIdeal.nD,
      r.2.mem ((c.tc : Thread Cert.AdamGainsRefIdeal.nD Cert.AdamGainsRefIdeal.τ).loc Cert.AdamGainsRefIdeal.main_arg0) = m ((c.tc : Thread Cert.AdamGainsRefIdeal.nD Cert.AdamGainsRefIdeal.τ).loc Cert.AdamGainsRefIdeal.main_arg0)
      ∧ r.2.mem ((c.tc : Thread Cert.AdamGainsRefIdeal.nD Cert.AdamGainsRefIdeal.τ).loc Cert.AdamGainsRefIdeal.main_arg1) = m ((c.tc : Thread Cert.AdamGainsRefIdeal.nD Cert.AdamGainsRefIdeal.τ).loc Cert.AdamGainsRefIdeal.main_arg1)
      ∧ r.2.mem ((c.tc : Thread Cert.AdamGainsRefIdeal.nD Cert.AdamGainsRefIdeal.τ).loc Cert.AdamGainsRefIdeal.main_arg2) = m ((c.tc : Thread Cert.AdamGainsRefIdeal.nD Cert.AdamGainsRefIdeal.τ).loc Cert.AdamGainsRefIdeal.main_arg2)
      ∧ r.2.mem ((c.tc : Thread Cert.AdamGainsRefIdeal.nD Cert.AdamGainsRefIdeal.τ).loc Cert.AdamGainsRefIdeal.main_arg3) = m ((c.tc : Thread Cert.AdamGainsRefIdeal.nD Cert.AdamGainsRefIdeal.τ).loc Cert.AdamGainsRefIdeal.main_arg3))
      ∧ r.2.sem = fun _ => 0)

def quiescent_AdamAbIn [hAdamAbIn : Cert.AdamAbIn.Facts] : Prop :=
  ∀ (m : (ℓ : Loc Cert.AdamAbIn.nD Cert.AdamAbIn.τ Cert.AdamAbIn.sig) → Buf (Elt Bits) ℓ) (g : Dev Cert.AdamAbIn.nD → PrngReg), Pre_AdamAbIn m →
    θ_run (Cert.AdamAbIn.defs (F := Bits)) (onTc (τ := Cert.AdamAbIn.τ) (Cert.AdamAbIn.main (F := Bits))) ⟨m, fun _ => 0, g⟩ (fun r => (∀ c : Dev Cert.AdamAbIn.nD,
      r.2.mem ((c.tc : Thread Cert.AdamAbIn.nD Cert.AdamAbIn.τ).loc Cert.AdamAbIn.main_arg0) = m ((c.tc : Thread Cert.AdamAbIn.nD Cert.AdamAbIn.τ).loc Cert.AdamAbIn.main_arg0)
      ∧ r.2.mem ((c.tc : Thread Cert.AdamAbIn.nD Cert.AdamAbIn.τ).loc Cert.AdamAbIn.main_arg1) = m ((c.tc : Thread Cert.AdamAbIn.nD Cert.AdamAbIn.τ).loc Cert.AdamAbIn.main_arg1)
      ∧ r.2.mem ((c.tc : Thread Cert.AdamAbIn.nD Cert.AdamAbIn.τ).loc Cert.AdamAbIn.main_arg2) = m ((c.tc : Thread Cert.AdamAbIn.nD Cert.AdamAbIn.τ).loc Cert.AdamAbIn.main_arg2)
      ∧ r.2.mem ((c.tc : Thread Cert.AdamAbIn.nD Cert.AdamAbIn.τ).loc Cert.AdamAbIn.main_arg3) = m ((c.tc : Thread Cert.AdamAbIn.nD Cert.AdamAbIn.τ).loc Cert.AdamAbIn.main_arg3))
      ∧ r.2.sem = fun _ => 0)

def quiescent_AdamAbInIdeal [hAdamAbInIdeal : Cert.AdamAbInIdeal.Facts] : Prop :=
  ∀ (m : (ℓ : Loc Cert.AdamAbInIdeal.nD Cert.AdamAbInIdeal.τ Cert.AdamAbInIdeal.sig) → Buf (Elt Ideal) ℓ) (g : Dev Cert.AdamAbInIdeal.nD → PrngReg), Pre_AdamAbInIdeal m →
    θ_run (Cert.AdamAbInIdeal.defs (F := Ideal)) (onTc (τ := Cert.AdamAbInIdeal.τ) (Cert.AdamAbInIdeal.main (F := Ideal))) ⟨m, fun _ => 0, g⟩ (fun r => (∀ c : Dev Cert.AdamAbInIdeal.nD,
      r.2.mem ((c.tc : Thread Cert.AdamAbInIdeal.nD Cert.AdamAbInIdeal.τ).loc Cert.AdamAbInIdeal.main_arg0) = m ((c.tc : Thread Cert.AdamAbInIdeal.nD Cert.AdamAbInIdeal.τ).loc Cert.AdamAbInIdeal.main_arg0)
      ∧ r.2.mem ((c.tc : Thread Cert.AdamAbInIdeal.nD Cert.AdamAbInIdeal.τ).loc Cert.AdamAbInIdeal.main_arg1) = m ((c.tc : Thread Cert.AdamAbInIdeal.nD Cert.AdamAbInIdeal.τ).loc Cert.AdamAbInIdeal.main_arg1)
      ∧ r.2.mem ((c.tc : Thread Cert.AdamAbInIdeal.nD Cert.AdamAbInIdeal.τ).loc Cert.AdamAbInIdeal.main_arg2) = m ((c.tc : Thread Cert.AdamAbInIdeal.nD Cert.AdamAbInIdeal.τ).loc Cert.AdamAbInIdeal.main_arg2)
      ∧ r.2.mem ((c.tc : Thread Cert.AdamAbInIdeal.nD Cert.AdamAbInIdeal.τ).loc Cert.AdamAbInIdeal.main_arg3) = m ((c.tc : Thread Cert.AdamAbInIdeal.nD Cert.AdamAbInIdeal.τ).loc Cert.AdamAbInIdeal.main_arg3))
      ∧ r.2.sem = fun _ => 0)

def quiescent_AdamAbInRefIdeal [hAdamAbInRefIdeal : Cert.AdamAbInRefIdeal.Facts] : Prop :=
  ∀ (m : (ℓ : Loc Cert.AdamAbInRefIdeal.nD Cert.AdamAbInRefIdeal.τ Cert.AdamAbInRefIdeal.sig) → Buf (Elt Ideal) ℓ) (g : Dev Cert.AdamAbInRefIdeal.nD → PrngReg), Pre_AdamAbInRefIdeal m →
    θ_run (Cert.AdamAbInRefIdeal.defs (F := Ideal)) (onTc (τ := Cert.AdamAbInRefIdeal.τ) (Cert.AdamAbInRefIdeal.main (F := Ideal))) ⟨m, fun _ => 0, g⟩ (fun r => (∀ c : Dev Cert.AdamAbInRefIdeal.nD,
      r.2.mem ((c.tc : Thread Cert.AdamAbInRefIdeal.nD Cert.AdamAbInRefIdeal.τ).loc Cert.AdamAbInRefIdeal.main_arg0) = m ((c.tc : Thread Cert.AdamAbInRefIdeal.nD Cert.AdamAbInRefIdeal.τ).loc Cert.AdamAbInRefIdeal.main_arg0)
      ∧ r.2.mem ((c.tc : Thread Cert.AdamAbInRefIdeal.nD Cert.AdamAbInRefIdeal.τ).loc Cert.AdamAbInRefIdeal.main_arg1) = m ((c.tc : Thread Cert.AdamAbInRefIdeal.nD Cert.AdamAbInRefIdeal.τ).loc Cert.AdamAbInRefIdeal.main_arg1)
      ∧ r.2.mem ((c.tc : Thread Cert.AdamAbInRefIdeal.nD Cert.AdamAbInRefIdeal.τ).loc Cert.AdamAbInRefIdeal.main_arg2) = m ((c.tc : Thread Cert.AdamAbInRefIdeal.nD Cert.AdamAbInRefIdeal.τ).loc Cert.AdamAbInRefIdeal.main_arg2)
      ∧ r.2.mem ((c.tc : Thread Cert.AdamAbInRefIdeal.nD Cert.AdamAbInRefIdeal.τ).loc Cert.AdamAbInRefIdeal.main_arg3) = m ((c.tc : Thread Cert.AdamAbInRefIdeal.nD Cert.AdamAbInRefIdeal.τ).loc Cert.AdamAbInRefIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3))
      ∧ r.2.sem = fun _ => 0)

def quiescent_AdamChannels [hAdamChannels : Cert.AdamChannels.Facts] : Prop :=
  ∀ (m : (ℓ : Loc Cert.AdamChannels.nD Cert.AdamChannels.τ Cert.AdamChannels.sig) → Buf (Elt Bits) ℓ) (g : Dev Cert.AdamChannels.nD → PrngReg), Pre_AdamChannels m →
    θ_run (Cert.AdamChannels.defs (F := Bits)) (onTc (τ := Cert.AdamChannels.τ) (Cert.AdamChannels.main (F := Bits))) ⟨m, fun _ => 0, g⟩ (fun r => (∀ c : Dev Cert.AdamChannels.nD,
      r.2.mem ((c.tc : Thread Cert.AdamChannels.nD Cert.AdamChannels.τ).loc Cert.AdamChannels.main_arg0) = m ((c.tc : Thread Cert.AdamChannels.nD Cert.AdamChannels.τ).loc Cert.AdamChannels.main_arg0)
      ∧ r.2.mem ((c.tc : Thread Cert.AdamChannels.nD Cert.AdamChannels.τ).loc Cert.AdamChannels.main_arg1) = m ((c.tc : Thread Cert.AdamChannels.nD Cert.AdamChannels.τ).loc Cert.AdamChannels.main_arg1)
      ∧ r.2.mem ((c.tc : Thread Cert.AdamChannels.nD Cert.AdamChannels.τ).loc Cert.AdamChannels.main_arg2) = m ((c.tc : Thread Cert.AdamChannels.nD Cert.AdamChannels.τ).loc Cert.AdamChannels.main_arg2)
      ∧ r.2.mem ((c.tc : Thread Cert.AdamChannels.nD Cert.AdamChannels.τ).loc Cert.AdamChannels.main_arg3) = m ((c.tc : Thread Cert.AdamChannels.nD Cert.AdamChannels.τ).loc Cert.AdamChannels.main_arg3))
      ∧ r.2.sem = fun _ => 0)

def quiescent_AdamChannelsIdeal [hAdamChannelsIdeal : Cert.AdamChannelsIdeal.Facts] : Prop :=
  ∀ (m : (ℓ : Loc Cert.AdamChannelsIdeal.nD Cert.AdamChannelsIdeal.τ Cert.AdamChannelsIdeal.sig) → Buf (Elt Ideal) ℓ) (g : Dev Cert.AdamChannelsIdeal.nD → PrngReg), Pre_AdamChannelsIdeal m →
    θ_run (Cert.AdamChannelsIdeal.defs (F := Ideal)) (onTc (τ := Cert.AdamChannelsIdeal.τ) (Cert.AdamChannelsIdeal.main (F := Ideal))) ⟨m, fun _ => 0, g⟩ (fun r => (∀ c : Dev Cert.AdamChannelsIdeal.nD,
      r.2.mem ((c.tc : Thread Cert.AdamChannelsIdeal.nD Cert.AdamChannelsIdeal.τ).loc Cert.AdamChannelsIdeal.main_arg0) = m ((c.tc : Thread Cert.AdamChannelsIdeal.nD Cert.AdamChannelsIdeal.τ).loc Cert.AdamChannelsIdeal.main_arg0)
      ∧ r.2.mem ((c.tc : Thread Cert.AdamChannelsIdeal.nD Cert.AdamChannelsIdeal.τ).loc Cert.AdamChannelsIdeal.main_arg1) = m ((c.tc : Thread Cert.AdamChannelsIdeal.nD Cert.AdamChannelsIdeal.τ).loc Cert.AdamChannelsIdeal.main_arg1)
      ∧ r.2.mem ((c.tc : Thread Cert.AdamChannelsIdeal.nD Cert.AdamChannelsIdeal.τ).loc Cert.AdamChannelsIdeal.main_arg2) = m ((c.tc : Thread Cert.AdamChannelsIdeal.nD Cert.AdamChannelsIdeal.τ).loc Cert.AdamChannelsIdeal.main_arg2)
      ∧ r.2.mem ((c.tc : Thread Cert.AdamChannelsIdeal.nD Cert.AdamChannelsIdeal.τ).loc Cert.AdamChannelsIdeal.main_arg3) = m ((c.tc : Thread Cert.AdamChannelsIdeal.nD Cert.AdamChannelsIdeal.τ).loc Cert.AdamChannelsIdeal.main_arg3))
      ∧ r.2.sem = fun _ => 0)

def quiescent_AdamChannelsRefIdeal [hAdamChannelsRefIdeal : Cert.AdamChannelsRefIdeal.Facts] : Prop :=
  ∀ (m : (ℓ : Loc Cert.AdamChannelsRefIdeal.nD Cert.AdamChannelsRefIdeal.τ Cert.AdamChannelsRefIdeal.sig) → Buf (Elt Ideal) ℓ) (g : Dev Cert.AdamChannelsRefIdeal.nD → PrngReg), Pre_AdamChannelsRefIdeal m →
    θ_run (Cert.AdamChannelsRefIdeal.defs (F := Ideal)) (onTc (τ := Cert.AdamChannelsRefIdeal.τ) (Cert.AdamChannelsRefIdeal.main (F := Ideal))) ⟨m, fun _ => 0, g⟩ (fun r => (∀ c : Dev Cert.AdamChannelsRefIdeal.nD,
      r.2.mem ((c.tc : Thread Cert.AdamChannelsRefIdeal.nD Cert.AdamChannelsRefIdeal.τ).loc Cert.AdamChannelsRefIdeal.main_arg0) = m ((c.tc : Thread Cert.AdamChannelsRefIdeal.nD Cert.AdamChannelsRefIdeal.τ).loc Cert.AdamChannelsRefIdeal.main_arg0)
      ∧ r.2.mem ((c.tc : Thread Cert.AdamChannelsRefIdeal.nD Cert.AdamChannelsRefIdeal.τ).loc Cert.AdamChannelsRefIdeal.main_arg1) = m ((c.tc : Thread Cert.AdamChannelsRefIdeal.nD Cert.AdamChannelsRefIdeal.τ).loc Cert.AdamChannelsRefIdeal.main_arg1)
      ∧ r.2.mem ((c.tc : Thread Cert.AdamChannelsRefIdeal.nD Cert.AdamChannelsRefIdeal.τ).loc Cert.AdamChannelsRefIdeal.main_arg2) = m ((c.tc : Thread Cert.AdamChannelsRefIdeal.nD Cert.AdamChannelsRefIdeal.τ).loc Cert.AdamChannelsRefIdeal.main_arg2)
      ∧ r.2.mem ((c.tc : Thread Cert.AdamChannelsRefIdeal.nD Cert.AdamChannelsRefIdeal.τ).loc Cert.AdamChannelsRefIdeal.main_arg3) = m ((c.tc : Thread Cert.AdamChannelsRefIdeal.nD Cert.AdamChannelsRefIdeal.τ).loc Cert.AdamChannelsRefIdeal.main_arg3))
      ∧ r.2.sem = fun _ => 0)

def quiescent_AdamTaps [hAdamTaps : Cert.AdamTaps.Facts] : Prop :=
  ∀ (m : (ℓ : Loc Cert.AdamTaps.nD Cert.AdamTaps.τ Cert.AdamTaps.sig) → Buf (Elt Bits) ℓ) (g : Dev Cert.AdamTaps.nD → PrngReg), Pre_AdamTaps m →
    θ_run (Cert.AdamTaps.defs (F := Bits)) (onTc (τ := Cert.AdamTaps.τ) (Cert.AdamTaps.main (F := Bits))) ⟨m, fun _ => 0, g⟩ (fun r => (∀ c : Dev Cert.AdamTaps.nD,
      r.2.mem ((c.tc : Thread Cert.AdamTaps.nD Cert.AdamTaps.τ).loc Cert.AdamTaps.main_arg0) = m ((c.tc : Thread Cert.AdamTaps.nD Cert.AdamTaps.τ).loc Cert.AdamTaps.main_arg0)
      ∧ r.2.mem ((c.tc : Thread Cert.AdamTaps.nD Cert.AdamTaps.τ).loc Cert.AdamTaps.main_arg1) = m ((c.tc : Thread Cert.AdamTaps.nD Cert.AdamTaps.τ).loc Cert.AdamTaps.main_arg1)
      ∧ r.2.mem ((c.tc : Thread Cert.AdamTaps.nD Cert.AdamTaps.τ).loc Cert.AdamTaps.main_arg2) = m ((c.tc : Thread Cert.AdamTaps.nD Cert.AdamTaps.τ).loc Cert.AdamTaps.main_arg2)
      ∧ r.2.mem ((c.tc : Thread Cert.AdamTaps.nD Cert.AdamTaps.τ).loc Cert.AdamTaps.main_arg3) = m ((c.tc : Thread Cert.AdamTaps.nD Cert.AdamTaps.τ).loc Cert.AdamTaps.main_arg3))
      ∧ r.2.sem = fun _ => 0)

def quiescent_AdamTapsIdeal [hAdamTapsIdeal : Cert.AdamTapsIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg), Pre_AdamTapsIdeal m →
    θ_run (Cert.AdamTapsIdeal.defs (F := Ideal)) (onTc (τ := Cert.AdamTapsIdeal.τ) (Cert.AdamTapsIdeal.main (F := Ideal))) ⟨m, fun _ => 0, g⟩ (fun r => (∀ c : Dev Cert.AdamTapsIdeal.nD,
      r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
      ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
      ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
      ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ r.2.sem = fun _ => 0)

def quiescent_AdamTapsRefIdeal [hAdamTapsRefIdeal : Cert.AdamTapsRefIdeal.Facts] : Prop :=
  ∀ (m : (ℓ : Loc Cert.AdamTapsRefIdeal.nD Cert.AdamTapsRefIdeal.τ Cert.AdamTapsRefIdeal.sig) → Buf (Elt Ideal) ℓ) (g : Dev Cert.AdamTapsRefIdeal.nD → PrngReg), Pre_AdamTapsRefIdeal m →
    θ_run (Cert.AdamTapsRefIdeal.defs (F := Ideal)) (onTc (τ := Cert.AdamTapsRefIdeal.τ) (Cert.AdamTapsRefIdeal.main (F := Ideal))) ⟨m, fun _ => 0, g⟩ (fun r => (∀ c : Dev Cert.AdamTapsRefIdeal.nD,
      r.2.mem ((c.tc : Thread Cert.AdamTapsRefIdeal.nD Cert.AdamTapsRefIdeal.τ).loc Cert.AdamTapsRefIdeal.main_arg0) = m ((c.tc : Thread Cert.AdamTapsRefIdeal.nD Cert.AdamTapsRefIdeal.τ).loc Cert.AdamTapsRefIdeal.main_arg0)
      ∧ r.2.mem ((c.tc : Thread Cert.AdamTapsRefIdeal.nD Cert.AdamTapsRefIdeal.τ).loc Cert.AdamTapsRefIdeal.main_arg1) = m ((c.tc : Thread Cert.AdamTapsRefIdeal.nD Cert.AdamTapsRefIdeal.τ).loc Cert.AdamTapsRefIdeal.main_arg1)
      ∧ r.2.mem ((c.tc : Thread Cert.AdamTapsRefIdeal.nD Cert.AdamTapsRefIdeal.τ).loc Cert.AdamTapsRefIdeal.main_arg2) = m ((c.tc : Thread Cert.AdamTapsRefIdeal.nD Cert.AdamTapsRefIdeal.τ).loc Cert.AdamTapsRefIdeal.main_arg2)
      ∧ r.2.mem ((c.tc : Thread Cert.AdamTapsRefIdeal.nD Cert.AdamTapsRefIdeal.τ).loc Cert.AdamTapsRefIdeal.main_arg3) = m ((c.tc : Thread Cert.AdamTapsRefIdeal.nD Cert.AdamTapsRefIdeal.τ).loc Cert.AdamTapsRefIdeal.main_arg3))
      ∧ r.2.sem = fun _ => 0)

def quiescent_AdamShortTaps [hAdamShortTaps : Cert.AdamShortTaps.Facts] : Prop :=
  ∀ (m : (ℓ : Loc Cert.AdamShortTaps.nD Cert.AdamShortTaps.τ Cert.AdamShortTaps.sig) → Buf (Elt Bits) ℓ) (g : Dev Cert.AdamShortTaps.nD → PrngReg), Pre_AdamShortTaps m →
    θ_run (Cert.AdamShortTaps.defs (F := Bits)) (onTc (τ := Cert.AdamShortTaps.τ) (Cert.AdamShortTaps.main (F := Bits))) ⟨m, fun _ => 0, g⟩ (fun r => (∀ c : Dev Cert.AdamShortTaps.nD,
      r.2.mem ((c.tc : Thread Cert.AdamShortTaps.nD Cert.AdamShortTaps.τ).loc Cert.AdamShortTaps.main_arg0) = m ((c.tc : Thread Cert.AdamShortTaps.nD Cert.AdamShortTaps.τ).loc Cert.AdamShortTaps.main_arg0)
      ∧ r.2.mem ((c.tc : Thread Cert.AdamShortTaps.nD Cert.AdamShortTaps.τ).loc Cert.AdamShortTaps.main_arg1) = m ((c.tc : Thread Cert.AdamShortTaps.nD Cert.AdamShortTaps.τ).loc Cert.AdamShortTaps.main_arg1)
      ∧ r.2.mem ((c.tc : Thread Cert.AdamShortTaps.nD Cert.AdamShortTaps.τ).loc Cert.AdamShortTaps.main_arg2) = m ((c.tc : Thread Cert.AdamShortTaps.nD Cert.AdamShortTaps.τ).loc Cert.AdamShortTaps.main_arg2)
      ∧ r.2.mem ((c.tc : Thread Cert.AdamShortTaps.nD Cert.AdamShortTaps.τ).loc Cert.AdamShortTaps.main_arg3) = m ((c.tc : Thread Cert.AdamShortTaps.nD Cert.AdamShortTaps.τ).loc Cert.AdamShortTaps.main_arg3))
      ∧ r.2.sem = fun _ => 0)

def quiescent_AdamShortTapsIdeal [hAdamShortTapsIdeal : Cert.AdamShortTapsIdeal.Facts] : Prop :=
  ∀ (m : (ℓ : Loc Cert.AdamShortTapsIdeal.nD Cert.AdamShortTapsIdeal.τ Cert.AdamShortTapsIdeal.sig) → Buf (Elt Ideal) ℓ) (g : Dev Cert.AdamShortTapsIdeal.nD → PrngReg), Pre_AdamShortTapsIdeal m →
    θ_run (Cert.AdamShortTapsIdeal.defs (F := Ideal)) (onTc (τ := Cert.AdamShortTapsIdeal.τ) (Cert.AdamShortTapsIdeal.main (F := Ideal))) ⟨m, fun _ => 0, g⟩ (fun r => (∀ c : Dev Cert.AdamShortTapsIdeal.nD,
      r.2.mem ((c.tc : Thread Cert.AdamShortTapsIdeal.nD Cert.AdamShortTapsIdeal.τ).loc Cert.AdamShortTapsIdeal.main_arg0) = m ((c.tc : Thread Cert.AdamShortTapsIdeal.nD Cert.AdamShortTapsIdeal.τ).loc Cert.AdamShortTapsIdeal.main_arg0)
      ∧ r.2.mem ((c.tc : Thread Cert.AdamShortTapsIdeal.nD Cert.AdamShortTapsIdeal.τ).loc Cert.AdamShortTapsIdeal.main_arg1) = m ((c.tc : Thread Cert.AdamShortTapsIdeal.nD Cert.AdamShortTapsIdeal.τ).loc Cert.AdamShortTapsIdeal.main_arg1)
      ∧ r.2.mem ((c.tc : Thread Cert.AdamShortTapsIdeal.nD Cert.AdamShortTapsIdeal.τ).loc Cert.AdamShortTapsIdeal.main_arg2) = m ((c.tc : Thread Cert.AdamShortTapsIdeal.nD Cert.AdamShortTapsIdeal.τ).loc Cert.AdamShortTapsIdeal.main_arg2)
      ∧ r.2.mem ((c.tc : Thread Cert.AdamShortTapsIdeal.nD Cert.AdamShortTapsIdeal.τ).loc Cert.AdamShortTapsIdeal.main_arg3) = m ((c.tc : Thread Cert.AdamShortTapsIdeal.nD Cert.AdamShortTapsIdeal.τ).loc Cert.AdamShortTapsIdeal.main_arg3))
      ∧ r.2.sem = fun _ => 0)

def quiescent_AdamShortTapsRefIdeal [hAdamShortTapsRefIdeal : Cert.AdamShortTapsRefIdeal.Facts] : Prop :=
  ∀ (m : (ℓ : Loc Cert.AdamShortTapsRefIdeal.nD Cert.AdamShortTapsRefIdeal.τ Cert.AdamShortTapsRefIdeal.sig) → Buf (Elt Ideal) ℓ) (g : Dev Cert.AdamShortTapsRefIdeal.nD → PrngReg), Pre_AdamShortTapsRefIdeal m →
    θ_run (Cert.AdamShortTapsRefIdeal.defs (F := Ideal)) (onTc (τ := Cert.AdamShortTapsRefIdeal.τ) (Cert.AdamShortTapsRefIdeal.main (F := Ideal))) ⟨m, fun _ => 0, g⟩ (fun r => (∀ c : Dev Cert.AdamShortTapsRefIdeal.nD,
      r.2.mem ((c.tc : Thread Cert.AdamShortTapsRefIdeal.nD Cert.AdamShortTapsRefIdeal.τ).loc Cert.AdamShortTapsRefIdeal.main_arg0) = m ((c.tc : Thread Cert.AdamShortTapsRefIdeal.nD Cert.AdamShortTapsRefIdeal.τ).loc Cert.AdamShortTapsRefIdeal.main_arg0)
      ∧ r.2.mem ((c.tc : Thread Cert.AdamShortTapsRefIdeal.nD Cert.AdamShortTapsRefIdeal.τ).loc Cert.AdamShortTapsRefIdeal.main_arg1) = m ((c.tc : Thread Cert.AdamShortTapsRefIdeal.nD Cert.AdamShortTapsRefIdeal.τ).loc Cert.AdamShortTapsRefIdeal.main_arg1)
      ∧ r.2.mem ((c.tc : Thread Cert.AdamShortTapsRefIdeal.nD Cert.AdamShortTapsRefIdeal.τ).loc Cert.AdamShortTapsRefIdeal.main_arg2) = m ((c.tc : Thread Cert.AdamShortTapsRefIdeal.nD Cert.AdamShortTapsRefIdeal.τ).loc Cert.AdamShortTapsRefIdeal.main_arg2)
      ∧ r.2.mem ((c.tc : Thread Cert.AdamShortTapsRefIdeal.nD Cert.AdamShortTapsRefIdeal.τ).loc Cert.AdamShortTapsRefIdeal.main_arg3) = m ((c.tc : Thread Cert.AdamShortTapsRefIdeal.nD Cert.AdamShortTapsRefIdeal.τ).loc Cert.AdamShortTapsRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamShortIn [hAdamShortIn : Cert.AdamShortIn.Facts] : Prop :=
  ∀ (m : (ℓ : Loc Cert.AdamShortIn.nD Cert.AdamShortIn.τ Cert.AdamShortIn.sig) → Buf (Elt Bits) ℓ) (g : Dev Cert.AdamShortIn.nD → PrngReg), Pre_AdamShortIn m →
    θ_run (Cert.AdamShortIn.defs (F := Bits)) (onTc (τ := Cert.AdamShortIn.τ) (Cert.AdamShortIn.main (F := Bits))) ⟨m, fun _ => 0, g⟩ (fun r => (∀ c : Dev Cert.AdamShortIn.nD,
      r.2.mem ((c.tc : Thread Cert.AdamShortIn.nD Cert.AdamShortIn.τ).loc Cert.AdamShortIn.main_arg0) = m ((c.tc : Thread Cert.AdamShortIn.nD Cert.AdamShortIn.τ).loc Cert.AdamShortIn.main_arg0)
      ∧ r.2.mem ((c.tc : Thread Cert.AdamShortIn.nD Cert.AdamShortIn.τ).loc Cert.AdamShortIn.main_arg1) = m ((c.tc : Thread Cert.AdamShortIn.nD Cert.AdamShortIn.τ).loc Cert.AdamShortIn.main_arg1)
      ∧ r.2.mem ((c.tc : Thread Cert.AdamShortIn.nD Cert.AdamShortIn.τ).loc Cert.AdamShortIn.main_arg2) = m ((c.tc : Thread Cert.AdamShortIn.nD Cert.AdamShortIn.τ).loc Cert.AdamShortIn.main_arg2)
      ∧ r.2.mem ((c.tc : Thread Cert.AdamShortIn.nD Cert.AdamShortIn.τ).loc Cert.AdamShortIn.main_arg3) = m ((c.tc : Thread Cert.AdamShortIn.nD Cert.AdamShortIn.τ).loc Cert.AdamShortIn.main_arg3))
      ∧ r.2.sem = fun _ => 0)

def quiescent_AdamShortInIdeal [hAdamShortInIdeal : Cert.AdamShortInIdeal.Facts] : Prop :=
  ∀ (m : (ℓ : Loc Cert.AdamShortInIdeal.nD Cert.AdamShortInIdeal.τ Cert.AdamShortInIdeal.sig) → Buf (Elt Ideal) ℓ) (g : Dev Cert.AdamShortInIdeal.nD → PrngReg), Pre_AdamShortInIdeal m →
    θ_run (Cert.AdamShortInIdeal.defs (F := Ideal)) (onTc (τ := Cert.AdamShortInIdeal.τ) (Cert.AdamShortInIdeal.main (F := Ideal))) ⟨m, fun _ => 0, g⟩ (fun r => (∀ c : Dev Cert.AdamShortInIdeal.nD,
      r.2.mem ((c.tc : Thread Cert.AdamShortInIdeal.nD Cert.AdamShortInIdeal.τ).loc Cert.AdamShortInIdeal.main_arg0) = m ((c.tc : Thread Cert.AdamShortInIdeal.nD Cert.AdamShortInIdeal.τ).loc Cert.AdamShortInIdeal.main_arg0)
      ∧ r.2.mem ((c.tc : Thread Cert.AdamShortInIdeal.nD Cert.AdamShortInIdeal.τ).loc Cert.AdamShortInIdeal.main_arg1) = m ((c.tc : Thread Cert.AdamShortInIdeal.nD Cert.AdamShortInIdeal.τ).loc Cert.AdamShortInIdeal.main_arg1)
      ∧ r.2.mem ((c.tc : Thread Cert.AdamShortInIdeal.nD Cert.AdamShortInIdeal.τ).loc Cert.AdamShortInIdeal.main_arg2) = m ((c.tc : Thread Cert.AdamShortInIdeal.nD Cert.AdamShortInIdeal.τ).loc Cert.AdamShortInIdeal.main_arg2)
      ∧ r.2.mem ((c.tc : Thread Cert.AdamShortInIdeal.nD Cert.AdamShortInIdeal.τ).loc Cert.AdamShortInIdeal.main_arg3) = m ((c.tc : Thread Cert.AdamShortInIdeal.nD Cert.AdamShortInIdeal.τ).loc Cert.AdamShortInIdeal.main_arg3))
      ∧ r.2.sem = fun _ => 0)

def quiescent_AdamShortInRefIdeal [hAdamShortInRefIdeal : Cert.AdamShortInRefIdeal.Facts] : Prop :=
  ∀ (m : (ℓ : Loc Cert.AdamShortInRefIdeal.nD Cert.AdamShortInRefIdeal.τ Cert.AdamShortInRefIdeal.sig) → Buf (Elt Ideal) ℓ) (g : Dev Cert.AdamShortInRefIdeal.nD → PrngReg), Pre_AdamShortInRefIdeal m →
    θ_run (Cert.AdamShortInRefIdeal.defs (F := Ideal)) (onTc (τ := Cert.AdamShortInRefIdeal.τ) (Cert.AdamShortInRefIdeal.main (F := Ideal))) ⟨m, fun _ => 0, g⟩ (fun r => (∀ c : Dev Cert.AdamShortInRefIdeal.nD,
      r.2.mem ((c.tc : Thread Cert.AdamShortInRefIdeal.nD Cert.AdamShortInRefIdeal.τ).loc Cert.AdamShortInRefIdeal.main_arg0) = m ((c.tc : Thread Cert.AdamShortInRefIdeal.nD Cert.AdamShortInRefIdeal.τ).loc Cert.AdamShortInRefIdeal.main_arg0)
      ∧ r.2.mem ((c.tc : Thread Cert.AdamShortInRefIdeal.nD Cert.AdamShortInRefIdeal.τ).loc Cert.AdamShortInRefIdeal.main_arg1) = m ((c.tc : Thread Cert.AdamShortInRefIdeal.nD Cert.AdamShortInRefIdeal.τ).loc Cert.AdamShortInRefIdeal.main_arg1)
      ∧ r.2.mem ((c.tc : Thread Cert.AdamShortInRefIdeal.nD Cert.AdamShortInRefIdeal.τ).loc Cert.AdamShortInRefIdeal.main_arg2) = m ((c.tc : Thread Cert.AdamShortInRefIdeal.nD Cert.AdamShortInRefIdeal.τ).loc Cert.AdamShortInRefIdeal.main_arg2)
      ∧ r.2.mem ((c.tc : Thread Cert.AdamShortInRefIdeal.nD Cert.AdamShortInRefIdeal.τ).loc Cert.AdamShortInRefIdeal.main_arg3) = m ((c.tc : Thread Cert.AdamShortInRefIdeal.nD Cert.AdamShortInRefIdeal.τ).loc Cert.AdamShortInRefIdeal.main_arg3))
      ∧ r.2.sem = fun _ => 0)

def quiescent_AdamFfnB [hAdamFfnB : Cert.AdamFfnB.Facts] : Prop :=
  ∀ (m : (ℓ : Loc Cert.AdamFfnB.nD Cert.AdamFfnB.τ Cert.AdamFfnB.sig) → Buf (Elt Bits) ℓ) (g : Dev Cert.AdamFfnB.nD → PrngReg), Pre_AdamFfnB m →
    θ_run (Cert.AdamFfnB.defs (F := Bits)) (onTc (τ := Cert.AdamFfnB.τ) (Cert.AdamFfnB.main (F := Bits))) ⟨m, fun _ => 0, g⟩ (fun r => (∀ c : Dev Cert.AdamFfnB.nD,
      r.2.mem ((c.tc : Thread Cert.AdamFfnB.nD Cert.AdamFfnB.τ).loc Cert.AdamFfnB.main_arg0) = m ((c.tc : Thread Cert.AdamFfnB.nD Cert.AdamFfnB.τ).loc Cert.AdamFfnB.main_arg0)
      ∧ r.2.mem ((c.tc : Thread Cert.AdamFfnB.nD Cert.AdamFfnB.τ).loc Cert.AdamFfnB.main_arg1) = m ((c.tc : Thread Cert.AdamFfnB.nD Cert.AdamFfnB.τ).loc Cert.AdamFfnB.main_arg1)
      ∧ r.2.mem ((c.tc : Thread Cert.AdamFfnB.nD Cert.AdamFfnB.τ).loc Cert.AdamFfnB.main_arg2) = m ((c.tc : Thread Cert.AdamFfnB.nD Cert.AdamFfnB.τ).loc Cert.AdamFfnB.main_arg2)
      ∧ r.2.mem ((c.tc : Thread Cert.AdamFfnB.nD Cert.AdamFfnB.τ).loc Cert.AdamFfnB.main_arg3) = m ((c.tc : Thread Cert.AdamFfnB.nD Cert.AdamFfnB.τ).loc Cert.AdamFfnB.main_arg3))
      ∧ r.2.sem = fun _ => 0)

def quiescent_AdamFfnBIdeal [hAdamFfnBIdeal : Cert.AdamFfnBIdeal.Facts] : Prop :=
  ∀ (m : (ℓ : Loc Cert.AdamFfnBIdeal.nD Cert.AdamFfnBIdeal.τ Cert.AdamFfnBIdeal.sig) → Buf (Elt Ideal) ℓ) (g : Dev Cert.AdamFfnBIdeal.nD → PrngReg), Pre_AdamFfnBIdeal m →
    θ_run (Cert.AdamFfnBIdeal.defs (F := Ideal)) (onTc (τ := Cert.AdamFfnBIdeal.τ) (Cert.AdamFfnBIdeal.main (F := Ideal))) ⟨m, fun _ => 0, g⟩ (fun r => (∀ c : Dev Cert.AdamFfnBIdeal.nD,
      r.2.mem ((c.tc : Thread Cert.AdamFfnBIdeal.nD Cert.AdamFfnBIdeal.τ).loc Cert.AdamFfnBIdeal.main_arg0) = m ((c.tc : Thread Cert.AdamFfnBIdeal.nD Cert.AdamFfnBIdeal.τ).loc Cert.AdamFfnBIdeal.main_arg0)
      ∧ r.2.mem ((c.tc : Thread Cert.AdamFfnBIdeal.nD Cert.AdamFfnBIdeal.τ).loc Cert.AdamFfnBIdeal.main_arg1) = m ((c.tc : Thread Cert.AdamFfnBIdeal.nD Cert.AdamFfnBIdeal.τ).loc Cert.AdamFfnBIdeal.main_arg1)
      ∧ r.2.mem ((c.tc : Thread Cert.AdamFfnBIdeal.nD Cert.AdamFfnBIdeal.τ).loc Cert.AdamFfnBIdeal.main_arg2) = m ((c.tc : Thread Cert.AdamFfnBIdeal.nD Cert.AdamFfnBIdeal.τ).loc Cert.AdamFfnBIdeal.main_arg2)
      ∧ r.2.mem ((c.tc : Thread Cert.AdamFfnBIdeal.nD Cert.AdamFfnBIdeal.τ).loc Cert.AdamFfnBIdeal.main_arg3) = m ((c.tc : Thread Cert.AdamFfnBIdeal.nD Cert.AdamFfnBIdeal.τ).loc Cert.AdamFfnBIdeal.main_arg3))
      ∧ r.2.sem = fun _ => 0)

def quiescent_AdamFfnBRefIdeal [hAdamFfnBRefIdeal : Cert.AdamFfnBRefIdeal.Facts] : Prop :=
  ∀ (m : (ℓ : Loc Cert.AdamFfnBRefIdeal.nD Cert.AdamFfnBRefIdeal.τ Cert.AdamFfnBRefIdeal.sig) → Buf (Elt Ideal) ℓ) (g : Dev Cert.AdamFfnBRefIdeal.nD → PrngReg), Pre_AdamFfnBRefIdeal m →
    θ_run (Cert.AdamFfnBRefIdeal.defs (F := Ideal)) (onTc (τ := Cert.AdamFfnBRefIdeal.τ) (Cert.AdamFfnBRefIdeal.main (F := Ideal))) ⟨m, fun _ => 0, g⟩ (fun r => (∀ c : Dev Cert.AdamFfnBRefIdeal.nD,
      r.2.mem ((c.tc : Thread Cert.AdamFfnBRefIdeal.nD Cert.AdamFfnBRefIdeal.τ).loc Cert.AdamFfnBRefIdeal.main_arg0) = m ((c.tc : Thread Cert.AdamFfnBRefIdeal.nD Cert.AdamFfnBRefIdeal.τ).loc Cert.AdamFfnBRefIdeal.main_arg0)
      ∧ r.2.mem ((c.tc : Thread Cert.AdamFfnBRefIdeal.nD Cert.AdamFfnBRefIdeal.τ).loc Cert.AdamFfnBRefIdeal.main_arg1) = m ((c.tc : Thread Cert.AdamFfnBRefIdeal.nD Cert.AdamFfnBRefIdeal.τ).loc Cert.AdamFfnBRefIdeal.main_arg1)
      ∧ r.2.mem ((c.tc : Thread Cert.AdamFfnBRefIdeal.nD Cert.AdamFfnBRefIdeal.τ).loc Cert.AdamFfnBRefIdeal.main_arg2) = m ((c.tc : Thread Cert.AdamFfnBRefIdeal.nD Cert.AdamFfnBRefIdeal.τ).loc Cert.AdamFfnBRefIdeal.main_arg2)
      ∧ r.2.mem ((c.tc : Thread Cert.AdamFfnBRefIdeal.nD Cert.AdamFfnBRefIdeal.τ).loc Cert.AdamFfnBRefIdeal.main_arg3) = m ((c.tc : Thread Cert.AdamFfnBRefIdeal.nD Cert.AdamFfnBRefIdeal.τ).loc Cert.AdamFfnBRefIdeal.main_arg3))
      ∧ r.2.sem = fun _ => 0)

def quiescent_AdamFfnA [hAdamFfnA : Cert.AdamFfnA.Facts] : Prop :=
  ∀ (m : (ℓ : Loc Cert.AdamFfnA.nD Cert.AdamFfnA.τ Cert.AdamFfnA.sig) → Buf (Elt Bits) ℓ) (g : Dev Cert.AdamFfnA.nD → PrngReg), Pre_AdamFfnA m →
    θ_run (Cert.AdamFfnA.defs (F := Bits)) (onTc (τ := Cert.AdamFfnA.τ) (Cert.AdamFfnA.main (F := Bits))) ⟨m, fun _ => 0, g⟩ (fun r => (∀ c : Dev Cert.AdamFfnA.nD,
      r.2.mem ((c.tc : Thread Cert.AdamFfnA.nD Cert.AdamFfnA.τ).loc Cert.AdamFfnA.main_arg0) = m ((c.tc : Thread Cert.AdamFfnA.nD Cert.AdamFfnA.τ).loc Cert.AdamFfnA.main_arg0)
      ∧ r.2.mem ((c.tc : Thread Cert.AdamFfnA.nD Cert.AdamFfnA.τ).loc Cert.AdamFfnA.main_arg1) = m ((c.tc : Thread Cert.AdamFfnA.nD Cert.AdamFfnA.τ).loc Cert.AdamFfnA.main_arg1)
      ∧ r.2.mem ((c.tc : Thread Cert.AdamFfnA.nD Cert.AdamFfnA.τ).loc Cert.AdamFfnA.main_arg2) = m ((c.tc : Thread Cert.AdamFfnA.nD Cert.AdamFfnA.τ).loc Cert.AdamFfnA.main_arg2)
      ∧ r.2.mem ((c.tc : Thread Cert.AdamFfnA.nD Cert.AdamFfnA.τ).loc Cert.AdamFfnA.main_arg3) = m ((c.tc : Thread Cert.AdamFfnA.nD Cert.AdamFfnA.τ).loc Cert.AdamFfnA.main_arg3)
      ∧ r.2.mem ((c.tc : Thread Cert.AdamFfnA.nD Cert.AdamFfnA.τ).loc Cert.AdamFfnA.main_arg4) = m ((c.tc : Thread Cert.AdamFfnA.nD Cert.AdamFfnA.τ).loc Cert.AdamFfnA.main_arg4)
      ∧ r.2.mem ((c.tc : Thread Cert.AdamFfnA.nD Cert.AdamFfnA.τ).loc Cert.AdamFfnA.main_arg5) = m ((c.tc : Thread Cert.AdamFfnA.nD Cert.AdamFfnA.τ).loc Cert.AdamFfnA.main_arg5)
      ∧ r.2.mem ((c.tc : Thread Cert.AdamFfnA.nD Cert.AdamFfnA.τ).loc Cert.AdamFfnA.main_arg6) = m ((c.tc : Thread Cert.AdamFfnA.nD Cert.AdamFfnA.τ).loc Cert.AdamFfnA.main_arg6)
      ∧ r.2.mem ((c.tc : Thread Cert.AdamFfnA.nD Cert.AdamFfnA.τ).loc Cert.AdamFfnA.main_arg7) = m ((c.tc : Thread Cert.AdamFfnA.nD Cert.AdamFfnA.τ).loc Cert.AdamFfnA.main_arg7))
      ∧ r.2.sem = fun _ => 0)

def quiescent_AdamFfnAIdeal [hAdamFfnAIdeal : Cert.AdamFfnAIdeal.Facts] : Prop :=
  ∀ (m : (ℓ : Loc Cert.AdamFfnAIdeal.nD Cert.AdamFfnAIdeal.τ Cert.AdamFfnAIdeal.sig) → Buf (Elt Ideal) ℓ) (g : Dev Cert.AdamFfnAIdeal.nD → PrngReg), Pre_AdamFfnAIdeal m →
    θ_run (Cert.AdamFfnAIdeal.defs (F := Ideal)) (onTc (τ := Cert.AdamFfnAIdeal.τ) (Cert.AdamFfnAIdeal.main (F := Ideal))) ⟨m, fun _ => 0, g⟩ (fun r => (∀ c : Dev Cert.AdamFfnAIdeal.nD,
      r.2.mem ((c.tc : Thread Cert.AdamFfnAIdeal.nD Cert.AdamFfnAIdeal.τ).loc Cert.AdamFfnAIdeal.main_arg0) = m ((c.tc : Thread Cert.AdamFfnAIdeal.nD Cert.AdamFfnAIdeal.τ).loc Cert.AdamFfnAIdeal.main_arg0)
      ∧ r.2.mem ((c.tc : Thread Cert.AdamFfnAIdeal.nD Cert.AdamFfnAIdeal.τ).loc Cert.AdamFfnAIdeal.main_arg1) = m ((c.tc : Thread Cert.AdamFfnAIdeal.nD Cert.AdamFfnAIdeal.τ).loc Cert.AdamFfnAIdeal.main_arg1)
      ∧ r.2.mem ((c.tc : Thread Cert.AdamFfnAIdeal.nD Cert.AdamFfnAIdeal.τ).loc Cert.AdamFfnAIdeal.main_arg2) = m ((c.tc : Thread Cert.AdamFfnAIdeal.nD Cert.AdamFfnAIdeal.τ).loc Cert.AdamFfnAIdeal.main_arg2)
      ∧ r.2.mem ((c.tc : Thread Cert.AdamFfnAIdeal.nD Cert.AdamFfnAIdeal.τ).loc Cert.AdamFfnAIdeal.main_arg3) = m ((c.tc : Thread Cert.AdamFfnAIdeal.nD Cert.AdamFfnAIdeal.τ).loc Cert.AdamFfnAIdeal.main_arg3)
      ∧ r.2.mem ((c.tc : Thread Cert.AdamFfnAIdeal.nD Cert.AdamFfnAIdeal.τ).loc Cert.AdamFfnAIdeal.main_arg4) = m ((c.tc : Thread Cert.AdamFfnAIdeal.nD Cert.AdamFfnAIdeal.τ).loc Cert.AdamFfnAIdeal.main_arg4)
      ∧ r.2.mem ((c.tc : Thread Cert.AdamFfnAIdeal.nD Cert.AdamFfnAIdeal.τ).loc Cert.AdamFfnAIdeal.main_arg5) = m ((c.tc : Thread Cert.AdamFfnAIdeal.nD Cert.AdamFfnAIdeal.τ).loc Cert.AdamFfnAIdeal.main_arg5)
      ∧ r.2.mem ((c.tc : Thread Cert.AdamFfnAIdeal.nD Cert.AdamFfnAIdeal.τ).loc Cert.AdamFfnAIdeal.main_arg6) = m ((c.tc : Thread Cert.AdamFfnAIdeal.nD Cert.AdamFfnAIdeal.τ).loc Cert.AdamFfnAIdeal.main_arg6)
      ∧ r.2.mem ((c.tc : Thread Cert.AdamFfnAIdeal.nD Cert.AdamFfnAIdeal.τ).loc Cert.AdamFfnAIdeal.main_arg7) = m ((c.tc : Thread Cert.AdamFfnAIdeal.nD Cert.AdamFfnAIdeal.τ).loc Cert.AdamFfnAIdeal.main_arg7))
      ∧ r.2.sem = fun _ => 0)

def quiescent_AdamFfnARefIdeal [hAdamFfnARefIdeal : Cert.AdamFfnARefIdeal.Facts] : Prop :=
  ∀ (m : (ℓ : Loc Cert.AdamFfnARefIdeal.nD Cert.AdamFfnARefIdeal.τ Cert.AdamFfnARefIdeal.sig) → Buf (Elt Ideal) ℓ) (g : Dev Cert.AdamFfnARefIdeal.nD → PrngReg), Pre_AdamFfnARefIdeal m →
    θ_run (Cert.AdamFfnARefIdeal.defs (F := Ideal)) (onTc (τ := Cert.AdamFfnARefIdeal.τ) (Cert.AdamFfnARefIdeal.main (F := Ideal))) ⟨m, fun _ => 0, g⟩ (fun r => (∀ c : Dev Cert.AdamFfnARefIdeal.nD,
      r.2.mem ((c.tc : Thread Cert.AdamFfnARefIdeal.nD Cert.AdamFfnARefIdeal.τ).loc Cert.AdamFfnARefIdeal.main_arg0) = m ((c.tc : Thread Cert.AdamFfnARefIdeal.nD Cert.AdamFfnARefIdeal.τ).loc Cert.AdamFfnARefIdeal.main_arg0)
      ∧ r.2.mem ((c.tc : Thread Cert.AdamFfnARefIdeal.nD Cert.AdamFfnARefIdeal.τ).loc Cert.AdamFfnARefIdeal.main_arg1) = m ((c.tc : Thread Cert.AdamFfnARefIdeal.nD Cert.AdamFfnARefIdeal.τ).loc Cert.AdamFfnARefIdeal.main_arg1)
      ∧ r.2.mem ((c.tc : Thread Cert.AdamFfnARefIdeal.nD Cert.AdamFfnARefIdeal.τ).loc Cert.AdamFfnARefIdeal.main_arg2) = m ((c.tc : Thread Cert.AdamFfnARefIdeal.nD Cert.AdamFfnARefIdeal.τ).loc Cert.AdamFfnARefIdeal.main_arg2)
      ∧ r.2.mem ((c.tc : Thread Cert.AdamFfnARefIdeal.nD Cert.AdamFfnARefIdeal.τ).loc Cert.AdamFfnARefIdeal.main_arg3) = m ((c.tc : Thread Cert.AdamFfnARefIdeal.nD Cert.AdamFfnARefIdeal.τ).loc Cert.AdamFfnARefIdeal.main_arg3)
      ∧ r.2.mem ((c.tc : Thread Cert.AdamFfnARefIdeal.nD Cert.AdamFfnARefIdeal.τ).loc Cert.AdamFfnARefIdeal.main_arg4) = m ((c.tc : Thread Cert.AdamFfnARefIdeal.nD Cert.AdamFfnARefIdeal.τ).loc Cert.AdamFfnARefIdeal.main_arg4)
      ∧ r.2.mem ((c.tc : Thread Cert.AdamFfnARefIdeal.nD Cert.AdamFfnARefIdeal.τ).loc Cert.AdamFfnARefIdeal.main_arg5) = m ((c.tc : Thread Cert.AdamFfnARefIdeal.nD Cert.AdamFfnARefIdeal.τ).loc Cert.AdamFfnARefIdeal.main_arg5)
      ∧ r.2.mem ((c.tc : Thread Cert.AdamFfnARefIdeal.nD Cert.AdamFfnARefIdeal.τ).loc Cert.AdamFfnARefIdeal.main_arg6) = m ((c.tc : Thread Cert.AdamFfnARefIdeal.nD Cert.AdamFfnARefIdeal.τ).loc Cert.AdamFfnARefIdeal.main_arg6)
      ∧ r.2.mem ((c.tc : Thread Cert.AdamFfnARefIdeal.nD Cert.AdamFfnARefIdeal.τ).loc Cert.AdamFfnARefIdeal.main_arg7) = m ((c.tc : Thread Cert.AdamFfnARefIdeal.nD Cert.AdamFfnARefIdeal.τ).loc Cert.AdamFfnARefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v4)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v4) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v3)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v14) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v4) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_In1Dw_In1DwIdeal : Prop :=
  True

def algebraic_In1DwIdeal_In1DwRefIdeal [hIn1DwIdeal : Cert.In1DwIdeal.Facts] [hIn1DwRefIdeal : Cert.In1DwRefIdeal.Facts] : Prop :=
  ∀ (m : (ℓ : Loc Cert.In1DwIdeal.nD Cert.In1DwIdeal.τ Cert.In1DwIdeal.sig) → Buf (Elt Ideal) ℓ) (g : Dev Cert.In1DwIdeal.nD → PrngReg)
    (m' : (ℓ : Loc Cert.In1DwRefIdeal.nD Cert.In1DwRefIdeal.τ Cert.In1DwRefIdeal.sig) → Buf (Elt Ideal) ℓ) (g' : Dev Cert.In1DwRefIdeal.nD → PrngReg), Pre_In1DwIdeal m →
    (∀ c : Dev Cert.In1DwIdeal.nD,
      m' ((c.tc : Thread Cert.In1DwRefIdeal.nD Cert.In1DwRefIdeal.τ).loc Cert.In1DwRefIdeal.main_arg0) = m ((c.tc : Thread Cert.In1DwIdeal.nD Cert.In1DwIdeal.τ).loc Cert.In1DwIdeal.main_arg0)
      ∧ m' ((c.tc : Thread Cert.In1DwRefIdeal.nD Cert.In1DwRefIdeal.τ).loc Cert.In1DwRefIdeal.main_arg1) = m ((c.tc : Thread Cert.In1DwIdeal.nD Cert.In1DwIdeal.τ).loc Cert.In1DwIdeal.main_arg1)) →
    ∃ (v0 : (c : Dev Cert.In1DwIdeal.nD) → Buf (Elt Ideal) ((c.tc : Thread Cert.In1DwIdeal.nD Cert.In1DwIdeal.τ).loc Cert.In1DwIdeal.main_v0)),
      θ_run (Cert.In1DwIdeal.defs (F := Ideal)) (onTc (τ := Cert.In1DwIdeal.τ) (Cert.In1DwIdeal.main (F := Ideal))) ⟨m, fun _ => 0, g⟩ (fun r => ∀ c : Dev Cert.In1DwIdeal.nD,
          r.2.mem ((c.tc : Thread Cert.In1DwIdeal.nD Cert.In1DwIdeal.τ).loc Cert.In1DwIdeal.main_v0) = v0 c
          ∧ r.2.mem ((c.tc : Thread Cert.In1DwIdeal.nD Cert.In1DwIdeal.τ).loc Cert.In1DwIdeal.main_arg0) = m ((c.tc : Thread Cert.In1DwIdeal.nD Cert.In1DwIdeal.τ).loc Cert.In1DwIdeal.main_arg0)
          ∧ r.2.mem ((c.tc : Thread Cert.In1DwIdeal.nD Cert.In1DwIdeal.τ).loc Cert.In1DwIdeal.main_arg1) = m ((c.tc : Thread Cert.In1DwIdeal.nD Cert.In1DwIdeal.τ).loc Cert.In1DwIdeal.main_arg1))
      ∧ θ_run (Cert.In1DwRefIdeal.defs (F := Ideal)) (onTc (τ := Cert.In1DwRefIdeal.τ) (Cert.In1DwRefIdeal.main (F := Ideal))) ⟨m', fun _ => 0, g'⟩ (fun r => ∀ c : Dev Cert.In1DwRefIdeal.nD,
          r.2.mem ((c.tc : Thread Cert.In1DwRefIdeal.nD Cert.In1DwRefIdeal.τ).loc Cert.In1DwRefIdeal.main_v20) = v0 c
          ∧ r.2.mem ((c.tc : Thread Cert.In1DwRefIdeal.nD Cert.In1DwRefIdeal.τ).loc Cert.In1DwRefIdeal.main_arg0) = m' ((c.tc : Thread Cert.In1DwRefIdeal.nD Cert.In1DwRefIdeal.τ).loc Cert.In1DwRefIdeal.main_arg0)
          ∧ r.2.mem ((c.tc : Thread Cert.In1DwRefIdeal.nD Cert.In1DwRefIdeal.τ).loc Cert.In1DwRefIdeal.main_arg1) = m' ((c.tc : Thread Cert.In1DwRefIdeal.nD Cert.In1DwRefIdeal.τ).loc Cert.In1DwRefIdeal.main_arg1))

def preserves_In1Dx_In1DxIdeal : Prop :=
  True

def algebraic_In1DxIdeal_In1DxRefIdeal [hIn1DxIdeal : Cert.In1DxIdeal.Facts] [hIn1DxRefIdeal : Cert.In1DxRefIdeal.Facts] : Prop :=
  ∀ (m : (ℓ : Loc Cert.In1DxIdeal.nD Cert.In1DxIdeal.τ Cert.In1DxIdeal.sig) → Buf (Elt Ideal) ℓ) (g : Dev Cert.In1DxIdeal.nD → PrngReg)
    (m' : (ℓ : Loc Cert.In1DxRefIdeal.nD Cert.In1DxRefIdeal.τ Cert.In1DxRefIdeal.sig) → Buf (Elt Ideal) ℓ) (g' : Dev Cert.In1DxRefIdeal.nD → PrngReg), Pre_In1DxIdeal m →
    (∀ c : Dev Cert.In1DxIdeal.nD,
      m' ((c.tc : Thread Cert.In1DxRefIdeal.nD Cert.In1DxRefIdeal.τ).loc Cert.In1DxRefIdeal.main_arg0) = m ((c.tc : Thread Cert.In1DxIdeal.nD Cert.In1DxIdeal.τ).loc Cert.In1DxIdeal.main_arg0)
      ∧ m' ((c.tc : Thread Cert.In1DxRefIdeal.nD Cert.In1DxRefIdeal.τ).loc Cert.In1DxRefIdeal.main_arg1) = m ((c.tc : Thread Cert.In1DxIdeal.nD Cert.In1DxIdeal.τ).loc Cert.In1DxIdeal.main_arg1)) →
    ∃ (v0 : (c : Dev Cert.In1DxIdeal.nD) → Buf (Elt Ideal) ((c.tc : Thread Cert.In1DxIdeal.nD Cert.In1DxIdeal.τ).loc Cert.In1DxIdeal.main_v0)),
      θ_run (Cert.In1DxIdeal.defs (F := Ideal)) (onTc (τ := Cert.In1DxIdeal.τ) (Cert.In1DxIdeal.main (F := Ideal))) ⟨m, fun _ => 0, g⟩ (fun r => ∀ c : Dev Cert.In1DxIdeal.nD,
          r.2.mem ((c.tc : Thread Cert.In1DxIdeal.nD Cert.In1DxIdeal.τ).loc Cert.In1DxIdeal.main_v0) = v0 c
          ∧ r.2.mem ((c.tc : Thread Cert.In1DxIdeal.nD Cert.In1DxIdeal.τ).loc Cert.In1DxIdeal.main_arg0) = m ((c.tc : Thread Cert.In1DxIdeal.nD Cert.In1DxIdeal.τ).loc Cert.In1DxIdeal.main_arg0)
          ∧ r.2.mem ((c.tc : Thread Cert.In1DxIdeal.nD Cert.In1DxIdeal.τ).loc Cert.In1DxIdeal.main_arg1) = m ((c.tc : Thread Cert.In1DxIdeal.nD Cert.In1DxIdeal.τ).loc Cert.In1DxIdeal.main_arg1))
      ∧ θ_run (Cert.In1DxRefIdeal.defs (F := Ideal)) (onTc (τ := Cert.In1DxRefIdeal.τ) (Cert.In1DxRefIdeal.main (F := Ideal))) ⟨m', fun _ => 0, g'⟩ (fun r => ∀ c : Dev Cert.In1DxRefIdeal.nD,
          r.2.mem ((c.tc : Thread Cert.In1DxRefIdeal.nD Cert.In1DxRefIdeal.τ).loc Cert.In1DxRefIdeal.main_v18) = v0 c
          ∧ r.2.mem ((c.tc : Thread Cert.In1DxRefIdeal.nD Cert.In1DxRefIdeal.τ).loc Cert.In1DxRefIdeal.main_arg0) = m' ((c.tc : Thread Cert.In1DxRefIdeal.nD Cert.In1DxRefIdeal.τ).loc Cert.In1DxRefIdeal.main_arg0)
          ∧ r.2.mem ((c.tc : Thread Cert.In1DxRefIdeal.nD Cert.In1DxRefIdeal.τ).loc Cert.In1DxRefIdeal.main_arg1) = m' ((c.tc : Thread Cert.In1DxRefIdeal.nD Cert.In1DxRefIdeal.τ).loc Cert.In1DxRefIdeal.main_arg1))

def preserves_In1_In1Ideal : Prop :=
  True

def algebraic_In1Ideal_In1RefIdeal [hIn1Ideal : Cert.In1Ideal.Facts] [hIn1RefIdeal : Cert.In1RefIdeal.Facts] : Prop :=
  ∀ (m : (ℓ : Loc Cert.In1Ideal.nD Cert.In1Ideal.τ Cert.In1Ideal.sig) → Buf (Elt Ideal) ℓ) (g : Dev Cert.In1Ideal.nD → PrngReg)
    (m' : (ℓ : Loc Cert.In1RefIdeal.nD Cert.In1RefIdeal.τ Cert.In1RefIdeal.sig) → Buf (Elt Ideal) ℓ) (g' : Dev Cert.In1RefIdeal.nD → PrngReg), Pre_In1Ideal m →
    (∀ c : Dev Cert.In1Ideal.nD,
      m' ((c.tc : Thread Cert.In1RefIdeal.nD Cert.In1RefIdeal.τ).loc Cert.In1RefIdeal.main_arg0) = m ((c.tc : Thread Cert.In1Ideal.nD Cert.In1Ideal.τ).loc Cert.In1Ideal.main_arg0)
      ∧ m' ((c.tc : Thread Cert.In1RefIdeal.nD Cert.In1RefIdeal.τ).loc Cert.In1RefIdeal.main_arg1) = m ((c.tc : Thread Cert.In1Ideal.nD Cert.In1Ideal.τ).loc Cert.In1Ideal.main_arg1)) →
    ∃ (v0 : (c : Dev Cert.In1Ideal.nD) → Buf (Elt Ideal) ((c.tc : Thread Cert.In1Ideal.nD Cert.In1Ideal.τ).loc Cert.In1Ideal.main_v0)),
      θ_run (Cert.In1Ideal.defs (F := Ideal)) (onTc (τ := Cert.In1Ideal.τ) (Cert.In1Ideal.main (F := Ideal))) ⟨m, fun _ => 0, g⟩ (fun r => ∀ c : Dev Cert.In1Ideal.nD,
          r.2.mem ((c.tc : Thread Cert.In1Ideal.nD Cert.In1Ideal.τ).loc Cert.In1Ideal.main_v0) = v0 c
          ∧ r.2.mem ((c.tc : Thread Cert.In1Ideal.nD Cert.In1Ideal.τ).loc Cert.In1Ideal.main_arg0) = m ((c.tc : Thread Cert.In1Ideal.nD Cert.In1Ideal.τ).loc Cert.In1Ideal.main_arg0)
          ∧ r.2.mem ((c.tc : Thread Cert.In1Ideal.nD Cert.In1Ideal.τ).loc Cert.In1Ideal.main_arg1) = m ((c.tc : Thread Cert.In1Ideal.nD Cert.In1Ideal.τ).loc Cert.In1Ideal.main_arg1))
      ∧ θ_run (Cert.In1RefIdeal.defs (F := Ideal)) (onTc (τ := Cert.In1RefIdeal.τ) (Cert.In1RefIdeal.main (F := Ideal))) ⟨m', fun _ => 0, g'⟩ (fun r => ∀ c : Dev Cert.In1RefIdeal.nD,
          r.2.mem ((c.tc : Thread Cert.In1RefIdeal.nD Cert.In1RefIdeal.τ).loc Cert.In1RefIdeal.main_v0) = v0 c
          ∧ r.2.mem ((c.tc : Thread Cert.In1RefIdeal.nD Cert.In1RefIdeal.τ).loc Cert.In1RefIdeal.main_arg0) = m' ((c.tc : Thread Cert.In1RefIdeal.nD Cert.In1RefIdeal.τ).loc Cert.In1RefIdeal.main_arg0)
          ∧ r.2.mem ((c.tc : Thread Cert.In1RefIdeal.nD Cert.In1RefIdeal.τ).loc Cert.In1RefIdeal.main_arg1) = m' ((c.tc : Thread Cert.In1RefIdeal.nD Cert.In1RefIdeal.τ).loc Cert.In1RefIdeal.main_arg1))

def preserves_In0Dw_In0DwIdeal : Prop :=
  True

def algebraic_In0DwIdeal_In0DwRefIdeal [hIn0DwIdeal : Cert.In0DwIdeal.Facts] [hIn0DwRefIdeal : Cert.In0DwRefIdeal.Facts] : Prop :=
  ∀ (m : (ℓ : Loc Cert.In0DwIdeal.nD Cert.In0DwIdeal.τ Cert.In0DwIdeal.sig) → Buf (Elt Ideal) ℓ) (g : Dev Cert.In0DwIdeal.nD → PrngReg)
    (m' : (ℓ : Loc Cert.In0DwRefIdeal.nD Cert.In0DwRefIdeal.τ Cert.In0DwRefIdeal.sig) → Buf (Elt Ideal) ℓ) (g' : Dev Cert.In0DwRefIdeal.nD → PrngReg), Pre_In0DwIdeal m →
    (∀ c : Dev Cert.In0DwIdeal.nD,
      m' ((c.tc : Thread Cert.In0DwRefIdeal.nD Cert.In0DwRefIdeal.τ).loc Cert.In0DwRefIdeal.main_arg0) = m ((c.tc : Thread Cert.In0DwIdeal.nD Cert.In0DwIdeal.τ).loc Cert.In0DwIdeal.main_arg0)
      ∧ m' ((c.tc : Thread Cert.In0DwRefIdeal.nD Cert.In0DwRefIdeal.τ).loc Cert.In0DwRefIdeal.main_arg1) = m ((c.tc : Thread Cert.In0DwIdeal.nD Cert.In0DwIdeal.τ).loc Cert.In0DwIdeal.main_arg1)) →
    ∃ (v0 : (c : Dev Cert.In0DwIdeal.nD) → Buf (Elt Ideal) ((c.tc : Thread Cert.In0DwIdeal.nD Cert.In0DwIdeal.τ).loc Cert.In0DwIdeal.main_v0)),
      θ_run (Cert.In0DwIdeal.defs (F := Ideal)) (onTc (τ := Cert.In0DwIdeal.τ) (Cert.In0DwIdeal.main (F := Ideal))) ⟨m, fun _ => 0, g⟩ (fun r => ∀ c : Dev Cert.In0DwIdeal.nD,
          r.2.mem ((c.tc : Thread Cert.In0DwIdeal.nD Cert.In0DwIdeal.τ).loc Cert.In0DwIdeal.main_v0) = v0 c
          ∧ r.2.mem ((c.tc : Thread Cert.In0DwIdeal.nD Cert.In0DwIdeal.τ).loc Cert.In0DwIdeal.main_arg0) = m ((c.tc : Thread Cert.In0DwIdeal.nD Cert.In0DwIdeal.τ).loc Cert.In0DwIdeal.main_arg0)
          ∧ r.2.mem ((c.tc : Thread Cert.In0DwIdeal.nD Cert.In0DwIdeal.τ).loc Cert.In0DwIdeal.main_arg1) = m ((c.tc : Thread Cert.In0DwIdeal.nD Cert.In0DwIdeal.τ).loc Cert.In0DwIdeal.main_arg1))
      ∧ θ_run (Cert.In0DwRefIdeal.defs (F := Ideal)) (onTc (τ := Cert.In0DwRefIdeal.τ) (Cert.In0DwRefIdeal.main (F := Ideal))) ⟨m', fun _ => 0, g'⟩ (fun r => ∀ c : Dev Cert.In0DwRefIdeal.nD,
          r.2.mem ((c.tc : Thread Cert.In0DwRefIdeal.nD Cert.In0DwRefIdeal.τ).loc Cert.In0DwRefIdeal.main_v6) = v0 c
          ∧ r.2.mem ((c.tc : Thread Cert.In0DwRefIdeal.nD Cert.In0DwRefIdeal.τ).loc Cert.In0DwRefIdeal.main_arg0) = m' ((c.tc : Thread Cert.In0DwRefIdeal.nD Cert.In0DwRefIdeal.τ).loc Cert.In0DwRefIdeal.main_arg0)
          ∧ r.2.mem ((c.tc : Thread Cert.In0DwRefIdeal.nD Cert.In0DwRefIdeal.τ).loc Cert.In0DwRefIdeal.main_arg1) = m' ((c.tc : Thread Cert.In0DwRefIdeal.nD Cert.In0DwRefIdeal.τ).loc Cert.In0DwRefIdeal.main_arg1))

def preserves_In0Dx_In0DxIdeal : Prop :=
  True

def algebraic_In0DxIdeal_In0DxRefIdeal [hIn0DxIdeal : Cert.In0DxIdeal.Facts] [hIn0DxRefIdeal : Cert.In0DxRefIdeal.Facts] : Prop :=
  ∀ (m : (ℓ : Loc Cert.In0DxIdeal.nD Cert.In0DxIdeal.τ Cert.In0DxIdeal.sig) → Buf (Elt Ideal) ℓ) (g : Dev Cert.In0DxIdeal.nD → PrngReg)
    (m' : (ℓ : Loc Cert.In0DxRefIdeal.nD Cert.In0DxRefIdeal.τ Cert.In0DxRefIdeal.sig) → Buf (Elt Ideal) ℓ) (g' : Dev Cert.In0DxRefIdeal.nD → PrngReg), Pre_In0DxIdeal m →
    (∀ c : Dev Cert.In0DxIdeal.nD,
      m' ((c.tc : Thread Cert.In0DxRefIdeal.nD Cert.In0DxRefIdeal.τ).loc Cert.In0DxRefIdeal.main_arg0) = m ((c.tc : Thread Cert.In0DxIdeal.nD Cert.In0DxIdeal.τ).loc Cert.In0DxIdeal.main_arg0)
      ∧ m' ((c.tc : Thread Cert.In0DxRefIdeal.nD Cert.In0DxRefIdeal.τ).loc Cert.In0DxRefIdeal.main_arg1) = m ((c.tc : Thread Cert.In0DxIdeal.nD Cert.In0DxIdeal.τ).loc Cert.In0DxIdeal.main_arg1)) →
    ∃ (v0 : (c : Dev Cert.In0DxIdeal.nD) → Buf (Elt Ideal) ((c.tc : Thread Cert.In0DxIdeal.nD Cert.In0DxIdeal.τ).loc Cert.In0DxIdeal.main_v0)),
      θ_run (Cert.In0DxIdeal.defs (F := Ideal)) (onTc (τ := Cert.In0DxIdeal.τ) (Cert.In0DxIdeal.main (F := Ideal))) ⟨m, fun _ => 0, g⟩ (fun r => ∀ c : Dev Cert.In0DxIdeal.nD,
          r.2.mem ((c.tc : Thread Cert.In0DxIdeal.nD Cert.In0DxIdeal.τ).loc Cert.In0DxIdeal.main_v0) = v0 c
          ∧ r.2.mem ((c.tc : Thread Cert.In0DxIdeal.nD Cert.In0DxIdeal.τ).loc Cert.In0DxIdeal.main_arg0) = m ((c.tc : Thread Cert.In0DxIdeal.nD Cert.In0DxIdeal.τ).loc Cert.In0DxIdeal.main_arg0)
          ∧ r.2.mem ((c.tc : Thread Cert.In0DxIdeal.nD Cert.In0DxIdeal.τ).loc Cert.In0DxIdeal.main_arg1) = m ((c.tc : Thread Cert.In0DxIdeal.nD Cert.In0DxIdeal.τ).loc Cert.In0DxIdeal.main_arg1))
      ∧ θ_run (Cert.In0DxRefIdeal.defs (F := Ideal)) (onTc (τ := Cert.In0DxRefIdeal.τ) (Cert.In0DxRefIdeal.main (F := Ideal))) ⟨m', fun _ => 0, g'⟩ (fun r => ∀ c : Dev Cert.In0DxRefIdeal.nD,
          r.2.mem ((c.tc : Thread Cert.In0DxRefIdeal.nD Cert.In0DxRefIdeal.τ).loc Cert.In0DxRefIdeal.main_v4) = v0 c
          ∧ r.2.mem ((c.tc : Thread Cert.In0DxRefIdeal.nD Cert.In0DxRefIdeal.τ).loc Cert.In0DxRefIdeal.main_arg0) = m' ((c.tc : Thread Cert.In0DxRefIdeal.nD Cert.In0DxRefIdeal.τ).loc Cert.In0DxRefIdeal.main_arg0)
          ∧ r.2.mem ((c.tc : Thread Cert.In0DxRefIdeal.nD Cert.In0DxRefIdeal.τ).loc Cert.In0DxRefIdeal.main_arg1) = m' ((c.tc : Thread Cert.In0DxRefIdeal.nD Cert.In0DxRefIdeal.τ).loc Cert.In0DxRefIdeal.main_arg1))

def preserves_In0_In0Ideal : Prop :=
  True

def algebraic_In0Ideal_In0RefIdeal [hIn0Ideal : Cert.In0Ideal.Facts] [hIn0RefIdeal : Cert.In0RefIdeal.Facts] : Prop :=
  ∀ (m : (ℓ : Loc Cert.In0Ideal.nD Cert.In0Ideal.τ Cert.In0Ideal.sig) → Buf (Elt Ideal) ℓ) (g : Dev Cert.In0Ideal.nD → PrngReg)
    (m' : (ℓ : Loc Cert.In0RefIdeal.nD Cert.In0RefIdeal.τ Cert.In0RefIdeal.sig) → Buf (Elt Ideal) ℓ) (g' : Dev Cert.In0RefIdeal.nD → PrngReg), Pre_In0Ideal m →
    (∀ c : Dev Cert.In0Ideal.nD,
      m' ((c.tc : Thread Cert.In0RefIdeal.nD Cert.In0RefIdeal.τ).loc Cert.In0RefIdeal.main_arg0) = m ((c.tc : Thread Cert.In0Ideal.nD Cert.In0Ideal.τ).loc Cert.In0Ideal.main_arg0)
      ∧ m' ((c.tc : Thread Cert.In0RefIdeal.nD Cert.In0RefIdeal.τ).loc Cert.In0RefIdeal.main_arg1) = m ((c.tc : Thread Cert.In0Ideal.nD Cert.In0Ideal.τ).loc Cert.In0Ideal.main_arg1)) →
    ∃ (v0 : (c : Dev Cert.In0Ideal.nD) → Buf (Elt Ideal) ((c.tc : Thread Cert.In0Ideal.nD Cert.In0Ideal.τ).loc Cert.In0Ideal.main_v0)),
      θ_run (Cert.In0Ideal.defs (F := Ideal)) (onTc (τ := Cert.In0Ideal.τ) (Cert.In0Ideal.main (F := Ideal))) ⟨m, fun _ => 0, g⟩ (fun r => ∀ c : Dev Cert.In0Ideal.nD,
          r.2.mem ((c.tc : Thread Cert.In0Ideal.nD Cert.In0Ideal.τ).loc Cert.In0Ideal.main_v0) = v0 c
          ∧ r.2.mem ((c.tc : Thread Cert.In0Ideal.nD Cert.In0Ideal.τ).loc Cert.In0Ideal.main_arg0) = m ((c.tc : Thread Cert.In0Ideal.nD Cert.In0Ideal.τ).loc Cert.In0Ideal.main_arg0)
          ∧ r.2.mem ((c.tc : Thread Cert.In0Ideal.nD Cert.In0Ideal.τ).loc Cert.In0Ideal.main_arg1) = m ((c.tc : Thread Cert.In0Ideal.nD Cert.In0Ideal.τ).loc Cert.In0Ideal.main_arg1))
      ∧ θ_run (Cert.In0RefIdeal.defs (F := Ideal)) (onTc (τ := Cert.In0RefIdeal.τ) (Cert.In0RefIdeal.main (F := Ideal))) ⟨m', fun _ => 0, g'⟩ (fun r => ∀ c : Dev Cert.In0RefIdeal.nD,
          r.2.mem ((c.tc : Thread Cert.In0RefIdeal.nD Cert.In0RefIdeal.τ).loc Cert.In0RefIdeal.main_v0) = v0 c
          ∧ r.2.mem ((c.tc : Thread Cert.In0RefIdeal.nD Cert.In0RefIdeal.τ).loc Cert.In0RefIdeal.main_arg0) = m' ((c.tc : Thread Cert.In0RefIdeal.nD Cert.In0RefIdeal.τ).loc Cert.In0RefIdeal.main_arg0)
          ∧ r.2.mem ((c.tc : Thread Cert.In0RefIdeal.nD Cert.In0RefIdeal.τ).loc Cert.In0RefIdeal.main_arg1) = m' ((c.tc : Thread Cert.In0RefIdeal.nD Cert.In0RefIdeal.τ).loc Cert.In0RefIdeal.main_arg1))

def preserves_Norms_NormsIdeal : Prop :=
  True

def algebraic_NormsIdeal_NormsRefIdeal [hNormsIdeal : Cert.NormsIdeal.Facts] [hNormsRefIdeal : Cert.NormsRefIdeal.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsRefIdeal.nD Cert.NormsRefIdeal.τ Cert.NormsRefIdeal.sig) → Buf (Elt Ideal) ℓ) (g' : Dev Cert.NormsRefIdeal.nD → PrngReg), Pre_NormsIdeal m →
    (∀ c : Dev Cert.NormsIdeal.nD,
      m' ((c.tc : Thread Cert.NormsRefIdeal.nD Cert.NormsRefIdeal.τ).loc Cert.NormsRefIdeal.main_arg0) = m ((c.tc : Thread Cert.NormsIdeal.nD Cert.NormsIdeal.τ).loc Cert.NormsIdeal.main_arg0)
      ∧ m' ((c.tc : Thread Cert.NormsRefIdeal.nD Cert.NormsRefIdeal.τ).loc Cert.NormsRefIdeal.main_arg1) = m ((c.tc : Thread Cert.NormsIdeal.nD Cert.NormsIdeal.τ).loc Cert.NormsIdeal.main_arg1)
      ∧ m' ((c.tc : Thread Cert.NormsRefIdeal.nD Cert.NormsRefIdeal.τ).loc Cert.NormsRefIdeal.main_arg2) = m ((c.tc : Thread Cert.NormsIdeal.nD Cert.NormsIdeal.τ).loc Cert.NormsIdeal.main_arg2)
      ∧ m' ((c.tc : Thread Cert.NormsRefIdeal.nD Cert.NormsRefIdeal.τ).loc Cert.NormsRefIdeal.main_arg3) = m ((c.tc : Thread Cert.NormsIdeal.nD Cert.NormsIdeal.τ).loc Cert.NormsIdeal.main_arg3)
      ∧ m' ((c.tc : Thread Cert.NormsRefIdeal.nD Cert.NormsRefIdeal.τ).loc Cert.NormsRefIdeal.main_arg4) = m ((c.tc : Thread Cert.NormsIdeal.nD Cert.NormsIdeal.τ).loc Cert.NormsIdeal.main_arg4)
      ∧ m' ((c.tc : Thread Cert.NormsRefIdeal.nD Cert.NormsRefIdeal.τ).loc Cert.NormsRefIdeal.main_arg5) = m ((c.tc : Thread Cert.NormsIdeal.nD Cert.NormsIdeal.τ).loc Cert.NormsIdeal.main_arg5)) →
    ∃ (v0 : (c : Dev Cert.NormsIdeal.nD) → Buf (Elt Ideal) ((c.tc : Thread Cert.NormsIdeal.nD Cert.NormsIdeal.τ).loc Cert.NormsIdeal.main_v0_0)) (v1 : (c : Dev Cert.NormsIdeal.nD) → Buf (Elt Ideal) ((c.tc : Thread Cert.NormsIdeal.nD Cert.NormsIdeal.τ).loc Cert.NormsIdeal.main_v0_1)) (v2 : (c : Dev Cert.NormsIdeal.nD) → Buf (Elt Ideal) ((c.tc : Thread Cert.NormsIdeal.nD Cert.NormsIdeal.τ).loc Cert.NormsIdeal.main_v0_2)) (v3 : (c : Dev Cert.NormsIdeal.nD) → Buf (Elt Ideal) ((c.tc : Thread Cert.NormsIdeal.nD Cert.NormsIdeal.τ).loc Cert.NormsIdeal.main_v0_3)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v0_0) = v0 c
          ∧ r.2.mem ((c.tc : Thread Cert.NormsIdeal.nD Cert.NormsIdeal.τ).loc Cert.NormsIdeal.main_v0_1) = v1 c
          ∧ r.2.mem ((c.tc : Thread Cert.NormsIdeal.nD Cert.NormsIdeal.τ).loc Cert.NormsIdeal.main_v0_2) = v2 c
          ∧ r.2.mem ((c.tc : Thread Cert.NormsIdeal.nD Cert.NormsIdeal.τ).loc Cert.NormsIdeal.main_v0_3) = v3 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
          ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
          ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
          ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
          ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5))
      ∧ θ_run (Cert.NormsRefIdeal.defs (F := Ideal)) (onTc (τ := Cert.NormsRefIdeal.τ) (Cert.NormsRefIdeal.main (F := Ideal))) ⟨m', fun _ => 0, g'⟩ (fun r => ∀ c : Dev Cert.NormsRefIdeal.nD,
          r.2.mem ((c.tc : Thread Cert.NormsRefIdeal.nD Cert.NormsRefIdeal.τ).loc Cert.NormsRefIdeal.main_v34) = v0 c
          ∧ r.2.mem ((c.tc : Thread Cert.NormsRefIdeal.nD Cert.NormsRefIdeal.τ).loc Cert.NormsRefIdeal.main_v17) = v1 c
          ∧ r.2.mem ((c.tc : Thread Cert.NormsRefIdeal.nD Cert.NormsRefIdeal.τ).loc Cert.NormsRefIdeal.main_v69) = v2 c
          ∧ r.2.mem ((c.tc : Thread Cert.NormsRefIdeal.nD Cert.NormsRefIdeal.τ).loc Cert.NormsRefIdeal.main_v52) = v3 c
          ∧ r.2.mem ((c.tc : Thread Cert.NormsRefIdeal.nD Cert.NormsRefIdeal.τ).loc Cert.NormsRefIdeal.main_arg0) = m' ((c.tc : Thread Cert.NormsRefIdeal.nD Cert.NormsRefIdeal.τ).loc Cert.NormsRefIdeal.main_arg0)
          ∧ r.2.mem ((c.tc : Thread Cert.NormsRefIdeal.nD Cert.NormsRefIdeal.τ).loc Cert.NormsRefIdeal.main_arg1) = m' ((c.tc : Thread Cert.NormsRefIdeal.nD Cert.NormsRefIdeal.τ).loc Cert.NormsRefIdeal.main_arg1)
          ∧ r.2.mem ((c.tc : Thread Cert.NormsRefIdeal.nD Cert.NormsRefIdeal.τ).loc Cert.NormsRefIdeal.main_arg2) = m' ((c.tc : Thread Cert.NormsRefIdeal.nD Cert.NormsRefIdeal.τ).loc Cert.NormsRefIdeal.main_arg2)
          ∧ r.2.mem ((c.tc : Thread Cert.NormsRefIdeal.nD Cert.NormsRefIdeal.τ).loc Cert.NormsRefIdeal.main_arg3) = m' ((c.tc : Thread Cert.NormsRefIdeal.nD Cert.NormsRefIdeal.τ).loc Cert.NormsRefIdeal.main_arg3)
          ∧ r.2.mem ((c.tc : Thread Cert.NormsRefIdeal.nD Cert.NormsRefIdeal.τ).loc Cert.NormsRefIdeal.main_arg4) = m' ((c.tc : Thread Cert.NormsRefIdeal.nD Cert.NormsRefIdeal.τ).loc Cert.NormsRefIdeal.main_arg4)
          ∧ r.2.mem ((c.tc : Thread Cert.NormsRefIdeal.nD Cert.NormsRefIdeal.τ).loc Cert.NormsRefIdeal.main_arg5) = m' ((c.tc : Thread Cert.NormsRefIdeal.nD Cert.NormsRefIdeal.τ).loc Cert.NormsRefIdeal.main_arg5))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)) →
    ∃ (v0 : (c : Dev Cert.NormInIdeal.nD) → Buf (Elt Ideal) ((c.tc : Thread Cert.NormInIdeal.nD Cert.NormInIdeal.τ).loc Cert.NormInIdeal.main_v0_0)) (v1 : (c : Dev Cert.NormInIdeal.nD) → Buf (Elt Ideal) ((c.tc : Thread Cert.NormInIdeal.nD Cert.NormInIdeal.τ).loc Cert.NormInIdeal.main_v0_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0_0) = v0 c
          ∧ r.2.mem ((c.tc : Thread Cert.NormInIdeal.nD Cert.NormInIdeal.τ).loc Cert.NormInIdeal.main_v0_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v34) = v0 c
          ∧ r.2.mem ((c.tc : Thread Cert.NormInRefIdeal.nD Cert.NormInRefIdeal.τ).loc Cert.NormInRefIdeal.main_v17) = v1 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v30) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v33) = v2 c
          ∧ r.2.mem ((c.tc : Thread Cert.LossRefIdeal.nD Cert.LossRefIdeal.τ).loc Cert.LossRefIdeal.main_v51) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_PoolDw_PoolDwIdeal : Prop :=
  True

def algebraic_PoolDwIdeal_PoolDwRefIdeal [hPoolDwIdeal : Cert.PoolDwIdeal.Facts] [hPoolDwRefIdeal : Cert.PoolDwRefIdeal.Facts] : Prop :=
  ∀ (m : (ℓ : Loc Cert.PoolDwIdeal.nD Cert.PoolDwIdeal.τ Cert.PoolDwIdeal.sig) → Buf (Elt Ideal) ℓ) (g : Dev Cert.PoolDwIdeal.nD → PrngReg)
    (m' : (ℓ : Loc Cert.PoolDwRefIdeal.nD Cert.PoolDwRefIdeal.τ Cert.PoolDwRefIdeal.sig) → Buf (Elt Ideal) ℓ) (g' : Dev Cert.PoolDwRefIdeal.nD → PrngReg), Pre_PoolDwIdeal m →
    (∀ c : Dev Cert.PoolDwIdeal.nD,
      m' ((c.tc : Thread Cert.PoolDwRefIdeal.nD Cert.PoolDwRefIdeal.τ).loc Cert.PoolDwRefIdeal.main_arg0) = m ((c.tc : Thread Cert.PoolDwIdeal.nD Cert.PoolDwIdeal.τ).loc Cert.PoolDwIdeal.main_arg0)
      ∧ m' ((c.tc : Thread Cert.PoolDwRefIdeal.nD Cert.PoolDwRefIdeal.τ).loc Cert.PoolDwRefIdeal.main_arg1) = m ((c.tc : Thread Cert.PoolDwIdeal.nD Cert.PoolDwIdeal.τ).loc Cert.PoolDwIdeal.main_arg1)
      ∧ m' ((c.tc : Thread Cert.PoolDwRefIdeal.nD Cert.PoolDwRefIdeal.τ).loc Cert.PoolDwRefIdeal.main_arg2) = m ((c.tc : Thread Cert.PoolDwIdeal.nD Cert.PoolDwIdeal.τ).loc Cert.PoolDwIdeal.main_arg2)
      ∧ m' ((c.tc : Thread Cert.PoolDwRefIdeal.nD Cert.PoolDwRefIdeal.τ).loc Cert.PoolDwRefIdeal.main_arg3) = m ((c.tc : Thread Cert.PoolDwIdeal.nD Cert.PoolDwIdeal.τ).loc Cert.PoolDwIdeal.main_arg3)) →
    ∃ (v0 : (c : Dev Cert.PoolDwIdeal.nD) → Buf (Elt Ideal) ((c.tc : Thread Cert.PoolDwIdeal.nD Cert.PoolDwIdeal.τ).loc Cert.PoolDwIdeal.main_v0_1)) (v1 : (c : Dev Cert.PoolDwIdeal.nD) → Buf (Elt Ideal) ((c.tc : Thread Cert.PoolDwIdeal.nD Cert.PoolDwIdeal.τ).loc Cert.PoolDwIdeal.main_v0_2)),
      θ_run (Cert.PoolDwIdeal.defs (F := Ideal)) (onTc (τ := Cert.PoolDwIdeal.τ) (Cert.PoolDwIdeal.main (F := Ideal))) ⟨m, fun _ => 0, g⟩ (fun r => ∀ c : Dev Cert.PoolDwIdeal.nD,
          r.2.mem ((c.tc : Thread Cert.PoolDwIdeal.nD Cert.PoolDwIdeal.τ).loc Cert.PoolDwIdeal.main_v0_1) = v0 c
          ∧ r.2.mem ((c.tc : Thread Cert.PoolDwIdeal.nD Cert.PoolDwIdeal.τ).loc Cert.PoolDwIdeal.main_v0_2) = v1 c
          ∧ r.2.mem ((c.tc : Thread Cert.PoolDwIdeal.nD Cert.PoolDwIdeal.τ).loc Cert.PoolDwIdeal.main_arg0) = m ((c.tc : Thread Cert.PoolDwIdeal.nD Cert.PoolDwIdeal.τ).loc Cert.PoolDwIdeal.main_arg0)
          ∧ r.2.mem ((c.tc : Thread Cert.PoolDwIdeal.nD Cert.PoolDwIdeal.τ).loc Cert.PoolDwIdeal.main_arg1) = m ((c.tc : Thread Cert.PoolDwIdeal.nD Cert.PoolDwIdeal.τ).loc Cert.PoolDwIdeal.main_arg1)
          ∧ r.2.mem ((c.tc : Thread Cert.PoolDwIdeal.nD Cert.PoolDwIdeal.τ).loc Cert.PoolDwIdeal.main_arg2) = m ((c.tc : Thread Cert.PoolDwIdeal.nD Cert.PoolDwIdeal.τ).loc Cert.PoolDwIdeal.main_arg2)
          ∧ r.2.mem ((c.tc : Thread Cert.PoolDwIdeal.nD Cert.PoolDwIdeal.τ).loc Cert.PoolDwIdeal.main_arg3) = m ((c.tc : Thread Cert.PoolDwIdeal.nD Cert.PoolDwIdeal.τ).loc Cert.PoolDwIdeal.main_arg3))
      ∧ θ_run (Cert.PoolDwRefIdeal.defs (F := Ideal)) (onTc (τ := Cert.PoolDwRefIdeal.τ) (Cert.PoolDwRefIdeal.main (F := Ideal))) ⟨m', fun _ => 0, g'⟩ (fun r => ∀ c : Dev Cert.PoolDwRefIdeal.nD,
          r.2.mem ((c.tc : Thread Cert.PoolDwRefIdeal.nD Cert.PoolDwRefIdeal.τ).loc Cert.PoolDwRefIdeal.main_v16) = v0 c
          ∧ r.2.mem ((c.tc : Thread Cert.PoolDwRefIdeal.nD Cert.PoolDwRefIdeal.τ).loc Cert.PoolDwRefIdeal.main_v10) = v1 c
          ∧ r.2.mem ((c.tc : Thread Cert.PoolDwRefIdeal.nD Cert.PoolDwRefIdeal.τ).loc Cert.PoolDwRefIdeal.main_arg0) = m' ((c.tc : Thread Cert.PoolDwRefIdeal.nD Cert.PoolDwRefIdeal.τ).loc Cert.PoolDwRefIdeal.main_arg0)
          ∧ r.2.mem ((c.tc : Thread Cert.PoolDwRefIdeal.nD Cert.PoolDwRefIdeal.τ).loc Cert.PoolDwRefIdeal.main_arg1) = m' ((c.tc : Thread Cert.PoolDwRefIdeal.nD Cert.PoolDwRefIdeal.τ).loc Cert.PoolDwRefIdeal.main_arg1)
          ∧ r.2.mem ((c.tc : Thread Cert.PoolDwRefIdeal.nD Cert.PoolDwRefIdeal.τ).loc Cert.PoolDwRefIdeal.main_arg2) = m' ((c.tc : Thread Cert.PoolDwRefIdeal.nD Cert.PoolDwRefIdeal.τ).loc Cert.PoolDwRefIdeal.main_arg2)
          ∧ r.2.mem ((c.tc : Thread Cert.PoolDwRefIdeal.nD Cert.PoolDwRefIdeal.τ).loc Cert.PoolDwRefIdeal.main_arg3) = m' ((c.tc : Thread Cert.PoolDwRefIdeal.nD Cert.PoolDwRefIdeal.τ).loc Cert.PoolDwRefIdeal.main_arg3))

def preserves_Silu_SiluIdeal : Prop :=
  True

def algebraic_SiluIdeal_SiluRefIdeal_pre_gradient_finite [hSiluIdeal : Cert.SiluIdeal.Facts] [hSiluRefIdeal : Cert.SiluRefIdeal.Facts] [hPre_gradient_finite : Cert.Pre_gradient_finite.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluRefIdeal.nD Cert.SiluRefIdeal.τ Cert.SiluRefIdeal.sig) → Buf (Elt Ideal) ℓ) (g' : Dev Cert.SiluRefIdeal.nD → PrngReg), Pre_SiluIdeal_gradient_finite m →
    (∀ c : Dev Cert.SiluIdeal.nD,
      m' ((c.tc : Thread Cert.SiluRefIdeal.nD Cert.SiluRefIdeal.τ).loc Cert.SiluRefIdeal.main_arg0) = m ((c.tc : Thread Cert.SiluIdeal.nD Cert.SiluIdeal.τ).loc Cert.SiluIdeal.main_arg0)
      ∧ m' ((c.tc : Thread Cert.SiluRefIdeal.nD Cert.SiluRefIdeal.τ).loc Cert.SiluRefIdeal.main_arg1) = m ((c.tc : Thread Cert.SiluIdeal.nD Cert.SiluIdeal.τ).loc Cert.SiluIdeal.main_arg1)
      ∧ m' ((c.tc : Thread Cert.SiluRefIdeal.nD Cert.SiluRefIdeal.τ).loc Cert.SiluRefIdeal.main_arg2) = m ((c.tc : Thread Cert.SiluIdeal.nD Cert.SiluIdeal.τ).loc Cert.SiluIdeal.main_arg2)
      ∧ m' ((c.tc : Thread Cert.SiluRefIdeal.nD Cert.SiluRefIdeal.τ).loc Cert.SiluRefIdeal.main_arg3) = m ((c.tc : Thread Cert.SiluIdeal.nD Cert.SiluIdeal.τ).loc Cert.SiluIdeal.main_arg3)) →
    ∃ (v0 : (c : Dev Cert.SiluIdeal.nD) → Buf (Elt Ideal) ((c.tc : Thread Cert.SiluIdeal.nD Cert.SiluIdeal.τ).loc Cert.SiluIdeal.main_v0_1)) (v1 : (c : Dev Cert.SiluIdeal.nD) → Buf (Elt Ideal) ((c.tc : Thread Cert.SiluIdeal.nD Cert.SiluIdeal.τ).loc Cert.SiluIdeal.main_v0_2)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v0_1) = v0 c
          ∧ r.2.mem ((c.tc : Thread Cert.SiluIdeal.nD Cert.SiluIdeal.τ).loc Cert.SiluIdeal.main_v0_2) = v1 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
          ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
          ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2)
          ∧ r.2.mem ((c.tc : Thread Cert.SiluIdeal.nD Cert.SiluIdeal.τ).loc Cert.SiluIdeal.main_arg3) = m ((c.tc : Thread Cert.SiluIdeal.nD Cert.SiluIdeal.τ).loc Cert.SiluIdeal.main_arg3))
      ∧ θ_run (Cert.SiluRefIdeal.defs (F := Ideal)) (onTc (τ := Cert.SiluRefIdeal.τ) (Cert.SiluRefIdeal.main (F := Ideal))) ⟨m', fun _ => 0, g'⟩ (fun r => ∀ c : Dev Cert.SiluRefIdeal.nD,
          r.2.mem ((c.tc : Thread Cert.SiluRefIdeal.nD Cert.SiluRefIdeal.τ).loc Cert.SiluRefIdeal.main_v27) = v0 c
          ∧ r.2.mem ((c.tc : Thread Cert.SiluRefIdeal.nD Cert.SiluRefIdeal.τ).loc Cert.SiluRefIdeal.main_v24) = v1 c
          ∧ r.2.mem ((c.tc : Thread Cert.SiluRefIdeal.nD Cert.SiluRefIdeal.τ).loc Cert.SiluRefIdeal.main_arg0) = m' ((c.tc : Thread Cert.SiluRefIdeal.nD Cert.SiluRefIdeal.τ).loc Cert.SiluRefIdeal.main_arg0)
          ∧ r.2.mem ((c.tc : Thread Cert.SiluRefIdeal.nD Cert.SiluRefIdeal.τ).loc Cert.SiluRefIdeal.main_arg1) = m' ((c.tc : Thread Cert.SiluRefIdeal.nD Cert.SiluRefIdeal.τ).loc Cert.SiluRefIdeal.main_arg1)
          ∧ r.2.mem ((c.tc : Thread Cert.SiluRefIdeal.nD Cert.SiluRefIdeal.τ).loc Cert.SiluRefIdeal.main_arg2) = m' ((c.tc : Thread Cert.SiluRefIdeal.nD Cert.SiluRefIdeal.τ).loc Cert.SiluRefIdeal.main_arg2)
          ∧ r.2.mem ((c.tc : Thread Cert.SiluRefIdeal.nD Cert.SiluRefIdeal.τ).loc Cert.SiluRefIdeal.main_arg3) = m' ((c.tc : Thread Cert.SiluRefIdeal.nD Cert.SiluRefIdeal.τ).loc Cert.SiluRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_2)) (v1 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_2) = v0 c
          ∧ r.2.mem ((c.tc : Thread Cert.ConvIdeal.nD Cert.ConvIdeal.τ).loc Cert.ConvIdeal.main_v0_3) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v441) = v0 c
          ∧ r.2.mem ((c.tc : Thread Cert.ConvRefIdeal.nD Cert.ConvRefIdeal.τ).loc Cert.ConvRefIdeal.main_v225) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_AdamGains_AdamGainsIdeal : Prop :=
  True

def algebraic_AdamGainsIdeal_AdamGainsRefIdeal [hAdamGainsIdeal : Cert.AdamGainsIdeal.Facts] [hAdamGainsRefIdeal : Cert.AdamGainsRefIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg)
    (m' : (ℓ : Loc Cert.AdamGainsRefIdeal.nD Cert.AdamGainsRefIdeal.τ Cert.AdamGainsRefIdeal.sig) → Buf (Elt Ideal) ℓ) (g' : Dev Cert.AdamGainsRefIdeal.nD → PrngReg), Pre_AdamGainsIdeal m →
    (∀ c : Dev Cert.AdamGainsIdeal.nD,
      m' ((c.tc : Thread Cert.AdamGainsRefIdeal.nD Cert.AdamGainsRefIdeal.τ).loc Cert.AdamGainsRefIdeal.main_arg0) = m ((c.tc : Thread Cert.AdamGainsIdeal.nD Cert.AdamGainsIdeal.τ).loc Cert.AdamGainsIdeal.main_arg0)
      ∧ m' ((c.tc : Thread Cert.AdamGainsRefIdeal.nD Cert.AdamGainsRefIdeal.τ).loc Cert.AdamGainsRefIdeal.main_arg1) = m ((c.tc : Thread Cert.AdamGainsIdeal.nD Cert.AdamGainsIdeal.τ).loc Cert.AdamGainsIdeal.main_arg1)
      ∧ m' ((c.tc : Thread Cert.AdamGainsRefIdeal.nD Cert.AdamGainsRefIdeal.τ).loc Cert.AdamGainsRefIdeal.main_arg2) = m ((c.tc : Thread Cert.AdamGainsIdeal.nD Cert.AdamGainsIdeal.τ).loc Cert.AdamGainsIdeal.main_arg2)
      ∧ m' ((c.tc : Thread Cert.AdamGainsRefIdeal.nD Cert.AdamGainsRefIdeal.τ).loc Cert.AdamGainsRefIdeal.main_arg3) = m ((c.tc : Thread Cert.AdamGainsIdeal.nD Cert.AdamGainsIdeal.τ).loc Cert.AdamGainsIdeal.main_arg3)) →
    ∃ (v0 : (c : Dev Cert.AdamGainsIdeal.nD) → Buf (Elt Ideal) ((c.tc : Thread Cert.AdamGainsIdeal.nD Cert.AdamGainsIdeal.τ).loc Cert.AdamGainsIdeal.main_v0_0)) (v1 : (c : Dev Cert.AdamGainsIdeal.nD) → Buf (Elt Ideal) ((c.tc : Thread Cert.AdamGainsIdeal.nD Cert.AdamGainsIdeal.τ).loc Cert.AdamGainsIdeal.main_v0_1)) (v2 : (c : Dev Cert.AdamGainsIdeal.nD) → Buf (Elt Ideal) ((c.tc : Thread Cert.AdamGainsIdeal.nD Cert.AdamGainsIdeal.τ).loc Cert.AdamGainsIdeal.main_v0_2)) (v3 : (c : Dev Cert.AdamGainsIdeal.nD) → Buf (Elt Ideal) ((c.tc : Thread Cert.AdamGainsIdeal.nD Cert.AdamGainsIdeal.τ).loc Cert.AdamGainsIdeal.main_v0_3)),
      θ_run (Cert.AdamGainsIdeal.defs (F := Ideal)) (onTc (τ := Cert.AdamGainsIdeal.τ) (Cert.AdamGainsIdeal.main (F := Ideal))) ⟨m, fun _ => 0, g⟩ (fun r => ∀ c : Dev Cert.AdamGainsIdeal.nD,
          r.2.mem ((c.tc : Thread Cert.AdamGainsIdeal.nD Cert.AdamGainsIdeal.τ).loc Cert.AdamGainsIdeal.main_v0_0) = v0 c
          ∧ r.2.mem ((c.tc : Thread Cert.AdamGainsIdeal.nD Cert.AdamGainsIdeal.τ).loc Cert.AdamGainsIdeal.main_v0_1) = v1 c
          ∧ r.2.mem ((c.tc : Thread Cert.AdamGainsIdeal.nD Cert.AdamGainsIdeal.τ).loc Cert.AdamGainsIdeal.main_v0_2) = v2 c
          ∧ r.2.mem ((c.tc : Thread Cert.AdamGainsIdeal.nD Cert.AdamGainsIdeal.τ).loc Cert.AdamGainsIdeal.main_v0_3) = v3 c
          ∧ r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
          ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
          ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
          ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ θ_run (Cert.AdamGainsRefIdeal.defs (F := Ideal)) (onTc (τ := Cert.AdamGainsRefIdeal.τ) (Cert.AdamGainsRefIdeal.main (F := Ideal))) ⟨m', fun _ => 0, g'⟩ (fun r => ∀ c : Dev Cert.AdamGainsRefIdeal.nD,
          r.2.mem ((c.tc : Thread Cert.AdamGainsRefIdeal.nD Cert.AdamGainsRefIdeal.τ).loc Cert.AdamGainsRefIdeal.main_v0) = v0 c
          ∧ r.2.mem ((c.tc : Thread Cert.AdamGainsRefIdeal.nD Cert.AdamGainsRefIdeal.τ).loc Cert.AdamGainsRefIdeal.main_v25) = v1 c
          ∧ r.2.mem ((c.tc : Thread Cert.AdamGainsRefIdeal.nD Cert.AdamGainsRefIdeal.τ).loc Cert.AdamGainsRefIdeal.main_v6) = v2 c
          ∧ r.2.mem ((c.tc : Thread Cert.AdamGainsRefIdeal.nD Cert.AdamGainsRefIdeal.τ).loc Cert.AdamGainsRefIdeal.main_v12) = v3 c
          ∧ r.2.mem ((c.tc : Thread Cert.AdamGainsRefIdeal.nD Cert.AdamGainsRefIdeal.τ).loc Cert.AdamGainsRefIdeal.main_arg0) = m' ((c.tc : Thread Cert.AdamGainsRefIdeal.nD Cert.AdamGainsRefIdeal.τ).loc Cert.AdamGainsRefIdeal.main_arg0)
          ∧ r.2.mem ((c.tc : Thread Cert.AdamGainsRefIdeal.nD Cert.AdamGainsRefIdeal.τ).loc Cert.AdamGainsRefIdeal.main_arg1) = m' ((c.tc : Thread Cert.AdamGainsRefIdeal.nD Cert.AdamGainsRefIdeal.τ).loc Cert.AdamGainsRefIdeal.main_arg1)
          ∧ r.2.mem ((c.tc : Thread Cert.AdamGainsRefIdeal.nD Cert.AdamGainsRefIdeal.τ).loc Cert.AdamGainsRefIdeal.main_arg2) = m' ((c.tc : Thread Cert.AdamGainsRefIdeal.nD Cert.AdamGainsRefIdeal.τ).loc Cert.AdamGainsRefIdeal.main_arg2)
          ∧ r.2.mem ((c.tc : Thread Cert.AdamGainsRefIdeal.nD Cert.AdamGainsRefIdeal.τ).loc Cert.AdamGainsRefIdeal.main_arg3) = m' ((c.tc : Thread Cert.AdamGainsRefIdeal.nD Cert.AdamGainsRefIdeal.τ).loc Cert.AdamGainsRefIdeal.main_arg3))

def preserves_AdamAbIn_AdamAbInIdeal : Prop :=
  True

def algebraic_AdamAbInIdeal_AdamAbInRefIdeal [hAdamAbInIdeal : Cert.AdamAbInIdeal.Facts] [hAdamAbInRefIdeal : Cert.AdamAbInRefIdeal.Facts] : Prop :=
  ∀ (m : (ℓ : Loc Cert.AdamAbInIdeal.nD Cert.AdamAbInIdeal.τ Cert.AdamAbInIdeal.sig) → Buf (Elt Ideal) ℓ) (g : Dev Cert.AdamAbInIdeal.nD → PrngReg)
    (m' : (ℓ : Loc Cert.AdamAbInRefIdeal.nD Cert.AdamAbInRefIdeal.τ Cert.AdamAbInRefIdeal.sig) → Buf (Elt Ideal) ℓ) (g' : Dev Cert.AdamAbInRefIdeal.nD → PrngReg), Pre_AdamAbInIdeal m →
    (∀ c : Dev Cert.AdamAbInIdeal.nD,
      m' ((c.tc : Thread Cert.AdamAbInRefIdeal.nD Cert.AdamAbInRefIdeal.τ).loc Cert.AdamAbInRefIdeal.main_arg0) = m ((c.tc : Thread Cert.AdamAbInIdeal.nD Cert.AdamAbInIdeal.τ).loc Cert.AdamAbInIdeal.main_arg0)
      ∧ m' ((c.tc : Thread Cert.AdamAbInRefIdeal.nD Cert.AdamAbInRefIdeal.τ).loc Cert.AdamAbInRefIdeal.main_arg1) = m ((c.tc : Thread Cert.AdamAbInIdeal.nD Cert.AdamAbInIdeal.τ).loc Cert.AdamAbInIdeal.main_arg1)
      ∧ m' ((c.tc : Thread Cert.AdamAbInRefIdeal.nD Cert.AdamAbInRefIdeal.τ).loc Cert.AdamAbInRefIdeal.main_arg2) = m ((c.tc : Thread Cert.AdamAbInIdeal.nD Cert.AdamAbInIdeal.τ).loc Cert.AdamAbInIdeal.main_arg2)
      ∧ m' ((c.tc : Thread Cert.AdamAbInRefIdeal.nD Cert.AdamAbInRefIdeal.τ).loc Cert.AdamAbInRefIdeal.main_arg3) = m ((c.tc : Thread Cert.AdamAbInIdeal.nD Cert.AdamAbInIdeal.τ).loc Cert.AdamAbInIdeal.main_arg3)) →
    ∃ (v0 : (c : Dev Cert.AdamAbInIdeal.nD) → Buf (Elt Ideal) ((c.tc : Thread Cert.AdamAbInIdeal.nD Cert.AdamAbInIdeal.τ).loc Cert.AdamAbInIdeal.main_v0_0)) (v1 : (c : Dev Cert.AdamAbInIdeal.nD) → Buf (Elt Ideal) ((c.tc : Thread Cert.AdamAbInIdeal.nD Cert.AdamAbInIdeal.τ).loc Cert.AdamAbInIdeal.main_v0_1)) (v2 : (c : Dev Cert.AdamAbInIdeal.nD) → Buf (Elt Ideal) ((c.tc : Thread Cert.AdamAbInIdeal.nD Cert.AdamAbInIdeal.τ).loc Cert.AdamAbInIdeal.main_v0_2)) (v3 : (c : Dev Cert.AdamAbInIdeal.nD) → Buf (Elt Ideal) ((c.tc : Thread Cert.AdamAbInIdeal.nD Cert.AdamAbInIdeal.τ).loc Cert.AdamAbInIdeal.main_v0_3)),
      θ_run (Cert.AdamAbInIdeal.defs (F := Ideal)) (onTc (τ := Cert.AdamAbInIdeal.τ) (Cert.AdamAbInIdeal.main (F := Ideal))) ⟨m, fun _ => 0, g⟩ (fun r => ∀ c : Dev Cert.AdamAbInIdeal.nD,
          r.2.mem ((c.tc : Thread Cert.AdamAbInIdeal.nD Cert.AdamAbInIdeal.τ).loc Cert.AdamAbInIdeal.main_v0_0) = v0 c
          ∧ r.2.mem ((c.tc : Thread Cert.AdamAbInIdeal.nD Cert.AdamAbInIdeal.τ).loc Cert.AdamAbInIdeal.main_v0_1) = v1 c
          ∧ r.2.mem ((c.tc : Thread Cert.AdamAbInIdeal.nD Cert.AdamAbInIdeal.τ).loc Cert.AdamAbInIdeal.main_v0_2) = v2 c
          ∧ r.2.mem ((c.tc : Thread Cert.AdamAbInIdeal.nD Cert.AdamAbInIdeal.τ).loc Cert.AdamAbInIdeal.main_v0_3) = v3 c
          ∧ r.2.mem ((c.tc : Thread Cert.AdamAbInIdeal.nD Cert.AdamAbInIdeal.τ).loc Cert.AdamAbInIdeal.main_arg0) = m ((c.tc : Thread Cert.AdamAbInIdeal.nD Cert.AdamAbInIdeal.τ).loc Cert.AdamAbInIdeal.main_arg0)
          ∧ r.2.mem ((c.tc : Thread Cert.AdamAbInIdeal.nD Cert.AdamAbInIdeal.τ).loc Cert.AdamAbInIdeal.main_arg1) = m ((c.tc : Thread Cert.AdamAbInIdeal.nD Cert.AdamAbInIdeal.τ).loc Cert.AdamAbInIdeal.main_arg1)
          ∧ r.2.mem ((c.tc : Thread Cert.AdamAbInIdeal.nD Cert.AdamAbInIdeal.τ).loc Cert.AdamAbInIdeal.main_arg2) = m ((c.tc : Thread Cert.AdamAbInIdeal.nD Cert.AdamAbInIdeal.τ).loc Cert.AdamAbInIdeal.main_arg2)
          ∧ r.2.mem ((c.tc : Thread Cert.AdamAbInIdeal.nD Cert.AdamAbInIdeal.τ).loc Cert.AdamAbInIdeal.main_arg3) = m ((c.tc : Thread Cert.AdamAbInIdeal.nD Cert.AdamAbInIdeal.τ).loc Cert.AdamAbInIdeal.main_arg3))
      ∧ θ_run (Cert.AdamAbInRefIdeal.defs (F := Ideal)) (onTc (τ := Cert.AdamAbInRefIdeal.τ) (Cert.AdamAbInRefIdeal.main (F := Ideal))) ⟨m', fun _ => 0, g'⟩ (fun r => ∀ c : Dev Cert.AdamAbInRefIdeal.nD,
          r.2.mem ((c.tc : Thread Cert.AdamAbInRefIdeal.nD Cert.AdamAbInRefIdeal.τ).loc Cert.AdamAbInRefIdeal.main_v0) = v0 c
          ∧ r.2.mem ((c.tc : Thread Cert.AdamAbInRefIdeal.nD Cert.AdamAbInRefIdeal.τ).loc Cert.AdamAbInRefIdeal.main_v25) = v1 c
          ∧ r.2.mem ((c.tc : Thread Cert.AdamAbInRefIdeal.nD Cert.AdamAbInRefIdeal.τ).loc Cert.AdamAbInRefIdeal.main_v6) = v2 c
          ∧ r.2.mem ((c.tc : Thread Cert.AdamAbInRefIdeal.nD Cert.AdamAbInRefIdeal.τ).loc Cert.AdamAbInRefIdeal.main_v12) = v3 c
          ∧ r.2.mem ((c.tc : Thread Cert.AdamAbInRefIdeal.nD Cert.AdamAbInRefIdeal.τ).loc Cert.AdamAbInRefIdeal.main_arg0) = m' ((c.tc : Thread Cert.AdamAbInRefIdeal.nD Cert.AdamAbInRefIdeal.τ).loc Cert.AdamAbInRefIdeal.main_arg0)
          ∧ r.2.mem ((c.tc : Thread Cert.AdamAbInRefIdeal.nD Cert.AdamAbInRefIdeal.τ).loc Cert.AdamAbInRefIdeal.main_arg1) = m' ((c.tc : Thread Cert.AdamAbInRefIdeal.nD Cert.AdamAbInRefIdeal.τ).loc Cert.AdamAbInRefIdeal.main_arg1)
          ∧ r.2.mem ((c.tc : Thread Cert.AdamAbInRefIdeal.nD Cert.AdamAbInRefIdeal.τ).loc Cert.AdamAbInRefIdeal.main_arg2) = m' ((c.tc : Thread Cert.AdamAbInRefIdeal.nD Cert.AdamAbInRefIdeal.τ).loc Cert.AdamAbInRefIdeal.main_arg2)
          ∧ r.2.mem ((c.tc : Thread Cert.AdamAbInRefIdeal.nD Cert.AdamAbInRefIdeal.τ).loc Cert.AdamAbInRefIdeal.main_arg3) = m' ((c.tc : Thread Cert.AdamAbInRefIdeal.nD Cert.AdamAbInRefIdeal.τ).loc Cert.AdamAbInRefIdeal.main_arg3))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v0) = v0 c
          ∧ r.2.mem ((c.tc : Thread Cert.AdamPoolRefIdeal.nD Cert.AdamPoolRefIdeal.τ).loc Cert.AdamPoolRefIdeal.main_v25) = v1 c
          ∧ r.2.mem ((c.tc : Thread Cert.AdamPoolRefIdeal.nD Cert.AdamPoolRefIdeal.τ).loc Cert.AdamPoolRefIdeal.main_v6) = v2 c
          ∧ r.2.mem ((c.tc : Thread Cert.AdamPoolRefIdeal.nD Cert.AdamPoolRefIdeal.τ).loc Cert.AdamPoolRefIdeal.main_v12) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3))

def preserves_AdamChannels_AdamChannelsIdeal : Prop :=
  True

def algebraic_AdamChannelsIdeal_AdamChannelsRefIdeal [hAdamChannelsIdeal : Cert.AdamChannelsIdeal.Facts] [hAdamChannelsRefIdeal : Cert.AdamChannelsRefIdeal.Facts] : Prop :=
  ∀ (m : (ℓ : Loc Cert.AdamChannelsIdeal.nD Cert.AdamChannelsIdeal.τ Cert.AdamChannelsIdeal.sig) → Buf (Elt Ideal) ℓ) (g : Dev Cert.AdamChannelsIdeal.nD → PrngReg)
    (m' : (ℓ : Loc Cert.AdamChannelsRefIdeal.nD Cert.AdamChannelsRefIdeal.τ Cert.AdamChannelsRefIdeal.sig) → Buf (Elt Ideal) ℓ) (g' : Dev Cert.AdamChannelsRefIdeal.nD → PrngReg), Pre_AdamChannelsIdeal m →
    (∀ c : Dev Cert.AdamChannelsIdeal.nD,
      m' ((c.tc : Thread Cert.AdamChannelsRefIdeal.nD Cert.AdamChannelsRefIdeal.τ).loc Cert.AdamChannelsRefIdeal.main_arg0) = m ((c.tc : Thread Cert.AdamChannelsIdeal.nD Cert.AdamChannelsIdeal.τ).loc Cert.AdamChannelsIdeal.main_arg0)
      ∧ m' ((c.tc : Thread Cert.AdamChannelsRefIdeal.nD Cert.AdamChannelsRefIdeal.τ).loc Cert.AdamChannelsRefIdeal.main_arg1) = m ((c.tc : Thread Cert.AdamChannelsIdeal.nD Cert.AdamChannelsIdeal.τ).loc Cert.AdamChannelsIdeal.main_arg1)
      ∧ m' ((c.tc : Thread Cert.AdamChannelsRefIdeal.nD Cert.AdamChannelsRefIdeal.τ).loc Cert.AdamChannelsRefIdeal.main_arg2) = m ((c.tc : Thread Cert.AdamChannelsIdeal.nD Cert.AdamChannelsIdeal.τ).loc Cert.AdamChannelsIdeal.main_arg2)
      ∧ m' ((c.tc : Thread Cert.AdamChannelsRefIdeal.nD Cert.AdamChannelsRefIdeal.τ).loc Cert.AdamChannelsRefIdeal.main_arg3) = m ((c.tc : Thread Cert.AdamChannelsIdeal.nD Cert.AdamChannelsIdeal.τ).loc Cert.AdamChannelsIdeal.main_arg3)) →
    ∃ (v0 : (c : Dev Cert.AdamChannelsIdeal.nD) → Buf (Elt Ideal) ((c.tc : Thread Cert.AdamChannelsIdeal.nD Cert.AdamChannelsIdeal.τ).loc Cert.AdamChannelsIdeal.main_v0_0)) (v1 : (c : Dev Cert.AdamChannelsIdeal.nD) → Buf (Elt Ideal) ((c.tc : Thread Cert.AdamChannelsIdeal.nD Cert.AdamChannelsIdeal.τ).loc Cert.AdamChannelsIdeal.main_v0_1)) (v2 : (c : Dev Cert.AdamChannelsIdeal.nD) → Buf (Elt Ideal) ((c.tc : Thread Cert.AdamChannelsIdeal.nD Cert.AdamChannelsIdeal.τ).loc Cert.AdamChannelsIdeal.main_v0_2)) (v3 : (c : Dev Cert.AdamChannelsIdeal.nD) → Buf (Elt Ideal) ((c.tc : Thread Cert.AdamChannelsIdeal.nD Cert.AdamChannelsIdeal.τ).loc Cert.AdamChannelsIdeal.main_v0_3)),
      θ_run (Cert.AdamChannelsIdeal.defs (F := Ideal)) (onTc (τ := Cert.AdamChannelsIdeal.τ) (Cert.AdamChannelsIdeal.main (F := Ideal))) ⟨m, fun _ => 0, g⟩ (fun r => ∀ c : Dev Cert.AdamChannelsIdeal.nD,
          r.2.mem ((c.tc : Thread Cert.AdamChannelsIdeal.nD Cert.AdamChannelsIdeal.τ).loc Cert.AdamChannelsIdeal.main_v0_0) = v0 c
          ∧ r.2.mem ((c.tc : Thread Cert.AdamChannelsIdeal.nD Cert.AdamChannelsIdeal.τ).loc Cert.AdamChannelsIdeal.main_v0_1) = v1 c
          ∧ r.2.mem ((c.tc : Thread Cert.AdamChannelsIdeal.nD Cert.AdamChannelsIdeal.τ).loc Cert.AdamChannelsIdeal.main_v0_2) = v2 c
          ∧ r.2.mem ((c.tc : Thread Cert.AdamChannelsIdeal.nD Cert.AdamChannelsIdeal.τ).loc Cert.AdamChannelsIdeal.main_v0_3) = v3 c
          ∧ r.2.mem ((c.tc : Thread Cert.AdamChannelsIdeal.nD Cert.AdamChannelsIdeal.τ).loc Cert.AdamChannelsIdeal.main_arg0) = m ((c.tc : Thread Cert.AdamChannelsIdeal.nD Cert.AdamChannelsIdeal.τ).loc Cert.AdamChannelsIdeal.main_arg0)
          ∧ r.2.mem ((c.tc : Thread Cert.AdamChannelsIdeal.nD Cert.AdamChannelsIdeal.τ).loc Cert.AdamChannelsIdeal.main_arg1) = m ((c.tc : Thread Cert.AdamChannelsIdeal.nD Cert.AdamChannelsIdeal.τ).loc Cert.AdamChannelsIdeal.main_arg1)
          ∧ r.2.mem ((c.tc : Thread Cert.AdamChannelsIdeal.nD Cert.AdamChannelsIdeal.τ).loc Cert.AdamChannelsIdeal.main_arg2) = m ((c.tc : Thread Cert.AdamChannelsIdeal.nD Cert.AdamChannelsIdeal.τ).loc Cert.AdamChannelsIdeal.main_arg2)
          ∧ r.2.mem ((c.tc : Thread Cert.AdamChannelsIdeal.nD Cert.AdamChannelsIdeal.τ).loc Cert.AdamChannelsIdeal.main_arg3) = m ((c.tc : Thread Cert.AdamChannelsIdeal.nD Cert.AdamChannelsIdeal.τ).loc Cert.AdamChannelsIdeal.main_arg3))
      ∧ θ_run (Cert.AdamChannelsRefIdeal.defs (F := Ideal)) (onTc (τ := Cert.AdamChannelsRefIdeal.τ) (Cert.AdamChannelsRefIdeal.main (F := Ideal))) ⟨m', fun _ => 0, g'⟩ (fun r => ∀ c : Dev Cert.AdamChannelsRefIdeal.nD,
          r.2.mem ((c.tc : Thread Cert.AdamChannelsRefIdeal.nD Cert.AdamChannelsRefIdeal.τ).loc Cert.AdamChannelsRefIdeal.main_v0) = v0 c
          ∧ r.2.mem ((c.tc : Thread Cert.AdamChannelsRefIdeal.nD Cert.AdamChannelsRefIdeal.τ).loc Cert.AdamChannelsRefIdeal.main_v25) = v1 c
          ∧ r.2.mem ((c.tc : Thread Cert.AdamChannelsRefIdeal.nD Cert.AdamChannelsRefIdeal.τ).loc Cert.AdamChannelsRefIdeal.main_v6) = v2 c
          ∧ r.2.mem ((c.tc : Thread Cert.AdamChannelsRefIdeal.nD Cert.AdamChannelsRefIdeal.τ).loc Cert.AdamChannelsRefIdeal.main_v12) = v3 c
          ∧ r.2.mem ((c.tc : Thread Cert.AdamChannelsRefIdeal.nD Cert.AdamChannelsRefIdeal.τ).loc Cert.AdamChannelsRefIdeal.main_arg0) = m' ((c.tc : Thread Cert.AdamChannelsRefIdeal.nD Cert.AdamChannelsRefIdeal.τ).loc Cert.AdamChannelsRefIdeal.main_arg0)
          ∧ r.2.mem ((c.tc : Thread Cert.AdamChannelsRefIdeal.nD Cert.AdamChannelsRefIdeal.τ).loc Cert.AdamChannelsRefIdeal.main_arg1) = m' ((c.tc : Thread Cert.AdamChannelsRefIdeal.nD Cert.AdamChannelsRefIdeal.τ).loc Cert.AdamChannelsRefIdeal.main_arg1)
          ∧ r.2.mem ((c.tc : Thread Cert.AdamChannelsRefIdeal.nD Cert.AdamChannelsRefIdeal.τ).loc Cert.AdamChannelsRefIdeal.main_arg2) = m' ((c.tc : Thread Cert.AdamChannelsRefIdeal.nD Cert.AdamChannelsRefIdeal.τ).loc Cert.AdamChannelsRefIdeal.main_arg2)
          ∧ r.2.mem ((c.tc : Thread Cert.AdamChannelsRefIdeal.nD Cert.AdamChannelsRefIdeal.τ).loc Cert.AdamChannelsRefIdeal.main_arg3) = m' ((c.tc : Thread Cert.AdamChannelsRefIdeal.nD Cert.AdamChannelsRefIdeal.τ).loc Cert.AdamChannelsRefIdeal.main_arg3))

def preserves_AdamTaps_AdamTapsIdeal : Prop :=
  True

def algebraic_AdamTapsIdeal_AdamTapsRefIdeal [hAdamTapsIdeal : Cert.AdamTapsIdeal.Facts] [hAdamTapsRefIdeal : Cert.AdamTapsRefIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg)
    (m' : (ℓ : Loc Cert.AdamTapsRefIdeal.nD Cert.AdamTapsRefIdeal.τ Cert.AdamTapsRefIdeal.sig) → Buf (Elt Ideal) ℓ) (g' : Dev Cert.AdamTapsRefIdeal.nD → PrngReg), Pre_AdamTapsIdeal m →
    (∀ c : Dev Cert.AdamTapsIdeal.nD,
      m' ((c.tc : Thread Cert.AdamTapsRefIdeal.nD Cert.AdamTapsRefIdeal.τ).loc Cert.AdamTapsRefIdeal.main_arg0) = m ((c.tc : Thread Cert.AdamTapsIdeal.nD Cert.AdamTapsIdeal.τ).loc Cert.AdamTapsIdeal.main_arg0)
      ∧ m' ((c.tc : Thread Cert.AdamTapsRefIdeal.nD Cert.AdamTapsRefIdeal.τ).loc Cert.AdamTapsRefIdeal.main_arg1) = m ((c.tc : Thread Cert.AdamTapsIdeal.nD Cert.AdamTapsIdeal.τ).loc Cert.AdamTapsIdeal.main_arg1)
      ∧ m' ((c.tc : Thread Cert.AdamTapsRefIdeal.nD Cert.AdamTapsRefIdeal.τ).loc Cert.AdamTapsRefIdeal.main_arg2) = m ((c.tc : Thread Cert.AdamTapsIdeal.nD Cert.AdamTapsIdeal.τ).loc Cert.AdamTapsIdeal.main_arg2)
      ∧ m' ((c.tc : Thread Cert.AdamTapsRefIdeal.nD Cert.AdamTapsRefIdeal.τ).loc Cert.AdamTapsRefIdeal.main_arg3) = m ((c.tc : Thread Cert.AdamTapsIdeal.nD Cert.AdamTapsIdeal.τ).loc Cert.AdamTapsIdeal.main_arg3)) →
    ∃ (v0 : (c : Dev Cert.AdamTapsIdeal.nD) → Buf (Elt Ideal) ((c.tc : Thread Cert.AdamTapsIdeal.nD Cert.AdamTapsIdeal.τ).loc Cert.AdamTapsIdeal.main_v0_0)) (v1 : (c : Dev Cert.AdamTapsIdeal.nD) → Buf (Elt Ideal) ((c.tc : Thread Cert.AdamTapsIdeal.nD Cert.AdamTapsIdeal.τ).loc Cert.AdamTapsIdeal.main_v0_1)) (v2 : (c : Dev Cert.AdamTapsIdeal.nD) → Buf (Elt Ideal) ((c.tc : Thread Cert.AdamTapsIdeal.nD Cert.AdamTapsIdeal.τ).loc Cert.AdamTapsIdeal.main_v0_2)) (v3 : (c : Dev Cert.AdamTapsIdeal.nD) → Buf (Elt Ideal) ((c.tc : Thread Cert.AdamTapsIdeal.nD Cert.AdamTapsIdeal.τ).loc Cert.AdamTapsIdeal.main_v0_3)),
      θ_run (Cert.AdamTapsIdeal.defs (F := Ideal)) (onTc (τ := Cert.AdamTapsIdeal.τ) (Cert.AdamTapsIdeal.main (F := Ideal))) ⟨m, fun _ => 0, g⟩ (fun r => ∀ c : Dev Cert.AdamTapsIdeal.nD,
          r.2.mem ((c.tc : Thread Cert.AdamTapsIdeal.nD Cert.AdamTapsIdeal.τ).loc Cert.AdamTapsIdeal.main_v0_0) = v0 c
          ∧ r.2.mem ((c.tc : Thread Cert.AdamTapsIdeal.nD Cert.AdamTapsIdeal.τ).loc Cert.AdamTapsIdeal.main_v0_1) = v1 c
          ∧ r.2.mem ((c.tc : Thread Cert.AdamTapsIdeal.nD Cert.AdamTapsIdeal.τ).loc Cert.AdamTapsIdeal.main_v0_2) = v2 c
          ∧ r.2.mem ((c.tc : Thread Cert.AdamTapsIdeal.nD Cert.AdamTapsIdeal.τ).loc Cert.AdamTapsIdeal.main_v0_3) = v3 c
          ∧ r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
          ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
          ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
          ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ θ_run (Cert.AdamTapsRefIdeal.defs (F := Ideal)) (onTc (τ := Cert.AdamTapsRefIdeal.τ) (Cert.AdamTapsRefIdeal.main (F := Ideal))) ⟨m', fun _ => 0, g'⟩ (fun r => ∀ c : Dev Cert.AdamTapsRefIdeal.nD,
          r.2.mem ((c.tc : Thread Cert.AdamTapsRefIdeal.nD Cert.AdamTapsRefIdeal.τ).loc Cert.AdamTapsRefIdeal.main_v0) = v0 c
          ∧ r.2.mem ((c.tc : Thread Cert.AdamTapsRefIdeal.nD Cert.AdamTapsRefIdeal.τ).loc Cert.AdamTapsRefIdeal.main_v25) = v1 c
          ∧ r.2.mem ((c.tc : Thread Cert.AdamTapsRefIdeal.nD Cert.AdamTapsRefIdeal.τ).loc Cert.AdamTapsRefIdeal.main_v6) = v2 c
          ∧ r.2.mem ((c.tc : Thread Cert.AdamTapsRefIdeal.nD Cert.AdamTapsRefIdeal.τ).loc Cert.AdamTapsRefIdeal.main_v12) = v3 c
          ∧ r.2.mem ((c.tc : Thread Cert.AdamTapsRefIdeal.nD Cert.AdamTapsRefIdeal.τ).loc Cert.AdamTapsRefIdeal.main_arg0) = m' ((c.tc : Thread Cert.AdamTapsRefIdeal.nD Cert.AdamTapsRefIdeal.τ).loc Cert.AdamTapsRefIdeal.main_arg0)
          ∧ r.2.mem ((c.tc : Thread Cert.AdamTapsRefIdeal.nD Cert.AdamTapsRefIdeal.τ).loc Cert.AdamTapsRefIdeal.main_arg1) = m' ((c.tc : Thread Cert.AdamTapsRefIdeal.nD Cert.AdamTapsRefIdeal.τ).loc Cert.AdamTapsRefIdeal.main_arg1)
          ∧ r.2.mem ((c.tc : Thread Cert.AdamTapsRefIdeal.nD Cert.AdamTapsRefIdeal.τ).loc Cert.AdamTapsRefIdeal.main_arg2) = m' ((c.tc : Thread Cert.AdamTapsRefIdeal.nD Cert.AdamTapsRefIdeal.τ).loc Cert.AdamTapsRefIdeal.main_arg2)
          ∧ r.2.mem ((c.tc : Thread Cert.AdamTapsRefIdeal.nD Cert.AdamTapsRefIdeal.τ).loc Cert.AdamTapsRefIdeal.main_arg3) = m' ((c.tc : Thread Cert.AdamTapsRefIdeal.nD Cert.AdamTapsRefIdeal.τ).loc Cert.AdamTapsRefIdeal.main_arg3))

def preserves_AdamShortTaps_AdamShortTapsIdeal : Prop :=
  True

def algebraic_AdamShortTapsIdeal_AdamShortTapsRefIdeal [hAdamShortTapsIdeal : Cert.AdamShortTapsIdeal.Facts] [hAdamShortTapsRefIdeal : Cert.AdamShortTapsRefIdeal.Facts] : Prop :=
  ∀ (m : (ℓ : Loc Cert.AdamShortTapsIdeal.nD Cert.AdamShortTapsIdeal.τ Cert.AdamShortTapsIdeal.sig) → Buf (Elt Ideal) ℓ) (g : Dev Cert.AdamShortTapsIdeal.nD → PrngReg)
    (m' : (ℓ : Loc Cert.AdamShortTapsRefIdeal.nD Cert.AdamShortTapsRefIdeal.τ Cert.AdamShortTapsRefIdeal.sig) → Buf (Elt Ideal) ℓ) (g' : Dev Cert.AdamShortTapsRefIdeal.nD → PrngReg), Pre_AdamShortTapsIdeal m →
    (∀ c : Dev Cert.AdamShortTapsIdeal.nD,
      m' ((c.tc : Thread Cert.AdamShortTapsRefIdeal.nD Cert.AdamShortTapsRefIdeal.τ).loc Cert.AdamShortTapsRefIdeal.main_arg0) = m ((c.tc : Thread Cert.AdamShortTapsIdeal.nD Cert.AdamShortTapsIdeal.τ).loc Cert.AdamShortTapsIdeal.main_arg0)
      ∧ m' ((c.tc : Thread Cert.AdamShortTapsRefIdeal.nD Cert.AdamShortTapsRefIdeal.τ).loc Cert.AdamShortTapsRefIdeal.main_arg1) = m ((c.tc : Thread Cert.AdamShortTapsIdeal.nD Cert.AdamShortTapsIdeal.τ).loc Cert.AdamShortTapsIdeal.main_arg1)
      ∧ m' ((c.tc : Thread Cert.AdamShortTapsRefIdeal.nD Cert.AdamShortTapsRefIdeal.τ).loc Cert.AdamShortTapsRefIdeal.main_arg2) = m ((c.tc : Thread Cert.AdamShortTapsIdeal.nD Cert.AdamShortTapsIdeal.τ).loc Cert.AdamShortTapsIdeal.main_arg2)
      ∧ m' ((c.tc : Thread Cert.AdamShortTapsRefIdeal.nD Cert.AdamShortTapsRefIdeal.τ).loc Cert.AdamShortTapsRefIdeal.main_arg3) = m ((c.tc : Thread Cert.AdamShortTapsIdeal.nD Cert.AdamShortTapsIdeal.τ).loc Cert.AdamShortTapsIdeal.main_arg3)) →
    ∃ (v0 : (c : Dev Cert.AdamShortTapsIdeal.nD) → Buf (Elt Ideal) ((c.tc : Thread Cert.AdamShortTapsIdeal.nD Cert.AdamShortTapsIdeal.τ).loc Cert.AdamShortTapsIdeal.main_v0_0)) (v1 : (c : Dev Cert.AdamShortTapsIdeal.nD) → Buf (Elt Ideal) ((c.tc : Thread Cert.AdamShortTapsIdeal.nD Cert.AdamShortTapsIdeal.τ).loc Cert.AdamShortTapsIdeal.main_v0_1)) (v2 : (c : Dev Cert.AdamShortTapsIdeal.nD) → Buf (Elt Ideal) ((c.tc : Thread Cert.AdamShortTapsIdeal.nD Cert.AdamShortTapsIdeal.τ).loc Cert.AdamShortTapsIdeal.main_v0_2)) (v3 : (c : Dev Cert.AdamShortTapsIdeal.nD) → Buf (Elt Ideal) ((c.tc : Thread Cert.AdamShortTapsIdeal.nD Cert.AdamShortTapsIdeal.τ).loc Cert.AdamShortTapsIdeal.main_v0_3)),
      θ_run (Cert.AdamShortTapsIdeal.defs (F := Ideal)) (onTc (τ := Cert.AdamShortTapsIdeal.τ) (Cert.AdamShortTapsIdeal.main (F := Ideal))) ⟨m, fun _ => 0, g⟩ (fun r => ∀ c : Dev Cert.AdamShortTapsIdeal.nD,
          r.2.mem ((c.tc : Thread Cert.AdamShortTapsIdeal.nD Cert.AdamShortTapsIdeal.τ).loc Cert.AdamShortTapsIdeal.main_v0_0) = v0 c
          ∧ r.2.mem ((c.tc : Thread Cert.AdamShortTapsIdeal.nD Cert.AdamShortTapsIdeal.τ).loc Cert.AdamShortTapsIdeal.main_v0_1) = v1 c
          ∧ r.2.mem ((c.tc : Thread Cert.AdamShortTapsIdeal.nD Cert.AdamShortTapsIdeal.τ).loc Cert.AdamShortTapsIdeal.main_v0_2) = v2 c
          ∧ r.2.mem ((c.tc : Thread Cert.AdamShortTapsIdeal.nD Cert.AdamShortTapsIdeal.τ).loc Cert.AdamShortTapsIdeal.main_v0_3) = v3 c
          ∧ r.2.mem ((c.tc : Thread Cert.AdamShortTapsIdeal.nD Cert.AdamShortTapsIdeal.τ).loc Cert.AdamShortTapsIdeal.main_arg0) = m ((c.tc : Thread Cert.AdamShortTapsIdeal.nD Cert.AdamShortTapsIdeal.τ).loc Cert.AdamShortTapsIdeal.main_arg0)
          ∧ r.2.mem ((c.tc : Thread Cert.AdamShortTapsIdeal.nD Cert.AdamShortTapsIdeal.τ).loc Cert.AdamShortTapsIdeal.main_arg1) = m ((c.tc : Thread Cert.AdamShortTapsIdeal.nD Cert.AdamShortTapsIdeal.τ).loc Cert.AdamShortTapsIdeal.main_arg1)
          ∧ r.2.mem ((c.tc : Thread Cert.AdamShortTapsIdeal.nD Cert.AdamShortTapsIdeal.τ).loc Cert.AdamShortTapsIdeal.main_arg2) = m ((c.tc : Thread Cert.AdamShortTapsIdeal.nD Cert.AdamShortTapsIdeal.τ).loc Cert.AdamShortTapsIdeal.main_arg2)
          ∧ r.2.mem ((c.tc : Thread Cert.AdamShortTapsIdeal.nD Cert.AdamShortTapsIdeal.τ).loc Cert.AdamShortTapsIdeal.main_arg3) = m ((c.tc : Thread Cert.AdamShortTapsIdeal.nD Cert.AdamShortTapsIdeal.τ).loc Cert.AdamShortTapsIdeal.main_arg3))
      ∧ θ_run (Cert.AdamShortTapsRefIdeal.defs (F := Ideal)) (onTc (τ := Cert.AdamShortTapsRefIdeal.τ) (Cert.AdamShortTapsRefIdeal.main (F := Ideal))) ⟨m', fun _ => 0, g'⟩ (fun r => ∀ c : Dev Cert.AdamShortTapsRefIdeal.nD,
          r.2.mem ((c.tc : Thread Cert.AdamShortTapsRefIdeal.nD Cert.AdamShortTapsRefIdeal.τ).loc Cert.AdamShortTapsRefIdeal.main_v0) = v0 c
          ∧ r.2.mem ((c.tc : Thread Cert.AdamShortTapsRefIdeal.nD Cert.AdamShortTapsRefIdeal.τ).loc Cert.AdamShortTapsRefIdeal.main_v25) = v1 c
          ∧ r.2.mem ((c.tc : Thread Cert.AdamShortTapsRefIdeal.nD Cert.AdamShortTapsRefIdeal.τ).loc Cert.AdamShortTapsRefIdeal.main_v6) = v2 c
          ∧ r.2.mem ((c.tc : Thread Cert.AdamShortTapsRefIdeal.nD Cert.AdamShortTapsRefIdeal.τ).loc Cert.AdamShortTapsRefIdeal.main_v12) = v3 c
          ∧ r.2.mem ((c.tc : Thread Cert.AdamShortTapsRefIdeal.nD Cert.AdamShortTapsRefIdeal.τ).loc Cert.AdamShortTapsRefIdeal.main_arg0) = m' ((c.tc : Thread Cert.AdamShortTapsRefIdeal.nD Cert.AdamShortTapsRefIdeal.τ).loc Cert.AdamShortTapsRefIdeal.main_arg0)
          ∧ r.2.mem ((c.tc : Thread Cert.AdamShortTapsRefIdeal.nD Cert.AdamShortTapsRefIdeal.τ).loc Cert.AdamShortTapsRefIdeal.main_arg1) = m' ((c.tc : Thread Cert.AdamShortTapsRefIdeal.nD Cert.AdamShortTapsRefIdeal.τ).loc Cert.AdamShortTapsRefIdeal.main_arg1)
          ∧ r.2.mem ((c.tc : Thread Cert.AdamShortTapsRefIdeal.nD Cert.AdamShortTapsRefIdeal.τ).loc Cert.AdamShortTapsRefIdeal.main_arg2) = m' ((c.tc : Thread Cert.AdamShortTapsRefIdeal.nD Cert.AdamShortTapsRefIdeal.τ).loc Cert.AdamShortTapsRefIdeal.main_arg2)
          ∧ r.2.mem ((c.tc : Thread Cert.AdamShortTapsRefIdeal.nD Cert.AdamShortTapsRefIdeal.τ).loc Cert.AdamShortTapsRefIdeal.main_arg3) = m' ((c.tc : Thread Cert.AdamShortTapsRefIdeal.nD Cert.AdamShortTapsRefIdeal.τ).loc Cert.AdamShortTapsRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamShortIn_AdamShortInIdeal : Prop :=
  True

def algebraic_AdamShortInIdeal_AdamShortInRefIdeal [hAdamShortInIdeal : Cert.AdamShortInIdeal.Facts] [hAdamShortInRefIdeal : Cert.AdamShortInRefIdeal.Facts] : Prop :=
  ∀ (m : (ℓ : Loc Cert.AdamShortInIdeal.nD Cert.AdamShortInIdeal.τ Cert.AdamShortInIdeal.sig) → Buf (Elt Ideal) ℓ) (g : Dev Cert.AdamShortInIdeal.nD → PrngReg)
    (m' : (ℓ : Loc Cert.AdamShortInRefIdeal.nD Cert.AdamShortInRefIdeal.τ Cert.AdamShortInRefIdeal.sig) → Buf (Elt Ideal) ℓ) (g' : Dev Cert.AdamShortInRefIdeal.nD → PrngReg), Pre_AdamShortInIdeal m →
    (∀ c : Dev Cert.AdamShortInIdeal.nD,
      m' ((c.tc : Thread Cert.AdamShortInRefIdeal.nD Cert.AdamShortInRefIdeal.τ).loc Cert.AdamShortInRefIdeal.main_arg0) = m ((c.tc : Thread Cert.AdamShortInIdeal.nD Cert.AdamShortInIdeal.τ).loc Cert.AdamShortInIdeal.main_arg0)
      ∧ m' ((c.tc : Thread Cert.AdamShortInRefIdeal.nD Cert.AdamShortInRefIdeal.τ).loc Cert.AdamShortInRefIdeal.main_arg1) = m ((c.tc : Thread Cert.AdamShortInIdeal.nD Cert.AdamShortInIdeal.τ).loc Cert.AdamShortInIdeal.main_arg1)
      ∧ m' ((c.tc : Thread Cert.AdamShortInRefIdeal.nD Cert.AdamShortInRefIdeal.τ).loc Cert.AdamShortInRefIdeal.main_arg2) = m ((c.tc : Thread Cert.AdamShortInIdeal.nD Cert.AdamShortInIdeal.τ).loc Cert.AdamShortInIdeal.main_arg2)
      ∧ m' ((c.tc : Thread Cert.AdamShortInRefIdeal.nD Cert.AdamShortInRefIdeal.τ).loc Cert.AdamShortInRefIdeal.main_arg3) = m ((c.tc : Thread Cert.AdamShortInIdeal.nD Cert.AdamShortInIdeal.τ).loc Cert.AdamShortInIdeal.main_arg3)) →
    ∃ (v0 : (c : Dev Cert.AdamShortInIdeal.nD) → Buf (Elt Ideal) ((c.tc : Thread Cert.AdamShortInIdeal.nD Cert.AdamShortInIdeal.τ).loc Cert.AdamShortInIdeal.main_v0_0)) (v1 : (c : Dev Cert.AdamShortInIdeal.nD) → Buf (Elt Ideal) ((c.tc : Thread Cert.AdamShortInIdeal.nD Cert.AdamShortInIdeal.τ).loc Cert.AdamShortInIdeal.main_v0_1)) (v2 : (c : Dev Cert.AdamShortInIdeal.nD) → Buf (Elt Ideal) ((c.tc : Thread Cert.AdamShortInIdeal.nD Cert.AdamShortInIdeal.τ).loc Cert.AdamShortInIdeal.main_v0_2)) (v3 : (c : Dev Cert.AdamShortInIdeal.nD) → Buf (Elt Ideal) ((c.tc : Thread Cert.AdamShortInIdeal.nD Cert.AdamShortInIdeal.τ).loc Cert.AdamShortInIdeal.main_v0_3)),
      θ_run (Cert.AdamShortInIdeal.defs (F := Ideal)) (onTc (τ := Cert.AdamShortInIdeal.τ) (Cert.AdamShortInIdeal.main (F := Ideal))) ⟨m, fun _ => 0, g⟩ (fun r => ∀ c : Dev Cert.AdamShortInIdeal.nD,
          r.2.mem ((c.tc : Thread Cert.AdamShortInIdeal.nD Cert.AdamShortInIdeal.τ).loc Cert.AdamShortInIdeal.main_v0_0) = v0 c
          ∧ r.2.mem ((c.tc : Thread Cert.AdamShortInIdeal.nD Cert.AdamShortInIdeal.τ).loc Cert.AdamShortInIdeal.main_v0_1) = v1 c
          ∧ r.2.mem ((c.tc : Thread Cert.AdamShortInIdeal.nD Cert.AdamShortInIdeal.τ).loc Cert.AdamShortInIdeal.main_v0_2) = v2 c
          ∧ r.2.mem ((c.tc : Thread Cert.AdamShortInIdeal.nD Cert.AdamShortInIdeal.τ).loc Cert.AdamShortInIdeal.main_v0_3) = v3 c
          ∧ r.2.mem ((c.tc : Thread Cert.AdamShortInIdeal.nD Cert.AdamShortInIdeal.τ).loc Cert.AdamShortInIdeal.main_arg0) = m ((c.tc : Thread Cert.AdamShortInIdeal.nD Cert.AdamShortInIdeal.τ).loc Cert.AdamShortInIdeal.main_arg0)
          ∧ r.2.mem ((c.tc : Thread Cert.AdamShortInIdeal.nD Cert.AdamShortInIdeal.τ).loc Cert.AdamShortInIdeal.main_arg1) = m ((c.tc : Thread Cert.AdamShortInIdeal.nD Cert.AdamShortInIdeal.τ).loc Cert.AdamShortInIdeal.main_arg1)
          ∧ r.2.mem ((c.tc : Thread Cert.AdamShortInIdeal.nD Cert.AdamShortInIdeal.τ).loc Cert.AdamShortInIdeal.main_arg2) = m ((c.tc : Thread Cert.AdamShortInIdeal.nD Cert.AdamShortInIdeal.τ).loc Cert.AdamShortInIdeal.main_arg2)
          ∧ r.2.mem ((c.tc : Thread Cert.AdamShortInIdeal.nD Cert.AdamShortInIdeal.τ).loc Cert.AdamShortInIdeal.main_arg3) = m ((c.tc : Thread Cert.AdamShortInIdeal.nD Cert.AdamShortInIdeal.τ).loc Cert.AdamShortInIdeal.main_arg3))
      ∧ θ_run (Cert.AdamShortInRefIdeal.defs (F := Ideal)) (onTc (τ := Cert.AdamShortInRefIdeal.τ) (Cert.AdamShortInRefIdeal.main (F := Ideal))) ⟨m', fun _ => 0, g'⟩ (fun r => ∀ c : Dev Cert.AdamShortInRefIdeal.nD,
          r.2.mem ((c.tc : Thread Cert.AdamShortInRefIdeal.nD Cert.AdamShortInRefIdeal.τ).loc Cert.AdamShortInRefIdeal.main_v0) = v0 c
          ∧ r.2.mem ((c.tc : Thread Cert.AdamShortInRefIdeal.nD Cert.AdamShortInRefIdeal.τ).loc Cert.AdamShortInRefIdeal.main_v25) = v1 c
          ∧ r.2.mem ((c.tc : Thread Cert.AdamShortInRefIdeal.nD Cert.AdamShortInRefIdeal.τ).loc Cert.AdamShortInRefIdeal.main_v6) = v2 c
          ∧ r.2.mem ((c.tc : Thread Cert.AdamShortInRefIdeal.nD Cert.AdamShortInRefIdeal.τ).loc Cert.AdamShortInRefIdeal.main_v12) = v3 c
          ∧ r.2.mem ((c.tc : Thread Cert.AdamShortInRefIdeal.nD Cert.AdamShortInRefIdeal.τ).loc Cert.AdamShortInRefIdeal.main_arg0) = m' ((c.tc : Thread Cert.AdamShortInRefIdeal.nD Cert.AdamShortInRefIdeal.τ).loc Cert.AdamShortInRefIdeal.main_arg0)
          ∧ r.2.mem ((c.tc : Thread Cert.AdamShortInRefIdeal.nD Cert.AdamShortInRefIdeal.τ).loc Cert.AdamShortInRefIdeal.main_arg1) = m' ((c.tc : Thread Cert.AdamShortInRefIdeal.nD Cert.AdamShortInRefIdeal.τ).loc Cert.AdamShortInRefIdeal.main_arg1)
          ∧ r.2.mem ((c.tc : Thread Cert.AdamShortInRefIdeal.nD Cert.AdamShortInRefIdeal.τ).loc Cert.AdamShortInRefIdeal.main_arg2) = m' ((c.tc : Thread Cert.AdamShortInRefIdeal.nD Cert.AdamShortInRefIdeal.τ).loc Cert.AdamShortInRefIdeal.main_arg2)
          ∧ r.2.mem ((c.tc : Thread Cert.AdamShortInRefIdeal.nD Cert.AdamShortInRefIdeal.τ).loc Cert.AdamShortInRefIdeal.main_arg3) = m' ((c.tc : Thread Cert.AdamShortInRefIdeal.nD Cert.AdamShortInRefIdeal.τ).loc Cert.AdamShortInRefIdeal.main_arg3))

def preserves_AdamFfnB_AdamFfnBIdeal : Prop :=
  True

def algebraic_AdamFfnBIdeal_AdamFfnBRefIdeal [hAdamFfnBIdeal : Cert.AdamFfnBIdeal.Facts] [hAdamFfnBRefIdeal : Cert.AdamFfnBRefIdeal.Facts] : Prop :=
  ∀ (m : (ℓ : Loc Cert.AdamFfnBIdeal.nD Cert.AdamFfnBIdeal.τ Cert.AdamFfnBIdeal.sig) → Buf (Elt Ideal) ℓ) (g : Dev Cert.AdamFfnBIdeal.nD → PrngReg)
    (m' : (ℓ : Loc Cert.AdamFfnBRefIdeal.nD Cert.AdamFfnBRefIdeal.τ Cert.AdamFfnBRefIdeal.sig) → Buf (Elt Ideal) ℓ) (g' : Dev Cert.AdamFfnBRefIdeal.nD → PrngReg), Pre_AdamFfnBIdeal m →
    (∀ c : Dev Cert.AdamFfnBIdeal.nD,
      m' ((c.tc : Thread Cert.AdamFfnBRefIdeal.nD Cert.AdamFfnBRefIdeal.τ).loc Cert.AdamFfnBRefIdeal.main_arg0) = m ((c.tc : Thread Cert.AdamFfnBIdeal.nD Cert.AdamFfnBIdeal.τ).loc Cert.AdamFfnBIdeal.main_arg0)
      ∧ m' ((c.tc : Thread Cert.AdamFfnBRefIdeal.nD Cert.AdamFfnBRefIdeal.τ).loc Cert.AdamFfnBRefIdeal.main_arg1) = m ((c.tc : Thread Cert.AdamFfnBIdeal.nD Cert.AdamFfnBIdeal.τ).loc Cert.AdamFfnBIdeal.main_arg1)
      ∧ m' ((c.tc : Thread Cert.AdamFfnBRefIdeal.nD Cert.AdamFfnBRefIdeal.τ).loc Cert.AdamFfnBRefIdeal.main_arg2) = m ((c.tc : Thread Cert.AdamFfnBIdeal.nD Cert.AdamFfnBIdeal.τ).loc Cert.AdamFfnBIdeal.main_arg2)
      ∧ m' ((c.tc : Thread Cert.AdamFfnBRefIdeal.nD Cert.AdamFfnBRefIdeal.τ).loc Cert.AdamFfnBRefIdeal.main_arg3) = m ((c.tc : Thread Cert.AdamFfnBIdeal.nD Cert.AdamFfnBIdeal.τ).loc Cert.AdamFfnBIdeal.main_arg3)) →
    ∃ (v0 : (c : Dev Cert.AdamFfnBIdeal.nD) → Buf (Elt Ideal) ((c.tc : Thread Cert.AdamFfnBIdeal.nD Cert.AdamFfnBIdeal.τ).loc Cert.AdamFfnBIdeal.main_v1)) (v1 : (c : Dev Cert.AdamFfnBIdeal.nD) → Buf (Elt Ideal) ((c.tc : Thread Cert.AdamFfnBIdeal.nD Cert.AdamFfnBIdeal.τ).loc Cert.AdamFfnBIdeal.main_v2)) (v2 : (c : Dev Cert.AdamFfnBIdeal.nD) → Buf (Elt Ideal) ((c.tc : Thread Cert.AdamFfnBIdeal.nD Cert.AdamFfnBIdeal.τ).loc Cert.AdamFfnBIdeal.main_v3)) (v3 : (c : Dev Cert.AdamFfnBIdeal.nD) → Buf (Elt Ideal) ((c.tc : Thread Cert.AdamFfnBIdeal.nD Cert.AdamFfnBIdeal.τ).loc Cert.AdamFfnBIdeal.main_v4)),
      θ_run (Cert.AdamFfnBIdeal.defs (F := Ideal)) (onTc (τ := Cert.AdamFfnBIdeal.τ) (Cert.AdamFfnBIdeal.main (F := Ideal))) ⟨m, fun _ => 0, g⟩ (fun r => ∀ c : Dev Cert.AdamFfnBIdeal.nD,
          r.2.mem ((c.tc : Thread Cert.AdamFfnBIdeal.nD Cert.AdamFfnBIdeal.τ).loc Cert.AdamFfnBIdeal.main_v1) = v0 c
          ∧ r.2.mem ((c.tc : Thread Cert.AdamFfnBIdeal.nD Cert.AdamFfnBIdeal.τ).loc Cert.AdamFfnBIdeal.main_v2) = v1 c
          ∧ r.2.mem ((c.tc : Thread Cert.AdamFfnBIdeal.nD Cert.AdamFfnBIdeal.τ).loc Cert.AdamFfnBIdeal.main_v3) = v2 c
          ∧ r.2.mem ((c.tc : Thread Cert.AdamFfnBIdeal.nD Cert.AdamFfnBIdeal.τ).loc Cert.AdamFfnBIdeal.main_v4) = v3 c
          ∧ r.2.mem ((c.tc : Thread Cert.AdamFfnBIdeal.nD Cert.AdamFfnBIdeal.τ).loc Cert.AdamFfnBIdeal.main_arg0) = m ((c.tc : Thread Cert.AdamFfnBIdeal.nD Cert.AdamFfnBIdeal.τ).loc Cert.AdamFfnBIdeal.main_arg0)
          ∧ r.2.mem ((c.tc : Thread Cert.AdamFfnBIdeal.nD Cert.AdamFfnBIdeal.τ).loc Cert.AdamFfnBIdeal.main_arg1) = m ((c.tc : Thread Cert.AdamFfnBIdeal.nD Cert.AdamFfnBIdeal.τ).loc Cert.AdamFfnBIdeal.main_arg1)
          ∧ r.2.mem ((c.tc : Thread Cert.AdamFfnBIdeal.nD Cert.AdamFfnBIdeal.τ).loc Cert.AdamFfnBIdeal.main_arg2) = m ((c.tc : Thread Cert.AdamFfnBIdeal.nD Cert.AdamFfnBIdeal.τ).loc Cert.AdamFfnBIdeal.main_arg2)
          ∧ r.2.mem ((c.tc : Thread Cert.AdamFfnBIdeal.nD Cert.AdamFfnBIdeal.τ).loc Cert.AdamFfnBIdeal.main_arg3) = m ((c.tc : Thread Cert.AdamFfnBIdeal.nD Cert.AdamFfnBIdeal.τ).loc Cert.AdamFfnBIdeal.main_arg3))
      ∧ θ_run (Cert.AdamFfnBRefIdeal.defs (F := Ideal)) (onTc (τ := Cert.AdamFfnBRefIdeal.τ) (Cert.AdamFfnBRefIdeal.main (F := Ideal))) ⟨m', fun _ => 0, g'⟩ (fun r => ∀ c : Dev Cert.AdamFfnBRefIdeal.nD,
          r.2.mem ((c.tc : Thread Cert.AdamFfnBRefIdeal.nD Cert.AdamFfnBRefIdeal.τ).loc Cert.AdamFfnBRefIdeal.main_v3) = v0 c
          ∧ r.2.mem ((c.tc : Thread Cert.AdamFfnBRefIdeal.nD Cert.AdamFfnBRefIdeal.τ).loc Cert.AdamFfnBRefIdeal.main_v28) = v1 c
          ∧ r.2.mem ((c.tc : Thread Cert.AdamFfnBRefIdeal.nD Cert.AdamFfnBRefIdeal.τ).loc Cert.AdamFfnBRefIdeal.main_v9) = v2 c
          ∧ r.2.mem ((c.tc : Thread Cert.AdamFfnBRefIdeal.nD Cert.AdamFfnBRefIdeal.τ).loc Cert.AdamFfnBRefIdeal.main_v15) = v3 c
          ∧ r.2.mem ((c.tc : Thread Cert.AdamFfnBRefIdeal.nD Cert.AdamFfnBRefIdeal.τ).loc Cert.AdamFfnBRefIdeal.main_arg0) = m' ((c.tc : Thread Cert.AdamFfnBRefIdeal.nD Cert.AdamFfnBRefIdeal.τ).loc Cert.AdamFfnBRefIdeal.main_arg0)
          ∧ r.2.mem ((c.tc : Thread Cert.AdamFfnBRefIdeal.nD Cert.AdamFfnBRefIdeal.τ).loc Cert.AdamFfnBRefIdeal.main_arg1) = m' ((c.tc : Thread Cert.AdamFfnBRefIdeal.nD Cert.AdamFfnBRefIdeal.τ).loc Cert.AdamFfnBRefIdeal.main_arg1)
          ∧ r.2.mem ((c.tc : Thread Cert.AdamFfnBRefIdeal.nD Cert.AdamFfnBRefIdeal.τ).loc Cert.AdamFfnBRefIdeal.main_arg2) = m' ((c.tc : Thread Cert.AdamFfnBRefIdeal.nD Cert.AdamFfnBRefIdeal.τ).loc Cert.AdamFfnBRefIdeal.main_arg2)
          ∧ r.2.mem ((c.tc : Thread Cert.AdamFfnBRefIdeal.nD Cert.AdamFfnBRefIdeal.τ).loc Cert.AdamFfnBRefIdeal.main_arg3) = m' ((c.tc : Thread Cert.AdamFfnBRefIdeal.nD Cert.AdamFfnBRefIdeal.τ).loc Cert.AdamFfnBRefIdeal.main_arg3))

def preserves_AdamFfnA_AdamFfnAIdeal : Prop :=
  True

def algebraic_AdamFfnAIdeal_AdamFfnARefIdeal [hAdamFfnAIdeal : Cert.AdamFfnAIdeal.Facts] [hAdamFfnARefIdeal : Cert.AdamFfnARefIdeal.Facts] : Prop :=
  ∀ (m : (ℓ : Loc Cert.AdamFfnAIdeal.nD Cert.AdamFfnAIdeal.τ Cert.AdamFfnAIdeal.sig) → Buf (Elt Ideal) ℓ) (g : Dev Cert.AdamFfnAIdeal.nD → PrngReg)
    (m' : (ℓ : Loc Cert.AdamFfnARefIdeal.nD Cert.AdamFfnARefIdeal.τ Cert.AdamFfnARefIdeal.sig) → Buf (Elt Ideal) ℓ) (g' : Dev Cert.AdamFfnARefIdeal.nD → PrngReg), Pre_AdamFfnAIdeal m →
    (∀ c : Dev Cert.AdamFfnAIdeal.nD,
      m' ((c.tc : Thread Cert.AdamFfnARefIdeal.nD Cert.AdamFfnARefIdeal.τ).loc Cert.AdamFfnARefIdeal.main_arg0) = m ((c.tc : Thread Cert.AdamFfnAIdeal.nD Cert.AdamFfnAIdeal.τ).loc Cert.AdamFfnAIdeal.main_arg0)
      ∧ m' ((c.tc : Thread Cert.AdamFfnARefIdeal.nD Cert.AdamFfnARefIdeal.τ).loc Cert.AdamFfnARefIdeal.main_arg1) = m ((c.tc : Thread Cert.AdamFfnAIdeal.nD Cert.AdamFfnAIdeal.τ).loc Cert.AdamFfnAIdeal.main_arg1)
      ∧ m' ((c.tc : Thread Cert.AdamFfnARefIdeal.nD Cert.AdamFfnARefIdeal.τ).loc Cert.AdamFfnARefIdeal.main_arg2) = m ((c.tc : Thread Cert.AdamFfnAIdeal.nD Cert.AdamFfnAIdeal.τ).loc Cert.AdamFfnAIdeal.main_arg2)
      ∧ m' ((c.tc : Thread Cert.AdamFfnARefIdeal.nD Cert.AdamFfnARefIdeal.τ).loc Cert.AdamFfnARefIdeal.main_arg3) = m ((c.tc : Thread Cert.AdamFfnAIdeal.nD Cert.AdamFfnAIdeal.τ).loc Cert.AdamFfnAIdeal.main_arg3)
      ∧ m' ((c.tc : Thread Cert.AdamFfnARefIdeal.nD Cert.AdamFfnARefIdeal.τ).loc Cert.AdamFfnARefIdeal.main_arg4) = m ((c.tc : Thread Cert.AdamFfnAIdeal.nD Cert.AdamFfnAIdeal.τ).loc Cert.AdamFfnAIdeal.main_arg4)
      ∧ m' ((c.tc : Thread Cert.AdamFfnARefIdeal.nD Cert.AdamFfnARefIdeal.τ).loc Cert.AdamFfnARefIdeal.main_arg5) = m ((c.tc : Thread Cert.AdamFfnAIdeal.nD Cert.AdamFfnAIdeal.τ).loc Cert.AdamFfnAIdeal.main_arg5)
      ∧ m' ((c.tc : Thread Cert.AdamFfnARefIdeal.nD Cert.AdamFfnARefIdeal.τ).loc Cert.AdamFfnARefIdeal.main_arg6) = m ((c.tc : Thread Cert.AdamFfnAIdeal.nD Cert.AdamFfnAIdeal.τ).loc Cert.AdamFfnAIdeal.main_arg6)
      ∧ m' ((c.tc : Thread Cert.AdamFfnARefIdeal.nD Cert.AdamFfnARefIdeal.τ).loc Cert.AdamFfnARefIdeal.main_arg7) = m ((c.tc : Thread Cert.AdamFfnAIdeal.nD Cert.AdamFfnAIdeal.τ).loc Cert.AdamFfnAIdeal.main_arg7)) →
    ∃ (v0 : (c : Dev Cert.AdamFfnAIdeal.nD) → Buf (Elt Ideal) ((c.tc : Thread Cert.AdamFfnAIdeal.nD Cert.AdamFfnAIdeal.τ).loc Cert.AdamFfnAIdeal.main_v0_0)) (v1 : (c : Dev Cert.AdamFfnAIdeal.nD) → Buf (Elt Ideal) ((c.tc : Thread Cert.AdamFfnAIdeal.nD Cert.AdamFfnAIdeal.τ).loc Cert.AdamFfnAIdeal.main_v0_1)) (v2 : (c : Dev Cert.AdamFfnAIdeal.nD) → Buf (Elt Ideal) ((c.tc : Thread Cert.AdamFfnAIdeal.nD Cert.AdamFfnAIdeal.τ).loc Cert.AdamFfnAIdeal.main_v0_2)) (v3 : (c : Dev Cert.AdamFfnAIdeal.nD) → Buf (Elt Ideal) ((c.tc : Thread Cert.AdamFfnAIdeal.nD Cert.AdamFfnAIdeal.τ).loc Cert.AdamFfnAIdeal.main_v0_3)),
      θ_run (Cert.AdamFfnAIdeal.defs (F := Ideal)) (onTc (τ := Cert.AdamFfnAIdeal.τ) (Cert.AdamFfnAIdeal.main (F := Ideal))) ⟨m, fun _ => 0, g⟩ (fun r => ∀ c : Dev Cert.AdamFfnAIdeal.nD,
          r.2.mem ((c.tc : Thread Cert.AdamFfnAIdeal.nD Cert.AdamFfnAIdeal.τ).loc Cert.AdamFfnAIdeal.main_v0_0) = v0 c
          ∧ r.2.mem ((c.tc : Thread Cert.AdamFfnAIdeal.nD Cert.AdamFfnAIdeal.τ).loc Cert.AdamFfnAIdeal.main_v0_1) = v1 c
          ∧ r.2.mem ((c.tc : Thread Cert.AdamFfnAIdeal.nD Cert.AdamFfnAIdeal.τ).loc Cert.AdamFfnAIdeal.main_v0_2) = v2 c
          ∧ r.2.mem ((c.tc : Thread Cert.AdamFfnAIdeal.nD Cert.AdamFfnAIdeal.τ).loc Cert.AdamFfnAIdeal.main_v0_3) = v3 c
          ∧ r.2.mem ((c.tc : Thread Cert.AdamFfnAIdeal.nD Cert.AdamFfnAIdeal.τ).loc Cert.AdamFfnAIdeal.main_arg0) = m ((c.tc : Thread Cert.AdamFfnAIdeal.nD Cert.AdamFfnAIdeal.τ).loc Cert.AdamFfnAIdeal.main_arg0)
          ∧ r.2.mem ((c.tc : Thread Cert.AdamFfnAIdeal.nD Cert.AdamFfnAIdeal.τ).loc Cert.AdamFfnAIdeal.main_arg1) = m ((c.tc : Thread Cert.AdamFfnAIdeal.nD Cert.AdamFfnAIdeal.τ).loc Cert.AdamFfnAIdeal.main_arg1)
          ∧ r.2.mem ((c.tc : Thread Cert.AdamFfnAIdeal.nD Cert.AdamFfnAIdeal.τ).loc Cert.AdamFfnAIdeal.main_arg2) = m ((c.tc : Thread Cert.AdamFfnAIdeal.nD Cert.AdamFfnAIdeal.τ).loc Cert.AdamFfnAIdeal.main_arg2)
          ∧ r.2.mem ((c.tc : Thread Cert.AdamFfnAIdeal.nD Cert.AdamFfnAIdeal.τ).loc Cert.AdamFfnAIdeal.main_arg3) = m ((c.tc : Thread Cert.AdamFfnAIdeal.nD Cert.AdamFfnAIdeal.τ).loc Cert.AdamFfnAIdeal.main_arg3)
          ∧ r.2.mem ((c.tc : Thread Cert.AdamFfnAIdeal.nD Cert.AdamFfnAIdeal.τ).loc Cert.AdamFfnAIdeal.main_arg4) = m ((c.tc : Thread Cert.AdamFfnAIdeal.nD Cert.AdamFfnAIdeal.τ).loc Cert.AdamFfnAIdeal.main_arg4)
          ∧ r.2.mem ((c.tc : Thread Cert.AdamFfnAIdeal.nD Cert.AdamFfnAIdeal.τ).loc Cert.AdamFfnAIdeal.main_arg5) = m ((c.tc : Thread Cert.AdamFfnAIdeal.nD Cert.AdamFfnAIdeal.τ).loc Cert.AdamFfnAIdeal.main_arg5)
          ∧ r.2.mem ((c.tc : Thread Cert.AdamFfnAIdeal.nD Cert.AdamFfnAIdeal.τ).loc Cert.AdamFfnAIdeal.main_arg6) = m ((c.tc : Thread Cert.AdamFfnAIdeal.nD Cert.AdamFfnAIdeal.τ).loc Cert.AdamFfnAIdeal.main_arg6)
          ∧ r.2.mem ((c.tc : Thread Cert.AdamFfnAIdeal.nD Cert.AdamFfnAIdeal.τ).loc Cert.AdamFfnAIdeal.main_arg7) = m ((c.tc : Thread Cert.AdamFfnAIdeal.nD Cert.AdamFfnAIdeal.τ).loc Cert.AdamFfnAIdeal.main_arg7))
      ∧ θ_run (Cert.AdamFfnARefIdeal.defs (F := Ideal)) (onTc (τ := Cert.AdamFfnARefIdeal.τ) (Cert.AdamFfnARefIdeal.main (F := Ideal))) ⟨m', fun _ => 0, g'⟩ (fun r => ∀ c : Dev Cert.AdamFfnARefIdeal.nD,
          r.2.mem ((c.tc : Thread Cert.AdamFfnARefIdeal.nD Cert.AdamFfnARefIdeal.τ).loc Cert.AdamFfnARefIdeal.main_v30) = v0 c
          ∧ r.2.mem ((c.tc : Thread Cert.AdamFfnARefIdeal.nD Cert.AdamFfnARefIdeal.τ).loc Cert.AdamFfnARefIdeal.main_v32) = v1 c
          ∧ r.2.mem ((c.tc : Thread Cert.AdamFfnARefIdeal.nD Cert.AdamFfnARefIdeal.τ).loc Cert.AdamFfnARefIdeal.main_v34) = v2 c
          ∧ r.2.mem ((c.tc : Thread Cert.AdamFfnARefIdeal.nD Cert.AdamFfnARefIdeal.τ).loc Cert.AdamFfnARefIdeal.main_v36) = v3 c
          ∧ r.2.mem ((c.tc : Thread Cert.AdamFfnARefIdeal.nD Cert.AdamFfnARefIdeal.τ).loc Cert.AdamFfnARefIdeal.main_arg0) = m' ((c.tc : Thread Cert.AdamFfnARefIdeal.nD Cert.AdamFfnARefIdeal.τ).loc Cert.AdamFfnARefIdeal.main_arg0)
          ∧ r.2.mem ((c.tc : Thread Cert.AdamFfnARefIdeal.nD Cert.AdamFfnARefIdeal.τ).loc Cert.AdamFfnARefIdeal.main_arg1) = m' ((c.tc : Thread Cert.AdamFfnARefIdeal.nD Cert.AdamFfnARefIdeal.τ).loc Cert.AdamFfnARefIdeal.main_arg1)
          ∧ r.2.mem ((c.tc : Thread Cert.AdamFfnARefIdeal.nD Cert.AdamFfnARefIdeal.τ).loc Cert.AdamFfnARefIdeal.main_arg2) = m' ((c.tc : Thread Cert.AdamFfnARefIdeal.nD Cert.AdamFfnARefIdeal.τ).loc Cert.AdamFfnARefIdeal.main_arg2)
          ∧ r.2.mem ((c.tc : Thread Cert.AdamFfnARefIdeal.nD Cert.AdamFfnARefIdeal.τ).loc Cert.AdamFfnARefIdeal.main_arg3) = m' ((c.tc : Thread Cert.AdamFfnARefIdeal.nD Cert.AdamFfnARefIdeal.τ).loc Cert.AdamFfnARefIdeal.main_arg3)
          ∧ r.2.mem ((c.tc : Thread Cert.AdamFfnARefIdeal.nD Cert.AdamFfnARefIdeal.τ).loc Cert.AdamFfnARefIdeal.main_arg4) = m' ((c.tc : Thread Cert.AdamFfnARefIdeal.nD Cert.AdamFfnARefIdeal.τ).loc Cert.AdamFfnARefIdeal.main_arg4)
          ∧ r.2.mem ((c.tc : Thread Cert.AdamFfnARefIdeal.nD Cert.AdamFfnARefIdeal.τ).loc Cert.AdamFfnARefIdeal.main_arg5) = m' ((c.tc : Thread Cert.AdamFfnARefIdeal.nD Cert.AdamFfnARefIdeal.τ).loc Cert.AdamFfnARefIdeal.main_arg5)
          ∧ r.2.mem ((c.tc : Thread Cert.AdamFfnARefIdeal.nD Cert.AdamFfnARefIdeal.τ).loc Cert.AdamFfnARefIdeal.main_arg6) = m' ((c.tc : Thread Cert.AdamFfnARefIdeal.nD Cert.AdamFfnARefIdeal.τ).loc Cert.AdamFfnARefIdeal.main_arg6)
          ∧ r.2.mem ((c.tc : Thread Cert.AdamFfnARefIdeal.nD Cert.AdamFfnARefIdeal.τ).loc Cert.AdamFfnARefIdeal.main_arg7) = m' ((c.tc : Thread Cert.AdamFfnARefIdeal.nD Cert.AdamFfnARefIdeal.τ).loc Cert.AdamFfnARefIdeal.main_arg7))

def Claim : Prop :=
  ∃ (hKernel : Cert.Kernel.Facts) (hKernelIdeal : Cert.KernelIdeal.Facts) (hReferenceIdeal : Cert.ReferenceIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hUp : Cert.Up.Facts) (hUpIdeal : Cert.UpIdeal.Facts) (hUpRefIdeal : Cert.UpRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hOut : Cert.Out.Facts) (hOutIdeal : Cert.OutIdeal.Facts) (hOutRefIdeal : Cert.OutRefIdeal.Facts) (hIn1Dw : Cert.In1Dw.Facts) (hIn1DwIdeal : Cert.In1DwIdeal.Facts) (hIn1DwRefIdeal : Cert.In1DwRefIdeal.Facts) (hIn1Dx : Cert.In1Dx.Facts) (hIn1DxIdeal : Cert.In1DxIdeal.Facts) (hIn1DxRefIdeal : Cert.In1DxRefIdeal.Facts) (hIn1 : Cert.In1.Facts) (hIn1Ideal : Cert.In1Ideal.Facts) (hIn1RefIdeal : Cert.In1RefIdeal.Facts) (hIn0Dw : Cert.In0Dw.Facts) (hIn0DwIdeal : Cert.In0DwIdeal.Facts) (hIn0DwRefIdeal : Cert.In0DwRefIdeal.Facts) (hIn0Dx : Cert.In0Dx.Facts) (hIn0DxIdeal : Cert.In0DxIdeal.Facts) (hIn0DxRefIdeal : Cert.In0DxRefIdeal.Facts) (hIn0 : Cert.In0.Facts) (hIn0Ideal : Cert.In0Ideal.Facts) (hIn0RefIdeal : Cert.In0RefIdeal.Facts) (hNorms : Cert.Norms.Facts) (hNormsIdeal : Cert.NormsIdeal.Facts) (hNormsRefIdeal : Cert.NormsRefIdeal.Facts) (hNormIn : Cert.NormIn.Facts) (hNormInIdeal : Cert.NormInIdeal.Facts) (hNormInRefIdeal : Cert.NormInRefIdeal.Facts) (hLoss : Cert.Loss.Facts) (hLossIdeal : Cert.LossIdeal.Facts) (hLossRefIdeal : Cert.LossRefIdeal.Facts) (hPoolDw : Cert.PoolDw.Facts) (hPoolDwIdeal : Cert.PoolDwIdeal.Facts) (hPoolDwRefIdeal : Cert.PoolDwRefIdeal.Facts) (hSilu : Cert.Silu.Facts) (hSiluIdeal : Cert.SiluIdeal.Facts) (hSiluRefIdeal : Cert.SiluRefIdeal.Facts) (hConv : Cert.Conv.Facts) (hConvIdeal : Cert.ConvIdeal.Facts) (hConvRefIdeal : Cert.ConvRefIdeal.Facts) (hAdamGains : Cert.AdamGains.Facts) (hAdamGainsIdeal : Cert.AdamGainsIdeal.Facts) (hAdamGainsRefIdeal : Cert.AdamGainsRefIdeal.Facts) (hAdamAbIn : Cert.AdamAbIn.Facts) (hAdamAbInIdeal : Cert.AdamAbInIdeal.Facts) (hAdamAbInRefIdeal : Cert.AdamAbInRefIdeal.Facts) (hAdamPool : Cert.AdamPool.Facts) (hAdamPoolIdeal : Cert.AdamPoolIdeal.Facts) (hAdamPoolRefIdeal : Cert.AdamPoolRefIdeal.Facts) (hAdamChannels : Cert.AdamChannels.Facts) (hAdamChannelsIdeal : Cert.AdamChannelsIdeal.Facts) (hAdamChannelsRefIdeal : Cert.AdamChannelsRefIdeal.Facts) (hAdamTaps : Cert.AdamTaps.Facts) (hAdamTapsIdeal : Cert.AdamTapsIdeal.Facts) (hAdamTapsRefIdeal : Cert.AdamTapsRefIdeal.Facts) (hAdamShortTaps : Cert.AdamShortTaps.Facts) (hAdamShortTapsIdeal : Cert.AdamShortTapsIdeal.Facts) (hAdamShortTapsRefIdeal : Cert.AdamShortTapsRefIdeal.Facts) (hAdamOut : Cert.AdamOut.Facts) (hAdamOutIdeal : Cert.AdamOutIdeal.Facts) (hAdamOutRefIdeal : Cert.AdamOutRefIdeal.Facts) (hAdamShortIn : Cert.AdamShortIn.Facts) (hAdamShortInIdeal : Cert.AdamShortInIdeal.Facts) (hAdamShortInRefIdeal : Cert.AdamShortInRefIdeal.Facts) (hAdamFfnB : Cert.AdamFfnB.Facts) (hAdamFfnBIdeal : Cert.AdamFfnBIdeal.Facts) (hAdamFfnBRefIdeal : Cert.AdamFfnBRefIdeal.Facts) (hAdamFfnA : Cert.AdamFfnA.Facts) (hAdamFfnAIdeal : Cert.AdamFfnAIdeal.Facts) (hAdamFfnARefIdeal : Cert.AdamFfnARefIdeal.Facts) (hPre_gradient_finite : Cert.Pre_gradient_finite.Facts),
    quiescent_Kernel (hKernel := hKernel)
    ∧ quiescent_KernelIdeal (hKernelIdeal := hKernelIdeal)
    ∧ quiescent_ReferenceIdeal (hReferenceIdeal := hReferenceIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Up (hUp := hUp)
    ∧ quiescent_UpIdeal (hUpIdeal := hUpIdeal)
    ∧ quiescent_UpRefIdeal (hUpRefIdeal := hUpRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_Out (hOut := hOut)
    ∧ quiescent_OutIdeal (hOutIdeal := hOutIdeal)
    ∧ quiescent_OutRefIdeal (hOutRefIdeal := hOutRefIdeal)
    ∧ quiescent_In1Dw (hIn1Dw := hIn1Dw)
    ∧ quiescent_In1DwIdeal (hIn1DwIdeal := hIn1DwIdeal)
    ∧ quiescent_In1DwRefIdeal (hIn1DwRefIdeal := hIn1DwRefIdeal)
    ∧ quiescent_In1Dx (hIn1Dx := hIn1Dx)
    ∧ quiescent_In1DxIdeal (hIn1DxIdeal := hIn1DxIdeal)
    ∧ quiescent_In1DxRefIdeal (hIn1DxRefIdeal := hIn1DxRefIdeal)
    ∧ quiescent_In1 (hIn1 := hIn1)
    ∧ quiescent_In1Ideal (hIn1Ideal := hIn1Ideal)
    ∧ quiescent_In1RefIdeal (hIn1RefIdeal := hIn1RefIdeal)
    ∧ quiescent_In0Dw (hIn0Dw := hIn0Dw)
    ∧ quiescent_In0DwIdeal (hIn0DwIdeal := hIn0DwIdeal)
    ∧ quiescent_In0DwRefIdeal (hIn0DwRefIdeal := hIn0DwRefIdeal)
    ∧ quiescent_In0Dx (hIn0Dx := hIn0Dx)
    ∧ quiescent_In0DxIdeal (hIn0DxIdeal := hIn0DxIdeal)
    ∧ quiescent_In0DxRefIdeal (hIn0DxRefIdeal := hIn0DxRefIdeal)
    ∧ quiescent_In0 (hIn0 := hIn0)
    ∧ quiescent_In0Ideal (hIn0Ideal := hIn0Ideal)
    ∧ quiescent_In0RefIdeal (hIn0RefIdeal := hIn0RefIdeal)
    ∧ quiescent_Norms (hNorms := hNorms)
    ∧ quiescent_NormsIdeal (hNormsIdeal := hNormsIdeal)
    ∧ quiescent_NormsRefIdeal (hNormsRefIdeal := hNormsRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_Loss (hLoss := hLoss)
    ∧ quiescent_LossIdeal (hLossIdeal := hLossIdeal)
    ∧ quiescent_LossRefIdeal (hLossRefIdeal := hLossRefIdeal)
    ∧ quiescent_PoolDw (hPoolDw := hPoolDw)
    ∧ quiescent_PoolDwIdeal (hPoolDwIdeal := hPoolDwIdeal)
    ∧ quiescent_PoolDwRefIdeal (hPoolDwRefIdeal := hPoolDwRefIdeal)
    ∧ quiescent_Silu (hSilu := hSilu)
    ∧ quiescent_SiluIdeal (hSiluIdeal := hSiluIdeal)
    ∧ quiescent_SiluIdeal_pre_gradient_finite (hSiluIdeal := hSiluIdeal) (hPre_gradient_finite := hPre_gradient_finite)
    ∧ quiescent_SiluRefIdeal (hSiluRefIdeal := hSiluRefIdeal)
    ∧ quiescent_SiluRefIdeal_pre_gradient_finite (hSiluRefIdeal := hSiluRefIdeal) (hPre_gradient_finite := hPre_gradient_finite)
    ∧ quiescent_Conv (hConv := hConv)
    ∧ quiescent_ConvIdeal (hConvIdeal := hConvIdeal)
    ∧ quiescent_ConvRefIdeal (hConvRefIdeal := hConvRefIdeal)
    ∧ quiescent_AdamGains (hAdamGains := hAdamGains)
    ∧ quiescent_AdamGainsIdeal (hAdamGainsIdeal := hAdamGainsIdeal)
    ∧ quiescent_AdamGainsRefIdeal (hAdamGainsRefIdeal := hAdamGainsRefIdeal)
    ∧ quiescent_AdamAbIn (hAdamAbIn := hAdamAbIn)
    ∧ quiescent_AdamAbInIdeal (hAdamAbInIdeal := hAdamAbInIdeal)
    ∧ quiescent_AdamAbInRefIdeal (hAdamAbInRefIdeal := hAdamAbInRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamChannels (hAdamChannels := hAdamChannels)
    ∧ quiescent_AdamChannelsIdeal (hAdamChannelsIdeal := hAdamChannelsIdeal)
    ∧ quiescent_AdamChannelsRefIdeal (hAdamChannelsRefIdeal := hAdamChannelsRefIdeal)
    ∧ quiescent_AdamTaps (hAdamTaps := hAdamTaps)
    ∧ quiescent_AdamTapsIdeal (hAdamTapsIdeal := hAdamTapsIdeal)
    ∧ quiescent_AdamTapsRefIdeal (hAdamTapsRefIdeal := hAdamTapsRefIdeal)
    ∧ quiescent_AdamShortTaps (hAdamShortTaps := hAdamShortTaps)
    ∧ quiescent_AdamShortTapsIdeal (hAdamShortTapsIdeal := hAdamShortTapsIdeal)
    ∧ quiescent_AdamShortTapsRefIdeal (hAdamShortTapsRefIdeal := hAdamShortTapsRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamShortIn (hAdamShortIn := hAdamShortIn)
    ∧ quiescent_AdamShortInIdeal (hAdamShortInIdeal := hAdamShortInIdeal)
    ∧ quiescent_AdamShortInRefIdeal (hAdamShortInRefIdeal := hAdamShortInRefIdeal)
    ∧ quiescent_AdamFfnB (hAdamFfnB := hAdamFfnB)
    ∧ quiescent_AdamFfnBIdeal (hAdamFfnBIdeal := hAdamFfnBIdeal)
    ∧ quiescent_AdamFfnBRefIdeal (hAdamFfnBRefIdeal := hAdamFfnBRefIdeal)
    ∧ quiescent_AdamFfnA (hAdamFfnA := hAdamFfnA)
    ∧ quiescent_AdamFfnAIdeal (hAdamFfnAIdeal := hAdamFfnAIdeal)
    ∧ quiescent_AdamFfnARefIdeal (hAdamFfnARefIdeal := hAdamFfnARefIdeal)
    ∧ preserves_Kernel_KernelIdeal
    ∧ algebraic_KernelIdeal_ReferenceIdeal (hKernelIdeal := hKernelIdeal) (hReferenceIdeal := hReferenceIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Up_UpIdeal
    ∧ algebraic_UpIdeal_UpRefIdeal (hUpIdeal := hUpIdeal) (hUpRefIdeal := hUpRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_Out_OutIdeal
    ∧ algebraic_OutIdeal_OutRefIdeal (hOutIdeal := hOutIdeal) (hOutRefIdeal := hOutRefIdeal)
    ∧ preserves_In1Dw_In1DwIdeal
    ∧ algebraic_In1DwIdeal_In1DwRefIdeal (hIn1DwIdeal := hIn1DwIdeal) (hIn1DwRefIdeal := hIn1DwRefIdeal)
    ∧ preserves_In1Dx_In1DxIdeal
    ∧ algebraic_In1DxIdeal_In1DxRefIdeal (hIn1DxIdeal := hIn1DxIdeal) (hIn1DxRefIdeal := hIn1DxRefIdeal)
    ∧ preserves_In1_In1Ideal
    ∧ algebraic_In1Ideal_In1RefIdeal (hIn1Ideal := hIn1Ideal) (hIn1RefIdeal := hIn1RefIdeal)
    ∧ preserves_In0Dw_In0DwIdeal
    ∧ algebraic_In0DwIdeal_In0DwRefIdeal (hIn0DwIdeal := hIn0DwIdeal) (hIn0DwRefIdeal := hIn0DwRefIdeal)
    ∧ preserves_In0Dx_In0DxIdeal
    ∧ algebraic_In0DxIdeal_In0DxRefIdeal (hIn0DxIdeal := hIn0DxIdeal) (hIn0DxRefIdeal := hIn0DxRefIdeal)
    ∧ preserves_In0_In0Ideal
    ∧ algebraic_In0Ideal_In0RefIdeal (hIn0Ideal := hIn0Ideal) (hIn0RefIdeal := hIn0RefIdeal)
    ∧ preserves_Norms_NormsIdeal
    ∧ algebraic_NormsIdeal_NormsRefIdeal (hNormsIdeal := hNormsIdeal) (hNormsRefIdeal := hNormsRefIdeal)
    ∧ preserves_NormIn_NormInIdeal
    ∧ algebraic_NormInIdeal_NormInRefIdeal (hNormInIdeal := hNormInIdeal) (hNormInRefIdeal := hNormInRefIdeal)
    ∧ preserves_Loss_LossIdeal
    ∧ algebraic_LossIdeal_LossRefIdeal (hLossIdeal := hLossIdeal) (hLossRefIdeal := hLossRefIdeal)
    ∧ preserves_PoolDw_PoolDwIdeal
    ∧ algebraic_PoolDwIdeal_PoolDwRefIdeal (hPoolDwIdeal := hPoolDwIdeal) (hPoolDwRefIdeal := hPoolDwRefIdeal)
    ∧ preserves_Silu_SiluIdeal
    ∧ algebraic_SiluIdeal_SiluRefIdeal_pre_gradient_finite (hSiluIdeal := hSiluIdeal) (hSiluRefIdeal := hSiluRefIdeal) (hPre_gradient_finite := hPre_gradient_finite)
    ∧ preserves_Conv_ConvIdeal
    ∧ algebraic_ConvIdeal_ConvRefIdeal (hConvIdeal := hConvIdeal) (hConvRefIdeal := hConvRefIdeal)
    ∧ preserves_AdamGains_AdamGainsIdeal
    ∧ algebraic_AdamGainsIdeal_AdamGainsRefIdeal (hAdamGainsIdeal := hAdamGainsIdeal) (hAdamGainsRefIdeal := hAdamGainsRefIdeal)
    ∧ preserves_AdamAbIn_AdamAbInIdeal
    ∧ algebraic_AdamAbInIdeal_AdamAbInRefIdeal (hAdamAbInIdeal := hAdamAbInIdeal) (hAdamAbInRefIdeal := hAdamAbInRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamChannels_AdamChannelsIdeal
    ∧ algebraic_AdamChannelsIdeal_AdamChannelsRefIdeal (hAdamChannelsIdeal := hAdamChannelsIdeal) (hAdamChannelsRefIdeal := hAdamChannelsRefIdeal)
    ∧ preserves_AdamTaps_AdamTapsIdeal
    ∧ algebraic_AdamTapsIdeal_AdamTapsRefIdeal (hAdamTapsIdeal := hAdamTapsIdeal) (hAdamTapsRefIdeal := hAdamTapsRefIdeal)
    ∧ preserves_AdamShortTaps_AdamShortTapsIdeal
    ∧ algebraic_AdamShortTapsIdeal_AdamShortTapsRefIdeal (hAdamShortTapsIdeal := hAdamShortTapsIdeal) (hAdamShortTapsRefIdeal := hAdamShortTapsRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamShortIn_AdamShortInIdeal
    ∧ algebraic_AdamShortInIdeal_AdamShortInRefIdeal (hAdamShortInIdeal := hAdamShortInIdeal) (hAdamShortInRefIdeal := hAdamShortInRefIdeal)
    ∧ preserves_AdamFfnB_AdamFfnBIdeal
    ∧ algebraic_AdamFfnBIdeal_AdamFfnBRefIdeal (hAdamFfnBIdeal := hAdamFfnBIdeal) (hAdamFfnBRefIdeal := hAdamFfnBRefIdeal)
    ∧ preserves_AdamFfnA_AdamFfnAIdeal
    ∧ algebraic_AdamFfnAIdeal_AdamFfnARefIdeal (hAdamFfnAIdeal := hAdamFfnAIdeal) (hAdamFfnARefIdeal := hAdamFfnARefIdeal)
-- ==== Pre_gradient_finite.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩

class Facts : Prop where
  slices_S2048x2048_S2048x1024_0_1024 : S2048x2048.Slices ![0, 1024] S2048x1024
  bcast_S_S2048x1024 : S_.BroadcastsInDim S2048x1024 (![] : Fin 0 → Fin S2048x1024.rank)

variable [Facts]

def fn {F : FTy → Type} [FloatOps F] (main_arg0 : FVec F S2048x2048 .f32) (main_arg1 : FVec F S2048x1024 .f32) (main_arg2 : FVec F S1x1024 .f32) (main_arg3 : FVec F S1x1024 .f32) : IVec S2048x1024 1 :=
  let main_v0 : FVec F S2048x1024 .f32 := (extractStridedSlice S2048x1024 ![0, 1024] · slices_S2048x2048_S2048x1024_0_1024) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  main_v3
-- ==== Kernel.lean ====
abbrev S2048x2048 : Shape := ⟨2, ![2048, 2048]⟩
abbrev S2048x6144 : Shape := ⟨2, ![2048, 6144]⟩
abbrev S3x2048 : Shape := ⟨2, ![3, 2048]⟩
abbrev S3x2048x2048 : Shape := ⟨3, ![3, 2048, 2048]⟩
abbrev S2048x256 : Shape := ⟨2, ![2048, 256]⟩
abbrev S3x256 : Shape := ⟨2, ![3, 256]⟩
abbrev S3x2048x256 : Shape := ⟨3, ![3, 2048, 256]⟩
abbrev S2056x256 : Shape := ⟨2, ![2056, 256]⟩
abbrev S8x256 : Shape := ⟨2, ![8, 256]⟩
abbrev S256x256 : Shape := ⟨2, ![256, 256]⟩
abbrev S1x256 : Shape := ⟨2, ![1, 256]⟩
abbrev S32x8x256 : Shape := ⟨3, ![32, 8, 256]⟩
abbrev S1x256x256 : Shape := ⟨3, ![1, 256, 256]⟩
abbrev S256 : Shape := ⟨1, ![256]⟩

abbrev nBuf : Space → Nat
  | .hbm => 5
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S3x2048, .f32⟩
  | .hbm, ⟨3, _⟩ => ⟨S3x2048x2048, .bf16⟩
  | .hbm, ⟨4, _⟩ => ⟨S3x2048, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S3x256, .f32⟩
  | .local _ .vmem, ⟨9, _⟩ => ⟨S3x256, .f32⟩
  | .local _ .vmem, ⟨10, _⟩ => ⟨S3x2048x256, .bf16⟩
  | .local _ .vmem, ⟨11, _⟩ => ⟨S3x2048x256, .bf16⟩
  | .local _ .vmem, ⟨12, _⟩ => ⟨S3x256, .f32⟩
  | .local _ .vmem, ⟨13, _⟩ => ⟨S3x256, .f32⟩
  | .local _ .vmem, ⟨14, _⟩ => ⟨S2056x256, .f32⟩
  | .local _ .vmem, ⟨15, _⟩ => ⟨S2056x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048x2048 : Shape := ⟨2, ![2048, 2048]⟩
abbrev S2048x6144 : Shape := ⟨2, ![2048, 6144]⟩
abbrev S3x2048 : Shape := ⟨2, ![3, 2048]⟩
abbrev S_ : Shape := ⟨0, ![]⟩
abbrev S2x2048 : Shape := ⟨2, ![2, 2048]⟩
abbrev S2050x2048 : Shape := ⟨2, ![2050, 2048]⟩
abbrev S1x2048 : Shape := ⟨2, ![1, 2048]⟩
abbrev S2048 : Shape := ⟨1, ![2048]⟩
abbrev S1x2048x2048 : Shape := ⟨3, ![1, 2048, 2048]⟩
abbrev S3x2048x2048 : Shape := ⟨3, ![3, 2048, 2048]⟩

abbrev nBuf : Space → Nat
  | .hbm => 90
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S3x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2x2048, .f32⟩
  | .hbm, ⟨9, _⟩ => ⟨S2050x2048, .f32⟩
  | .hbm, ⟨10, _⟩ => ⟨S_, .f32⟩
  | .hbm, ⟨11, _⟩ => ⟨S2x2048, .f32⟩
  | .hbm, ⟨12, _⟩ => ⟨S1x2048, .f32⟩
  | .hbm, ⟨13, _⟩ => ⟨S2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S1x2048, .f32⟩
  | .hbm, ⟨29, _⟩ => ⟨S2048, .f32⟩
  | .hbm, ⟨30, _⟩ => ⟨S2048x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2050x2048, .f32⟩
  | .hbm, ⟨48, _⟩ => ⟨S1x2048, .f32⟩
  | .hbm, ⟨49, _⟩ => ⟨S_, .f32⟩
  | .hbm, ⟨50, _⟩ => ⟨S3x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S2050x2048, .f32⟩
  | .hbm, ⟨61, _⟩ => ⟨S2050x2048, .f32⟩
  | .hbm, ⟨62, _⟩ => ⟨S1x2048, .f32⟩
  | .hbm, ⟨63, _⟩ => ⟨S_, .f32⟩
  | .hbm, ⟨64, _⟩ => ⟨S3x2048, .f32⟩
  | .hbm, ⟨65, _⟩ => ⟨S3x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S_, .f32⟩
  | .hbm, ⟨73, _⟩ => ⟨S2048, .f32⟩
  | .hbm, ⟨74, _⟩ => ⟨S_, .f32⟩
  | .hbm, ⟨75, _⟩ => ⟨S2050x2048, .f32⟩
  | .hbm, ⟨76, _⟩ => ⟨S2050x2048, .f32⟩
  | .hbm, ⟨77, _⟩ => ⟨S1x2048, .f32⟩
  | .hbm, ⟨78, _⟩ => ⟨S_, .f32⟩
  | .hbm, ⟨79, _⟩ => ⟨S3x2048, .f32⟩
  | .hbm, ⟨80, _⟩ => ⟨S3x2048, .f32⟩
  | .hbm, ⟨81, _⟩ => ⟨S2x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S1x2048x2048, .f32⟩
  | .hbm, ⟨86, _⟩ => ⟨S1x2048x2048, .f32⟩
  | .hbm, ⟨87, _⟩ => ⟨S1x2048x2048, .f32⟩
  | .hbm, ⟨88, _⟩ => ⟨S3x2048x2048, .f32⟩
  | .hbm, ⟨89, _⟩ => ⟨S3x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== DownDw.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x2048, .bf16⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | .hbm, ⟨9, _⟩ => ⟨S2048x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== DownDx.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .i1⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S2048x2048, .f32⟩
  | .hbm, ⟨14, _⟩ => ⟨S2048x2048, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x8192, .f32⟩
  | .hbm, ⟨19, _⟩ => ⟨S_, .f32⟩
  | .hbm, ⟨20, _⟩ => ⟨S2048x8192, .f32⟩
  | .hbm, ⟨21, _⟩ => ⟨S2048x8192, .f32⟩
  | .hbm, ⟨22, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== UpDx.lean ====
abbrev S2048x8192 : Shape := ⟨2, ![2048, 8192]⟩
abbrev S2048x2048 : Shape := ⟨2, ![2048, 2048]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .bf16⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S2048x2048 : Shape := ⟨2, ![2048, 2048]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S2048x2048 : Shape := ⟨2, ![2048, 2048]⟩
abbrev S2048x8192 : Shape := ⟨2, ![2048, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x8192, .f32⟩
  | .hbm, ⟨8, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== In1Dw.lean ====
abbrev S2048x2048 : Shape := ⟨2, ![2048, 2048]⟩
abbrev S3x2048x2048 : Shape := ⟨3, ![3, 2048, 2048]⟩
abbrev S2048x6144 : Shape := ⟨2, ![2048, 6144]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S3x2048x2048, .bf16⟩
  | .hbm, ⟨2, _⟩ => ⟨S2048x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In1DwRefIdeal.lean ====
abbrev S2048x2048 : Shape := ⟨2, ![2048, 2048]⟩
abbrev S3x2048x2048 : Shape := ⟨3, ![3, 2048, 2048]⟩
abbrev S_ : Shape := ⟨0, ![]⟩
abbrev S2048x6144 : Shape := ⟨2, ![2048, 6144]⟩
abbrev S1x2048x2048 : Shape := ⟨3, ![1, 2048, 2048]⟩
abbrev S6144x2048 : Shape := ⟨2, ![6144, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S3x2048x2048, .bf16⟩
  | .hbm, ⟨2, _⟩ => ⟨S_, .f32⟩
  | .hbm, ⟨3, _⟩ => ⟨S2048x6144, .f32⟩
  | .hbm, ⟨4, _⟩ => ⟨S2048x2048, .f32⟩
  | .hbm, ⟨5, _⟩ => ⟨S2048x6144, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S3x2048x2048, .f32⟩
  | .hbm, ⟨13, _⟩ => ⟨S3x2048x2048, .f32⟩
  | .hbm, ⟨14, _⟩ => ⟨S1x2048x2048, .f32⟩
  | .hbm, ⟨15, _⟩ => ⟨S2048x2048, .f32⟩
  | .hbm, ⟨16, _⟩ => ⟨S1x2048x2048, .f32⟩
  | .hbm, ⟨17, _⟩ => ⟨S2048x2048, .f32⟩
  | .hbm, ⟨18, _⟩ => ⟨S1x2048x2048, .f32⟩
  | .hbm, ⟨19, _⟩ => ⟨S2048x2048, .f32⟩
  | .hbm, ⟨20, _⟩ => ⟨S2048x6144, .f32⟩
  | .hbm, ⟨21, _⟩ => ⟨S6144x2048, .f32⟩
  | .hbm, ⟨22, _⟩ => ⟨S2048x6144, .f32⟩
  | .hbm, ⟨23, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== In1Dx.lean ====
abbrev S3x2048x2048 : Shape := ⟨3, ![3, 2048, 2048]⟩
abbrev S2048x6144 : Shape := ⟨2, ![2048, 6144]⟩
abbrev S2048x2048 : Shape := ⟨2, ![2048, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3x2048x2048, .bf16⟩
  | .hbm, ⟨1, _⟩ => ⟨S2048x6144, .bf16⟩
  | .hbm, ⟨2, _⟩ => ⟨S2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S3x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In1DxRefIdeal.lean ====
abbrev S3x2048x2048 : Shape := ⟨3, ![3, 2048, 2048]⟩
abbrev S2048x6144 : Shape := ⟨2, ![2048, 6144]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S3x2048x2048, .bf16⟩
  | .hbm, ⟨1, _⟩ => ⟨S2048x6144, .bf16⟩
  | .hbm, ⟨2, _⟩ => ⟨S_, .f32⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S3x2048x2048, .f32⟩
  | .hbm, ⟨13, _⟩ => ⟨S3x2048x2048, .f32⟩
  | .hbm, ⟨14, _⟩ => ⟨S1x2048x2048, .f32⟩
  | .hbm, ⟨15, _⟩ => ⟨S2048x2048, .f32⟩
  | .hbm, ⟨16, _⟩ => ⟨S1x2048x2048, .f32⟩
  | .hbm, ⟨17, _⟩ => ⟨S2048x2048, .f32⟩
  | .hbm, ⟨18, _⟩ => ⟨S1x2048x2048, .f32⟩
  | .hbm, ⟨19, _⟩ => ⟨S2048x2048, .f32⟩
  | .hbm, ⟨20, _⟩ => ⟨S2048x6144, .f32⟩
  | .hbm, ⟨21, _⟩ => ⟨S2048x2048, .f32⟩
  | _, _ => ⟨S3x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== In1.lean ====
abbrev S2048x2048 : Shape := ⟨2, ![2048, 2048]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In1RefIdeal.lean ====
abbrev S2048x2048 : Shape := ⟨2, ![2048, 2048]⟩
abbrev S2048x6144 : Shape := ⟨2, ![2048, 6144]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== In0Dw.lean ====
abbrev S2048x2048 : Shape := ⟨2, ![2048, 2048]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In0DwRefIdeal.lean ====
abbrev S2048x2048 : Shape := ⟨2, ![2048, 2048]⟩
abbrev S2048x3072 : Shape := ⟨2, ![2048, 3072]⟩
abbrev S_ : Shape := ⟨0, ![]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S_, .f32⟩
  | .hbm, ⟨3, _⟩ => ⟨S2048x3072, .f32⟩
  | .hbm, ⟨4, _⟩ => ⟨S2048x2048, .f32⟩
  | .hbm, ⟨5, _⟩ => ⟨S2048x3072, .f32⟩
  | .hbm, ⟨6, _⟩ => ⟨S2048x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In0Dx.lean ====
abbrev S2048x3072 : Shape := ⟨2, ![2048, 3072]⟩
abbrev S2048x2048 : Shape := ⟨2, ![2048, 2048]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In0DxRefIdeal.lean ====
abbrev S2048x3072 : Shape := ⟨2, ![2048, 3072]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S_, .f32⟩
  | .hbm, ⟨3, _⟩ => ⟨S2048x2048, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S2048x2048, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== In0.lean ====
abbrev S2048x2048 : Shape := ⟨2, ![2048, 2048]⟩
abbrev S2048x3072 : Shape := ⟨2, ![2048, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In0RefIdeal.lean ====
abbrev S2048x2048 : Shape := ⟨2, ![2048, 2048]⟩
abbrev S2048x3072 : Shape := ⟨2, ![2048, 3072]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x3072, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norms.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S1x2048, .f32⟩
  | .hbm, ⟨8, _⟩ => ⟨S2048x2048, .bf16⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def k0_cond3 (i : grid0.Coords) : BitVec 1 :=
  let arg0 : BitVec 32 := BitVec.ofNat 32 (i 0).val
  let c0_i32_29 : BitVec 32 := 0#32
  let v66 : BitVec 1 := Scalar.cmpi .eq arg0 c0_i32_29
  let v67 : BitVec 32 := Scalar.extui v66
  let c0_i32_30 : BitVec 32 := 0#32
  let v68 : BitVec 1 := Scalar.cmpi .ne v67 c0_i32_30
  v68

def k0_cond4 (i : grid0.Coords) : BitVec 1 :=
  let arg0 : BitVec 32 := BitVec.ofNat 32 (i 0).val
  let c0_i32_31 : BitVec 32 := 0#32
  let v69 : BitVec 1 := Scalar.cmpi .sgt arg0 c0_i32_31
  let v70 : BitVec 32 := Scalar.extui v69
  let c0_i32_32 : BitVec 32 := 0#32
  let v71 : BitVec 1 := Scalar.cmpi .ne v70 c0_i32_32
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormsRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 92
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x2048, .f32⟩
  | .hbm, ⟨79, _⟩ => ⟨S2048x2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== NormIn.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormInRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_20 : BitVec 32 := 0#32
  let v50 : BitVec 1 := Scalar.cmpi .ne v49 c0_i32_20
  v50

def k0_cond2 (i : grid0.Coords) : BitVec 1 :=
  let arg0 : BitVec 32 := BitVec.ofNat 32 (i 0).val
  let c0_i32_21 : BitVec 32 := 0#32
  let v51 : BitVec 1 := Scalar.cmpi .sgt arg0 c0_i32_21
  let v52 : BitVec 32 := Scalar.extui v51
  let c0_i32_22 : BitVec 32 := 0#32
  let v53 : BitVec 1 := Scalar.cmpi .ne v52 c0_i32_22
  v53

def k0_cond3 (i : grid0.Coords) : BitVec 1 :=
  let arg0 : BitVec 32 := BitVec.ofNat 32 (i 0).val
  let c0_i32_26 : BitVec 32 := 0#32
  let v62 : BitVec 1 := Scalar.cmpi .eq arg0 c0_i32_26
  let v63 : BitVec 32 := Scalar.extui v62
  let c0_i32_27 : BitVec 32 := 0#32
  let v64 : BitVec 1 := Scalar.cmpi .ne v63 c0_i32_27
  v64

def k0_cond4 (i : grid0.Coords) : BitVec 1 :=
  let arg0 : BitVec 32 := BitVec.ofNat 32 (i 0).val
  let c0_i32_28 : BitVec 32 := 0#32
  let v65 : BitVec 1 := Scalar.cmpi .sgt arg0 c0_i32_28
  let v66 : BitVec 32 := Scalar.extui v65
  let c0_i32_29 : BitVec 32 := 0#32
  let v67 : BitVec 1 := Scalar.cmpi .ne v66 c0_i32_29
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 72
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .bf16⟩
  | .hbm, ⟨71, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== PoolDw.lean ====
abbrev S2048x2048 : Shape := ⟨2, ![2048, 2048]⟩
abbrev S2048x1024 : Shape := ⟨2, ![2048, 1024]⟩
abbrev S4x256x256 : Shape := ⟨3, ![4, 256, 256]⟩
abbrev S1x1024 : Shape := ⟨2, ![1, 1024]⟩
abbrev S2048x256 : Shape := ⟨2, ![2048, 256]⟩
abbrev S1x256x256 : Shape := ⟨3, ![1, 256, 256]⟩
abbrev S1x256 : Shape := ⟨2, ![1, 256]⟩
abbrev S2064x256 : Shape := ⟨2, ![2064, 256]⟩
abbrev S256x256 : Shape := ⟨2, ![256, 256]⟩
abbrev S256 : Shape := ⟨1, ![256]⟩
abbrev S16x256 : Shape := ⟨2, ![16, 256]⟩
abbrev S256x1 : Shape := ⟨2, ![256, 1]⟩

abbrev nBuf : Space → Nat
  | .hbm => 7
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x1024, .bf16⟩
  | .hbm, ⟨2, _⟩ => ⟨S4x256x256, .f32⟩
  | .hbm, ⟨3, _⟩ => ⟨S1x1024, .f32⟩
  | .hbm, ⟨4, _⟩ => ⟨S2048x1024, .bf16⟩
  | .hbm, ⟨5, _⟩ => ⟨S4x256x256, .f32⟩
  | .hbm, ⟨6, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S1x256x256, .f32⟩
  | .local _ .vmem, ⟨5, _⟩ => ⟨S1x256x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S1x256x256, .f32⟩
  | .local _ .vmem, ⟨11, _⟩ => ⟨S1x256x256, .f32⟩
  | .local _ .vmem, ⟨12, _⟩ => ⟨S1x256, .f32⟩
  | .local _ .vmem, ⟨13, _⟩ => ⟨S1x256, .f32⟩
  | .local _ .vmem, ⟨14, _⟩ => ⟨S2064x256, .f32⟩
  | .local _ .vmem, ⟨15, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolDwRefIdeal.lean ====
abbrev S2048x2048 : Shape := ⟨2, ![2048, 2048]⟩
abbrev S2048x1024 : Shape := ⟨2, ![2048, 1024]⟩
abbrev S4x256x256 : Shape := ⟨3, ![4, 256, 256]⟩
abbrev S1x1024 : Shape := ⟨2, ![1, 1024]⟩
abbrev S2048x4x256 : Shape := ⟨3, ![2048, 4, 256]⟩
abbrev S4x256x2048 : Shape := ⟨3, ![4, 256, 2048]⟩
abbrev S_ : Shape := ⟨0, ![]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .bf16⟩
  | .hbm, ⟨2, _⟩ => ⟨S4x256x256, .f32⟩
  | .hbm, ⟨3, _⟩ => ⟨S1x1024, .f32⟩
  | .hbm, ⟨4, _⟩ => ⟨S2048x1024, .f32⟩
  | .hbm, ⟨5, _⟩ => ⟨S2048x4x256, .f32⟩
  | .hbm, ⟨6, _⟩ => ⟨S4x256x2048, .f32⟩
  | .hbm, ⟨7, _⟩ => ⟨S2048x4x256, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x4x256, .f32⟩
  | .hbm, ⟨19, _⟩ => ⟨S4x256x2048, .f32⟩
  | .hbm, ⟨20, _⟩ => ⟨S4x256x256, .f32⟩
  | .hbm, ⟨21, _⟩ => ⟨S4x256x256, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Silu.lean ====
abbrev S2048x2048 : Shape := ⟨2, ![2048, 2048]⟩
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_17 : BitVec 32 := 0#32
  let v43 : BitVec 1 := Scalar.cmpi .ne v42 c0_i32_17
  v43

def k0_cond2 (i : grid0.Coords) : BitVec 1 :=
  let arg0 : BitVec 32 := BitVec.ofNat 32 (i 0).val
  let c0_i32_18 : BitVec 32 := 0#32
  let v44 : BitVec 1 := Scalar.cmpi .sgt arg0 c0_i32_18
  let v45 : BitVec 32 := Scalar.extui v44
  let c0_i32_19 : BitVec 32 := 0#32
  let v46 : BitVec 1 := Scalar.cmpi .ne v45 c0_i32_19
  v46

def k0_cond3 (i : grid0.Coords) : BitVec 1 :=
  let arg0 : BitVec 32 := BitVec.ofNat 32 (i 0).val
  let c0_i32_21 : BitVec 32 := 0#32
  let v49 : BitVec 1 := Scalar.cmpi .eq arg0 c0_i32_21
  let v50 : BitVec 32 := Scalar.extui v49
  let c0_i32_22 : BitVec 32 := 0#32
  let v51 : BitVec 1 := Scalar.cmpi .ne v50 c0_i32_22
  v51

def k0_cond4 (i : grid0.Coords) : BitVec 1 :=
  let arg0 : BitVec 32 := BitVec.ofNat 32 (i 0).val
  let c0_i32_23 : BitVec 32 := 0#32
  let v52 : BitVec 1 := Scalar.cmpi .sgt arg0 c0_i32_23
  let v53 : BitVec 32 := Scalar.extui v52
  let c0_i32_24 : BitVec 32 := 0#32
  let v54 : BitVec 1 := Scalar.cmpi .ne v53 c0_i32_24
  v54

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== SiluRefIdeal.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩

abbrev nD : Nat := 1
abbrev τ : Topo := Topo.v7x

variable {F : FTy → Type} [FloatOps F]
-- ==== Conv.lean ====
abbrev S2048x1024 : Shape := ⟨2, ![2048, 1024]⟩
abbrev S2048x3072 : Shape := ⟨2, ![2048, 3072]⟩
abbrev S31x1024 : Shape := ⟨2, ![31, 1024]⟩
abbrev S1x1024 : Shape := ⟨2, ![1, 1024]⟩
abbrev S2048x128 : Shape := ⟨2, ![2048, 128]⟩
abbrev S31x128 : Shape := ⟨2, ![31, 128]⟩
abbrev S1x128 : Shape := ⟨2, ![1, 128]⟩
abbrev S2080x128 : Shape := ⟨2, ![2080, 128]⟩
abbrev S32x128 : Shape := ⟨2, ![32, 128]⟩
abbrev S128 : Shape := ⟨1, ![128]⟩
abbrev S8x128 : Shape := ⟨2, ![8, 128]⟩
abbrev S256x128 : Shape := ⟨2, ![256, 128]⟩
abbrev S32x8x128 : Shape := ⟨3, ![32, 8, 128]⟩

abbrev nBuf : Space → Nat
  | .hbm => 8
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x3072, .f32⟩
  | .hbm, ⟨3, _⟩ => ⟨S31x1024, .f32⟩
  | .hbm, ⟨4, _⟩ => ⟨S2048x1024, .bf16⟩
  | .hbm, ⟨5, _⟩ => ⟨S2048x1024, .bf16⟩
  | .hbm, ⟨6, _⟩ => ⟨S31x1024, .f32⟩
  | .hbm, ⟨7, _⟩ => ⟨S1x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S31x128, .f32⟩
  | .local _ .vmem, ⟨9, _⟩ => ⟨S31x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S31x128, .f32⟩
  | .local _ .vmem, ⟨15, _⟩ => ⟨S31x128, .f32⟩
  | .local _ .vmem, ⟨16, _⟩ => ⟨S1x128, .f32⟩
  | .local _ .vmem, ⟨17, _⟩ => ⟨S1x128, .f32⟩
  | .local _ .vmem, ⟨18, _⟩ => ⟨S2080x128, .f32⟩
  | .local _ .vmem, ⟨19, _⟩ => ⟨S2080x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S31x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S31x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S2048x1024 : Shape := ⟨2, ![2048, 1024]⟩
abbrev S2048x3072 : Shape := ⟨2, ![2048, 3072]⟩
abbrev S31x1024 : Shape := ⟨2, ![31, 1024]⟩
abbrev S_ : Shape := ⟨0, ![]⟩
abbrev S1x1024 : Shape := ⟨2, ![1, 1024]⟩
abbrev S30x1024 : Shape := ⟨2, ![30, 1024]⟩
abbrev S2078x1024 : Shape := ⟨2, ![2078, 1024]⟩
abbrev S1024 : Shape := ⟨1, ![1024]⟩

abbrev nBuf : Space → Nat
  | .hbm => 543
  | .vmem => 0
  | .smem => 0
  | _ => 0

abbrev hbmTy0_0 (i : Nat) : BufTy := match i % 128 with
  | 0 => ⟨S2048x1024, .f32⟩
  | 1 => ⟨S2048x1024, .f32⟩
  | 2 => ⟨S2048x3072, .f32⟩
  | 3 => ⟨S31x1024, .f32⟩
  | 4 => ⟨S_, .f32⟩
  | 5 => ⟨S1x1024, .f32⟩
  | 6 => ⟨S_, .f32⟩
  | 7 => ⟨S30x1024, .f32⟩
  | 8 => ⟨S2078x1024, .f32⟩
  | 9 => ⟨S1x1024, .f32⟩
  | 10 => ⟨S1024, .f32⟩
  | 11 => ⟨S2048x1024, .f32⟩
  | 12 => ⟨S1x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S1x1024, .f32⟩
  | 19 => ⟨S1024, .f32⟩
  | 20 => ⟨S2048x1024, .f32⟩
  | 21 => ⟨S1x1024, .f32⟩
  | 22 => ⟨S2048x1024, .f32⟩
  | 23 => ⟨S2048x1024, .f32⟩
  | 24 => ⟨S2048x1024, .f32⟩
  | 25 => ⟨S1x1024, .f32⟩
  | 26 => ⟨S1024, .f32⟩
  | 27 => ⟨S2048x1024, .f32⟩
  | 28 => ⟨S1x1024, .f32⟩
  | 29 => ⟨S2048x1024, .f32⟩
  | 30 => ⟨S2048x1024, .f32⟩
  | 31 => ⟨S2048x1024, .f32⟩
  | 32 => ⟨S1x1024, .f32⟩
  | 33 => ⟨S1024, .f32⟩
  | 34 => ⟨S2048x1024, .f32⟩
  | 35 => ⟨S1x1024, .f32⟩
  | 36 => ⟨S2048x1024, .f32⟩
  | 37 => ⟨S2048x1024, .f32⟩
  | 38 => ⟨S2048x1024, .f32⟩
  | 39 => ⟨S1x1024, .f32⟩
  | 40 => ⟨S1024, .f32⟩
  | 41 => ⟨S2048x1024, .f32⟩
  | 42 => ⟨S1x1024, .f32⟩
  | 43 => ⟨S2048x1024, .f32⟩
  | 44 => ⟨S2048x1024, .f32⟩
  | 45 => ⟨S2048x1024, .f32⟩
  | 46 => ⟨S1x1024, .f32⟩
  | 47 => ⟨S1024, .f32⟩
  | 48 => ⟨S2048x1024, .f32⟩
  | 49 => ⟨S1x1024, .f32⟩
  | 50 => ⟨S2048x1024, .f32⟩
  | 51 => ⟨S2048x1024, .f32⟩
  | 52 => ⟨S2048x1024, .f32⟩
  | 53 => ⟨S1x1024, .f32⟩
  | 54 => ⟨S1024, .f32⟩
  | 55 => ⟨S2048x1024, .f32⟩
  | 56 => ⟨S1x1024, .f32⟩
  | 57 => ⟨S2048x1024, .f32⟩
  | 58 => ⟨S2048x1024, .f32⟩
  | 59 => ⟨S2048x1024, .f32⟩
  | 60 => ⟨S1x1024, .f32⟩
  | 61 => ⟨S1024, .f32⟩
  | 62 => ⟨S2048x1024, .f32⟩
  | 63 => ⟨S1x1024, .f32⟩
  | 64 => ⟨S2048x1024, .f32⟩
  | 65 => ⟨S2048x1024, .f32⟩
  | 66 => ⟨S2048x1024, .f32⟩
  | 67 => ⟨S1x1024, .f32⟩
  | 68 => ⟨S1024, .f32⟩
  | 69 => ⟨S2048x1024, .f32⟩
  | 70 => ⟨S1x1024, .f32⟩
  | 71 => ⟨S2048x1024, .f32⟩
  | 72 => ⟨S2048x1024, .f32⟩
  | 73 => ⟨S2048x1024, .f32⟩
  | 74 => ⟨S1x1024, .f32⟩
  | 75 => ⟨S1024, .f32⟩
  | 76 => ⟨S2048x1024, .f32⟩
  | 77 => ⟨S1x1024, .f32⟩
  | 78 => ⟨S2048x1024, .f32⟩
  | 79 => ⟨S2048x1024, .f32⟩
  | 80 => ⟨S2048x1024, .f32⟩
  | 81 => ⟨S1x1024, .f32⟩
  | 82 => ⟨S1024, .f32⟩
  | 83 => ⟨S2048x1024, .f32⟩
  | 84 => ⟨S1x1024, .f32⟩
  | 85 => ⟨S2048x1024, .f32⟩
  | 86 => ⟨S2048x1024, .f32⟩
  | 87 => ⟨S2048x1024, .f32⟩
  | 88 => ⟨S1x1024, .f32⟩
  | 89 => ⟨S1024, .f32⟩
  | 90 => ⟨S2048x1024, .f32⟩
  | 91 => ⟨S1x1024, .f32⟩
  | 92 => ⟨S2048x1024, .f32⟩
  | 93 => ⟨S2048x1024, .f32⟩
  | 94 => ⟨S2048x1024, .f32⟩
  | 95 => ⟨S1x1024, .f32⟩
  | 96 => ⟨S1024, .f32⟩
  | 97 => ⟨S2048x1024, .f32⟩
  | 98 => ⟨S1x1024, .f32⟩
  | 99 => ⟨S2048x1024, .f32⟩
  | 100 => ⟨S2048x1024, .f32⟩
  | 101 => ⟨S2048x1024, .f32⟩
  | 102 => ⟨S1x1024, .f32⟩
  | 103 => ⟨S1024, .f32⟩
  | 104 => ⟨S2048x1024, .f32⟩
  | 105 => ⟨S1x1024, .f32⟩
  | 106 => ⟨S2048x1024, .f32⟩
  | 107 => ⟨S2048x1024, .f32⟩
  | 108 => ⟨S2048x1024, .f32⟩
  | 109 => ⟨S1x1024, .f32⟩
  | 110 => ⟨S1024, .f32⟩
  | 111 => ⟨S2048x1024, .f32⟩
  | 112 => ⟨S1x1024, .f32⟩
  | 113 => ⟨S2048x1024, .f32⟩
  | 114 => ⟨S2048x1024, .f32⟩
  | 115 => ⟨S2048x1024, .f32⟩
  | 116 => ⟨S1x1024, .f32⟩
  | 117 => ⟨S1024, .f32⟩
  | 118 => ⟨S2048x1024, .f32⟩
  | 119 => ⟨S1x1024, .f32⟩
  | 120 => ⟨S2048x1024, .f32⟩
  | 121 => ⟨S2048x1024, .f32⟩
  | 122 => ⟨S2048x1024, .f32⟩
  | 123 => ⟨S1x1024, .f32⟩
  | 124 => ⟨S1024, .f32⟩
  | 125 => ⟨S2048x1024, .f32⟩
  | 126 => ⟨S1x1024, .f32⟩
  | 127 => ⟨S2048x1024, .f32⟩
  | _ => ⟨S2048x1024, .f32⟩

abbrev hbmTy0_1 (i : Nat) : BufTy := match i % 128 with
  | 0 => ⟨S2048x1024, .f32⟩
  | 1 => ⟨S2048x1024, .f32⟩
  | 2 => ⟨S1x1024, .f32⟩
  | 3 => ⟨S1024, .f32⟩
  | 4 => ⟨S2048x1024, .f32⟩
  | 5 => ⟨S1x1024, .f32⟩
  | 6 => ⟨S2048x1024, .f32⟩
  | 7 => ⟨S2048x1024, .f32⟩
  | 8 => ⟨S2048x1024, .f32⟩
  | 9 => ⟨S1x1024, .f32⟩
  | 10 => ⟨S1024, .f32⟩
  | 11 => ⟨S2048x1024, .f32⟩
  | 12 => ⟨S1x1024, .f32⟩
  | 13 => ⟨S2048x1024, .f32⟩
  | 14 => ⟨S2048x1024, .f32⟩
  | 15 => ⟨S2048x1024, .f32⟩
  | 16 => ⟨S1x1024, .f32⟩
  | 17 => ⟨S1024, .f32⟩
  | 18 => ⟨S2048x1024, .f32⟩
  | 19 => ⟨S1x1024, .f32⟩
  | 20 => ⟨S2048x1024, .f32⟩
  | 21 => ⟨S2048x1024, .f32⟩
  | 22 => ⟨S2048x1024, .f32⟩
  | 23 => ⟨S1x1024, .f32⟩
  | 24 => ⟨S1024, .f32⟩
  | 25 => ⟨S2048x1024, .f32⟩
  | 26 => ⟨S1x1024, .f32⟩
  | 27 => ⟨S2048x1024, .f32⟩
  | 28 => ⟨S2048x1024, .f32⟩
  | 29 => ⟨S2048x1024, .f32⟩
  | 30 => ⟨S1x1024, .f32⟩
  | 31 => ⟨S1024, .f32⟩
  | 32 => ⟨S2048x1024, .f32⟩
  | 33 => ⟨S1x1024, .f32⟩
  | 34 => ⟨S2048x1024, .f32⟩
  | 35 => ⟨S2048x1024, .f32⟩
  | 36 => ⟨S2048x1024, .f32⟩
  | 37 => ⟨S1x1024, .f32⟩
  | 38 => ⟨S1024, .f32⟩
  | 39 => ⟨S2048x1024, .f32⟩
  | 40 => ⟨S1x1024, .f32⟩
  | 41 => ⟨S2048x1024, .f32⟩
  | 42 => ⟨S2048x1024, .f32⟩
  | 43 => ⟨S2048x1024, .f32⟩
  | 44 => ⟨S1x1024, .f32⟩
  | 45 => ⟨S1024, .f32⟩
  | 46 => ⟨S2048x1024, .f32⟩
  | 47 => ⟨S1x1024, .f32⟩
  | 48 => ⟨S2048x1024, .f32⟩
  | 49 => ⟨S2048x1024, .f32⟩
  | 50 => ⟨S2048x1024, .f32⟩
  | 51 => ⟨S1x1024, .f32⟩
  | 52 => ⟨S1024, .f32⟩
  | 53 => ⟨S2048x1024, .f32⟩
  | 54 => ⟨S1x1024, .f32⟩
  | 55 => ⟨S2048x1024, .f32⟩
  | 56 => ⟨S2048x1024, .f32⟩
  | 57 => ⟨S2048x1024, .f32⟩
  | 58 => ⟨S1x1024, .f32⟩
  | 59 => ⟨S1024, .f32⟩
  | 60 => ⟨S2048x1024, .f32⟩
  | 61 => ⟨S1x1024, .f32⟩
  | 62 => ⟨S2048x1024, .f32⟩
  | 63 => ⟨S2048x1024, .f32⟩
  | 64 => ⟨S2048x1024, .f32⟩
  | 65 => ⟨S1x1024, .f32⟩
  | 66 => ⟨S1024, .f32⟩
  | 67 => ⟨S2048x1024, .f32⟩
  | 68 => ⟨S1x1024, .f32⟩
  | 69 => ⟨S2048x1024, .f32⟩
  | 70 => ⟨S2048x1024, .f32⟩
  | 71 => ⟨S2048x1024, .f32⟩
  | 72 => ⟨S1x1024, .f32⟩
  | 73 => ⟨S1024, .f32⟩
  | 74 => ⟨S2048x1024, .f32⟩
  | 75 => ⟨S1x1024, .f32⟩
  | 76 => ⟨S2048x1024, .f32⟩
  | 77 => ⟨S2048x1024, .f32⟩
  | 78 => ⟨S2048x1024, .f32⟩
  | 79 => ⟨S1x1024, .f32⟩
  | 80 => ⟨S1024, .f32⟩
  | 81 => ⟨S2048x1024, .f32⟩
  | 82 => ⟨S1x1024, .f32⟩
  | 83 => ⟨S2048x1024, .f32⟩
  | 84 => ⟨S2048x1024, .f32⟩
  | 85 => ⟨S2048x1024, .f32⟩
  | 86 => ⟨S1x1024, .f32⟩
  | 87 => ⟨S1024, .f32⟩
  | 88 => ⟨S2048x1024, .f32⟩
  | 89 => ⟨S1x1024, .f32⟩
  | 90 => ⟨S2048x1024, .f32⟩
  | 91 => ⟨S2048x1024, .f32⟩
  | 92 => ⟨S2048x1024, .f32⟩
  | 93 => ⟨S1x1024, .f32⟩
  | 94 => ⟨S1024, .f32⟩
  | 95 => ⟨S2048x1024, .f32⟩
  | 96 => ⟨S1x1024, .f32⟩
  | 97 => ⟨S2048x1024, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S_, .f32⟩
  | 104 => ⟨S1024, .f32⟩
  | 105 => ⟨S1x1024, .f32⟩
  | 106 => ⟨S2048x1024, .f32⟩
  | 107 => ⟨S_, .f32⟩
  | 108 => ⟨S1024, .f32⟩
  | 109 => ⟨S1x1024, .f32⟩
  | 110 => ⟨S_, .f32⟩
  | 111 => ⟨S1024, .f32⟩
  | 112 => ⟨S1x1024, .f32⟩
  | 113 => ⟨S_, .f32⟩
  | 114 => ⟨S31x1024, .f32⟩
  | 115 => ⟨S2048x1024, .f32⟩
  | 116 => ⟨S_, .f32⟩
  | 117 => ⟨S1024, .f32⟩
  | 118 => ⟨S1x1024, .f32⟩
  | 119 => ⟨S_, .f32⟩
  | 120 => ⟨S1024, .f32⟩
  | 121 => ⟨S1x1024, .f32⟩
  | 122 => ⟨S_, .f32⟩
  | 123 => ⟨S31x1024, .f32⟩
  | 124 => ⟨S31x1024, .f32⟩
  | 125 => ⟨S2048x1024, .f32⟩
  | 126 => ⟨S_, .f32⟩
  | 127 => ⟨S1024, .f32⟩
  | _ => ⟨S2048x1024, .f32⟩

abbrev hbmTy0_2 (i : Nat) : BufTy := match i % 128 with
  | 0 => ⟨S1x1024, .f32⟩
  | 1 => ⟨S_, .f32⟩
  | 2 => ⟨S1024, .f32⟩
  | 3 => ⟨S1x1024, .f32⟩
  | 4 => ⟨S_, .f32⟩
  | 5 => ⟨S31x1024, .f32⟩
  | 6 => ⟨S31x1024, .f32⟩
  | 7 => ⟨S2048x1024, .f32⟩
  | 8 => ⟨S_, .f32⟩
  | 9 => ⟨S1024, .f32⟩
  | 10 => ⟨S1x1024, .f32⟩
  | 11 => ⟨S_, .f32⟩
  | 12 => ⟨S1024, .f32⟩
  | 13 => ⟨S1x1024, .f32⟩
  | 14 => ⟨S_, .f32⟩
  | 15 => ⟨S31x1024, .f32⟩
  | 16 => ⟨S31x1024, .f32⟩
  | 17 => ⟨S2048x1024, .f32⟩
  | 18 => ⟨S_, .f32⟩
  | 19 => ⟨S1024, .f32⟩
  | 20 => ⟨S1x1024, .f32⟩
  | 21 => ⟨S_, .f32⟩
  | 22 => ⟨S1024, .f32⟩
  | 23 => ⟨S1x1024, .f32⟩
  | 24 => ⟨S_, .f32⟩
  | 25 => ⟨S31x1024, .f32⟩
  | 26 => ⟨S31x1024, .f32⟩
  | 27 => ⟨S2048x1024, .f32⟩
  | 28 => ⟨S_, .f32⟩
  | 29 => ⟨S1024, .f32⟩
  | 30 => ⟨S1x1024, .f32⟩
  | 31 => ⟨S_, .f32⟩
  | 32 => ⟨S1024, .f32⟩
  | 33 => ⟨S1x1024, .f32⟩
  | 34 => ⟨S_, .f32⟩
  | 35 => ⟨S31x1024, .f32⟩
  | 36 => ⟨S31x1024, .f32⟩
  | 37 => ⟨S2048x1024, .f32⟩
  | 38 => ⟨S_, .f32⟩
  | 39 => ⟨S1024, .f32⟩
  | 40 => ⟨S1x1024, .f32⟩
  | 41 => ⟨S_, .f32⟩
  | 42 => ⟨S1024, .f32⟩
  | 43 => ⟨S1x1024, .f32⟩
  | 44 => ⟨S_, .f32⟩
  | 45 => ⟨S31x1024, .f32⟩
  | 46 => ⟨S31x1024, .f32⟩
  | 47 => ⟨S2048x1024, .f32⟩
  | 48 => ⟨S_, .f32⟩
  | 49 => ⟨S1024, .f32⟩
  | 50 => ⟨S1x1024, .f32⟩
  | 51 => ⟨S_, .f32⟩
  | 52 => ⟨S1024, .f32⟩
  | 53 => ⟨S1x1024, .f32⟩
  | 54 => ⟨S_, .f32⟩
  | 55 => ⟨S31x1024, .f32⟩
  | 56 => ⟨S31x1024, .f32⟩
  | 57 => ⟨S2048x1024, .f32⟩
  | 58 => ⟨S_, .f32⟩
  | 59 => ⟨S1024, .f32⟩
  | 60 => ⟨S1x1024, .f32⟩
  | 61 => ⟨S_, .f32⟩
  | 62 => ⟨S1024, .f32⟩
  | 63 => ⟨S1x1024, .f32⟩
  | 64 => ⟨S_, .f32⟩
  | 65 => ⟨S31x1024, .f32⟩
  | 66 => ⟨S31x1024, .f32⟩
  | 67 => ⟨S2048x1024, .f32⟩
  | 68 => ⟨S_, .f32⟩
  | 69 => ⟨S1024, .f32⟩
  | 70 => ⟨S1x1024, .f32⟩
  | 71 => ⟨S_, .f32⟩
  | 72 => ⟨S1024, .f32⟩
  | 73 => ⟨S1x1024, .f32⟩
  | 74 => ⟨S_, .f32⟩
  | 75 => ⟨S31x1024, .f32⟩
  | 76 => ⟨S31x1024, .f32⟩
  | 77 => ⟨S2048x1024, .f32⟩
  | 78 => ⟨S_, .f32⟩
  | 79 => ⟨S1024, .f32⟩
  | 80 => ⟨S1x1024, .f32⟩
  | 81 => ⟨S_, .f32⟩
  | 82 => ⟨S1024, .f32⟩
  | 83 => ⟨S1x1024, .f32⟩
  | 84 => ⟨S_, .f32⟩
  | 85 => ⟨S31x1024, .f32⟩
  | 86 => ⟨S31x1024, .f32⟩
  | 87 => ⟨S2048x1024, .f32⟩
  | 88 => ⟨S_, .f32⟩
  | 89 => ⟨S1024, .f32⟩
  | 90 => ⟨S1x1024, .f32⟩
  | 91 => ⟨S_, .f32⟩
  | 92 => ⟨S1024, .f32⟩
  | 93 => ⟨S1x1024, .f32⟩
  | 94 => ⟨S_, .f32⟩
  | 95 => ⟨S31x1024, .f32⟩
  | 96 => ⟨S31x1024, .f32⟩
  | 97 => ⟨S2048x1024, .f32⟩
  | 98 => ⟨S_, .f32⟩
  | 99 => ⟨S1024, .f32⟩
  | 100 => ⟨S1x1024, .f32⟩
  | 101 => ⟨S_, .f32⟩
  | 102 => ⟨S1024, .f32⟩
  | 103 => ⟨S1x1024, .f32⟩
  | 104 => ⟨S_, .f32⟩
  | 105 => ⟨S31x1024, .f32⟩
  | 106 => ⟨S31x1024, .f32⟩
  | 107 => ⟨S2048x1024, .f32⟩
  | 108 => ⟨S_, .f32⟩
  | 109 => ⟨S1024, .f32⟩
  | 110 => ⟨S1x1024, .f32⟩
  | 111 => ⟨S_, .f32⟩
  | 112 => ⟨S1024, .f32⟩
  | 113 => ⟨S1x1024, .f32⟩
  | 114 => ⟨S_, .f32⟩
  | 115 => ⟨S31x1024, .f32⟩
  | 116 => ⟨S31x1024, .f32⟩
  | 117 => ⟨S2048x1024, .f32⟩
  | 118 => ⟨S_, .f32⟩
  | 119 => ⟨S1024, .f32⟩
  | 120 => ⟨S1x1024, .f32⟩
  | 121 => ⟨S_, .f32⟩
  | 122 => ⟨S1024, .f32⟩
  | 123 => ⟨S1x1024, .f32⟩
  | 124 => ⟨S_, .f32⟩
  | 125 => ⟨S31x1024, .f32⟩
  | 126 => ⟨S31x1024, .f32⟩
  | 127 => ⟨S2048x1024, .f32⟩
  | _ => ⟨S2048x1024, .f32⟩

abbrev hbmTy0_3 (i : Nat) : BufTy := match i % 128 with
  | 0 => ⟨S_, .f32⟩
  | 1 => ⟨S1024, .f32⟩
  | 2 => ⟨S1x1024, .f32⟩
  | 3 => ⟨S_, .f32⟩
  | 4 => ⟨S1024, .f32⟩
  | 5 => ⟨S1x1024, .f32⟩
  | 6 => ⟨S_, .f32⟩
  | 7 => ⟨S31x1024, .f32⟩
  | 8 => ⟨S31x1024, .f32⟩
  | 9 => ⟨S2048x1024, .f32⟩
  | 10 => ⟨S_, .f32⟩
  | 11 => ⟨S1024, .f32⟩
  | 12 => ⟨S1x1024, .f32⟩
  | 13 => ⟨S_, .f32⟩
  | 14 => ⟨S1024, .f32⟩
  | 15 => ⟨S1x1024, .f32⟩
  | 16 => ⟨S_, .f32⟩
  | 17 => ⟨S31x1024, .f32⟩
  | 18 => ⟨S31x1024, .f32⟩
  | 19 => ⟨S2048x1024, .f32⟩
  | 20 => ⟨S_, .f32⟩
  | 21 => ⟨S1024, .f32⟩
  | 22 => ⟨S1x1024, .f32⟩
  | 23 => ⟨S_, .f32⟩
  | 24 => ⟨S1024, .f32⟩
  | 25 => ⟨S1x1024, .f32⟩
  | 26 => ⟨S_, .f32⟩
  | 27 => ⟨S31x1024, .f32⟩
  | 28 => ⟨S31x1024, .f32⟩
  | 29 => ⟨S2048x1024, .f32⟩
  | 30 => ⟨S_, .f32⟩
  | 31 => ⟨S1024, .f32⟩
  | 32 => ⟨S1x1024, .f32⟩
  | 33 => ⟨S_, .f32⟩
  | 34 => ⟨S1024, .f32⟩
  | 35 => ⟨S1x1024, .f32⟩
  | 36 => ⟨S_, .f32⟩
  | 37 => ⟨S31x1024, .f32⟩
  | 38 => ⟨S31x1024, .f32⟩
  | 39 => ⟨S2048x1024, .f32⟩
  | 40 => ⟨S_, .f32⟩
  | 41 => ⟨S1024, .f32⟩
  | 42 => ⟨S1x1024, .f32⟩
  | 43 => ⟨S_, .f32⟩
  | 44 => ⟨S1024, .f32⟩
  | 45 => ⟨S1x1024, .f32⟩
  | 46 => ⟨S_, .f32⟩
  | 47 => ⟨S31x1024, .f32⟩
  | 48 => ⟨S31x1024, .f32⟩
  | 49 => ⟨S2048x1024, .f32⟩
  | 50 => ⟨S_, .f32⟩
  | 51 => ⟨S1024, .f32⟩
  | 52 => ⟨S1x1024, .f32⟩
  | 53 => ⟨S_, .f32⟩
  | 54 => ⟨S1024, .f32⟩
  | 55 => ⟨S1x1024, .f32⟩
  | 56 => ⟨S_, .f32⟩
  | 57 => ⟨S31x1024, .f32⟩
  | 58 => ⟨S31x1024, .f32⟩
  | 59 => ⟨S2048x1024, .f32⟩
  | 60 => ⟨S_, .f32⟩
  | 61 => ⟨S1024, .f32⟩
  | 62 => ⟨S1x1024, .f32⟩
  | 63 => ⟨S_, .f32⟩
  | 64 => ⟨S1024, .f32⟩
  | 65 => ⟨S1x1024, .f32⟩
  | 66 => ⟨S_, .f32⟩
  | 67 => ⟨S31x1024, .f32⟩
  | 68 => ⟨S31x1024, .f32⟩
  | 69 => ⟨S2048x1024, .f32⟩
  | 70 => ⟨S_, .f32⟩
  | 71 => ⟨S1024, .f32⟩
  | 72 => ⟨S1x1024, .f32⟩
  | 73 => ⟨S_, .f32⟩
  | 74 => ⟨S1024, .f32⟩
  | 75 => ⟨S1x1024, .f32⟩
  | 76 => ⟨S_, .f32⟩
  | 77 => ⟨S31x1024, .f32⟩
  | 78 => ⟨S31x1024, .f32⟩
  | 79 => ⟨S2048x1024, .f32⟩
  | 80 => ⟨S_, .f32⟩
  | 81 => ⟨S1024, .f32⟩
  | 82 => ⟨S1x1024, .f32⟩
  | 83 => ⟨S_, .f32⟩
  | 84 => ⟨S1024, .f32⟩
  | 85 => ⟨S1x1024, .f32⟩
  | 86 => ⟨S_, .f32⟩
  | 87 => ⟨S31x1024, .f32⟩
  | 88 => ⟨S31x1024, .f32⟩
  | 89 => ⟨S2048x1024, .f32⟩
  | 90 => ⟨S_, .f32⟩
  | 91 => ⟨S1024, .f32⟩
  | 92 => ⟨S1x1024, .f32⟩
  | 93 => ⟨S_, .f32⟩
  | 94 => ⟨S1024, .f32⟩
  | 95 => ⟨S1x1024, .f32⟩
  | 96 => ⟨S_, .f32⟩
  | 97 => ⟨S31x1024, .f32⟩
  | 98 => ⟨S31x1024, .f32⟩
  | 99 => ⟨S2048x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S1x1024, .f32⟩
  | 106 => ⟨S_, .f32⟩
  | 107 => ⟨S31x1024, .f32⟩
  | 108 => ⟨S31x1024, .f32⟩
  | 109 => ⟨S2048x1024, .f32⟩
  | 110 => ⟨S_, .f32⟩
  | 111 => ⟨S1024, .f32⟩
  | 112 => ⟨S1x1024, .f32⟩
  | 113 => ⟨S_, .f32⟩
  | 114 => ⟨S1024, .f32⟩
  | 115 => ⟨S1x1024, .f32⟩
  | 116 => ⟨S_, .f32⟩
  | 117 => ⟨S31x1024, .f32⟩
  | 118 => ⟨S31x1024, .f32⟩
  | 119 => ⟨S2048x1024, .f32⟩
  | 120 => ⟨S_, .f32⟩
  | 121 => ⟨S1024, .f32⟩
  | 122 => ⟨S1x1024, .f32⟩
  | 123 => ⟨S_, .f32⟩
  | 124 => ⟨S1024, .f32⟩
  | 125 => ⟨S1x1024, .f32⟩
  | 126 => ⟨S_, .f32⟩
  | 127 => ⟨S31x1024, .f32⟩
  | _ => ⟨S2048x1024, .f32⟩

abbrev hbmTy0_4 (i : Nat) : BufTy := match i % 128 with
  | 0 => ⟨S31x1024, .f32⟩
  | 1 => ⟨S2048x1024, .f32⟩
  | 2 => ⟨S_, .f32⟩
  | 3 => ⟨S1024, .f32⟩
  | 4 => ⟨S1x1024, .f32⟩
  | 5 => ⟨S_, .f32⟩
  | 6 => ⟨S1024, .f32⟩
  | 7 => ⟨S1x1024, .f32⟩
  | 8 => ⟨S_, .f32⟩
  | 9 => ⟨S31x1024, .f32⟩
  | 10 => ⟨S31x1024, .f32⟩
  | 11 => ⟨S2048x1024, .f32⟩
  | 12 => ⟨S_, .f32⟩
  | 13 => ⟨S1024, .f32⟩
  | 14 => ⟨S1x1024, .f32⟩
  | 15 => ⟨S_, .f32⟩
  | 16 => ⟨S1024, .f32⟩
  | 17 => ⟨S1x1024, .f32⟩
  | 18 => ⟨S_, .f32⟩
  | 19 => ⟨S31x1024, .f32⟩
  | 20 => ⟨S31x1024, .f32⟩
  | 21 => ⟨S2048x1024, .f32⟩
  | 22 => ⟨S_, .f32⟩
  | 23 => ⟨S1024, .f32⟩
  | 24 => ⟨S1x1024, .f32⟩
  | 25 => ⟨S_, .f32⟩
  | 26 => ⟨S1024, .f32⟩
  | 27 => ⟨S1x1024, .f32⟩
  | 28 => ⟨S_, .f32⟩
  | 29 => ⟨S31x1024, .f32⟩
  | 30 => ⟨S31x1024, .f32⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_cst_2 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_cst_3 : Ref sig .tc := ⟨.hbm, 235, rfl⟩
abbrev main_v227 : Ref sig .tc := ⟨.hbm, 236, rfl⟩
abbrev main_v228 : Ref sig .tc := ⟨.hbm, 237, rfl⟩
abbrev main_cst_4 : Ref sig .tc := ⟨.hbm, 238, rfl⟩
abbrev main_v229 : Ref sig .tc := ⟨.hbm, 239, rfl⟩
abbrev main_v230 : Ref sig .tc := ⟨.hbm, 240, rfl⟩
abbrev main_cst_5 : Ref sig .tc := ⟨.hbm, 241, rfl⟩
abbrev main_v231 : Ref sig .tc := ⟨.hbm, 242, rfl⟩
abbrev main_v232 : Ref sig .tc := ⟨.hbm, 243, rfl⟩
abbrev main_cst_6 : Ref sig .tc := ⟨.hbm, 244, rfl⟩
abbrev main_v233 : Ref sig .tc := ⟨.hbm, 245, rfl⟩
abbrev main_v234 : Ref sig .tc := ⟨.hbm, 246, rfl⟩
abbrev main_cst_7 : Ref sig .tc := ⟨.hbm, 247, rfl⟩
abbrev main_v235 : Ref sig .tc := ⟨.hbm, 248, rfl⟩
abbrev main_v236 : Ref sig .tc := ⟨.hbm, 249, rfl⟩
abbrev main_cst_8 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_cst_9 : Ref sig .tc := ⟨.hbm, 254, rfl⟩
abbrev main_v240 : Ref sig .tc := ⟨.hbm, 255, rfl⟩
abbrev main_v241 : Ref sig .tc := ⟨.hbm, 256, rfl⟩
abbrev main_cst_10 : Ref sig .tc := ⟨.hbm, 257, rfl⟩
abbrev main_v242 : Ref sig .tc := ⟨.hbm, 258, rfl⟩
abbrev main_v243 : Ref sig .tc := ⟨.hbm, 259, rfl⟩
abbrev main_cst_11 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_cst_12 : Ref sig .tc := ⟨.hbm, 264, rfl⟩
abbrev main_v247 : Ref sig .tc := ⟨.hbm, 265, rfl⟩
abbrev main_v248 : Ref sig .tc := ⟨.hbm, 266, rfl⟩
abbrev main_cst_13 : Ref sig .tc := ⟨.hbm, 267, rfl⟩
abbrev main_v249 : Ref sig .tc := ⟨.hbm, 268, rfl⟩
abbrev main_v250 : Ref sig .tc := ⟨.hbm, 269, rfl⟩
abbrev main_cst_14 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_cst_15 : Ref sig .tc := ⟨.hbm, 274, rfl⟩
abbrev main_v254 : Ref sig .tc := ⟨.hbm, 275, rfl⟩
abbrev main_v255 : Ref sig .tc := ⟨.hbm, 276, rfl⟩
abbrev main_cst_16 : Ref sig .tc := ⟨.hbm, 277, rfl⟩
abbrev main_v256 : Ref sig .tc := ⟨.hbm, 278, rfl⟩
abbrev main_v257 : Ref sig .tc := ⟨.hbm, 279, rfl⟩
abbrev main_cst_17 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_cst_18 : Ref sig .tc := ⟨.hbm, 284, rfl⟩
abbrev main_v261 : Ref sig .tc := ⟨.hbm, 285, rfl⟩
abbrev main_v262 : Ref sig .tc := ⟨.hbm, 286, rfl⟩
abbrev main_cst_19 : Ref sig .tc := ⟨.hbm, 287, rfl⟩
abbrev main_v263 : Ref sig .tc := ⟨.hbm, 288, rfl⟩
abbrev main_v264 : Ref sig .tc := ⟨.hbm, 289, rfl⟩
abbrev main_cst_20 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_cst_21 : Ref sig .tc := ⟨.hbm, 294, rfl⟩
abbrev main_v268 : Ref sig .tc := ⟨.hbm, 295, rfl⟩
abbrev main_v269 : Ref sig .tc := ⟨.hbm, 296, rfl⟩
abbrev main_cst_22 : Ref sig .tc := ⟨.hbm, 297, rfl⟩
abbrev main_v270 : Ref sig .tc := ⟨.hbm, 298, rfl⟩
abbrev main_v271 : Ref sig .tc := ⟨.hbm, 299, rfl⟩
abbrev main_cst_23 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_cst_24 : Ref sig .tc := ⟨.hbm, 304, rfl⟩
abbrev main_v275 : Ref sig .tc := ⟨.hbm, 305, rfl⟩
abbrev main_v276 : Ref sig .tc := ⟨.hbm, 306, rfl⟩
abbrev main_cst_25 : Ref sig .tc := ⟨.hbm, 307, rfl⟩
abbrev main_v277 : Ref sig .tc := ⟨.hbm, 308, rfl⟩
abbrev main_v278 : Ref sig .tc := ⟨.hbm, 309, rfl⟩
abbrev main_cst_26 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_cst_27 : Ref sig .tc := ⟨.hbm, 314, rfl⟩
abbrev main_v282 : Ref sig .tc := ⟨.hbm, 315, rfl⟩
abbrev main_v283 : Ref sig .tc := ⟨.hbm, 316, rfl⟩
abbrev main_cst_28 : Ref sig .tc := ⟨.hbm, 317, rfl⟩
abbrev main_v284 : Ref sig .tc := ⟨.hbm, 318, rfl⟩
abbrev main_v285 : Ref sig .tc := ⟨.hbm, 319, rfl⟩
abbrev main_cst_29 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_cst_30 : Ref sig .tc := ⟨.hbm, 324, rfl⟩
abbrev main_v289 : Ref sig .tc := ⟨.hbm, 325, rfl⟩
abbrev main_v290 : Ref sig .tc := ⟨.hbm, 326, rfl⟩
abbrev main_cst_31 : Ref sig .tc := ⟨.hbm, 327, rfl⟩
abbrev main_v291 : Ref sig .tc := ⟨.hbm, 328, rfl⟩
abbrev main_v292 : Ref sig .tc := ⟨.hbm, 329, rfl⟩
abbrev main_cst_32 : Ref sig .tc := ⟨.hbm, 330, rfl⟩
abbrev main_v293 : Ref sig .tc := ⟨.hbm, 331, rfl⟩
abbrev main_v294 : Ref sig .tc := ⟨.hbm, 332, rfl⟩
abbrev main_v295 : Ref sig .tc := ⟨.hbm, 333, rfl⟩
abbrev main_cst_33 : Ref sig .tc := ⟨.hbm, 334, rfl⟩
abbrev main_v296 : Ref sig .tc := ⟨.hbm, 335, rfl⟩
abbrev main_v297 : Ref sig .tc := ⟨.hbm, 336, rfl⟩
abbrev main_cst_34 : Ref sig .tc := ⟨.hbm, 337, rfl⟩
abbrev main_v298 : Ref sig .tc := ⟨.hbm, 338, rfl⟩
abbrev main_v299 : Ref sig .tc := ⟨.hbm, 339, rfl⟩
abbrev main_cst_35 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_cst_36 : Ref sig .tc := ⟨.hbm, 344, rfl⟩
abbrev main_v303 : Ref sig .tc := ⟨.hbm, 345, rfl⟩
abbrev main_v304 : Ref sig .tc := ⟨.hbm, 346, rfl⟩
abbrev main_cst_37 : Ref sig .tc := ⟨.hbm, 347, rfl⟩
abbrev main_v305 : Ref sig .tc := ⟨.hbm, 348, rfl⟩
abbrev main_v306 : Ref sig .tc := ⟨.hbm, 349, rfl⟩
abbrev main_cst_38 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_cst_39 : Ref sig .tc := ⟨.hbm, 354, rfl⟩
abbrev main_v310 : Ref sig .tc := ⟨.hbm, 355, rfl⟩
abbrev main_v311 : Ref sig .tc := ⟨.hbm, 356, rfl⟩
abbrev main_cst_40 : Ref sig .tc := ⟨.hbm, 357, rfl⟩
abbrev main_v312 : Ref sig .tc := ⟨.hbm, 358, rfl⟩
abbrev main_v313 : Ref sig .tc := ⟨.hbm, 359, rfl⟩
abbrev main_cst_41 : Ref sig .tc := ⟨.hbm, 360, rfl⟩
abbrev main_v314 : Ref sig .tc := ⟨.hbm, 361, rfl⟩
abbrev main_v315 : Ref sig .tc := ⟨.hbm, 362, rfl⟩
abbrev main_v316 : Ref sig .tc := ⟨.hbm, 363, rfl⟩
abbrev main_cst_42 : Ref sig .tc := ⟨.hbm, 364, rfl⟩
abbrev main_v317 : Ref sig .tc := ⟨.hbm, 365, rfl⟩
abbrev main_v318 : Ref sig .tc := ⟨.hbm, 366, rfl⟩
abbrev main_cst_43 : Ref sig .tc := ⟨.hbm, 367, rfl⟩
abbrev main_v319 : Ref sig .tc := ⟨.hbm, 368, rfl⟩
abbrev main_v320 : Ref sig .tc := ⟨.hbm, 369, rfl⟩
abbrev main_cst_44 : Ref sig .tc := ⟨.hbm, 370, rfl⟩
abbrev main_v321 : Ref sig .tc := ⟨.hbm, 371, rfl⟩
abbrev main_v322 : Ref sig .tc := ⟨.hbm, 372, rfl⟩
abbrev main_v323 : Ref sig .tc := ⟨.hbm, 373, rfl⟩
abbrev main_cst_45 : Ref sig .tc := ⟨.hbm, 374, rfl⟩
abbrev main_v324 : Ref sig .tc := ⟨.hbm, 375, rfl⟩
abbrev main_v325 : Ref sig .tc := ⟨.hbm, 376, rfl⟩
abbrev main_cst_46 : Ref sig .tc := ⟨.hbm, 377, rfl⟩
abbrev main_v326 : Ref sig .tc := ⟨.hbm, 378, rfl⟩
abbrev main_v327 : Ref sig .tc := ⟨.hbm, 379, rfl⟩
abbrev main_cst_47 : Ref sig .tc := ⟨.hbm, 380, rfl⟩
abbrev main_v328 : Ref sig .tc := ⟨.hbm, 381, rfl⟩
abbrev main_v329 : Ref sig .tc := ⟨.hbm, 382, rfl⟩
abbrev main_v330 : Ref sig .tc := ⟨.hbm, 383, rfl⟩
abbrev main_cst_48 : Ref sig .tc := ⟨.hbm, 384, rfl⟩
abbrev main_v331 : Ref sig .tc := ⟨.hbm, 385, rfl⟩
abbrev main_v332 : Ref sig .tc := ⟨.hbm, 386, rfl⟩
abbrev main_cst_49 : Ref sig .tc := ⟨.hbm, 387, rfl⟩
abbrev main_v333 : Ref sig .tc := ⟨.hbm, 388, rfl⟩
abbrev main_v334 : Ref sig .tc := ⟨.hbm, 389, rfl⟩
abbrev main_cst_50 : Ref sig .tc := ⟨.hbm, 390, rfl⟩
abbrev main_v335 : Ref sig .tc := ⟨.hbm, 391, rfl⟩
abbrev main_v336 : Ref sig .tc := ⟨.hbm, 392, rfl⟩
abbrev main_v337 : Ref sig .tc := ⟨.hbm, 393, rfl⟩
abbrev main_cst_51 : Ref sig .tc := ⟨.hbm, 394, rfl⟩
abbrev main_v338 : Ref sig .tc := ⟨.hbm, 395, rfl⟩
abbrev main_v339 : Ref sig .tc := ⟨.hbm, 396, rfl⟩
abbrev main_cst_52 : Ref sig .tc := ⟨.hbm, 397, rfl⟩
abbrev main_v340 : Ref sig .tc := ⟨.hbm, 398, rfl⟩
abbrev main_v341 : Ref sig .tc := ⟨.hbm, 399, rfl⟩
abbrev main_cst_53 : Ref sig .tc := ⟨.hbm, 400, rfl⟩
abbrev main_v342 : Ref sig .tc := ⟨.hbm, 401, rfl⟩
abbrev main_v343 : Ref sig .tc := ⟨.hbm, 402, rfl⟩
abbrev main_v344 : Ref sig .tc := ⟨.hbm, 403, rfl⟩
abbrev main_cst_54 : Ref sig .tc := ⟨.hbm, 404, rfl⟩
abbrev main_v345 : Ref sig .tc := ⟨.hbm, 405, rfl⟩
abbrev main_v346 : Ref sig .tc := ⟨.hbm, 406, rfl⟩
abbrev main_cst_55 : Ref sig .tc := ⟨.hbm, 407, rfl⟩
abbrev main_v347 : Ref sig .tc := ⟨.hbm, 408, rfl⟩
abbrev main_v348 : Ref sig .tc := ⟨.hbm, 409, rfl⟩
abbrev main_cst_56 : Ref sig .tc := ⟨.hbm, 410, rfl⟩
abbrev main_v349 : Ref sig .tc := ⟨.hbm, 411, rfl⟩
abbrev main_v350 : Ref sig .tc := ⟨.hbm, 412, rfl⟩
abbrev main_v351 : Ref sig .tc := ⟨.hbm, 413, rfl⟩
abbrev main_cst_57 : Ref sig .tc := ⟨.hbm, 414, rfl⟩
abbrev main_v352 : Ref sig .tc := ⟨.hbm, 415, rfl⟩
abbrev main_v353 : Ref sig .tc := ⟨.hbm, 416, rfl⟩
abbrev main_cst_58 : Ref sig .tc := ⟨.hbm, 417, rfl⟩
abbrev main_v354 : Ref sig .tc := ⟨.hbm, 418, rfl⟩
abbrev main_v355 : Ref sig .tc := ⟨.hbm, 419, rfl⟩
abbrev main_cst_59 : Ref sig .tc := ⟨.hbm, 420, rfl⟩
abbrev main_v356 : Ref sig .tc := ⟨.hbm, 421, rfl⟩
abbrev main_v357 : Ref sig .tc := ⟨.hbm, 422, rfl⟩
abbrev main_v358 : Ref sig .tc := ⟨.hbm, 423, rfl⟩
abbrev main_cst_60 : Ref sig .tc := ⟨.hbm, 424, rfl⟩
abbrev main_v359 : Ref sig .tc := ⟨.hbm, 425, rfl⟩
abbrev main_v360 : Ref sig .tc := ⟨.hbm, 426, rfl⟩
abbrev main_cst_61 : Ref sig .tc := ⟨.hbm, 427, rfl⟩
abbrev main_v361 : Ref sig .tc := ⟨.hbm, 428, rfl⟩
abbrev main_v362 : Ref sig .tc := ⟨.hbm, 429, rfl⟩
abbrev main_cst_62 : Ref sig .tc := ⟨.hbm, 430, rfl⟩
abbrev main_v363 : Ref sig .tc := ⟨.hbm, 431, rfl⟩
abbrev main_v364 : Ref sig .tc := ⟨.hbm, 432, rfl⟩
abbrev main_v365 : Ref sig .tc := ⟨.hbm, 433, rfl⟩
abbrev main_cst_63 : Ref sig .tc := ⟨.hbm, 434, rfl⟩
abbrev main_v366 : Ref sig .tc := ⟨.hbm, 435, rfl⟩
abbrev main_v367 : Ref sig .tc := ⟨.hbm, 436, rfl⟩
abbrev main_cst_64 : Ref sig .tc := ⟨.hbm, 437, rfl⟩
abbrev main_v368 : Ref sig .tc := ⟨.hbm, 438, rfl⟩
abbrev main_v369 : Ref sig .tc := ⟨.hbm, 439, rfl⟩
abbrev main_cst_65 : Ref sig .tc := ⟨.hbm, 440, rfl⟩
abbrev main_v370 : Ref sig .tc := ⟨.hbm, 441, rfl⟩
abbrev main_v371 : Ref sig .tc := ⟨.hbm, 442, rfl⟩
abbrev main_v372 : Ref sig .tc := ⟨.hbm, 443, rfl⟩
abbrev main_cst_66 : Ref sig .tc := ⟨.hbm, 444, rfl⟩
abbrev main_v373 : Ref sig .tc := ⟨.hbm, 445, rfl⟩
abbrev main_v374 : Ref sig .tc := ⟨.hbm, 446, rfl⟩
abbrev main_cst_67 : Ref sig .tc := ⟨.hbm, 447, rfl⟩
abbrev main_v375 : Ref sig .tc := ⟨.hbm, 448, rfl⟩
abbrev main_v376 : Ref sig .tc := ⟨.hbm, 449, rfl⟩
abbrev main_cst_68 : Ref sig .tc := ⟨.hbm, 450, rfl⟩
abbrev main_v377 : Ref sig .tc := ⟨.hbm, 451, rfl⟩
abbrev main_v378 : Ref sig .tc := ⟨.hbm, 452, rfl⟩
abbrev main_v379 : Ref sig .tc := ⟨.hbm, 453, rfl⟩
abbrev main_cst_69 : Ref sig .tc := ⟨.hbm, 454, rfl⟩
abbrev main_v380 : Ref sig .tc := ⟨.hbm, 455, rfl⟩
abbrev main_v381 : Ref sig .tc := ⟨.hbm, 456, rfl⟩
abbrev main_cst_70 : Ref sig .tc := ⟨.hbm, 457, rfl⟩
abbrev main_v382 : Ref sig .tc := ⟨.hbm, 458, rfl⟩
abbrev main_v383 : Ref sig .tc := ⟨.hbm, 459, rfl⟩
abbrev main_cst_71 : Ref sig .tc := ⟨.hbm, 460, rfl⟩
abbrev main_v384 : Ref sig .tc := ⟨.hbm, 461, rfl⟩
abbrev main_v385 : Ref sig .tc := ⟨.hbm, 462, rfl⟩
abbrev main_v386 : Ref sig .tc := ⟨.hbm, 463, rfl⟩
abbrev main_cst_72 : Ref sig .tc := ⟨.hbm, 464, rfl⟩
abbrev main_v387 : Ref sig .tc := ⟨.hbm, 465, rfl⟩
abbrev main_v388 : Ref sig .tc := ⟨.hbm, 466, rfl⟩
abbrev main_cst_73 : Ref sig .tc := ⟨.hbm, 467, rfl⟩
abbrev main_v389 : Ref sig .tc := ⟨.hbm, 468, rfl⟩
abbrev main_v390 : Ref sig .tc := ⟨.hbm, 469, rfl⟩
abbrev main_cst_74 : Ref sig .tc := ⟨.hbm, 470, rfl⟩
abbrev main_v391 : Ref sig .tc := ⟨.hbm, 471, rfl⟩
abbrev main_v392 : Ref sig .tc := ⟨.hbm, 472, rfl⟩
abbrev main_v393 : Ref sig .tc := ⟨.hbm, 473, rfl⟩
abbrev main_cst_75 : Ref sig .tc := ⟨.hbm, 474, rfl⟩
abbrev main_v394 : Ref sig .tc := ⟨.hbm, 475, rfl⟩
abbrev main_v395 : Ref sig .tc := ⟨.hbm, 476, rfl⟩
abbrev main_cst_76 : Ref sig .tc := ⟨.hbm, 477, rfl⟩
abbrev main_v396 : Ref sig .tc := ⟨.hbm, 478, rfl⟩
abbrev main_v397 : Ref sig .tc := ⟨.hbm, 479, rfl⟩
abbrev main_cst_77 : Ref sig .tc := ⟨.hbm, 480, rfl⟩
abbrev main_v398 : Ref sig .tc := ⟨.hbm, 481, rfl⟩
abbrev main_v399 : Ref sig .tc := ⟨.hbm, 482, rfl⟩
abbrev main_v400 : Ref sig .tc := ⟨.hbm, 483, rfl⟩
abbrev main_cst_78 : Ref sig .tc := ⟨.hbm, 484, rfl⟩
abbrev main_v401 : Ref sig .tc := ⟨.hbm, 485, rfl⟩
abbrev main_v402 : Ref sig .tc := ⟨.hbm, 486, rfl⟩
abbrev main_cst_79 : Ref sig .tc := ⟨.hbm, 487, rfl⟩
abbrev main_v403 : Ref sig .tc := ⟨.hbm, 488, rfl⟩
abbrev main_v404 : Ref sig .tc := ⟨.hbm, 489, rfl⟩
abbrev main_cst_80 : Ref sig .tc := ⟨.hbm, 490, rfl⟩
abbrev main_v405 : Ref sig .tc := ⟨.hbm, 491, rfl⟩
abbrev main_v406 : Ref sig .tc := ⟨.hbm, 492, rfl⟩
abbrev main_v407 : Ref sig .tc := ⟨.hbm, 493, rfl⟩
abbrev main_cst_81 : Ref sig .tc := ⟨.hbm, 494, rfl⟩
abbrev main_v408 : Ref sig .tc := ⟨.hbm, 495, rfl⟩
abbrev main_v409 : Ref sig .tc := ⟨.hbm, 496, rfl⟩
abbrev main_cst_82 : Ref sig .tc := ⟨.hbm, 497, rfl⟩
abbrev main_v410 : Ref sig .tc := ⟨.hbm, 498, rfl⟩
abbrev main_v411 : Ref sig .tc := ⟨.hbm, 499, rfl⟩
abbrev main_cst_83 : Ref sig .tc := ⟨.hbm, 500, rfl⟩
abbrev main_v412 : Ref sig .tc := ⟨.hbm, 501, rfl⟩
abbrev main_v413 : Ref sig .tc := ⟨.hbm, 502, rfl⟩
abbrev main_v414 : Ref sig .tc := ⟨.hbm, 503, rfl⟩
abbrev main_cst_84 : Ref sig .tc := ⟨.hbm, 504, rfl⟩
abbrev main_v415 : Ref sig .tc := ⟨.hbm, 505, rfl⟩
abbrev main_v416 : Ref sig .tc := ⟨.hbm, 506, rfl⟩
abbrev main_cst_85 : Ref sig .tc := ⟨.hbm, 507, rfl⟩
abbrev main_v417 : Ref sig .tc := ⟨.hbm, 508, rfl⟩
abbrev main_v418 : Ref sig .tc := ⟨.hbm, 509, rfl⟩
abbrev main_cst_86 : Ref sig .tc := ⟨.hbm, 510, rfl⟩
abbrev main_v419 : Ref sig .tc := ⟨.hbm, 511, rfl⟩
abbrev main_v420 : Ref sig .tc := ⟨.hbm, 512, rfl⟩
abbrev main_v421 : Ref sig .tc := ⟨.hbm, 513, rfl⟩
abbrev main_cst_87 : Ref sig .tc := ⟨.hbm, 514, rfl⟩
abbrev main_v422 : Ref sig .tc := ⟨.hbm, 515, rfl⟩
abbrev main_v423 : Ref sig .tc := ⟨.hbm, 516, rfl⟩
abbrev main_cst_88 : Ref sig .tc := ⟨.hbm, 517, rfl⟩
abbrev main_v424 : Ref sig .tc := ⟨.hbm, 518, rfl⟩
abbrev main_v425 : Ref sig .tc := ⟨.hbm, 519, rfl⟩
abbrev main_cst_89 : Ref sig .tc := ⟨.hbm, 520, rfl⟩
abbrev main_v426 : Ref sig .tc := ⟨.hbm, 521, rfl⟩
abbrev main_v427 : Ref sig .tc := ⟨.hbm, 522, rfl⟩
abbrev main_v428 : Ref sig .tc := ⟨.hbm, 523, rfl⟩
abbrev main_cst_90 : Ref sig .tc := ⟨.hbm, 524, rfl⟩
abbrev main_v429 : Ref sig .tc := ⟨.hbm, 525, rfl⟩
abbrev main_v430 : Ref sig .tc := ⟨.hbm, 526, rfl⟩
abbrev main_cst_91 : Ref sig .tc := ⟨.hbm, 527, rfl⟩
abbrev main_v431 : Ref sig .tc := ⟨.hbm, 528, rfl⟩
abbrev main_v432 : Ref sig .tc := ⟨.hbm, 529, rfl⟩
abbrev main_cst_92 : Ref sig .tc := ⟨.hbm, 530, rfl⟩
abbrev main_v433 : Ref sig .tc := ⟨.hbm, 531, rfl⟩
abbrev main_v434 : Ref sig .tc := ⟨.hbm, 532, rfl⟩
abbrev main_v435 : Ref sig .tc := ⟨.hbm, 533, rfl⟩
abbrev main_cst_93 : Ref sig .tc := ⟨.hbm, 534, rfl⟩
abbrev main_v436 : Ref sig .tc := ⟨.hbm, 535, rfl⟩
abbrev main_v437 : Ref sig .tc := ⟨.hbm, 536, rfl⟩
abbrev main_cst_94 : Ref sig .tc := ⟨.hbm, 537, rfl⟩
abbrev main_v438 : Ref sig .tc := ⟨.hbm, 538, rfl⟩
abbrev main_v439 : Ref sig .tc := ⟨.hbm, 539, rfl⟩
abbrev main_cst_95 : Ref sig .tc := ⟨.hbm, 540, rfl⟩
abbrev main_v440 : Ref sig .tc := ⟨.hbm, 541, rfl⟩
abbrev main_v441 : Ref sig .tc := ⟨.hbm, 542, rfl⟩

abbrev nD : Nat := 1
abbrev τ : Topo := Topo.v7x

variable {F : FTy → Type} [FloatOps F]
-- ==== AdamGains.lean ====
abbrev S1x2x2048 : Shape := ⟨3, ![1, 2, 2048]⟩
abbrev S2x2048 : Shape := ⟨2, ![2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2x2048, .f32⟩
  | .hbm, ⟨1, _⟩ => ⟨S2x2048, .f32⟩
  | .hbm, ⟨2, _⟩ => ⟨S1x2x2048, .f32⟩
  | .hbm, ⟨3, _⟩ => ⟨S1x2x2048, .f32⟩
  | .hbm, ⟨4, _⟩ => ⟨S1x2x2048, .f32⟩
  | .hbm, ⟨5, _⟩ => ⟨S1x2x2048, .f32⟩
  | .hbm, ⟨6, _⟩ => ⟨S1x2x2048, .f32⟩
  | .hbm, ⟨7, _⟩ => ⟨S1x2x2048, .f32⟩
  | .local _ .vmem, ⟨0, _⟩ => ⟨S1x2x2048, .f32⟩
  | .local _ .vmem, ⟨1, _⟩ => ⟨S2x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S1x2x2048, .f32⟩
  | _, _ => ⟨S1x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainsIdeal.lean ====
abbrev S1x2x2048 : Shape := ⟨3, ![1, 2, 2048]⟩
abbrev S2x2048 : Shape := ⟨2, ![2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2x2048, .f32⟩
  | .hbm, ⟨1, _⟩ => ⟨S2x2048, .f32⟩
  | .hbm, ⟨2, _⟩ => ⟨S1x2x2048, .f32⟩
  | .hbm, ⟨3, _⟩ => ⟨S1x2x2048, .f32⟩
  | .hbm, ⟨4, _⟩ => ⟨S1x2x2048, .f32⟩
  | .hbm, ⟨5, _⟩ => ⟨S1x2x2048, .f32⟩
  | .hbm, ⟨6, _⟩ => ⟨S1x2x2048, .f32⟩
  | .hbm, ⟨7, _⟩ => ⟨S1x2x2048, .f32⟩
  | .local _ .vmem, ⟨0, _⟩ => ⟨S1x2x2048, .f32⟩
  | .local _ .vmem, ⟨1, _⟩ => ⟨S2x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S1x2x2048, .f32⟩
  | _, _ => ⟨S1x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainsRefIdeal.lean ====
abbrev S1x2x2048 : Shape := ⟨3, ![1, 2, 2048]⟩
abbrev S2x2048 : Shape := ⟨2, ![2, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2x2048, .f32⟩
  | .hbm, ⟨1, _⟩ => ⟨S2x2048, .f32⟩
  | .hbm, ⟨2, _⟩ => ⟨S1x2x2048, .f32⟩
  | .hbm, ⟨3, _⟩ => ⟨S1x2x2048, .f32⟩
  | .hbm, ⟨4, _⟩ => ⟨S1x2x2048, .f32⟩
  | .hbm, ⟨5, _⟩ => ⟨S1x2x2048, .f32⟩
  | .hbm, ⟨6, _⟩ => ⟨S_, .f32⟩
  | .hbm, ⟨7, _⟩ => ⟨S1x2x2048, .f32⟩
  | .hbm, ⟨8, _⟩ => ⟨S1x2x2048, .f32⟩
  | .hbm, ⟨9, _⟩ => ⟨S_, .f32⟩
  | .hbm, ⟨10, _⟩ => ⟨S1x2x2048, .f32⟩
  | .hbm, ⟨11, _⟩ => ⟨S1x2x2048, .f32⟩
  | .hbm, ⟨12, _⟩ => ⟨S1x2x2048, .f32⟩
  | .hbm, ⟨13, _⟩ => ⟨S_, .f32⟩
  | .hbm, ⟨14, _⟩ => ⟨S1x2x2048, .f32⟩
  | .hbm, ⟨15, _⟩ => ⟨S1x2x2048, .f32⟩
  | .hbm, ⟨16, _⟩ => ⟨S1x2x2048, .f32⟩
  | .hbm, ⟨17, _⟩ => ⟨S_, .f32⟩
  | .hbm, ⟨18, _⟩ => ⟨S1x2x2048, .f32⟩
  | .hbm, ⟨19, _⟩ => ⟨S1x2x2048, .f32⟩
  | .hbm, ⟨20, _⟩ => ⟨S1x2x2048, .f32⟩
  | .hbm, ⟨21, _⟩ => ⟨S_, .f32⟩
  | .hbm, ⟨22, _⟩ => ⟨S1x2x2048, .f32⟩
  | .hbm, ⟨23, _⟩ => ⟨S1x2x2048, .f32⟩
  | .hbm, ⟨24, _⟩ => ⟨S_, .f32⟩
  | .hbm, ⟨25, _⟩ => ⟨S1x2x2048, .f32⟩
  | .hbm, ⟨26, _⟩ => ⟨S1x2x2048, .f32⟩
  | .hbm, ⟨27, _⟩ => ⟨S1x2x2048, .f32⟩
  | .hbm, ⟨28, _⟩ => ⟨S_, .f32⟩
  | .hbm, ⟨29, _⟩ => ⟨S1x2x2048, .f32⟩
  | .hbm, ⟨30, _⟩ => ⟨S1x2x2048, .f32⟩
  | .hbm, ⟨31, _⟩ => ⟨S1x2x2048, .f32⟩
  | .hbm, ⟨32, _⟩ => ⟨S_, .f32⟩
  | .hbm, ⟨33, _⟩ => ⟨S1x2x2048, .f32⟩
  | .hbm, ⟨34, _⟩ => ⟨S1x2x2048, .f32⟩
  | .hbm, ⟨35, _⟩ => ⟨S1x2x2048, .f32⟩
  | .hbm, ⟨36, _⟩ => ⟨S_, .f32⟩
  | .hbm, ⟨37, _⟩ => ⟨S1x2x2048, .f32⟩
  | .hbm, ⟨38, _⟩ => ⟨S1x2x2048, .f32⟩
  | _, _ => ⟨S1x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamAbIn.lean ====
abbrev S1x2048x768 : Shape := ⟨3, ![1, 2048, 768]⟩
abbrev S2048x768 : Shape := ⟨2, ![2048, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .f32⟩
  | .local _ .vmem, ⟨3, _⟩ => ⟨S512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAbInIdeal.lean ====
abbrev S1x2048x768 : Shape := ⟨3, ![1, 2048, 768]⟩
abbrev S2048x768 : Shape := ⟨2, ![2048, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S1x2048x768, .f32⟩
  | .hbm, ⟨7, _⟩ => ⟨S1x2048x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .f32⟩
  | .local _ .vmem, ⟨3, _⟩ => ⟨S512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAbInRefIdeal.lean ====
abbrev S1x2048x768 : Shape := ⟨3, ![1, 2048, 768]⟩
abbrev S2048x768 : Shape := ⟨2, ![2048, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S1x2048x768, .f32⟩
  | .hbm, ⟨3, _⟩ => ⟨S1x2048x768, .f32⟩
  | .hbm, ⟨4, _⟩ => ⟨S1x2048x768, .f32⟩
  | .hbm, ⟨5, _⟩ => ⟨S1x2048x768, .f32⟩
  | .hbm, ⟨6, _⟩ => ⟨S_, .f32⟩
  | .hbm, ⟨7, _⟩ => ⟨S1x2048x768, .f32⟩
  | .hbm, ⟨8, _⟩ => ⟨S1x2048x768, .f32⟩
  | .hbm, ⟨9, _⟩ => ⟨S_, .f32⟩
  | .hbm, ⟨10, _⟩ => ⟨S1x2048x768, .f32⟩
  | .hbm, ⟨11, _⟩ => ⟨S1x2048x768, .f32⟩
  | .hbm, ⟨12, _⟩ => ⟨S1x2048x768, .f32⟩
  | .hbm, ⟨13, _⟩ => ⟨S_, .f32⟩
  | .hbm, ⟨14, _⟩ => ⟨S1x2048x768, .f32⟩
  | .hbm, ⟨15, _⟩ => ⟨S1x2048x768, .f32⟩
  | .hbm, ⟨16, _⟩ => ⟨S1x2048x768, .f32⟩
  | .hbm, ⟨17, _⟩ => ⟨S_, .f32⟩
  | .hbm, ⟨18, _⟩ => ⟨S1x2048x768, .f32⟩
  | .hbm, ⟨19, _⟩ => ⟨S1x2048x768, .f32⟩
  | .hbm, ⟨20, _⟩ => ⟨S1x2048x768, .f32⟩
  | .hbm, ⟨21, _⟩ => ⟨S_, .f32⟩
  | .hbm, ⟨22, _⟩ => ⟨S1x2048x768, .f32⟩
  | .hbm, ⟨23, _⟩ => ⟨S1x2048x768, .f32⟩
  | .hbm, ⟨24, _⟩ => ⟨S_, .f32⟩
  | .hbm, ⟨25, _⟩ => ⟨S1x2048x768, .f32⟩
  | .hbm, ⟨26, _⟩ => ⟨S1x2048x768, .f32⟩
  | .hbm, ⟨27, _⟩ => ⟨S1x2048x768, .f32⟩
  | .hbm, ⟨28, _⟩ => ⟨S_, .f32⟩
  | .hbm, ⟨29, _⟩ => ⟨S1x2048x768, .f32⟩
  | .hbm, ⟨30, _⟩ => ⟨S1x2048x768, .f32⟩
  | .hbm, ⟨31, _⟩ => ⟨S1x2048x768, .f32⟩
  | .hbm, ⟨32, _⟩ => ⟨S_, .f32⟩
  | .hbm, ⟨33, _⟩ => ⟨S1x2048x768, .f32⟩
  | .hbm, ⟨34, _⟩ => ⟨S1x2048x768, .f32⟩
  | .hbm, ⟨35, _⟩ => ⟨S1x2048x768, .f32⟩
  | .hbm, ⟨36, _⟩ => ⟨S_, .f32⟩
  | .hbm, ⟨37, _⟩ => ⟨S1x2048x768, .f32⟩
  | .hbm, ⟨38, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamPool.lean ====
abbrev S1x256x256 : Shape := ⟨3, ![1, 256, 256]⟩
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x256x256, .f32⟩
  | .hbm, ⟨1, _⟩ => ⟨S256x256, .f32⟩
  | .hbm, ⟨2, _⟩ => ⟨S1x256x256, .f32⟩
  | .hbm, ⟨3, _⟩ => ⟨S1x256x256, .f32⟩
  | .hbm, ⟨4, _⟩ => ⟨S1x256x256, .f32⟩
  | .hbm, ⟨5, _⟩ => ⟨S1x256x256, .f32⟩
  | .hbm, ⟨6, _⟩ => ⟨S1x256x256, .f32⟩
  | .hbm, ⟨7, _⟩ => ⟨S1x256x256, .f32⟩
  | .local _ .vmem, ⟨0, _⟩ => ⟨S1x256x256, .f32⟩
  | .local _ .vmem, ⟨1, _⟩ => ⟨S256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolIdeal.lean ====
abbrev S1x256x256 : Shape := ⟨3, ![1, 256, 256]⟩
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x256x256, .f32⟩
  | .hbm, ⟨1, _⟩ => ⟨S256x256, .f32⟩
  | .hbm, ⟨2, _⟩ => ⟨S1x256x256, .f32⟩
  | .hbm, ⟨3, _⟩ => ⟨S1x256x256, .f32⟩
  | .hbm, ⟨4, _⟩ => ⟨S1x256x256, .f32⟩
  | .hbm, ⟨5, _⟩ => ⟨S1x256x256, .f32⟩
  | .hbm, ⟨6, _⟩ => ⟨S1x256x256, .f32⟩
  | .hbm, ⟨7, _⟩ => ⟨S1x256x256, .f32⟩
  | .local _ .vmem, ⟨0, _⟩ => ⟨S1x256x256, .f32⟩
  | .local _ .vmem, ⟨1, _⟩ => ⟨S256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolRefIdeal.lean ====
abbrev S1x256x256 : Shape := ⟨3, ![1, 256, 256]⟩
abbrev S256x256 : Shape := ⟨2, ![256, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x256x256, .f32⟩
  | .hbm, ⟨1, _⟩ => ⟨S256x256, .f32⟩
  | .hbm, ⟨2, _⟩ => ⟨S1x256x256, .f32⟩
  | .hbm, ⟨3, _⟩ => ⟨S1x256x256, .f32⟩
  | .hbm, ⟨4, _⟩ => ⟨S1x256x256, .f32⟩
  | .hbm, ⟨5, _⟩ => ⟨S1x256x256, .f32⟩
  | .hbm, ⟨6, _⟩ => ⟨S_, .f32⟩
  | .hbm, ⟨7, _⟩ => ⟨S1x256x256, .f32⟩
  | .hbm, ⟨8, _⟩ => ⟨S1x256x256, .f32⟩
  | .hbm, ⟨9, _⟩ => ⟨S_, .f32⟩
  | .hbm, ⟨10, _⟩ => ⟨S1x256x256, .f32⟩
  | .hbm, ⟨11, _⟩ => ⟨S1x256x256, .f32⟩
  | .hbm, ⟨12, _⟩ => ⟨S1x256x256, .f32⟩
  | .hbm, ⟨13, _⟩ => ⟨S_, .f32⟩
  | .hbm, ⟨14, _⟩ => ⟨S1x256x256, .f32⟩
  | .hbm, ⟨15, _⟩ => ⟨S1x256x256, .f32⟩
  | .hbm, ⟨16, _⟩ => ⟨S1x256x256, .f32⟩
  | .hbm, ⟨17, _⟩ => ⟨S_, .f32⟩
  | .hbm, ⟨18, _⟩ => ⟨S1x256x256, .f32⟩
  | .hbm, ⟨19, _⟩ => ⟨S1x256x256, .f32⟩
  | .hbm, ⟨20, _⟩ => ⟨S1x256x256, .f32⟩
  | .hbm, ⟨21, _⟩ => ⟨S_, .f32⟩
  | .hbm, ⟨22, _⟩ => ⟨S1x256x256, .f32⟩
  | .hbm, ⟨23, _⟩ => ⟨S1x256x256, .f32⟩
  | .hbm, ⟨24, _⟩ => ⟨S_, .f32⟩
  | .hbm, ⟨25, _⟩ => ⟨S1x256x256, .f32⟩
  | .hbm, ⟨26, _⟩ => ⟨S1x256x256, .f32⟩
  | .hbm, ⟨27, _⟩ => ⟨S1x256x256, .f32⟩
  | .hbm, ⟨28, _⟩ => ⟨S_, .f32⟩
  | .hbm, ⟨29, _⟩ => ⟨S1x256x256, .f32⟩
  | .hbm, ⟨30, _⟩ => ⟨S1x256x256, .f32⟩
  | .hbm, ⟨31, _⟩ => ⟨S1x256x256, .f32⟩
  | .hbm, ⟨32, _⟩ => ⟨S_, .f32⟩
  | .hbm, ⟨33, _⟩ => ⟨S1x256x256, .f32⟩
  | .hbm, ⟨34, _⟩ => ⟨S1x256x256, .f32⟩
  | .hbm, ⟨35, _⟩ => ⟨S1x256x256, .f32⟩
  | .hbm, ⟨36, _⟩ => ⟨S_, .f32⟩
  | .hbm, ⟨37, _⟩ => ⟨S1x256x256, .f32⟩
  | .hbm, ⟨38, _⟩ => ⟨S1x256x256, .f32⟩
  | _, _ => ⟨S1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamChannels.lean ====
abbrev S1x1x1024 : Shape := ⟨3, ![1, 1, 1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .local _ .vmem, ⟨0, _⟩ => ⟨S1x1x1024, .f32⟩
  | .local _ .vmem, ⟨1, _⟩ => ⟨S1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamChannelsIdeal.lean ====
abbrev S1x1x1024 : Shape := ⟨3, ![1, 1, 1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .local _ .vmem, ⟨0, _⟩ => ⟨S1x1x1024, .f32⟩
  | .local _ .vmem, ⟨1, _⟩ => ⟨S1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamChannelsRefIdeal.lean ====
abbrev S1x1x1024 : Shape := ⟨3, ![1, 1, 1024]⟩
abbrev S1x1024 : Shape := ⟨2, ![1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1x1024, .f32⟩
  | .hbm, ⟨1, _⟩ => ⟨S1x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S_, .f32⟩
  | .hbm, ⟨7, _⟩ => ⟨S1x1x1024, .f32⟩
  | .hbm, ⟨8, _⟩ => ⟨S1x1x1024, .f32⟩
  | .hbm, ⟨9, _⟩ => ⟨S_, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S_, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S_, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S_, .f32⟩
  | .hbm, ⟨22, _⟩ => ⟨S1x1x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x1x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S1x1x1024, .f32⟩
  | .hbm, ⟨32, _⟩ => ⟨S_, .f32⟩
  | .hbm, ⟨33, _⟩ => ⟨S1x1x1024, .f32⟩
  | .hbm, ⟨34, _⟩ => ⟨S1x1x1024, .f32⟩
  | .hbm, ⟨35, _⟩ => ⟨S1x1x1024, .f32⟩
  | .hbm, ⟨36, _⟩ => ⟨S_, .f32⟩
  | .hbm, ⟨37, _⟩ => ⟨S1x1x1024, .f32⟩
  | .hbm, ⟨38, _⟩ => ⟨S1x1x1024, .f32⟩
  | _, _ => ⟨S1x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamTaps.lean ====
abbrev S1x31x256 : Shape := ⟨3, ![1, 31, 256]⟩
abbrev S31x256 : Shape := ⟨2, ![31, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x31x256, .f32⟩
  | .hbm, ⟨1, _⟩ => ⟨S31x256, .f32⟩
  | .hbm, ⟨2, _⟩ => ⟨S1x31x256, .f32⟩
  | .hbm, ⟨3, _⟩ => ⟨S1x31x256, .f32⟩
  | .hbm, ⟨4, _⟩ => ⟨S1x31x256, .f32⟩
  | .hbm, ⟨5, _⟩ => ⟨S1x31x256, .f32⟩
  | .hbm, ⟨6, _⟩ => ⟨S1x31x256, .f32⟩
  | .hbm, ⟨7, _⟩ => ⟨S1x31x256, .f32⟩
  | .local _ .vmem, ⟨0, _⟩ => ⟨S1x31x256, .f32⟩
  | .local _ .vmem, ⟨1, _⟩ => ⟨S31x256, .f32⟩
  | .local _ .vmem, ⟨2, _⟩ => ⟨S1x31x256, .f32⟩
  | .local _ .vmem, ⟨3, _⟩ => ⟨S1x31x256, .f32⟩
  | .local _ .vmem, ⟨4, _⟩ => ⟨S1x31x256, .f32⟩
  | .local _ .vmem, ⟨5, _⟩ => ⟨S1x31x256, .f32⟩
  | .local _ .vmem, ⟨6, _⟩ => ⟨S1x31x256, .f32⟩
  | .local _ .vmem, ⟨7, _⟩ => ⟨S1x31x256, .f32⟩
  | _, _ => ⟨S1x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamTapsIdeal.lean ====
abbrev S1x31x256 : Shape := ⟨3, ![1, 31, 256]⟩
abbrev S31x256 : Shape := ⟨2, ![31, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x31x256, .f32⟩
  | .hbm, ⟨1, _⟩ => ⟨S31x256, .f32⟩
  | .hbm, ⟨2, _⟩ => ⟨S1x31x256, .f32⟩
  | .hbm, ⟨3, _⟩ => ⟨S1x31x256, .f32⟩
  | .hbm, ⟨4, _⟩ => ⟨S1x31x256, .f32⟩
  | .hbm, ⟨5, _⟩ => ⟨S1x31x256, .f32⟩
  | .hbm, ⟨6, _⟩ => ⟨S1x31x256, .f32⟩
  | .hbm, ⟨7, _⟩ => ⟨S1x31x256, .f32⟩
  | .local _ .vmem, ⟨0, _⟩ => ⟨S1x31x256, .f32⟩
  | .local _ .vmem, ⟨1, _⟩ => ⟨S31x256, .f32⟩
  | .local _ .vmem, ⟨2, _⟩ => ⟨S1x31x256, .f32⟩
  | .local _ .vmem, ⟨3, _⟩ => ⟨S1x31x256, .f32⟩
  | .local _ .vmem, ⟨4, _⟩ => ⟨S1x31x256, .f32⟩
  | .local _ .vmem, ⟨5, _⟩ => ⟨S1x31x256, .f32⟩
  | .local _ .vmem, ⟨6, _⟩ => ⟨S1x31x256, .f32⟩
  | .local _ .vmem, ⟨7, _⟩ => ⟨S1x31x256, .f32⟩
  | _, _ => ⟨S1x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamTapsRefIdeal.lean ====
abbrev S1x31x256 : Shape := ⟨3, ![1, 31, 256]⟩
abbrev S31x256 : Shape := ⟨2, ![31, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x31x256, .f32⟩
  | .hbm, ⟨1, _⟩ => ⟨S31x256, .f32⟩
  | .hbm, ⟨2, _⟩ => ⟨S1x31x256, .f32⟩
  | .hbm, ⟨3, _⟩ => ⟨S1x31x256, .f32⟩
  | .hbm, ⟨4, _⟩ => ⟨S1x31x256, .f32⟩
  | .hbm, ⟨5, _⟩ => ⟨S1x31x256, .f32⟩
  | .hbm, ⟨6, _⟩ => ⟨S_, .f32⟩
  | .hbm, ⟨7, _⟩ => ⟨S1x31x256, .f32⟩
  | .hbm, ⟨8, _⟩ => ⟨S1x31x256, .f32⟩
  | .hbm, ⟨9, _⟩ => ⟨S_, .f32⟩
  | .hbm, ⟨10, _⟩ => ⟨S1x31x256, .f32⟩
  | .hbm, ⟨11, _⟩ => ⟨S1x31x256, .f32⟩
  | .hbm, ⟨12, _⟩ => ⟨S1x31x256, .f32⟩
  | .hbm, ⟨13, _⟩ => ⟨S_, .f32⟩
  | .hbm, ⟨14, _⟩ => ⟨S1x31x256, .f32⟩
  | .hbm, ⟨15, _⟩ => ⟨S1x31x256, .f32⟩
  | .hbm, ⟨16, _⟩ => ⟨S1x31x256, .f32⟩
  | .hbm, ⟨17, _⟩ => ⟨S_, .f32⟩
  | .hbm, ⟨18, _⟩ => ⟨S1x31x256, .f32⟩
  | .hbm, ⟨19, _⟩ => ⟨S1x31x256, .f32⟩
  | .hbm, ⟨20, _⟩ => ⟨S1x31x256, .f32⟩
  | .hbm, ⟨21, _⟩ => ⟨S_, .f32⟩
  | .hbm, ⟨22, _⟩ => ⟨S1x31x256, .f32⟩
  | .hbm, ⟨23, _⟩ => ⟨S1x31x256, .f32⟩
  | .hbm, ⟨24, _⟩ => ⟨S_, .f32⟩
  | .hbm, ⟨25, _⟩ => ⟨S1x31x256, .f32⟩
  | .hbm, ⟨26, _⟩ => ⟨S1x31x256, .f32⟩
  | .hbm, ⟨27, _⟩ => ⟨S1x31x256, .f32⟩
  | .hbm, ⟨28, _⟩ => ⟨S_, .f32⟩
  | .hbm, ⟨29, _⟩ => ⟨S1x31x256, .f32⟩
  | .hbm, ⟨30, _⟩ => ⟨S1x31x256, .f32⟩
  | .hbm, ⟨31, _⟩ => ⟨S1x31x256, .f32⟩
  | .hbm, ⟨32, _⟩ => ⟨S_, .f32⟩
  | .hbm, ⟨33, _⟩ => ⟨S1x31x256, .f32⟩
  | .hbm, ⟨34, _⟩ => ⟨S1x31x256, .f32⟩
  | .hbm, ⟨35, _⟩ => ⟨S1x31x256, .f32⟩
  | .hbm, ⟨36, _⟩ => ⟨S_, .f32⟩
  | .hbm, ⟨37, _⟩ => ⟨S1x31x256, .f32⟩
  | .hbm, ⟨38, _⟩ => ⟨S1x31x256, .f32⟩
  | _, _ => ⟨S1x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamShortTaps.lean ====
abbrev S1x3x512 : Shape := ⟨3, ![1, 3, 512]⟩
abbrev S3x512 : Shape := ⟨2, ![3, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x3x512, .f32⟩
  | .hbm, ⟨1, _⟩ => ⟨S3x512, .f32⟩
  | .hbm, ⟨2, _⟩ => ⟨S1x3x512, .f32⟩
  | .hbm, ⟨3, _⟩ => ⟨S1x3x512, .f32⟩
  | .hbm, ⟨4, _⟩ => ⟨S1x3x512, .f32⟩
  | .hbm, ⟨5, _⟩ => ⟨S1x3x512, .f32⟩
  | .hbm, ⟨6, _⟩ => ⟨S1x3x512, .f32⟩
  | .hbm, ⟨7, _⟩ => ⟨S1x3x512, .f32⟩
  | .local _ .vmem, ⟨0, _⟩ => ⟨S1x3x512, .f32⟩
  | .local _ .vmem, ⟨1, _⟩ => ⟨S3x512, .f32⟩
  | .local _ .vmem, ⟨2, _⟩ => ⟨S1x3x512, .f32⟩
  | .local _ .vmem, ⟨3, _⟩ => ⟨S1x3x512, .f32⟩
  | .local _ .vmem, ⟨4, _⟩ => ⟨S1x3x512, .f32⟩
  | .local _ .vmem, ⟨5, _⟩ => ⟨S1x3x512, .f32⟩
  | .local _ .vmem, ⟨6, _⟩ => ⟨S1x3x512, .f32⟩
  | .local _ .vmem, ⟨7, _⟩ => ⟨S1x3x512, .f32⟩
  | _, _ => ⟨S1x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamShortTapsIdeal.lean ====
abbrev S1x3x512 : Shape := ⟨3, ![1, 3, 512]⟩
abbrev S3x512 : Shape := ⟨2, ![3, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x3x512, .f32⟩
  | .hbm, ⟨1, _⟩ => ⟨S3x512, .f32⟩
  | .hbm, ⟨2, _⟩ => ⟨S1x3x512, .f32⟩
  | .hbm, ⟨3, _⟩ => ⟨S1x3x512, .f32⟩
  | .hbm, ⟨4, _⟩ => ⟨S1x3x512, .f32⟩
  | .hbm, ⟨5, _⟩ => ⟨S1x3x512, .f32⟩
  | .hbm, ⟨6, _⟩ => ⟨S1x3x512, .f32⟩
  | .hbm, ⟨7, _⟩ => ⟨S1x3x512, .f32⟩
  | .local _ .vmem, ⟨0, _⟩ => ⟨S1x3x512, .f32⟩
  | .local _ .vmem, ⟨1, _⟩ => ⟨S3x512, .f32⟩
  | .local _ .vmem, ⟨2, _⟩ => ⟨S1x3x512, .f32⟩
  | .local _ .vmem, ⟨3, _⟩ => ⟨S1x3x512, .f32⟩
  | .local _ .vmem, ⟨4, _⟩ => ⟨S1x3x512, .f32⟩
  | .local _ .vmem, ⟨5, _⟩ => ⟨S1x3x512, .f32⟩
  | .local _ .vmem, ⟨6, _⟩ => ⟨S1x3x512, .f32⟩
  | .local _ .vmem, ⟨7, _⟩ => ⟨S1x3x512, .f32⟩
  | _, _ => ⟨S1x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamShortTapsRefIdeal.lean ====
abbrev S1x3x512 : Shape := ⟨3, ![1, 3, 512]⟩
abbrev S3x512 : Shape := ⟨2, ![3, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x3x512, .f32⟩
  | .hbm, ⟨1, _⟩ => ⟨S3x512, .f32⟩
  | .hbm, ⟨2, _⟩ => ⟨S1x3x512, .f32⟩
  | .hbm, ⟨3, _⟩ => ⟨S1x3x512, .f32⟩
  | .hbm, ⟨4, _⟩ => ⟨S1x3x512, .f32⟩
  | .hbm, ⟨5, _⟩ => ⟨S1x3x512, .f32⟩
  | .hbm, ⟨6, _⟩ => ⟨S_, .f32⟩
  | .hbm, ⟨7, _⟩ => ⟨S1x3x512, .f32⟩
  | .hbm, ⟨8, _⟩ => ⟨S1x3x512, .f32⟩
  | .hbm, ⟨9, _⟩ => ⟨S_, .f32⟩
  | .hbm, ⟨10, _⟩ => ⟨S1x3x512, .f32⟩
  | .hbm, ⟨11, _⟩ => ⟨S1x3x512, .f32⟩
  | .hbm, ⟨12, _⟩ => ⟨S1x3x512, .f32⟩
  | .hbm, ⟨13, _⟩ => ⟨S_, .f32⟩
  | .hbm, ⟨14, _⟩ => ⟨S1x3x512, .f32⟩
  | .hbm, ⟨15, _⟩ => ⟨S1x3x512, .f32⟩
  | .hbm, ⟨16, _⟩ => ⟨S1x3x512, .f32⟩
  | .hbm, ⟨17, _⟩ => ⟨S_, .f32⟩
  | .hbm, ⟨18, _⟩ => ⟨S1x3x512, .f32⟩
  | .hbm, ⟨19, _⟩ => ⟨S1x3x512, .f32⟩
  | .hbm, ⟨20, _⟩ => ⟨S1x3x512, .f32⟩
  | .hbm, ⟨21, _⟩ => ⟨S_, .f32⟩
  | .hbm, ⟨22, _⟩ => ⟨S1x3x512, .f32⟩
  | .hbm, ⟨23, _⟩ => ⟨S1x3x512, .f32⟩
  | .hbm, ⟨24, _⟩ => ⟨S_, .f32⟩
  | .hbm, ⟨25, _⟩ => ⟨S1x3x512, .f32⟩
  | .hbm, ⟨26, _⟩ => ⟨S1x3x512, .f32⟩
  | .hbm, ⟨27, _⟩ => ⟨S1x3x512, .f32⟩
  | .hbm, ⟨28, _⟩ => ⟨S_, .f32⟩
  | .hbm, ⟨29, _⟩ => ⟨S1x3x512, .f32⟩
  | .hbm, ⟨30, _⟩ => ⟨S1x3x512, .f32⟩
  | .hbm, ⟨31, _⟩ => ⟨S1x3x512, .f32⟩
  | .hbm, ⟨32, _⟩ => ⟨S_, .f32⟩
  | .hbm, ⟨33, _⟩ => ⟨S1x3x512, .f32⟩
  | .hbm, ⟨34, _⟩ => ⟨S1x3x512, .f32⟩
  | .hbm, ⟨35, _⟩ => ⟨S1x3x512, .f32⟩
  | .hbm, ⟨36, _⟩ => ⟨S_, .f32⟩
  | .hbm, ⟨37, _⟩ => ⟨S1x3x512, .f32⟩
  | .hbm, ⟨38, _⟩ => ⟨S1x3x512, .f32⟩
  | _, _ => ⟨S1x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamOut.lean ====
abbrev S1x512x2048 : Shape := ⟨3, ![1, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S1x512x2048 : Shape := ⟨3, ![1, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .hbm, ⟨7, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S1x512x2048 : Shape := ⟨3, ![1, 512, 2048]⟩
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S_, .f32⟩
  | .hbm, ⟨7, _⟩ => ⟨S1x512x2048, .f32⟩
  | .hbm, ⟨8, _⟩ => ⟨S1x512x2048, .f32⟩
  | .hbm, ⟨9, _⟩ => ⟨S_, .f32⟩
  | .hbm, ⟨10, _⟩ => ⟨S1x512x2048, .f32⟩
  | .hbm, ⟨11, _⟩ => ⟨S1x512x2048, .f32⟩
  | .hbm, ⟨12, _⟩ => ⟨S1x512x2048, .f32⟩
  | .hbm, ⟨13, _⟩ => ⟨S_, .f32⟩
  | .hbm, ⟨14, _⟩ => ⟨S1x512x2048, .f32⟩
  | .hbm, ⟨15, _⟩ => ⟨S1x512x2048, .f32⟩
  | .hbm, ⟨16, _⟩ => ⟨S1x512x2048, .f32⟩
  | .hbm, ⟨17, _⟩ => ⟨S_, .f32⟩
  | .hbm, ⟨18, _⟩ => ⟨S1x512x2048, .f32⟩
  | .hbm, ⟨19, _⟩ => ⟨S1x512x2048, .f32⟩
  | .hbm, ⟨20, _⟩ => ⟨S1x512x2048, .f32⟩
  | .hbm, ⟨21, _⟩ => ⟨S_, .f32⟩
  | .hbm, ⟨22, _⟩ => ⟨S1x512x2048, .f32⟩
  | .hbm, ⟨23, _⟩ => ⟨S1x512x2048, .f32⟩
  | .hbm, ⟨24, _⟩ => ⟨S_, .f32⟩
  | .hbm, ⟨25, _⟩ => ⟨S1x512x2048, .f32⟩
  | .hbm, ⟨26, _⟩ => ⟨S1x512x2048, .f32⟩
  | .hbm, ⟨27, _⟩ => ⟨S1x512x2048, .f32⟩
  | .hbm, ⟨28, _⟩ => ⟨S_, .f32⟩
  | .hbm, ⟨29, _⟩ => ⟨S1x512x2048, .f32⟩
  | .hbm, ⟨30, _⟩ => ⟨S1x512x2048, .f32⟩
  | .hbm, ⟨31, _⟩ => ⟨S1x512x2048, .f32⟩
  | .hbm, ⟨32, _⟩ => ⟨S_, .f32⟩
  | .hbm, ⟨33, _⟩ => ⟨S1x512x2048, .f32⟩
  | .hbm, ⟨34, _⟩ => ⟨S1x512x2048, .f32⟩
  | .hbm, ⟨35, _⟩ => ⟨S1x512x2048, .f32⟩
  | .hbm, ⟨36, _⟩ => ⟨S_, .f32⟩
  | .hbm, ⟨37, _⟩ => ⟨S1x512x2048, .f32⟩
  | .hbm, ⟨38, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamShortIn.lean ====
abbrev S1x2048x1536 : Shape := ⟨3, ![1, 2048, 1536]⟩
abbrev S2048x1536 : Shape := ⟨2, ![2048, 1536]⟩
abbrev S1x256x1536 : Shape := ⟨3, ![1, 256, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x1536, .f32⟩
  | .hbm, ⟨1, _⟩ => ⟨S2048x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S1x2048x1536, .f32⟩
  | .hbm, ⟨6, _⟩ => ⟨S1x2048x1536, .f32⟩
  | .hbm, ⟨7, _⟩ => ⟨S1x2048x1536, .f32⟩
  | .local _ .vmem, ⟨0, _⟩ => ⟨S1x256x1536, .f32⟩
  | .local _ .vmem, ⟨1, _⟩ => ⟨S1x256x1536, .f32⟩
  | .local _ .vmem, ⟨2, _⟩ => ⟨S256x1536, .f32⟩
  | .local _ .vmem, ⟨3, _⟩ => ⟨S256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | _, _ => ⟨S1x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamShortInRefIdeal.lean ====
abbrev S1x2048x1536 : Shape := ⟨3, ![1, 2048, 1536]⟩
abbrev S2048x1536 : Shape := ⟨2, ![2048, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1536, .f32⟩
  | .hbm, ⟨1, _⟩ => ⟨S2048x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S1x2048x1536, .f32⟩
  | .hbm, ⟨6, _⟩ => ⟨S_, .f32⟩
  | .hbm, ⟨7, _⟩ => ⟨S1x2048x1536, .f32⟩
  | .hbm, ⟨8, _⟩ => ⟨S1x2048x1536, .f32⟩
  | .hbm, ⟨9, _⟩ => ⟨S_, .f32⟩
  | .hbm, ⟨10, _⟩ => ⟨S1x2048x1536, .f32⟩
  | .hbm, ⟨11, _⟩ => ⟨S1x2048x1536, .f32⟩
  | .hbm, ⟨12, _⟩ => ⟨S1x2048x1536, .f32⟩
  | .hbm, ⟨13, _⟩ => ⟨S_, .f32⟩
  | .hbm, ⟨14, _⟩ => ⟨S1x2048x1536, .f32⟩
  | .hbm, ⟨15, _⟩ => ⟨S1x2048x1536, .f32⟩
  | .hbm, ⟨16, _⟩ => ⟨S1x2048x1536, .f32⟩
  | .hbm, ⟨17, _⟩ => ⟨S_, .f32⟩
  | .hbm, ⟨18, _⟩ => ⟨S1x2048x1536, .f32⟩
  | .hbm, ⟨19, _⟩ => ⟨S1x2048x1536, .f32⟩
  | .hbm, ⟨20, _⟩ => ⟨S1x2048x1536, .f32⟩
  | .hbm, ⟨21, _⟩ => ⟨S_, .f32⟩
  | .hbm, ⟨22, _⟩ => ⟨S1x2048x1536, .f32⟩
  | .hbm, ⟨23, _⟩ => ⟨S1x2048x1536, .f32⟩
  | .hbm, ⟨24, _⟩ => ⟨S_, .f32⟩
  | .hbm, ⟨25, _⟩ => ⟨S1x2048x1536, .f32⟩
  | .hbm, ⟨26, _⟩ => ⟨S1x2048x1536, .f32⟩
  | .hbm, ⟨27, _⟩ => ⟨S1x2048x1536, .f32⟩
  | .hbm, ⟨28, _⟩ => ⟨S_, .f32⟩
  | .hbm, ⟨29, _⟩ => ⟨S1x2048x1536, .f32⟩
  | .hbm, ⟨30, _⟩ => ⟨S1x2048x1536, .f32⟩
  | .hbm, ⟨31, _⟩ => ⟨S1x2048x1536, .f32⟩
  | .hbm, ⟨32, _⟩ => ⟨S_, .f32⟩
  | .hbm, ⟨33, _⟩ => ⟨S1x2048x1536, .f32⟩
  | .hbm, ⟨34, _⟩ => ⟨S1x2048x1536, .f32⟩
  | .hbm, ⟨35, _⟩ => ⟨S1x2048x1536, .f32⟩
  | .hbm, ⟨36, _⟩ => ⟨S_, .f32⟩
  | .hbm, ⟨37, _⟩ => ⟨S1x2048x1536, .f32⟩
  | .hbm, ⟨38, _⟩ => ⟨S1x2048x1536, .f32⟩
  | _, _ => ⟨S1x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamFfnB.lean ====
abbrev S2x2048x2048 : Shape := ⟨3, ![2, 2048, 2048]⟩
abbrev S2048x2048 : Shape := ⟨2, ![2048, 2048]⟩
abbrev S1x256x2048 : Shape := ⟨3, ![1, 256, 2048]⟩
abbrev S256x2048 : Shape := ⟨2, ![256, 2048]⟩
abbrev S1x2048x2048 : Shape := ⟨3, ![1, 2048, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnBRefIdeal.lean ====
abbrev S2x2048x2048 : Shape := ⟨3, ![2, 2048, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2x2048x2048, .f32⟩
  | .hbm, ⟨3, _⟩ => ⟨S2x2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .hbm, ⟨8, _⟩ => ⟨S1x2048x2048, .f32⟩
  | .hbm, ⟨9, _⟩ => ⟨S_, .f32⟩
  | .hbm, ⟨10, _⟩ => ⟨S1x2048x2048, .f32⟩
  | .hbm, ⟨11, _⟩ => ⟨S1x2048x2048, .f32⟩
  | .hbm, ⟨12, _⟩ => ⟨S_, .f32⟩
  | .hbm, ⟨13, _⟩ => ⟨S1x2048x2048, .f32⟩
  | .hbm, ⟨14, _⟩ => ⟨S1x2048x2048, .f32⟩
  | .hbm, ⟨15, _⟩ => ⟨S1x2048x2048, .f32⟩
  | .hbm, ⟨16, _⟩ => ⟨S_, .f32⟩
  | .hbm, ⟨17, _⟩ => ⟨S1x2048x2048, .f32⟩
  | .hbm, ⟨18, _⟩ => ⟨S1x2048x2048, .f32⟩
  | .hbm, ⟨19, _⟩ => ⟨S1x2048x2048, .f32⟩
  | .hbm, ⟨20, _⟩ => ⟨S_, .f32⟩
  | .hbm, ⟨21, _⟩ => ⟨S1x2048x2048, .f32⟩
  | .hbm, ⟨22, _⟩ => ⟨S1x2048x2048, .f32⟩
  | .hbm, ⟨23, _⟩ => ⟨S1x2048x2048, .f32⟩
  | .hbm, ⟨24, _⟩ => ⟨S_, .f32⟩
  | .hbm, ⟨25, _⟩ => ⟨S1x2048x2048, .f32⟩
  | .hbm, ⟨26, _⟩ => ⟨S1x2048x2048, .f32⟩
  | .hbm, ⟨27, _⟩ => ⟨S_, .f32⟩
  | .hbm, ⟨28, _⟩ => ⟨S1x2048x2048, .f32⟩
  | .hbm, ⟨29, _⟩ => ⟨S1x2048x2048, .f32⟩
  | .hbm, ⟨30, _⟩ => ⟨S1x2048x2048, .f32⟩
  | .hbm, ⟨31, _⟩ => ⟨S_, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S_, .f32⟩
  | .hbm, ⟨36, _⟩ => ⟨S1x2048x2048, .f32⟩
  | .hbm, ⟨37, _⟩ => ⟨S1x2048x2048, .f32⟩
  | .hbm, ⟨38, _⟩ => ⟨S1x2048x2048, .f32⟩
  | .hbm, ⟨39, _⟩ => ⟨S_, .f32⟩
  | .hbm, ⟨40, _⟩ => ⟨S1x2048x2048, .f32⟩
  | .hbm, ⟨41, _⟩ => ⟨S1x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== AdamFfnA.lean ====
abbrev S2x2048x2048 : Shape := ⟨3, ![2, 2048, 2048]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnARefIdeal.lean ====
abbrev S2x2048x2048 : Shape := ⟨3, ![2, 2048, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S1x2048x2048, .f32⟩
  | .hbm, ⟨13, _⟩ => ⟨S_, .f32⟩
  | .hbm, ⟨14, _⟩ => ⟨S1x2048x2048, .f32⟩
  | .hbm, ⟨15, _⟩ => ⟨S1x2048x2048, .f32⟩
  | .hbm, ⟨16, _⟩ => ⟨S_, .f32⟩
  | .hbm, ⟨17, _⟩ => ⟨S1x2048x2048, .f32⟩
  | .hbm, ⟨18, _⟩ => ⟨S1x2048x2048, .f32⟩
  | .hbm, ⟨19, _⟩ => ⟨S1x2048x2048, .f32⟩
  | .hbm, ⟨20, _⟩ => ⟨S_, .f32⟩
  | .hbm, ⟨21, _⟩ => ⟨S1x2048x2048, .f32⟩
  | .hbm, ⟨22, _⟩ => ⟨S1x2048x2048, .f32⟩
  | .hbm, ⟨23, _⟩ => ⟨S1x2048x2048, .f32⟩
  | .hbm, ⟨24, _⟩ => ⟨S_, .f32⟩
  | .hbm, ⟨25, _⟩ => ⟨S1x2048x2048, .f32⟩
  | .hbm, ⟨26, _⟩ => ⟨S1x2048x2048, .f32⟩
  | .hbm, ⟨27, _⟩ => ⟨S1x2048x2048, .f32⟩
  | .hbm, ⟨28, _⟩ => ⟨S_, .f32⟩
  | .hbm, ⟨29, _⟩ => ⟨S1x2048x2048, .f32⟩
  | .hbm, ⟨30, _⟩ => ⟨S1x2048x2048, .f32⟩
  | .hbm, ⟨31, _⟩ => ⟨S_, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S_, .f32⟩
  | .hbm, ⟨36, _⟩ => ⟨S1x2048x2048, .f32⟩
  | .hbm, ⟨37, _⟩ => ⟨S1x2048x2048, .f32⟩
  | .hbm, ⟨38, _⟩ => ⟨S1x2048x2048, .f32⟩
  | .hbm, ⟨39, _⟩ => ⟨S_, .f32⟩
  | .hbm, ⟨40, _⟩ => ⟨S1x2048x2048, .f32⟩
  | .hbm, ⟨41, _⟩ => ⟨S1x2048x2048, .f32⟩
  | .hbm, ⟨42, _⟩ => ⟨S1x2048x2048, .f32⟩
  | .hbm, ⟨43, _⟩ => ⟨S_, .f32⟩
  | .hbm, ⟨44, _⟩ => ⟨S1x2048x2048, .f32⟩
  | .hbm, ⟨45, _⟩ => ⟨S1x2048x2048, .f32⟩
  | .hbm, ⟨46, _⟩ => ⟨S1x2048x2048, .f32⟩
  | .hbm, ⟨47, _⟩ => ⟨S2x2048x2048, .f32⟩
  | .hbm, ⟨48, _⟩ => ⟨S1x2048x2048, .f32⟩
  | .hbm, ⟨49, _⟩ => ⟨S2x2048x2048, .f32⟩
  | .hbm, ⟨50, _⟩ => ⟨S1x2048x2048, .f32⟩
  | .hbm, ⟨51, _⟩ => ⟨S2x2048x2048, .f32⟩
  | .hbm, ⟨52, _⟩ => ⟨S1x2048x2048, .f32⟩
  | .hbm, ⟨53, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proof.ShortSpec.lean ====
/-
  The gradient of the gated short convolution, element by element: what both programs compute.
-/
module

public import Idealize.ShloMosaic.Lib.Pipeline.ValueKit
public import Idealize.ShloMosaic.Lib.Pointwise

@[expose] public section

noncomputable section

open Idealize.ShloMosaic

namespace Short

/-- The arrays' shapes: the gradient `dy`, the packed `z` (gate, inner gate, input, 2048 columns each), the taps. -/
abbrev Rows : Shape := ⟨2, ![2048, 2048]⟩
abbrev Packed : Shape := ⟨2, ![2048, 6144]⟩
abbrev Taps : Shape := ⟨2, ![3, 2048]⟩

variable (A : Rows.Idx → EReal) (Z : Packed.Idx → EReal) (W : Taps.Idx → EReal)

/-- Column `j` of part `k` of the packed array. -/
def part (k : Fin 3) (n : Fin 2048) (j : Fin 2048) : EReal :=
  Z (ix2 n ⟨2048 * k.val + j.val, by omega⟩)

/-- The convolution's input, the product of the inner gate and the input, under two rows of zeros. -/
@[irreducible] def q (n : ℕ) (j : Fin 2048) : EReal :=
  if h : 2 ≤ n ∧ n - 2 < 2048 then part Z 1 ⟨n - 2, h.2⟩ j * part Z 2 ⟨n - 2, h.2⟩ j else 0

/-- The gradient of the convolution's output, `dy` times the gate, over rows of zeros. -/
@[irreducible] def r (n : ℕ) (j : Fin 2048) : EReal :=
  if h : n < 2048 then A (ix2 ⟨n, h⟩ j) * part Z 0 ⟨n, h⟩ j else 0

/-- The convolution. -/
def conv (n : ℕ) (j : Fin 2048) : EReal :=
  W (ix2 0 j) * q Z n j + W (ix2 1 j) * q Z (n + 1) j + W (ix2 2 j) * q Z (n + 2) j

/-- The gradient of its input. -/
def dq (n : ℕ) (j : Fin 2048) : EReal :=
  W (ix2 0 j) * r A Z (n + 2) j + W (ix2 1 j) * r A Z (n + 1) j + W (ix2 2 j) * r A Z n j

/-- The gradient of part `p` of `z`. -/
def dz (p : ℕ) (n : Fin 2048) (j : Fin 2048) : EReal :=
  if p = 0 then A (ix2 n j) * conv Z W n j else if p = 1 then dq A Z W n j * part Z 2 n j else dq A Z W n j * part Z 1 n j

/-- The gradient of tap `k`. -/
def dw (k : ℕ) (j : Fin 2048) : EReal := ∑ n : Fin 2048, r A Z n j * q Z (n.val + k) j

theorem dz_congr {p p' : ℕ} {n n' j j' : Fin 2048} (hp : p = p') (hn : n = n') (hj : j = j') : dz A Z W p n j = dz A Z W p' n' j' := by
  rw [hp, hn, hj]
theorem dw_congr {p p' : ℕ} {j j' : Fin 2048} (hp : p = p') (hj : j = j') : dw A Z p j = dw A Z p' j' := by
  rw [hp, hj]

/-- The padded rows where the place is known. -/
theorem part_eq (k : Fin 3) (n j : Fin 2048) (i : Fin 6144) (h : i.val = 2048 * k.val + j.val) : Z (ix2 n i) = part Z k n j :=
  congrArg Z (congrArg (ix2 n) (Fin.ext h))
theorem q_eq (n : ℕ) (hn : n < 2050) (j : Fin 2048) :
    q Z n j = if h : n < 2 then 0 else part Z 1 ⟨n - 2, by omega⟩ j * part Z 2 ⟨n - 2, by omega⟩ j := by
  rw [q]
  by_cases h : n < 2
  · rw [dif_pos h, dif_neg (by omega)]
  · rw [dif_neg h, dif_pos (by omega)]
theorem q_in (n : Fin 2048) (k : ℕ) (hk : k = n.val + 2) (j : Fin 2048) : q Z k j = part Z 1 n j * part Z 2 n j := by
  subst hk
  rw [q, dif_pos (by omega)]
  rfl
theorem r_in (n : Fin 2048) (j : Fin 2048) : r A Z n j = A (ix2 n j) * part Z 0 n j := by
  rw [r, dif_pos n.isLt]

/-- The gate's gradient with the padding tests in the forward lines' own words. -/
theorem dz_gate_eq (n j : Fin 2048) : dz A Z W 0 n j = A (ix2 n j) * (W (ix2 0 j) * (if h : n.val < 2 then 0 else
      part Z 1 ⟨n.val - 2, by omega⟩ j * part Z 2 ⟨n.val - 2, by omega⟩ j)
    + W (ix2 1 j) * (if h : 1 + n.val < 2 then 0 else part Z 1 ⟨1 + n.val - 2, by omega⟩ j * part Z 2 ⟨1 + n.val - 2, by omega⟩ j)
    + W (ix2 2 j) * (part Z 1 n j * part Z 2 n j)) := by
  rw [dz, if_pos rfl, conv, q_eq _ _ (by omega), q_eq _ _ (by omega), q_in _ n _ rfl]
  simp only [Nat.add_comm 1 n.val]

/-- The first tap's gradient with the two padded rows apart. -/
theorem dw_zero_eq (j : Fin 2048) :
    (∑ x : Fin 2, part Z 0 ⟨x.val, by omega⟩ j * A (ix2 ⟨x.val, by omega⟩ j) * 0)
      + (∑ x : Fin 2046, part Z 0 ⟨2 + x.val, by omega⟩ j * A (ix2 ⟨2 + x.val, by omega⟩ j) * (part Z 1 ⟨x.val, by omega⟩ j * part Z 2 ⟨x.val, by omega⟩ j))
      = dw A Z 0 j := by
  refine Eq.trans ?_ (Fin.sum_univ_add (a := 2) (b := 2046) fun n : Fin 2048 => r A Z n.val j * q Z (n.val + 0) j).symm
  congr 1
  · refine Finset.sum_congr rfl fun x _ => ?_
    rw [q_eq _ _ (show (Fin.castAdd 2046 x).val + 0 < 2050 by simp; omega), dif_pos (by simp; omega), mul_zero, mul_zero]
  · refine Finset.sum_congr rfl fun x _ => ?_
    have e := q_in Z ⟨x.val, by omega⟩ ((Fin.natAdd 2 x).val + 0) (by simp; omega) j
    rw [e, r_in, mul_comm (part Z 0 _ _)]
    rfl

/-- A tap times a padded row of the gradient, with the padding test in the derivative's own words. -/
theorem tap_mul_r {P : Prop} [Decidable P] (w : EReal) (k : ℕ) (hP : P ↔ k < 2048) (j : Fin 2048) (a b : P → Fin 2048)
    (ha : ∀ h, (a h).val = k) (hb : ∀ h, (b h).val = k) :
    (if h : P then w * (part Z 0 (a h) j * A (ix2 (b h) j)) else 0) = w * r A Z k j := by
  by_cases h : P
  · obtain rfl := ha h
    rw [dif_pos h, r_in, mul_comm (part Z 0 _ _), show b h = a h from Fin.ext (hb h)]
  · rw [dif_neg h, r, dif_neg (fun k => h (hP.mpr k)), mul_zero]

/-- The gradient of the convolution's input, the taps in the derivative's order. -/
theorem dq_rev {n : Fin 2048} {j : Fin 2048} :
    (W (ix2 2 j) * (part Z 0 n j * A (ix2 n j)) + W (ix2 1 j) * r A Z (n.val + 1) j) + W (ix2 0 j) * r A Z (n.val + 2) j = dq A Z W n j := by
  rw [dq, r_in, mul_comm (part Z 0 _ _)]
  rw [add_comm, add_comm (W (ix2 2 j) * _), add_assoc]

theorem dz_gate {p : ℕ} {n s j l : Fin 2048} {a b c : ℕ} (hp : p = 0) (hs : s.val = n.val) (hl : j.val = l.val) (ha : a = n.val) (hb : b = n.val + 1)
    (hc : c = n.val + 2) :
    A (ix2 s j) * (W (ix2 0 j) * q Z a j + W (ix2 1 j) * q Z b j + W (ix2 2 j) * q Z c j) = dz A Z W p n l := by
  obtain rfl := Fin.ext hs
  obtain rfl := Fin.ext hl
  subst hp ha hb hc
  rfl

theorem dz_inner {p : ℕ} {n s j l : Fin 2048} {a b c : ℕ} (hp : p = 1) (hs : s.val = n.val) (hl : j.val = l.val) (ha : a = n.val + 2)
    (hb : b = n.val + 1) (hc : c = n.val) :
    (W (ix2 0 j) * r A Z a j + W (ix2 1 j) * r A Z b j + W (ix2 2 j) * r A Z c j) * part Z 2 s j = dz A Z W p n l := by
  obtain rfl := Fin.ext hs
  obtain rfl := Fin.ext hl
  subst hp ha hb hc
  rfl

theorem dz_input {p : ℕ} {n s j l : Fin 2048} {a b c : ℕ} (hp : p = 2) (hs : s.val = n.val) (hl : j.val = l.val) (ha : a = n.val + 2)
    (hb : b = n.val + 1) (hc : c = n.val) :
    (W (ix2 0 j) * r A Z a j + W (ix2 1 j) * r A Z b j + W (ix2 2 j) * r A Z c j) * part Z 1 s j = dz A Z W p n l := by
  obtain rfl := Fin.ext hs
  obtain rfl := Fin.ext hl
  subst hp ha hb hc
  rfl

/-- A sum over 2048 rows taken in eight chunks of 32 groups of eight rows, the rows of one place in their groups first. -/
theorem sum_chunks (f : ℕ → EReal) (g : ℕ → Fin 32 → Fin 8 → EReal)
    (h : ∀ c < 8, ∀ (k : Fin 32) (i : Fin 8), g c k i = f (256 * c + (k.val * 8 + i.val))) :
    ∑ i : Fin 8, ((((((((∑ k, g 0 k i) + ∑ k, g 1 k i) + ∑ k, g 2 k i) + ∑ k, g 3 k i) + ∑ k, g 4 k i) + ∑ k, g 5 k i) + ∑ k, g 6 k i)
      + ∑ k, g 7 k i) = ∑ n : Fin 2048, f n.val := by
  have e : ∀ i : Fin 8, ((((((((∑ k, g 0 k i) + ∑ k, g 1 k i) + ∑ k, g 2 k i) + ∑ k, g 3 k i) + ∑ k, g 4 k i) + ∑ k, g 5 k i) + ∑ k, g 6 k i)
      + ∑ k, g 7 k i) = ∑ c ∈ Finset.range 8, ∑ k, g c k i := fun i => by
    simp only [Finset.sum_range_succ, Finset.sum_range_zero, zero_add]
  rw [Finset.sum_congr rfl fun i _ => e i, Finset.sum_comm, Fin.sum_univ_eq_sum_range f 2048,
    show (2048 : ℕ) = 8 * 256 from rfl, Finset.sum_range_mul_split]
  refine Finset.sum_congr rfl fun c hc => ?_
  rw [Finset.sum_comm, show (256 : ℕ) = 32 * 8 from rfl, Finset.sum_range_mul_split, ← Fin.sum_univ_eq_sum_range]
  refine Finset.sum_congr rfl fun k _ => ?_
  rw [← Fin.sum_univ_eq_sum_range]
  refine Finset.sum_congr rfl fun i _ => ?_
  rw [h c (Finset.mem_range.mp hc)]
  congr 1
  ring

/-- The gradient of a tap, by such a sum over the two padded arrays. -/
theorem dw_chunks {l : ℕ} {j k : Fin 2048} (hj : k = j) {a0 b0 b1 b2 b3 b4 b5 b6 b7 a1 a2 a3 a4 a5 a6 a7 : Fin 32 → Fin 8 → ℕ}
    (h0 : ∀ u v, a0 u v = 256 * 0 + (u.val * 8 + v.val) ∧ b0 u v = a0 u v + l)
    (h1 : ∀ u v, a1 u v = 256 * 1 + (u.val * 8 + v.val) ∧ b1 u v = a1 u v + l)
    (h2 : ∀ u v, a2 u v = 256 * 2 + (u.val * 8 + v.val) ∧ b2 u v = a2 u v + l)
    (h3 : ∀ u v, a3 u v = 256 * 3 + (u.val * 8 + v.val) ∧ b3 u v = a3 u v + l)
    (h4 : ∀ u v, a4 u v = 256 * 4 + (u.val * 8 + v.val) ∧ b4 u v = a4 u v + l)
    (h5 : ∀ u v, a5 u v = 256 * 5 + (u.val * 8 + v.val) ∧ b5 u v = a5 u v + l)
    (h6 : ∀ u v, a6 u v = 256 * 6 + (u.val * 8 + v.val) ∧ b6 u v = a6 u v + l)
    (h7 : ∀ u v, a7 u v = 256 * 7 + (u.val * 8 + v.val) ∧ b7 u v = a7 u v + l) :
    ∑ i : Fin 8, ((((((((∑ u : Fin 32, r A Z (a0 u i) k * q Z (b0 u i) k) + ∑ u : Fin 32, r A Z (a1 u i) k * q Z (b1 u i) k)
      + ∑ u : Fin 32, r A Z (a2 u i) k * q Z (b2 u i) k) + ∑ u : Fin 32, r A Z (a3 u i) k * q Z (b3 u i) k)
      + ∑ u : Fin 32, r A Z (a4 u i) k * q Z (b4 u i) k) + ∑ u : Fin 32, r A Z (a5 u i) k * q Z (b5 u i) k)
      + ∑ u : Fin 32, r A Z (a6 u i) k * q Z (b6 u i) k) + ∑ u : Fin 32, r A Z (a7 u i) k * q Z (b7 u i) k) = dw A Z l j := by
  subst hj
  simp only [h0, h1, h2, h3, h4, h5, h6, h7]
  exact sum_chunks (fun n => r A Z n k * q Z (n + l) k) (fun e u i => r A Z (256 * e + (u.val * 8 + i.val)) k
    * q Z (256 * e + (u.val * 8 + i.val) + l) k) fun _ _ _ _ => rfl

end Short

end
-- ==== Proof.Short.lean ====
/-
  What the short convolution's backward kernel leaves in its two result arrays.
-/
module

public import proofs.«01_k».proof.Proof.Gen.KernelIdeal.Value
public import proofs.«01_k».proof.Proof.ShortSpec

@[expose] public section

set_option maxRecDepth 16384

noncomputable section

open Idealize.ShloMosaic Idealize.ShloMosaic.TcCoe Idealize.SL.Sem
open Idealize.ShloMosaic.Pipeline (Dat)

namespace Cert.KernelIdeal.Short

open Cert.KernelIdeal Cert.KernelIdeal.Gen _root_.Short

/-- Grid point `t` works on column tile `t`: of the packed array, on the three parts' tiles. -/
theorem idx : ∀ t : Fin cfg0.N, win0_0.index t = ![0, t.val] ∧ win0_1.index t = ![0, t.val] ∧ win0_2.index t = ![0, t.val + 8]
    ∧ win0_3.index t = ![0, t.val + 16] ∧ win0_4.index t = ![0, t.val] ∧ win0_5.index t = ![0, 0, t.val] ∧ win0_6.index t = ![0, t.val] :=
  (by decide +kernel : ∀ t : Fin grid0.N, _)

/-- Row `n` of the array that holds the rows of `X` from row `lo` on, and zero in the rows around them. -/
def rowAt (lo : ℕ) (X : S2048x256.Idx → EReal) (n : ℕ) (j : Fin 256) : EReal :=
  if h : lo ≤ n ∧ n - lo < 2048 then X (ix2 ⟨n - lo, h.2⟩ j) else 0

theorem rowAt_in {lo : ℕ} (X : S2048x256.Idx → EReal) {n : ℕ} {j : Fin 256} (z : S2048x256.Idx) (h0 : lo + (z 0).val = n) (h1 : (z 1).val = j.val) :
    X z = rowAt lo X n j := by
  have z0 : (z 0).val < 2048 := (z 0).isLt
  rw [rowAt, dif_pos (by omega)]
  congr 1
  exact (eq_ix2 z).trans (congrArg₂ ix2 (Fin.ext (show (z 0).val = n - lo by omega)) (Fin.ext h1))

theorem rowAt_out {lo : ℕ} (X : S2048x256.Idx → EReal) {n : ℕ} {j : Fin 256} (h : ¬(lo ≤ n ∧ n - lo < 2048)) : rowAt lo X n j = 0 :=
  dif_neg h

theorem zero_q (i : S8x256.Idx) : k0_pay2 (F := Ideal) i = 0 := by
  pointwise [k0_pay2]
theorem zero_r (i : S8x256.Idx) : k0_pay5 (F := Ideal) i = 0 := zero_q i

/-- Two stores that fill a padded buffer, `X` from row `lo` on and zeros in the eight rows from row `lz` on, read back
    256 rows at a time: the rows of the padded array. -/
theorem read_pad {sp : Space} {κ : Kind} (v : View sig κ sp S2056x256 .f32) (lo lz o : ℕ) (h8 : lo = 8 ∧ lz = 0 ∨ lo = 0 ∧ lz = 2048)
    (i1 i2 inb) (X : S2048x256.Idx → Elt Ideal .f32) (Z : S8x256.Idx → Elt Ideal .f32) (hZ : ∀ i, Z i = (0 : EReal))
    (L : List (View.Piece (Elt Ideal) S2056x256 .f32))
    (hL : L = [⟨Rect.unit ![lo, 0] ![2048, 256] i1, X⟩, ⟨Rect.unit ![lz, 0] ![8, 256] i2, Z⟩]
      ∨ L = [⟨Rect.unit ![lz, 0] ![8, 256] i2, Z⟩, ⟨Rect.unit ![lo, 0] ![2048, 256] i1, X⟩]) :
    v.readCov L (Rect.unit ![o, 0] ![256, 256] inb).toLoadRect
      = (fun x : S256x256.Idx => rowAt lo X (o + (x 0).val) (x 1) : S256x256.Idx → Elt Ideal .f32) := by
  rw [View.readCov_eq_canon']
  funext x
  have e0 : ((Rect.unit (s := S2056x256) ![o, 0] ![256, 256] inb).toLoadRect.idx x 0).val = o + (x 0).val := by
    show o + 1 * (x 0).val = _; omega
  have e1 : ((Rect.unit (s := S2056x256) ![o, 0] ![256, 256] inb).toLoadRect.idx x 1).val = (x 1).val := by
    show 0 + 1 * (x 1).val = _; omega
  have x1 : (x 1).val < 256 := (x 1).isLt
  generalize (Rect.unit (s := S2056x256) ![o, 0] ![256, 256] inb).toLoadRect.idx x = w at *
  have w0 : (w 0).val < 2056 := (w 0).isLt
  have inX : lo ≤ (w 0).val ∧ (w 0).val < lo + 2048 → w ∈ (Rect.unit (s := S2056x256) ![lo, 0] ![2048, 256] i1).set := fun h =>
    Rect.mem_set_unit.mpr fun a => by fin_cases a <;> simp <;> omega
  have inZ : lz ≤ (w 0).val ∧ (w 0).val < lz + 8 → w ∈ (Rect.unit (s := S2056x256) ![lz, 0] ![8, 256] i2).set := fun h =>
    Rect.mem_set_unit.mpr fun a => by fin_cases a <;> simp <;> omega
  have atX : ∀ z : S2048x256.Idx, (Rect.unit (s := S2056x256) ![lo, 0] ![2048, 256] i1).idx z = w → X z = rowAt lo X (o + (x 0).val) (x 1) := by
    rintro z hz
    have h0 : lo + 1 * (z 0).val = (w 0).val := congrArg Fin.val (congrFun hz 0)
    have h1 : 0 + 1 * (z 1).val = (w 1).val := congrArg Fin.val (congrFun hz 1)
    have z0 : (z 0).val < 2048 := (z 0).isLt
    exact rowAt_in X z (by omega) (by omega)
  have atZ : ∀ z : S8x256.Idx, (Rect.unit (s := S2056x256) ![lz, 0] ![8, 256] i2).idx z = w → Z z = rowAt lo X (o + (x 0).val) (x 1) := by
    rintro z hz
    have h0 : lz + 1 * (z 0).val = (w 0).val := congrArg Fin.val (congrFun hz 0)
    have z0 : (z 0).val < 8 := (z 0).isLt
    exact (hZ z).trans (rowAt_out X (by omega)).symm
  apply View.canon_eq_of_allAt
  · by_cases hw : lo ≤ (w 0).val ∧ (w 0).val < lo + 2048
    · rcases hL with rfl | rfl
      · exact ⟨_, List.mem_cons_self, inX hw⟩
      · exact ⟨_, List.mem_cons_of_mem _ List.mem_cons_self, inX hw⟩
    · rcases hL with rfl | rfl
      · exact ⟨_, List.mem_cons_of_mem _ List.mem_cons_self, inZ (by omega)⟩
      · exact ⟨_, List.mem_cons_self, inZ (by omega)⟩
  · rcases hL with rfl | rfl
    · exact View.allAt_cons _ _ _ atX (View.allAt_cons _ _ _ atZ (View.allAt_nil _ _))
    · exact View.allAt_cons _ _ _ atZ (View.allAt_cons _ _ _ atX (View.allAt_nil _ _))

variable (m : (ℓ : Loc nD τ sig) → Buf (Elt Ideal) ℓ) (c : Dev nD)

/-- The three argument arrays. -/
abbrev A : Rows.Idx → EReal := m ((c.tc : Thread nD τ).loc main_arg0)
abbrev Z : Packed.Idx → EReal := m ((c.tc : Thread nD τ).loc main_arg1)
abbrev W : Taps.Idx → EReal := m ((c.tc : Thread nD τ).loc main_arg2)

/-- Column `j` of tile `t`. -/
def col (t : Fin cfg0.N) (j : Fin 256) : Fin 2048 := ⟨t.val * 256 + j.val, by have : t.val < 8 := t.isLt; omega⟩

theorem col_val (t : Fin cfg0.N) (j : Fin 256) : (col t j).val = t.val * 256 + j.val := rfl

/-- The five input windows' blocks at grid point `t`, of the argument arrays. -/
theorem blk_dy (t : Fin cfg0.N) : iblk m c 0 t = fun i => A m c (ix2 (i 0 : Fin 2048) (col t (i 1))) := by
  funext i
  blk_ext [iblk, V, idx t]
  rfl
theorem blk_b (t : Fin cfg0.N) : iblk m c 1 t = fun i => part (Z m c) 0 (i 0 : Fin 2048) (col t (i 1)) := by
  funext i
  blk_ext [iblk, V, idx t]
  show t.val * 256 + (i 1).val = 2048 * 0 + (t.val * 256 + (i 1).val); omega
theorem blk_c (t : Fin cfg0.N) : iblk m c 2 t = fun i => part (Z m c) 1 (i 0 : Fin 2048) (col t (i 1)) := by
  funext i
  blk_ext [iblk, V, idx t]
  show (t.val + 8) * 256 + (i 1).val = 2048 * 1 + (t.val * 256 + (i 1).val); omega
theorem blk_u (t : Fin cfg0.N) : iblk m c 3 t = fun i => part (Z m c) 2 (i 0 : Fin 2048) (col t (i 1)) := by
  funext i
  blk_ext [iblk, V, idx t]
  show (t.val + 16) * 256 + (i 1).val = 2048 * 2 + (t.val * 256 + (i 1).val); omega
theorem blk_w (t : Fin cfg0.N) : iblk m c 4 t = fun i => W m c (ix2 (i 0 : Fin 3) (col t (i 1))) := by
  funext i
  blk_ext [iblk, V, idx t]
  rfl

/-- The two padded buffers' rows: the products that the convolution takes, and the gradient of what it gives. -/
theorem rowAt_q (t : Fin cfg0.N) (n : ℕ) (j : Fin 256) :
    rowAt 8 (k0_pay3 (F := Ideal) (iblk m c 2 t) (iblk m c 3 t)) n j = q (Z m c) (n - 6) (col t j) := by
  rw [rowAt, q]
  by_cases h : 8 ≤ n ∧ n - 8 < 2048
  · have e : n - 6 - 2 = n - 8 := by omega
    rw [dif_pos h, dif_pos (by omega), blk_c, blk_u]
    pointwise [k0_pay3]
    simp only [e]
  · rw [dif_neg h, dif_neg (by omega)]

theorem rowAt_r (t : Fin cfg0.N) (n : ℕ) (j : Fin 256) :
    rowAt 0 (k0_pay4 (F := Ideal) (iblk m c 0 t) (iblk m c 1 t)) n j = r (A m c) (Z m c) n (col t j) := by
  rw [rowAt, r]
  by_cases h : 0 ≤ n ∧ n - 0 < 2048
  · rw [dif_pos h, dif_pos (by omega), blk_dy, blk_b]
    pointwise [k0_pay4]
  · rw [dif_neg h, dif_neg (by omega)]

/-- A read of 256 of their rows, of the first buffer … -/
theorem read_q {sp : Space} {κ : Kind} (v : View sig κ sp S2056x256 .f32) (t : Fin cfg0.N) (o : ℕ) (i1 i2 inb) :
    v.readCov (Val := Elt Ideal) [⟨Rect.unit ![8, 0] ![2048, 256] i1, k0_pay3 (F := Ideal) (iblk m c 2 t) (iblk m c 3 t)⟩, ⟨Rect.unit ![0, 0] ![8, 256] i2, k0_pay2 (F := Ideal)⟩]
      (Rect.unit ![o, 0] ![256, 256] inb).toLoadRect
      = (fun x : S256x256.Idx => q (Z m c) (o + (x 0).val - 6) (col t (x 1)) : S256x256.Idx → Elt Ideal .f32) := by
  rw [read_pad v 8 0 o (.inl ⟨rfl, rfl⟩) i1 i2 inb _ _ zero_q _ (.inl rfl)]
  exact funext fun x => rowAt_q m c t _ _

/-- … and of the second. -/
theorem read_r {sp : Space} {κ : Kind} (v : View sig κ sp S2056x256 .f32) (t : Fin cfg0.N) (o : ℕ) (i1 i2 inb) :
    v.readCov (Val := Elt Ideal) [⟨Rect.unit ![2048, 0] ![8, 256] i2, k0_pay5 (F := Ideal)⟩, ⟨Rect.unit ![0, 0] ![2048, 256] i1, k0_pay4 (F := Ideal) (iblk m c 0 t) (iblk m c 1 t)⟩]
      (Rect.unit ![o, 0] ![256, 256] inb).toLoadRect
      = (fun x : S256x256.Idx => r (A m c) (Z m c) (o + (x 0).val) (col t (x 1)) : S256x256.Idx → Elt Ideal .f32) := by
  rw [read_pad v 0 2048 o (.inr ⟨rfl, rfl⟩) i1 i2 inb _ _ zero_r _ (.inr rfl)]
  exact funext fun x => rowAt_r m c t _ _

/-- What grid point `t` writes into its two output tiles. -/
theorem out_dz (t : Fin cfg0.N) (y : S3x2048x256.Idx) :
    (outsAt0 m c t).1 y = dz (A m c) (Z m c) (W m c) (y 0).val (y 1 : Fin 2048) (col t (y 2)) := by
  unfold outsAt0
  frame_out
  simp only [read_q, read_r]
  rw [blk_dy, blk_c, blk_u, blk_w]
  generalize hQ : q (Z m c) = Q
  generalize hR : r (A m c) (Z m c) = R
  canon_tiles x h <;> (open_payloads; pointwise; subst hQ hR)
  all_goals first
    | exact dz_input _ _ _ (by omega) h1.symm (congrArg (t.val * 256 + ·) h2.symm) (by omega) (by omega) (by omega)
    | exact dz_inner _ _ _ (by omega) h1.symm (congrArg (t.val * 256 + ·) h2.symm) (by omega) (by omega) (by omega)
    | exact dz_gate _ _ _ (by omega) h1.symm (congrArg (t.val * 256 + ·) h2.symm) (by omega) (by omega) (by omega)

theorem out_dw (t : Fin cfg0.N) (y : S3x256.Idx) :
    (outsAt0 m c t).2 y = dw (A m c) (Z m c) (y 0).val (col t (y 1)) := by
  unfold outsAt0
  frame_out
  simp only [read_q, read_r]
  generalize hQ : q (Z m c) = Q
  generalize hR : r (A m c) (Z m c) = R
  canon_tiles x h <;> (open_payloads; pointwise; subst hQ hR)
  all_goals
    exact dw_chunks _ _ (Fin.ext (congrArg (t.val * 256 + ·) h1.symm)) (fun u v => by constructor <;> omega) (fun u v => by constructor <;> omega)
      (fun u v => by constructor <;> omega) (fun u v => by constructor <;> omega) (fun u v => by constructor <;> omega)
      (fun u v => by constructor <;> omega) (fun u v => by constructor <;> omega) (fun u v => by constructor <;> omega)

/-- The two result arrays after the region. -/
theorem final_dz : (dats m 0 c).arrAt 5 cfg0.N = fun y : S3x2048x2048.Idx => dz (A m c) (Z m c) (W m c) (y 0).val (y 1 : Fin 2048) (y 2 : Fin 2048) := by
  refine (dats m 0 c).arrAt_eq_of_covers 5 _ (by decide +kernel) fun t hf y => ?_
  blk_simp
  rw [after0_5]
  refine (out_dz m c t y).trans ?_
  obtain ⟨-, -, -, -, -, h, -⟩ := idx t
  refine dz_congr _ _ _ ?_ (Fin.ext ?_) (Fin.ext ?_)
  · show (y 0).val = win0_5.index t 0 * 3 + (y 0).val
    rw [h]; simp
  · show (y 1).val = win0_5.index t 1 * 2048 + 1 * (y 1).val
    rw [h]; simp
  · show t.val * 256 + (y 2).val = win0_5.index t 2 * 256 + 1 * (y 2).val
    rw [h]; simp

theorem final_dw : (dats m 0 c).arrAt 6 cfg0.N = fun y : S3x2048.Idx => dw (A m c) (Z m c) (y 0).val (y 1 : Fin 2048) := by
  refine (dats m 0 c).arrAt_eq_of_covers 6 _ (by decide +kernel) fun t hf y => ?_
  blk_simp
  rw [after0_6]
  refine (out_dw m c t y).trans ?_
  obtain ⟨-, -, -, -, -, -, h⟩ := idx t
  refine dw_congr _ _ ?_ (Fin.ext ?_)
  · show (y 0).val = win0_6.index t 0 * 3 + (y 0).val
    rw [h]; simp
  · show t.val * 256 + (y 1).val = win0_6.index t 1 * 256 + 1 * (y 1).val
    rw [h]; simp

/-- The kernel's run, with the two gradients. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = (fun y => dz (A m c) (Z m c) (W m c) (y 0).val (y 1 : Fin 2048) (y 2 : Fin 2048) : S3x2048x2048.Idx → EReal)
      ∧ r.2.mem ((c.tc : Thread nD τ).loc main_v0_1) = (fun y => dw (A m c) (Z m c) (y 0).val (y 1 : Fin 2048) : S3x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final_dz m c), (h c).2.1.trans (final_dw m c), (h c).2.2⟩)
    (Cert.KernelIdeal.Value.run_blocks m ρ)

end Cert.KernelIdeal.Short
end
-- ==== Proof.ShortRef.lean ====
/-
  What the short convolution's reference, the derivative of the forward lines, leaves in its two results.
-/
module

public import proofs.«01_k».proof.Proof.Gen.ReferenceIdeal.Run
public import Idealize.ShloMosaic.Lib.Pipeline.ValueKit
public import proofs.«01_k».proof.Proof.ShortSpec

@[expose] public section

set_option maxRecDepth 100000

noncomputable section

open Idealize.ShloMosaic Idealize.ShloMosaic.TcCoe Idealize.SL.Sem

namespace Cert.ReferenceIdeal.Short

open Cert.ReferenceIdeal _root_.Short

variable (m : (ℓ : Loc nD τ sig) → Buf (Elt Ideal) ℓ) (c : Dev nD)

/-- The three argument arrays. -/
abbrev A : Rows.Idx → EReal := m ((c.tc : Thread nD τ).loc main_arg0)
abbrev Z : Packed.Idx → EReal := m ((c.tc : Thread nD τ).loc main_arg1)
abbrev W : Taps.Idx → EReal := m ((c.tc : Thread nD τ).loc main_arg2)

/-- Columns of the packed array, as columns of its parts. -/
theorem col0 (n j : Fin 2048) (h : j.val < 6144) : m ((c.tc : Thread nD τ).loc main_arg1) (ix2 n ⟨j.val, h⟩) = part (Z m c) 0 n j :=
  part_eq (Z m c) 0 n j _ (by simp)
theorem col1 (n j : Fin 2048) (h : 2048 + j.val < 6144) : m ((c.tc : Thread nD τ).loc main_arg1) (ix2 n ⟨2048 + j.val, h⟩) = part (Z m c) 1 n j :=
  part_eq (Z m c) 1 n j _ (by simp)
theorem col2 (n j : Fin 2048) (h : 4096 + j.val < 6144) : m ((c.tc : Thread nD τ).loc main_arg1) (ix2 n ⟨4096 + j.val, h⟩) = part (Z m c) 2 n j :=
  part_eq (Z m c) 2 n j _ (by simp)

/-- The first result, part by part. -/
theorem dz0 (j1 j2 : Fin 2048) : Value.res_main_v71 m c (ix3 (0 : Fin 3) j1 j2) = dz (A m c) (Z m c) (W m c) 0 j1 j2 := by
  unfold Value.res_main_v71
  pointwise!
  simp only [col1, col2]
  exact (dz_gate_eq (A m c) (Z m c) (W m c) j1 j2).symm

theorem dz1 (j1 j2 : Fin 2048) : Value.res_main_v71 m c (ix3 (1 : Fin 3) j1 j2) = dz (A m c) (Z m c) (W m c) 1 j1 j2 := by
  unfold Value.res_main_v71
  pointwise!
  simp only [col0, col2]
  rw [tap_mul_r (A m c) (Z m c) _ (j1.val + 1) (by omega) _ _ _ (fun h => by simp; omega) (fun h => by simp; omega),
    tap_mul_r (A m c) (Z m c) _ (j1.val + 2) (by omega) _ _ _ (fun h => by simp; omega) (fun h => by simp; omega), dq_rev]
  rfl

theorem dz2 (j1 j2 : Fin 2048) : Value.res_main_v71 m c (ix3 (2 : Fin 3) j1 j2) = dz (A m c) (Z m c) (W m c) 2 j1 j2 := by
  unfold Value.res_main_v71
  pointwise!
  simp only [col0, col1]
  rw [tap_mul_r (A m c) (Z m c) _ (j1.val + 1) (by omega) _ _ _ (fun h => by simp; omega) (fun h => by simp; omega),
    tap_mul_r (A m c) (Z m c) _ (j1.val + 2) (by omega) _ _ _ (fun h => by simp; omega) (fun h => by simp; omega), dq_rev, mul_comm]
  rfl

/-- The second, tap by tap. -/
theorem dw_ref (k : ℕ) (hk : k < 3) (j : Fin 2048) (f : Fin 2048 → EReal) (hf : ∀ n, f n = q (Z m c) (n.val + k) j) :
    (∑ _u : Fin 1, ∑ n : Fin 2048, part (Z m c) 0 n j * m ((c.tc : Thread nD τ).loc main_arg0) (ix2 n j) * f n) = dw (A m c) (Z m c) k j := by
  rw [Fin.sum_univ_one]
  refine Finset.sum_congr rfl fun n _ => ?_
  rw [r_in, hf, mul_comm (part _ _ _ _)]

set_option maxHeartbeats 1000000 in -- three element formulas of one long term
/-- The reference's run, with the two gradients. -/
theorem run (ρ : Dev nD → PrngReg) :
    θ_run defs (onTc (τ := τ) (main (F := Ideal))) ⟨m, fun _ => 0, ρ⟩ fun r => ∀ c : Dev nD,
      r.2.mem ((c.tc : Thread nD τ).loc main_v71) = (fun y => dz (A m c) (Z m c) (W m c) (y 0).val (y 1 : Fin 2048) (y 2 : Fin 2048) : S3x2048x2048.Idx → EReal)
      ∧ r.2.mem ((c.tc : Thread nD τ).loc main_v62) = (fun y => dw (A m c) (Z m c) (y 0).val (y 1 : Fin 2048) : S3x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by
      funext y
      rw [eq_ix3 y]
      generalize (y 0 : Fin 3) = p
      fin_cases p
      · exact dz0 m c _ _
      · exact dz1 m c _ _
      · exact dz2 m c _ _),
    (h c).2.1.trans (by
      funext y
      obtain ⟨p, j, rfl⟩ : ∃ (p : Fin 3) (j : Fin 2048), y = ix2 p j := ⟨_, _, eq_ix2 y⟩
      fin_cases p
      · pointwise!
        simp only [col0, col1, col2]
        exact (Fin.sum_univ_one _).trans (dw_zero_eq (A m c) (Z m c) j)
      · pointwise!
        simp only [col0, col1, col2, Nat.add_comm 1]
        exact dw_ref m c 1 (by omega) _ _ fun n => (q_eq _ _ (by omega) _).symm
      · pointwise!
        simp only [col0, col1, col2]
        exact dw_ref m c 2 (by omega) _ _ fun n => (q_in _ n _ rfl _).symm), (h c).2.2⟩) (Value.run m ρ)

end Cert.ReferenceIdeal.Short
end
-- ==== Proof.Product.lean ====
/-
  The products of the step: of two arrays of matrices' shapes, by which axis of each is summed.
-/
module

public import Idealize.ShloMosaic.Lib.Pipeline.ValueKit
public import Idealize.ShloMosaic.Lib.Pipeline.ReadBack
public import Idealize.ShloMosaic.Lib.Pointwise

@[expose] public section

noncomputable section

open Idealize.ShloMosaic

namespace Product

/-- An array of `M` rows and `N` columns. -/
abbrev Mat (M N : ℕ) : Type := (⟨2, ![M, N]⟩ : Shape).Idx → EReal

variable {K M N : ℕ}

/-- A product, `a b`; by the argument's gradient, `a bᵀ`; by the weight's, `aᵀ b`. -/
def nn (a : Mat M K) (b : Mat K N) (i : Fin M) (j : Fin N) : EReal := ∑ k : Fin K, a (ix2 i k) * b (ix2 k j)
def nt (a : Mat M K) (b : Mat N K) (i : Fin M) (j : Fin N) : EReal := ∑ k : Fin K, a (ix2 i k) * b (ix2 j k)
def tn (a : Mat K M) (b : Mat K N) (i : Fin M) (j : Fin N) : EReal := ∑ k : Fin K, a (ix2 k i) * b (ix2 k j)

theorem tn_comm (a : Mat K M) (b : Mat K N) (i : Fin M) (j : Fin N) : tn a b i j = ∑ k : Fin K, b (ix2 k j) * a (ix2 k i) :=
  Finset.sum_congr rfl fun _ _ => mul_comm _ _

/-- Where an element of an output's block lies in the array, the window's index being known. -/
theorem spot_row {p q : ℕ} {w : Fin 2 → ℕ} (h : w = ![p, q]) (i : ℕ) : p * 1024 + i = w 0 * 1024 + 1 * i := by simp [h]
theorem spot_col {p q : ℕ} {w : Fin 2 → ℕ} (h : w = ![p, q]) (i : ℕ) : q * 1024 + i = w 1 * 1024 + 1 * i := by simp [h]

/-- A block of a product that a run of `nk` points sums, each point a part of the summed axis: the first writes its part,
    and each other adds its own to what the point before left. -/
theorem nt_of_parts {n tk : ℕ} (nk : ℕ) [NeZero nk] (O : ∀ t : ℕ, t < n → Mat 1024 1024) (a : Mat M K) (b : Mat N K)
    (row : Fin n → Fin 1024 → Fin M) (col : Fin n → Fin 1024 → Fin N) (mid : Fin n → Fin tk → Fin K) (hK : nk * tk = K)
    (hr : ∀ t s : Fin n, t.val / nk = s.val / nk → row t = row s) (hc : ∀ t s : Fin n, t.val / nk = s.val / nk → col t = col s)
    (hm : ∀ t k, (mid t k).val = t.val % nk * tk + k.val)
    (first : ∀ t : Fin n, t.val % nk = 0 → ∀ y : (⟨2, ![1024, 1024]⟩ : Shape).Idx, O t.val t.isLt y = 0 + ∑ k : Fin tk, a (ix2 (row t (y 0)) (mid t k)) * b (ix2 (col t (y 1)) (mid t k)))
    (next : ∀ t : Fin n, ¬t.val % nk = 0 → ∀ y : (⟨2, ![1024, 1024]⟩ : Shape).Idx, O t.val t.isLt y =
      O (t.val - 1) (Nat.lt_of_le_of_lt (Nat.sub_le _ _) t.isLt) y + ∑ k : Fin tk, a (ix2 (row t (y 0)) (mid t k)) * b (ix2 (col t (y 1)) (mid t k)))
    (t : Fin n) (h : t.val % nk = nk - 1) (y : (⟨2, ![1024, 1024]⟩ : Shape).Idx) : O t.val t.isLt y = nt a b (row t (y 0)) (col t (y 1)) := by
  subst hK
  rw [Pipeline.eq_sum_fin_of_reset_step_apply_of_flush O nk (fun _ => 0) _ first next t h y, zero_add]
  refine Fin.sum_mul_add_congr fun s k hl => ?_
  have hs := s.isLt
  have hd : (nk * (t.val / nk) + s.val) / nk = t.val / nk := by rw [Nat.mul_add_div (NeZero.pos nk), Nat.div_eq_of_lt hs, add_zero]
  have he : (nk * (t.val / nk) + s.val) % nk = s.val := by rw [Nat.mul_add_mod, Nat.mod_eq_of_lt hs]
  rw [hr _ t hd, hc _ t hd]
  refine congrArg₂ (· * ·) (congrArg a (congrArg (ix2 _) (Fin.ext ?_))) (congrArg b (congrArg (ix2 _) (Fin.ext ?_))) <;>
  · rw [hm]
    show (nk * (t.val / nk) + s.val) % nk * tk + k.val = s.val * tk + k.val
    rw [he]

/-- The three parts of a packed array, one upon the other, side by side again. -/
def packed (z : (⟨3, ![3, 2048, 2048]⟩ : Shape).Idx → EReal) : Mat 2048 6144 := fun y =>
  z (ix3 (⟨(y 1).val / 2048, by have : (y 1).val < 6144 := (y 1).isLt; omega⟩ : Fin 3) (y 0 : Fin 2048) (⟨(y 1).val % 2048, Nat.mod_lt _ (by decide)⟩ : Fin 2048))

theorem parts (z : (⟨3, ![3, 2048, 2048]⟩ : Shape).Idx → EReal) (i : Fin 2048) (j : Fin 6144) :
    (if h : j.val < 2048 then z (ix3 (0 : Fin 3) i (⟨j.val, h⟩ : Fin 2048))
      else if h : j.val - 2048 < 2048 then z (ix3 (1 : Fin 3) i (⟨j.val - 2048, h⟩ : Fin 2048))
      else z (ix3 (2 : Fin 3) i (⟨j.val - 2048 - 2048, by omega⟩ : Fin 2048))) = packed z (ix2 i j) := by
  unfold packed
  split_ifs <;> refine congrArg z ?_
  · exact congrArg₂ (ix3 · i ·) (Fin.ext (by show 0 = j.val / 2048; omega)) (Fin.ext (by show j.val = j.val % 2048; omega))
  · exact congrArg₂ (ix3 · i ·) (Fin.ext (by show 1 = j.val / 2048; omega)) (Fin.ext (by show j.val - 2048 = j.val % 2048; omega))
  · exact congrArg₂ (ix3 · i ·) (Fin.ext (by show 2 = j.val / 2048; omega)) (Fin.ext (by show j.val - 2048 - 2048 = j.val % 2048; omega))

/-- The rectifier, and its square. -/
def relu (x : Mat M N) : Mat M N := fun y => max (x y) 0
def relu_sq (x : Mat M N) : Mat M N := fun y => max (x y) 0 * max (x y) 0

/-- The constant two. -/
theorem two_bits : Ideal.ofBits .f32 0x40000000#32 = (2 : EReal) := by
  rw [show (2 : EReal) = ((2 : ℝ) : EReal) by norm_cast]
  simp [Ideal.ofBits, Ideal.ieee, -EReal.coe_mul]; norm_num

/-- Twice a rectified value against a sum's two terms: where the rectifier passes nothing, both are zero. -/
theorem relu_sq_grad (s x : EReal) : s * (2 * max x 0) = if 0 < x then max x 0 * s + s * max x 0 else 0 := by
  have h : (0 : EReal) ≤ max x 0 := le_max_right _ _
  have e : (2 : EReal) * max x 0 = max x 0 + max x 0 := by
    rw [← one_add_one_eq_two, EReal.right_distrib_of_nonneg zero_le_one zero_le_one, one_mul]
  split
  · rw [e, EReal.left_distrib_of_nonneg h h, mul_comm s]
  · rename_i hx
    rw [max_eq_right (not_lt.mp hx), mul_zero, mul_zero]

end Product
end
-- ==== Proof.DownProducts.lean ====
/-
  The gradients through the MLP's second product: that of its weight, and that of the first product, through the square of the
  rectifier.
-/
module

public import proofs.«01_k».proof.Proof.Gen.DownDwIdeal.Value
public import proofs.«01_k».proof.Proof.Gen.DownDwRefIdeal.Run
public import proofs.«01_k».proof.Proof.Gen.DownDxIdeal.Value
public import proofs.«01_k».proof.Proof.Gen.DownDxRefIdeal.Run
public import proofs.«01_k».proof.Proof.Product

@[expose] public section

set_option maxRecDepth 16384

noncomputable section

open Idealize.ShloMosaic Idealize.ShloMosaic.TcCoe Idealize.SL.Sem
open Idealize.ShloMosaic.Pipeline (Dat)

namespace Cert.DownDwIdeal.Product

open Cert.DownDwIdeal Cert.DownDwIdeal.Gen _root_.Product

theorem idx : ∀ t : Fin cfg0.N, win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

abbrev X : S2048x8192.Idx → EReal := m ((c.tc : Thread nD τ).loc main_arg0)
abbrev Y : S2048x2048.Idx → EReal := m ((c.tc : Thread nD τ).loc main_arg1)

/-- What the forward pass keeps of the first product's result: its rectifier's square. -/
theorem arr0 : V m c main_v3 = relu_sq (X m c) := by
  funext y
  unfold V hostOps0 relu_sq
  after_results
  pointwise

/-- The two input windows' blocks at grid point `t`. -/
theorem blk0 (t : Fin cfg0.N) : iblk m c 0 t = fun i : S2048x1024.Idx =>
    relu_sq (X m c) (ix2 (i 0 : Fin 2048) ⟨t.val / 2 * 1024 + (i 1).val, by have : t.val < 16 := t.isLt; have : (i 1).val < 1024 := (i 1).isLt; omega⟩) := by
  funext i
  unfold iblk
  show ((cfg0.win 0).blk t).view.read (Elt Ideal) (V m c main_v3) i = _
  rw [arr0]
  blk_ext [idx t]

theorem blk1 (t : Fin cfg0.N) : iblk m c 1 t = fun i : S2048x1024.Idx => Y m c (ix2 (i 0 : Fin 2048) ⟨t.val % 2 * 1024 + (i 1).val, by have : (i 1).val < 1024 := (i 1).isLt; omega⟩) := by
  funext i
  blk_ext [iblk, V, idx t]

/-- The body: one product. -/
theorem out (x0 x1 : Vec Ideal S2048x1024 .bf16) (y : S1024x1024.Idx) :
    out0_2 x0 x1 y = ∑ k : Fin 2048, (x0 (ix2 k (y 0 : Fin 1024)) : EReal) * x1 (ix2 k (y 1 : Fin 1024)) := by
  unfold out0_2
  canon_tiles x h
  obtain rfl : y = x := funext fun a => by fin_cases a <;> exact Fin.ext (by assumption)
  open_payloads
  pointwise

theorem final : (dats m 0 c).arrAt 2 cfg0.N = fun y : S8192x2048.Idx => tn (relu_sq (X m c)) (Y m c) (y 0 : Fin 8192) (y 1 : Fin 2048) := by
  refine (dats m 0 c).arrAt_eq_of_covers 2 _ (by decide +kernel) fun t hf y => ?_
  blk_simp
  rw [after0_2, blk0, blk1]
  refine (out _ _ y).trans ?_
  exact congrArg₂ (tn (relu_sq (X m c)) (Y m c)) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v4) = (fun y => tn (relu_sq (X m c)) (Y m c) (y 0 : Fin 8192) (y 1 : Fin 2048) : S8192x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.DownDwIdeal.Value.run_blocks m ρ)

end Cert.DownDwIdeal.Product

namespace Cert.DownDwRefIdeal.Product

open Cert.DownDwRefIdeal Cert.DownDwRefIdeal.Gen _root_.Product

variable (m : (ℓ : Loc nD τ sig) → Buf (Elt Ideal) ℓ) (c : Dev nD)

abbrev X : S2048x8192.Idx → EReal := m ((c.tc : Thread nD τ).loc main_arg0)
abbrev Y : S2048x2048.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v7) = (fun y => tn (relu_sq (X m c)) (Y m c) (y 0 : Fin 8192) (y 1 : Fin 2048) : S8192x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      refine Eq.trans ?_ (tn_comm _ _ _ _).symm
      unfold relu_sq
      pointwise!), (h c).2⟩) (Cert.DownDwRefIdeal.Value.run m ρ)

end Cert.DownDwRefIdeal.Product

namespace Cert.DownDxIdeal.Product

open Cert.DownDxIdeal Cert.DownDxIdeal.Gen _root_.Product

theorem idx : ∀ t : Fin cfg0.N, win0_0.index t = ![t.val / 8, 0] ∧ win0_1.index t = ![t.val % 8, 0] ∧ win0_2.index t = ![t.val / 8, t.val % 8]
    ∧ win0_3.index t = ![t.val / 8, t.val % 8] :=
  (by decide +kernel : ∀ t : Fin grid0.N, _)

variable (m : (ℓ : Loc nD τ sig) → Buf (Elt Ideal) ℓ) (c : Dev nD)

/-- The three argument arrays: the first product, the second weight, and the gradient of the second product. -/
abbrev X : S2048x8192.Idx → EReal := m ((c.tc : Thread nD τ).loc main_arg0)
abbrev W : S8192x2048.Idx → EReal := m ((c.tc : Thread nD τ).loc main_arg1)
abbrev G : S2048x2048.Idx → EReal := m ((c.tc : Thread nD τ).loc main_arg2)

/-- What the forward pass keeps of the first product: its rectifier. -/
theorem arr2 : V m c main_v2 = relu (X m c) := by
  funext y
  unfold V hostOps0 relu
  after_results
  pointwise

def dx (i : Fin 2048) (j : Fin 8192) : EReal := nt (G m c) (W m c) i j * (2 * relu (X m c) (ix2 i j))

/-- The row and the column of an output block's element. -/
def row (t : Fin cfg0.N) (i : Fin 1024) : Fin 2048 := ⟨t.val / 8 * 1024 + i.val, by have : t.val < 16 := t.isLt; omega⟩
def col (t : Fin cfg0.N) (j : Fin 1024) : Fin 8192 := ⟨t.val % 8 * 1024 + j.val, by omega⟩

/-- The three input windows' blocks at grid point `t`. -/
theorem blk0 (t : Fin cfg0.N) : iblk m c 0 t = fun i : S1024x2048.Idx => G m c (ix2 (row t (i 0)) (i 1 : Fin 2048)) := by
  funext i
  blk_ext [iblk, V, idx t]
  rfl

theorem blk1 (t : Fin cfg0.N) : iblk m c 1 t = fun i : S1024x2048.Idx => W m c (ix2 (col t (i 0)) (i 1 : Fin 2048)) := by
  funext i
  blk_ext [iblk, V, idx t]
  rfl

theorem blk2 (t : Fin cfg0.N) : iblk m c 2 t = fun i : S1024x1024.Idx => relu (X m c) (ix2 (row t (i 0)) (col t (i 1))) := by
  funext i
  unfold iblk
  show ((cfg0.win 2).blk t).view.read (Elt Ideal) (V m c main_v2) i = _
  rw [arr2]
  blk_ext [idx t] <;> rfl

/-- The body: one product, and twice the kept value. -/
theorem out (x0 x1 : Vec Ideal S1024x2048 .bf16) (x2 : Vec Ideal S1024x1024 .bf16) (y : S1024x1024.Idx) :
    out0_3 x0 x1 x2 y = (∑ k : Fin 2048, (x0 (ix2 (y 0 : Fin 1024) k) : EReal) * x1 (ix2 (y 1 : Fin 1024) k)) * (2 * x2 (ix2 (y 0 : Fin 1024) (y 1 : Fin 1024))) := by
  unfold out0_3
  canon_tiles x h
  obtain rfl : y = x := funext fun a => by fin_cases a <;> exact Fin.ext (by assumption)
  open_payloads
  pointwise
  rw [two_bits]

theorem final : (dats m 0 c).arrAt 3 cfg0.N = fun y : S2048x8192.Idx => dx m c (y 0 : Fin 2048) (y 1 : Fin 8192) := by
  refine (dats m 0 c).arrAt_eq_of_covers 3 _ (by decide +kernel) fun t hf y => ?_
  blk_simp
  rw [after0_3, blk0, blk1, blk2]
  refine (out _ _ _ y).trans ?_
  exact congrArg₂ (dx m c) (Fin.ext (spot_row (idx t).2.2.2 _)) (Fin.ext (spot_col (idx t).2.2.2 _))

theorem run (ρ : Dev nD → PrngReg) :
    θ_run defs (onTc (τ := τ) (main (F := Ideal))) ⟨m, fun _ => 0, ρ⟩ fun r => ∀ c : Dev nD,
      r.2.mem ((c.tc : Thread nD τ).loc main_v3) = (fun y => dx m c (y 0 : Fin 2048) (y 1 : Fin 8192) : S2048x8192.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final m c), (h c).2⟩) (Cert.DownDxIdeal.Value.run_blocks m ρ)

end Cert.DownDxIdeal.Product

namespace Cert.DownDxRefIdeal.Product

open Cert.DownDxRefIdeal Cert.DownDxRefIdeal.Gen _root_.Product

variable (m : (ℓ : Loc nD τ sig) → Buf (Elt Ideal) ℓ) (c : Dev nD)

abbrev X : S2048x8192.Idx → EReal := m ((c.tc : Thread nD τ).loc main_arg0)
abbrev W : S8192x2048.Idx → EReal := m ((c.tc : Thread nD τ).loc main_arg1)
abbrev G : S2048x2048.Idx → EReal := m ((c.tc : Thread nD τ).loc main_arg2)

def dx (i : Fin 2048) (j : Fin 8192) : EReal := nt (G m c) (W m c) i j * (2 * relu (X m c) (ix2 i j))

theorem run (ρ : Dev nD → PrngReg) :
    θ_run defs (onTc (τ := τ) (main (F := Ideal))) ⟨m, fun _ => 0, ρ⟩ fun r => ∀ c : Dev nD,
      r.2.mem ((c.tc : Thread nD τ).loc main_v14) = (fun y => dx m c (y 0 : Fin 2048) (y 1 : Fin 8192) : S2048x8192.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by
      funext y
      unfold dx nt relu
      rw [relu_sq_grad]
      obtain ⟨p, j, rfl⟩ : ∃ (p : Fin 2048) (j : Fin 8192), y = ix2 p j := ⟨_, _, eq_ix2 y⟩
      pointwise!), (h c).2⟩) (Cert.DownDxRefIdeal.Value.run m ρ)

end Cert.DownDxRefIdeal.Product

end
-- ==== Proof.UpProducts.lean ====
/-
  The MLP's first product, of which the rectifier and its square are kept, and its gradients.
-/
module

public import proofs.«01_k».proof.Proof.Gen.UpIdeal.Value
public import proofs.«01_k».proof.Proof.Gen.UpRefIdeal.Run
public import proofs.«01_k».proof.Proof.Gen.UpDwIdeal.Value
public import proofs.«01_k».proof.Proof.Gen.UpDwRefIdeal.Run
public import proofs.«01_k».proof.Proof.Gen.UpDxIdeal.Value
public import proofs.«01_k».proof.Proof.Gen.UpDxRefIdeal.Run
public import proofs.«01_k».proof.Proof.Product

@[expose] public section

set_option maxRecDepth 16384

noncomputable section

open Idealize.ShloMosaic Idealize.ShloMosaic.TcCoe Idealize.SL.Sem
open Idealize.ShloMosaic.Pipeline (Dat)

namespace Cert.UpIdeal.Product

open Cert.UpIdeal Cert.UpIdeal.Gen _root_.Product

theorem idx : ∀ t : Fin cfg0.N, win0_0.index t = ![t.val / 8, 0] ∧ win0_1.index t = ![0, t.val % 8] ∧ win0_2.index t = ![t.val / 8, t.val % 8]
    ∧ win0_3.index t = ![t.val / 8, t.val % 8] :=
  (by decide +kernel : ∀ t : Fin grid0.N, _)

variable (m : (ℓ : Loc nD τ sig) → Buf (Elt Ideal) ℓ) (c : Dev nD)

/-- The two argument arrays. -/
abbrev A : S2048x2048.Idx → EReal := m ((c.tc : Thread nD τ).loc main_arg0)
abbrev B : S2048x8192.Idx → EReal := m ((c.tc : Thread nD τ).loc main_arg1)

/-- The product, of which the rectifier and its square are kept. -/
def p (y : S2048x8192.Idx) : EReal := nn (A m c) (B m c) (y 0 : Fin 2048) (y 1 : Fin 8192)

/-- The row and the column of an output block's element. -/
def row (t : Fin cfg0.N) (i : Fin 1024) : Fin 2048 := ⟨t.val / 8 * 1024 + i.val, by have : t.val < 16 := t.isLt; omega⟩
def col (t : Fin cfg0.N) (j : Fin 1024) : Fin 8192 := ⟨t.val % 8 * 1024 + j.val, by omega⟩

/-- The two input windows' blocks at grid point `t`. -/
theorem blk0 (t : Fin cfg0.N) : iblk m c 0 t = fun i : S1024x2048.Idx => A m c (ix2 (row t (i 0)) (i 1 : Fin 2048)) := by
  funext i
  blk_ext [iblk, V, idx t]
  rfl

theorem blk1 (t : Fin cfg0.N) : iblk m c 1 t = fun i : S2048x1024.Idx => B m c (ix2 (i 0 : Fin 2048) (col t (i 1))) := by
  funext i
  blk_ext [iblk, V, idx t]
  rfl

/-- The body: one product, of which it keeps the rectifier and its square. -/
theorem out2 (x0 : Vec Ideal S1024x2048 .bf16) (x1 : Vec Ideal S2048x1024 .bf16) (y : S1024x1024.Idx) :
    out0_2 x0 x1 y = max (∑ k : Fin 2048, (x0 (ix2 (y 0 : Fin 1024) k) : EReal) * x1 (ix2 k (y 1 : Fin 1024))) 0 := by
  unfold out0_2
  canon_tiles x h
  obtain rfl : y = x := funext fun a => by fin_cases a <;> exact Fin.ext (by assumption)
  open_payloads
  pointwise

theorem out3 (x0 : Vec Ideal S1024x2048 .bf16) (x1 : Vec Ideal S2048x1024 .bf16) (y : S1024x1024.Idx) :
    out0_3 x0 x1 y = max (∑ k : Fin 2048, (x0 (ix2 (y 0 : Fin 1024) k) : EReal) * x1 (ix2 k (y 1 : Fin 1024))) 0
      * max (∑ k : Fin 2048, (x0 (ix2 (y 0 : Fin 1024) k) : EReal) * x1 (ix2 k (y 1 : Fin 1024))) 0 := by
  unfold out0_3
  canon_tiles x h
  obtain rfl : y = x := funext fun a => by fin_cases a <;> exact Fin.ext (by assumption)
  open_payloads
  pointwise

theorem final2 : (dats m 0 c).arrAt 2 cfg0.N = relu (p m c) := by
  refine (dats m 0 c).arrAt_eq_of_covers 2 _ (by decide +kernel) fun t hf y => ?_
  blk_simp
  rw [after0_2, blk0, blk1]
  refine (out2 _ _ y).trans ?_
  exact congrArg (max · 0) (congrArg₂ (nn (A m c) (B m c)) (Fin.ext (spot_row (idx t).2.2.1 _)) (Fin.ext (spot_col (idx t).2.2.1 _)))

theorem final3 : (dats m 0 c).arrAt 3 cfg0.N = relu_sq (p m c) := by
  refine (dats m 0 c).arrAt_eq_of_covers 3 _ (by decide +kernel) fun t hf y => ?_
  blk_simp
  rw [after0_3, blk0, blk1]
  refine (out3 _ _ y).trans ?_
  exact congrArg (fun s => max s 0 * max s 0) (congrArg₂ (nn (A m c) (B m c)) (Fin.ext (spot_row (idx t).2.2.2 _)) (Fin.ext (spot_col (idx t).2.2.2 _)))

theorem run (ρ : Dev nD → PrngReg) :
    θ_run defs (onTc (τ := τ) (main (F := Ideal))) ⟨m, fun _ => 0, ρ⟩ fun r => ∀ c : Dev nD,
      r.2.mem ((c.tc : Thread nD τ).loc main_v0_0) = (relu (p m c) : S2048x8192.Idx → EReal)
      ∧ r.2.mem ((c.tc : Thread nD τ).loc main_v0_1) = (relu_sq (p m c) : S2048x8192.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2.1.trans (final3 m c), (h c).2.2⟩) (Cert.UpIdeal.Value.run_blocks m ρ)

end Cert.UpIdeal.Product

namespace Cert.UpRefIdeal.Product

open Cert.UpRefIdeal Cert.UpRefIdeal.Gen _root_.Product

variable (m : (ℓ : Loc nD τ sig) → Buf (Elt Ideal) ℓ) (c : Dev nD)

abbrev A : S2048x2048.Idx → EReal := m ((c.tc : Thread nD τ).loc main_arg0)
abbrev B : S2048x8192.Idx → EReal := m ((c.tc : Thread nD τ).loc main_arg1)
def p (y : S2048x8192.Idx) : EReal := nn (A m c) (B m c) (y 0 : Fin 2048) (y 1 : Fin 8192)

theorem run (ρ : Dev nD → PrngReg) :
    θ_run defs (onTc (τ := τ) (main (F := Ideal))) ⟨m, fun _ => 0, ρ⟩ fun r => ∀ c : Dev nD,
      r.2.mem ((c.tc : Thread nD τ).loc main_v2) = (relu (p m c) : S2048x8192.Idx → EReal)
      ∧ r.2.mem ((c.tc : Thread nD τ).loc main_v4) = (relu_sq (p m c) : S2048x8192.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      unfold relu p nn
      pointwise!), (h c).2.1.trans (by
      funext y
      unfold relu_sq p nn
      pointwise!), (h c).2.2⟩) (Cert.UpRefIdeal.Value.run m ρ)

end Cert.UpRefIdeal.Product

namespace Cert.UpDwIdeal.Product

open Cert.UpDwIdeal Cert.UpDwIdeal.Gen _root_.Product

theorem idx : ∀ t : Fin cfg0.N, win0_0.index t = ![0, t.val / 8] ∧ win0_1.index t = ![0, t.val % 8] ∧ win0_2.index t = ![t.val / 8, t.val % 8] :=
  (by decide +kernel : ∀ t : Fin grid0.N, _)

variable (m : (ℓ : Loc nD τ sig) → Buf (Elt Ideal) ℓ) (c : Dev nD)

/-- The two argument arrays. -/
abbrev A : S2048x2048.Idx → EReal := m ((c.tc : Thread nD τ).loc main_arg0)
abbrev B : S2048x8192.Idx → EReal := m ((c.tc : Thread nD τ).loc main_arg1)

/-- The row and the column of an output block's element. -/
def row (t : Fin cfg0.N) (i : Fin 1024) : Fin 2048 := ⟨t.val / 8 * 1024 + i.val, by have : t.val < 16 := t.isLt; omega⟩
def col (t : Fin cfg0.N) (j : Fin 1024) : Fin 8192 := ⟨t.val % 8 * 1024 + j.val, by omega⟩

/-- The two input windows' blocks at grid point `t`. -/
theorem blk0 (t : Fin cfg0.N) : iblk m c 0 t = fun i : S2048x1024.Idx => A m c (ix2 (i 0 : Fin 2048) (row t (i 1))) := by
  funext i
  blk_ext [iblk, V, idx t]
  rfl

theorem blk1 (t : Fin cfg0.N) : iblk m c 1 t = fun i : S2048x1024.Idx => B m c (ix2 (i 0 : Fin 2048) (col t (i 1))) := by
  funext i
  blk_ext [iblk, V, idx t]
  rfl

/-- The body: one product. -/
theorem out (x0 : Vec Ideal S2048x1024 .bf16) (x1 : Vec Ideal S2048x1024 .bf16) (y : S1024x1024.Idx) :
    out0_2 x0 x1 y = ∑ k : Fin 2048, (x0 (ix2 k (y 0 : Fin 1024)) : EReal) * x1 (ix2 k (y 1 : Fin 1024)) := by
  unfold out0_2
  canon_tiles x h
  obtain rfl : y = x := funext fun a => by fin_cases a <;> exact Fin.ext (by assumption)
  open_payloads
  pointwise

theorem final : (dats m 0 c).arrAt 2 cfg0.N = fun y : S2048x8192.Idx => tn (A m c) (B m c) (y 0 : Fin 2048) (y 1 : Fin 8192) := by
  refine (dats m 0 c).arrAt_eq_of_covers 2 _ (by decide +kernel) fun t hf y => ?_
  blk_simp
  rw [after0_2, blk0, blk1]
  refine (out _ _ y).trans ?_
  exact congrArg₂ (tn (A m c) (B m c)) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => tn (A m c) (B m c) (y 0 : Fin 2048) (y 1 : Fin 8192) : S2048x8192.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.UpDwIdeal.Value.run_blocks m ρ)

end Cert.UpDwIdeal.Product

namespace Cert.UpDwRefIdeal.Product

open Cert.UpDwRefIdeal Cert.UpDwRefIdeal.Gen _root_.Product

variable (m : (ℓ : Loc nD τ sig) → Buf (Elt Ideal) ℓ) (c : Dev nD)

abbrev A : S2048x2048.Idx → EReal := m ((c.tc : Thread nD τ).loc main_arg0)
abbrev B : S2048x8192.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v6) = (fun y => tn (A m c) (B m c) (y 0 : Fin 2048) (y 1 : Fin 8192) : S2048x8192.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      refine Eq.trans ?_ (tn_comm _ _ _ _).symm
      pointwise!), (h c).2⟩) (Cert.UpDwRefIdeal.Value.run m ρ)

end Cert.UpDwRefIdeal.Product

namespace Cert.UpDxIdeal.Product

open Cert.UpDxIdeal Cert.UpDxIdeal.Gen _root_.Product

theorem idx : ∀ t : Fin cfg0.N, win0_0.index t = ![t.val / 4, t.val % 2] ∧ win0_1.index t = ![t.val / 2 % 2, t.val % 2] ∧ win0_2.index t = ![t.val / 4, t.val / 2 % 2] :=
  (by decide +kernel : ∀ t : Fin grid0.N, _)

variable (m : (ℓ : Loc nD τ sig) → Buf (Elt Ideal) ℓ) (c : Dev nD)

/-- The two argument arrays. -/
abbrev A : S2048x8192.Idx → EReal := m ((c.tc : Thread nD τ).loc main_arg0)
abbrev B : S2048x8192.Idx → EReal := m ((c.tc : Thread nD τ).loc main_arg1)

/-- The row and the column of an output block's element, and the summed column of a partial product's. -/
def row (t : Fin cfg0.N) (i : Fin 1024) : Fin 2048 := ⟨t.val / 4 * 1024 + i.val, by have : t.val < 8 := t.isLt; omega⟩
def col (t : Fin cfg0.N) (j : Fin 1024) : Fin 2048 := ⟨t.val / 2 % 2 * 1024 + j.val, by omega⟩
def mid (t : Fin cfg0.N) (k : Fin 4096) : Fin 8192 := ⟨t.val % 2 * 4096 + k.val, by omega⟩

/-- The two input windows' blocks at grid point `t`. -/
theorem blk0 (t : Fin cfg0.N) : iblk m c 0 t = fun i : S1024x4096.Idx => A m c (ix2 (row t (i 0)) (mid t (i 1))) := by
  funext i
  blk_ext [iblk, V, idx t] <;> rfl

theorem blk1 (t : Fin cfg0.N) : iblk m c 1 t = fun i : S1024x4096.Idx => B m c (ix2 (col t (i 0)) (mid t (i 1))) := by
  funext i
  blk_ext [iblk, V, idx t] <;> rfl

/-- A partial product. -/
def part (t : Fin cfg0.N) (y : S1024x1024.Idx) : EReal :=
  ∑ k : Fin 4096, A m c (ix2 (row t (y 0)) (mid t k)) * B m c (ix2 (col t (y 1)) (mid t k))

theorem pay (t : Fin cfg0.N) (y : S1024x1024.Idx) : k0_pay1 (F := Ideal) (iblk m c 0 t) (iblk m c 1 t) y = part m c t y := by
  rw [blk0, blk1]
  unfold part k0_pay1
  pointwise

/-- The sum's buffer: a run's first point writes it, and the other adds to it. -/
theorem first (t : Fin cfg0.N) (h : t.val % 2 = 0) (y : S1024x1024.Idx) : (outsAt0 m c t.val t.isLt).2 y = 0 + part m c t y := by
  rw [outsAt0_A m c t h (by omega) (by omega)]
  frame_out
  rw [← pay, zero_add]
  unfold k0_pay2
  pointwise

theorem next (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y + part m c t y := by
  rw [outsAt0_B m c t h (by omega) (by omega)]
  frame_out
  rw [← pay]
  unfold k0_pay3
  pointwise
  rw [read_unread_whole]

/-- The last point copies it out. -/
theorem last (t : Fin cfg0.N) (h : t.val % 2 = 1) : (outsAt0 m c t.val t.isLt).1 = (outsAt0 m c t.val t.isLt).2 := by
  rw [outsAt0_B m c t (by omega) h h]
  frame_out

theorem out (t : Fin cfg0.N) (h : t.val % 2 = 1) (y : S1024x1024.Idx) :
    (outsAt0 m c t.val t.isLt).1 y = nt (A m c) (B m c) (row t (y 0)) (col t (y 1)) := by
  rw [last m c t h]
  refine nt_of_parts 2 (fun n h => (outsAt0 m c n h).2) (A m c) (B m c) row col mid rfl (fun t s h => ?_) (fun t s h => ?_) (fun _ _ => rfl) (first m c) (next m c) t h y
  · funext i; exact Fin.ext (by show t.val / 4 * 1024 + i.val = s.val / 4 * 1024 + i.val; omega)
  · funext i; exact Fin.ext (by show t.val / 2 % 2 * 1024 + i.val = s.val / 2 % 2 * 1024 + i.val; omega)

theorem final : (dats m 0 c).arrAt 2 cfg0.N = fun y : S2048x2048.Idx => nt (A m c) (B m c) (y 0 : Fin 2048) (y 1 : Fin 2048) := by
  refine (dats m 0 c).arrAt_eq_of_covers 2 _ (by decide +kernel) fun t hf y => ?_
  blk_simp
  rw [after0_2]
  refine (out m c t ((flush0_2 t).mp hf) y).trans ?_
  exact congrArg₂ (nt (A m c) (B m c)) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => nt (A m c) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.UpDxIdeal.Value.run_blocks m ρ)

end Cert.UpDxIdeal.Product

namespace Cert.UpDxRefIdeal.Product

open Cert.UpDxRefIdeal Cert.UpDxRefIdeal.Gen _root_.Product

variable (m : (ℓ : Loc nD τ sig) → Buf (Elt Ideal) ℓ) (c : Dev nD)

abbrev A : S2048x8192.Idx → EReal := m ((c.tc : Thread nD τ).loc main_arg0)
abbrev B : S2048x8192.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v4) = (fun y => nt (A m c) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      unfold nt
      pointwise!), (h c).2⟩) (Cert.UpDxRefIdeal.Value.run m ρ)

end Cert.UpDxRefIdeal.Product

end
-- ==== Proof.OutProducts.lean ====
/-
  The mixers' second product and its gradients.
-/
module

public import proofs.«01_k».proof.Proof.Gen.OutIdeal.Value
public import proofs.«01_k».proof.Proof.Gen.OutRefIdeal.Run
public import proofs.«01_k».proof.Proof.Gen.OutDxIdeal.Value
public import proofs.«01_k».proof.Proof.Gen.OutDxRefIdeal.Run
public import proofs.«01_k».proof.Proof.Gen.OutDwIdeal.Value
public import proofs.«01_k».proof.Proof.Gen.OutDwRefIdeal.Run
public import proofs.«01_k».proof.Proof.Product

@[expose] public section

set_option maxRecDepth 16384

noncomputable section

open Idealize.ShloMosaic Idealize.ShloMosaic.TcCoe Idealize.SL.Sem
open Idealize.ShloMosaic.Pipeline (Dat)

namespace Cert.OutIdeal.Product

open Cert.OutIdeal Cert.OutIdeal.Gen _root_.Product

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

/-- The two argument arrays. -/
abbrev A : S2048x2048.Idx → EReal := m ((c.tc : Thread nD τ).loc main_arg0)
abbrev B : S2048x2048.Idx → EReal := m ((c.tc : Thread nD τ).loc main_arg1)

/-- The row and the column of an output block's element. -/
def row (t : Fin cfg0.N) (i : Fin 1024) : Fin 2048 := ⟨t.val / 2 * 1024 + i.val, by have : t.val < 4 := t.isLt; omega⟩
def col (t : Fin cfg0.N) (j : Fin 1024) : Fin 2048 := ⟨t.val % 2 * 1024 + j.val, by omega⟩

/-- The two input windows' blocks at grid point `t`. -/
theorem blk0 (t : Fin cfg0.N) : iblk m c 0 t = fun i : S1024x2048.Idx => A m c (ix2 (row t (i 0)) (i 1 : Fin 2048)) := by
  funext i
  blk_ext [iblk, V, idx t]
  rfl

theorem blk1 (t : Fin cfg0.N) : iblk m c 1 t = fun i : S2048x1024.Idx => B m c (ix2 (i 0 : Fin 2048) (col t (i 1))) := by
  funext i
  blk_ext [iblk, V, idx t]
  rfl

/-- The body: one product. -/
theorem out (x0 : Vec Ideal S1024x2048 .bf16) (x1 : Vec Ideal S2048x1024 .bf16) (y : S1024x1024.Idx) :
    out0_2 x0 x1 y = ∑ k : Fin 2048, (x0 (ix2 (y 0 : Fin 1024) k) : EReal) * x1 (ix2 k (y 1 : Fin 1024)) := by
  unfold out0_2
  canon_tiles x h
  obtain rfl : y = x := funext fun a => by fin_cases a <;> exact Fin.ext (by assumption)
  open_payloads
  pointwise

theorem final : (dats m 0 c).arrAt 2 cfg0.N = fun y : S2048x2048.Idx => nn (A m c) (B m c) (y 0 : Fin 2048) (y 1 : Fin 2048) := by
  refine (dats m 0 c).arrAt_eq_of_covers 2 _ (by decide +kernel) fun t hf y => ?_
  blk_simp
  rw [after0_2, blk0, blk1]
  refine (out _ _ y).trans ?_
  exact congrArg₂ (nn (A m c) (B m c)) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => nn (A m c) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.OutIdeal.Value.run_blocks m ρ)

end Cert.OutIdeal.Product

namespace Cert.OutRefIdeal.Product

open Cert.OutRefIdeal Cert.OutRefIdeal.Gen _root_.Product

variable (m : (ℓ : Loc nD τ sig) → Buf (Elt Ideal) ℓ) (c : Dev nD)

abbrev A : S2048x2048.Idx → EReal := m ((c.tc : Thread nD τ).loc main_arg0)
abbrev B : S2048x2048.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => nn (A m c) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      unfold nn
      pointwise!), (h c).2⟩) (Cert.OutRefIdeal.Value.run m ρ)

end Cert.OutRefIdeal.Product

namespace Cert.OutDxIdeal.Product

open Cert.OutDxIdeal Cert.OutDxIdeal.Gen _root_.Product

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ) (c : Dev nD)

/-- The two argument arrays. -/
abbrev A : S2048x2048.Idx → EReal := m ((c.tc : Thread nD τ).loc main_arg0)
abbrev B : S2048x2048.Idx → EReal := m ((c.tc : Thread nD τ).loc main_arg1)

/-- The row and the column of an output block's element. -/
def row (t : Fin cfg0.N) (i : Fin 1024) : Fin 2048 := ⟨t.val / 2 * 1024 + i.val, by have : t.val < 4 := t.isLt; omega⟩
def col (t : Fin cfg0.N) (j : Fin 1024) : Fin 2048 := ⟨t.val % 2 * 1024 + j.val, by omega⟩

/-- The two input windows' blocks at grid point `t`. -/
theorem blk0 (t : Fin cfg0.N) : iblk m c 0 t = fun i : S1024x2048.Idx => A m c (ix2 (row t (i 0)) (i 1 : Fin 2048)) := by
  funext i
  blk_ext [iblk, V, idx t]
  rfl

theorem blk1 (t : Fin cfg0.N) : iblk m c 1 t = fun i : S1024x2048.Idx => B m c (ix2 (col t (i 0)) (i 1 : Fin 2048)) := by
  funext i
  blk_ext [iblk, V, idx t]
  rfl

/-- The body: one product. -/
theorem out (x0 : Vec Ideal S1024x2048 .bf16) (x1 : Vec Ideal S1024x2048 .bf16) (y : S1024x1024.Idx) :
    out0_2 x0 x1 y = ∑ k : Fin 2048, (x0 (ix2 (y 0 : Fin 1024) k) : EReal) * x1 (ix2 (y 1 : Fin 1024) k) := by
  unfold out0_2
  canon_tiles x h
  obtain rfl : y = x := funext fun a => by fin_cases a <;> exact Fin.ext (by assumption)
  open_payloads
  pointwise

theorem final : (dats m 0 c).arrAt 2 cfg0.N = fun y : S2048x2048.Idx => nt (A m c) (B m c) (y 0 : Fin 2048) (y 1 : Fin 2048) := by
  refine (dats m 0 c).arrAt_eq_of_covers 2 _ (by decide +kernel) fun t hf y => ?_
  blk_simp
  rw [after0_2, blk0, blk1]
  refine (out _ _ y).trans ?_
  exact congrArg₂ (nt (A m c) (B m c)) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => nt (A m c) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.OutDxIdeal.Value.run_blocks m ρ)

end Cert.OutDxIdeal.Product

namespace Cert.OutDxRefIdeal.Product

open Cert.OutDxRefIdeal Cert.OutDxRefIdeal.Gen _root_.Product

variable (m : (ℓ : Loc nD τ sig) → Buf (Elt Ideal) ℓ) (c : Dev nD)

abbrev A : S2048x2048.Idx → EReal := m ((c.tc : Thread nD τ).loc main_arg0)
abbrev B : S2048x2048.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v4) = (fun y => nt (A m c) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      unfold nt
      pointwise!), (h c).2⟩) (Cert.OutDxRefIdeal.Value.run m ρ)

end Cert.OutDxRefIdeal.Product

namespace Cert.OutDwIdeal.Product

open Cert.OutDwIdeal Cert.OutDwIdeal.Gen _root_.Product

theorem idx : ∀ t : Fin cfg0.N, win0_0.index t = ![0, t.val / 2] ∧ win0_1.index t = ![0, t.val % 2] ∧ win0_2.index t = ![t.val / 2, t.val % 2] :=
  (by decide +kernel : ∀ t : Fin grid0.N, _)

variable (m : (ℓ : Loc nD τ sig) → Buf (Elt Ideal) ℓ) (c : Dev nD)

/-- The two argument arrays. -/
abbrev A : S2048x2048.Idx → EReal := m ((c.tc : Thread nD τ).loc main_arg0)
abbrev B : S2048x2048.Idx → EReal := m ((c.tc : Thread nD τ).loc main_arg1)

/-- The row and the column of an output block's element. -/
def row (t : Fin cfg0.N) (i : Fin 1024) : Fin 2048 := ⟨t.val / 2 * 1024 + i.val, by have : t.val < 4 := t.isLt; omega⟩
def col (t : Fin cfg0.N) (j : Fin 1024) : Fin 2048 := ⟨t.val % 2 * 1024 + j.val, by omega⟩

/-- The two input windows' blocks at grid point `t`. -/
theorem blk0 (t : Fin cfg0.N) : iblk m c 0 t = fun i : S2048x1024.Idx => A m c (ix2 (i 0 : Fin 2048) (row t (i 1))) := by
  funext i
  blk_ext [iblk, V, idx t]
  rfl

theorem blk1 (t : Fin cfg0.N) : iblk m c 1 t = fun i : S2048x1024.Idx => B m c (ix2 (i 0 : Fin 2048) (col t (i 1))) := by
  funext i
  blk_ext [iblk, V, idx t]
  rfl

/-- The body: one product. -/
theorem out (x0 : Vec Ideal S2048x1024 .bf16) (x1 : Vec Ideal S2048x1024 .bf16) (y : S1024x1024.Idx) :
    out0_2 x0 x1 y = ∑ k : Fin 2048, (x0 (ix2 k (y 0 : Fin 1024)) : EReal) * x1 (ix2 k (y 1 : Fin 1024)) := by
  unfold out0_2
  canon_tiles x h
  obtain rfl : y = x := funext fun a => by fin_cases a <;> exact Fin.ext (by assumption)
  open_payloads
  pointwise

theorem final : (dats m 0 c).arrAt 2 cfg0.N = fun y : S2048x2048.Idx => tn (A m c) (B m c) (y 0 : Fin 2048) (y 1 : Fin 2048) := by
  refine (dats m 0 c).arrAt_eq_of_covers 2 _ (by decide +kernel) fun t hf y => ?_
  blk_simp
  rw [after0_2, blk0, blk1]
  refine (out _ _ y).trans ?_
  exact congrArg₂ (tn (A m c) (B m c)) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => tn (A m c) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.OutDwIdeal.Value.run_blocks m ρ)

end Cert.OutDwIdeal.Product

namespace Cert.OutDwRefIdeal.Product

open Cert.OutDwRefIdeal Cert.OutDwRefIdeal.Gen _root_.Product

variable (m : (ℓ : Loc nD τ sig) → Buf (Elt Ideal) ℓ) (c : Dev nD)

abbrev A : S2048x2048.Idx → EReal := m ((c.tc : Thread nD τ).loc main_arg0)
abbrev B : S2048x2048.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v6) = (fun y => tn (A m c) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      refine Eq.trans ?_ (tn_comm _ _ _ _).symm
      pointwise!), (h c).2⟩) (Cert.OutDwRefIdeal.Value.run m ρ)

end Cert.OutDwRefIdeal.Product

end
-- ==== Proof.In0Products.lean ====
/-
  The first layer's first product in the mixer, and its gradients.
-/
module

public import proofs.«01_k».proof.Proof.Gen.In0Ideal.Value
public import proofs.«01_k».proof.Proof.Gen.In0RefIdeal.Run
public import proofs.«01_k».proof.Proof.Gen.In0DxIdeal.Value
public import proofs.«01_k».proof.Proof.Gen.In0DxRefIdeal.Run
public import proofs.«01_k».proof.Proof.Gen.In0DwIdeal.Value
public import proofs.«01_k».proof.Proof.Gen.In0DwRefIdeal.Run
public import proofs.«01_k».proof.Proof.Product

@[expose] public section

set_option maxRecDepth 16384

noncomputable section

open Idealize.ShloMosaic Idealize.ShloMosaic.TcCoe Idealize.SL.Sem
open Idealize.ShloMosaic.Pipeline (Dat)

namespace Cert.In0Ideal.Product

open Cert.In0Ideal Cert.In0Ideal.Gen _root_.Product

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

variable (m : (ℓ : Loc nD τ sig) → Buf (Elt Ideal) ℓ) (c : Dev nD)

/-- The two argument arrays. -/
abbrev A : S2048x2048.Idx → EReal := m ((c.tc : Thread nD τ).loc main_arg0)
abbrev B : S2048x3072.Idx → EReal := m ((c.tc : Thread nD τ).loc main_arg1)

/-- The row and the column of an output block's element. -/
def row (t : Fin cfg0.N) (i : Fin 1024) : Fin 2048 := ⟨t.val / 3 * 1024 + i.val, by have : t.val < 6 := t.isLt; omega⟩
def col (t : Fin cfg0.N) (j : Fin 1024) : Fin 3072 := ⟨t.val % 3 * 1024 + j.val, by omega⟩

/-- The two input windows' blocks at grid point `t`. -/
theorem blk0 (t : Fin cfg0.N) : iblk m c 0 t = fun i : S1024x2048.Idx => A m c (ix2 (row t (i 0)) (i 1 : Fin 2048)) := by
  funext i
  blk_ext [iblk, V, idx t]
  rfl

theorem blk1 (t : Fin cfg0.N) : iblk m c 1 t = fun i : S2048x1024.Idx => B m c (ix2 (i 0 : Fin 2048) (col t (i 1))) := by
  funext i
  blk_ext [iblk, V, idx t]
  rfl

/-- The body: one product. -/
theorem out (x0 : Vec Ideal S1024x2048 .bf16) (x1 : Vec Ideal S2048x1024 .bf16) (y : S1024x1024.Idx) :
    out0_2 x0 x1 y = ∑ k : Fin 2048, (x0 (ix2 (y 0 : Fin 1024) k) : EReal) * x1 (ix2 k (y 1 : Fin 1024)) := by
  unfold out0_2
  canon_tiles x h
  obtain rfl : y = x := funext fun a => by fin_cases a <;> exact Fin.ext (by assumption)
  open_payloads
  pointwise

theorem final : (dats m 0 c).arrAt 2 cfg0.N = fun y : S2048x3072.Idx => nn (A m c) (B m c) (y 0 : Fin 2048) (y 1 : Fin 3072) := by
  refine (dats m 0 c).arrAt_eq_of_covers 2 _ (by decide +kernel) fun t hf y => ?_
  blk_simp
  rw [after0_2, blk0, blk1]
  refine (out _ _ y).trans ?_
  exact congrArg₂ (nn (A m c) (B m c)) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => nn (A m c) (B m c) (y 0 : Fin 2048) (y 1 : Fin 3072) : S2048x3072.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.In0Ideal.Value.run_blocks m ρ)

end Cert.In0Ideal.Product

namespace Cert.In0RefIdeal.Product

open Cert.In0RefIdeal Cert.In0RefIdeal.Gen _root_.Product

variable (m : (ℓ : Loc nD τ sig) → Buf (Elt Ideal) ℓ) (c : Dev nD)

abbrev A : S2048x2048.Idx → EReal := m ((c.tc : Thread nD τ).loc main_arg0)
abbrev B : S2048x3072.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => nn (A m c) (B m c) (y 0 : Fin 2048) (y 1 : Fin 3072) : S2048x3072.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      unfold nn
      pointwise!), (h c).2⟩) (Cert.In0RefIdeal.Value.run m ρ)

end Cert.In0RefIdeal.Product

namespace Cert.In0DxIdeal.Product

open Cert.In0DxIdeal Cert.In0DxIdeal.Gen _root_.Product

theorem idx : ∀ t : Fin cfg0.N, win0_0.index t = ![t.val / 4, t.val % 2] ∧ win0_1.index t = ![t.val / 2 % 2, t.val % 2] ∧ win0_2.index t = ![t.val / 4, t.val / 2 % 2] :=
  (by decide +kernel : ∀ t : Fin grid0.N, _)

variable (m : (ℓ : Loc nD τ sig) → Buf (Elt Ideal) ℓ) (c : Dev nD)

/-- The two argument arrays. -/
abbrev A : S2048x3072.Idx → EReal := m ((c.tc : Thread nD τ).loc main_arg0)
abbrev B : S2048x3072.Idx → EReal := m ((c.tc : Thread nD τ).loc main_arg1)

/-- The row and the column of an output block's element, and the summed column of a partial product's. -/
def row (t : Fin cfg0.N) (i : Fin 1024) : Fin 2048 := ⟨t.val / 4 * 1024 + i.val, by have : t.val < 8 := t.isLt; omega⟩
def col (t : Fin cfg0.N) (j : Fin 1024) : Fin 2048 := ⟨t.val / 2 % 2 * 1024 + j.val, by omega⟩
def mid (t : Fin cfg0.N) (k : Fin 1536) : Fin 3072 := ⟨t.val % 2 * 1536 + k.val, by omega⟩

/-- The two input windows' blocks at grid point `t`. -/
theorem blk0 (t : Fin cfg0.N) : iblk m c 0 t = fun i : S1024x1536.Idx => A m c (ix2 (row t (i 0)) (mid t (i 1))) := by
  funext i
  blk_ext [iblk, V, idx t] <;> rfl

theorem blk1 (t : Fin cfg0.N) : iblk m c 1 t = fun i : S1024x1536.Idx => B m c (ix2 (col t (i 0)) (mid t (i 1))) := by
  funext i
  blk_ext [iblk, V, idx t] <;> rfl

/-- A partial product. -/
def part (t : Fin cfg0.N) (y : S1024x1024.Idx) : EReal :=
  ∑ k : Fin 1536, A m c (ix2 (row t (y 0)) (mid t k)) * B m c (ix2 (col t (y 1)) (mid t k))

theorem pay (t : Fin cfg0.N) (y : S1024x1024.Idx) : k0_pay1 (F := Ideal) (iblk m c 0 t) (iblk m c 1 t) y = part m c t y := by
  rw [blk0, blk1]
  unfold part k0_pay1
  pointwise

/-- The sum's buffer: a run's first point writes it, and the other adds to it. -/
theorem first (t : Fin cfg0.N) (h : t.val % 2 = 0) (y : S1024x1024.Idx) : (outsAt0 m c t.val t.isLt).2 y = 0 + part m c t y := by
  rw [outsAt0_A m c t h (by omega) (by omega)]
  frame_out
  rw [← pay, zero_add]
  unfold k0_pay2
  pointwise

theorem next (t : Fin cfg0.N) (h : ¬t.val % 2 = 0) (y : S1024x1024.Idx) :
    (outsAt0 m c t.val t.isLt).2 y = (outsAt0 m c (t.val - 1) (Nat.lt_of_le_of_lt (Nat.sub_le _ _) t.isLt)).2 y + part m c t y := by
  rw [outsAt0_B m c t h (by omega) (by omega)]
  frame_out
  rw [← pay]
  unfold k0_pay3
  pointwise
  rw [read_unread_whole]

/-- The last point copies it out. -/
theorem last (t : Fin cfg0.N) (h : t.val % 2 = 1) : (outsAt0 m c t.val t.isLt).1 = (outsAt0 m c t.val t.isLt).2 := by
  rw [outsAt0_B m c t (by omega) h h]
  frame_out

theorem out (t : Fin cfg0.N) (h : t.val % 2 = 1) (y : S1024x1024.Idx) :
    (outsAt0 m c t.val t.isLt).1 y = nt (A m c) (B m c) (row t (y 0)) (col t (y 1)) := by
  rw [last m c t h]
  refine nt_of_parts 2 (fun n h => (outsAt0 m c n h).2) (A m c) (B m c) row col mid rfl (fun t s h => ?_) (fun t s h => ?_) (fun _ _ => rfl) (first m c) (next m c) t h y
  · funext i; exact Fin.ext (by show t.val / 4 * 1024 + i.val = s.val / 4 * 1024 + i.val; omega)
  · funext i; exact Fin.ext (by show t.val / 2 % 2 * 1024 + i.val = s.val / 2 % 2 * 1024 + i.val; omega)

theorem final : (dats m 0 c).arrAt 2 cfg0.N = fun y : S2048x2048.Idx => nt (A m c) (B m c) (y 0 : Fin 2048) (y 1 : Fin 2048) := by
  refine (dats m 0 c).arrAt_eq_of_covers 2 _ (by decide +kernel) fun t hf y => ?_
  blk_simp
  rw [after0_2]
  refine (out m c t ((flush0_2 t).mp hf) y).trans ?_
  exact congrArg₂ (nt (A m c) (B m c)) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => nt (A m c) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.In0DxIdeal.Value.run_blocks m ρ)

end Cert.In0DxIdeal.Product

namespace Cert.In0DxRefIdeal.Product

open Cert.In0DxRefIdeal Cert.In0DxRefIdeal.Gen _root_.Product

variable (m : (ℓ : Loc nD τ sig) → Buf (Elt Ideal) ℓ) (c : Dev nD)

abbrev A : S2048x3072.Idx → EReal := m ((c.tc : Thread nD τ).loc main_arg0)
abbrev B : S2048x3072.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v4) = (fun y => nt (A m c) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      unfold nt
      pointwise!), (h c).2⟩) (Cert.In0DxRefIdeal.Value.run m ρ)

end Cert.In0DxRefIdeal.Product

namespace Cert.In0DwIdeal.Product

open Cert.In0DwIdeal Cert.In0DwIdeal.Gen _root_.Product

theorem idx : ∀ t : Fin cfg0.N, win0_0.index t = ![0, t.val / 3] ∧ win0_1.index t = ![0, t.val % 3] ∧ win0_2.index t = ![t.val / 3, t.val % 3] :=
  (by decide +kernel : ∀ t : Fin grid0.N, _)

variable (m : (ℓ : Loc nD τ sig) → Buf (Elt Ideal) ℓ) (c : Dev nD)

/-- The two argument arrays. -/
abbrev A : S2048x2048.Idx → EReal := m ((c.tc : Thread nD τ).loc main_arg0)
abbrev B : S2048x3072.Idx → EReal := m ((c.tc : Thread nD τ).loc main_arg1)

/-- The row and the column of an output block's element. -/
def row (t : Fin cfg0.N) (i : Fin 1024) : Fin 2048 := ⟨t.val / 3 * 1024 + i.val, by have : t.val < 6 := t.isLt; omega⟩
def col (t : Fin cfg0.N) (j : Fin 1024) : Fin 3072 := ⟨t.val % 3 * 1024 + j.val, by omega⟩

/-- The two input windows' blocks at grid point `t`. -/
theorem blk0 (t : Fin cfg0.N) : iblk m c 0 t = fun i : S2048x1024.Idx => A m c (ix2 (i 0 : Fin 2048) (row t (i 1))) := by
  funext i
  blk_ext [iblk, V, idx t]
  rfl

theorem blk1 (t : Fin cfg0.N) : iblk m c 1 t = fun i : S2048x1024.Idx => B m c (ix2 (i 0 : Fin 2048) (col t (i 1))) := by
  funext i
  blk_ext [iblk, V, idx t]
  rfl

/-- The body: one product. -/
theorem out (x0 : Vec Ideal S2048x1024 .bf16) (x1 : Vec Ideal S2048x1024 .bf16) (y : S1024x1024.Idx) :
    out0_2 x0 x1 y = ∑ k : Fin 2048, (x0 (ix2 k (y 0 : Fin 1024)) : EReal) * x1 (ix2 k (y 1 : Fin 1024)) := by
  unfold out0_2
  canon_tiles x h
  obtain rfl : y = x := funext fun a => by fin_cases a <;> exact Fin.ext (by assumption)
  open_payloads
  pointwise

theorem final : (dats m 0 c).arrAt 2 cfg0.N = fun y : S2048x3072.Idx => tn (A m c) (B m c) (y 0 : Fin 2048) (y 1 : Fin 3072) := by
  refine (dats m 0 c).arrAt_eq_of_covers 2 _ (by decide +kernel) fun t hf y => ?_
  blk_simp
  rw [after0_2, blk0, blk1]
  refine (out _ _ y).trans ?_
  exact congrArg₂ (tn (A m c) (B m c)) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => tn (A m c) (B m c) (y 0 : Fin 2048) (y 1 : Fin 3072) : S2048x3072.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.In0DwIdeal.Value.run_blocks m ρ)

end Cert.In0DwIdeal.Product

namespace Cert.In0DwRefIdeal.Product

open Cert.In0DwRefIdeal Cert.In0DwRefIdeal.Gen _root_.Product

variable (m : (ℓ : Loc nD τ sig) → Buf (Elt Ideal) ℓ) (c : Dev nD)

abbrev A : S2048x2048.Idx → EReal := m ((c.tc : Thread nD τ).loc main_arg0)
abbrev B : S2048x3072.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v6) = (fun y => tn (A m c) (B m c) (y 0 : Fin 2048) (y 1 : Fin 3072) : S2048x3072.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      refine Eq.trans ?_ (tn_comm _ _ _ _).symm
      pointwise!), (h c).2⟩) (Cert.In0DwRefIdeal.Value.run m ρ)

end Cert.In0DwRefIdeal.Product

end
-- ==== Proof.In1Products.lean ====
/-
  The second layer's first product in the mixer, and its gradients.
-/
module

public import proofs.«01_k».proof.Proof.Gen.In1Ideal.Value
public import proofs.«01_k».proof.Proof.Gen.In1RefIdeal.Run
public import proofs.«01_k».proof.Proof.Gen.In1DwIdeal.Value
public import proofs.«01_k».proof.Proof.Gen.In1DwRefIdeal.Run
public import proofs.«01_k».proof.Proof.Gen.In1DxIdeal.Value
public import proofs.«01_k».proof.Proof.Gen.In1DxRefIdeal.Run
public import proofs.«01_k».proof.Proof.Product

@[expose] public section

set_option maxRecDepth 16384

noncomputable section

open Idealize.ShloMosaic Idealize.ShloMosaic.TcCoe Idealize.SL.Sem
open Idealize.ShloMosaic.Pipeline (Dat)

namespace Cert.In1Ideal.Product

open Cert.In1Ideal Cert.In1Ideal.Gen _root_.Product

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

variable (m : (ℓ : Loc nD τ sig) → Buf (Elt Ideal) ℓ) (c : Dev nD)

/-- The two argument arrays. -/
abbrev A : S2048x2048.Idx → EReal := m ((c.tc : Thread nD τ).loc main_arg0)
abbrev B : S2048x6144.Idx → EReal := m ((c.tc : Thread nD τ).loc main_arg1)

/-- The row and the column of an output block's element. -/
def row (t : Fin cfg0.N) (i : Fin 1024) : Fin 2048 := ⟨t.val / 6 * 1024 + i.val, by have : t.val < 12 := t.isLt; omega⟩
def col (t : Fin cfg0.N) (j : Fin 1024) : Fin 6144 := ⟨t.val % 6 * 1024 + j.val, by omega⟩

/-- The two input windows' blocks at grid point `t`. -/
theorem blk0 (t : Fin cfg0.N) : iblk m c 0 t = fun i : S1024x2048.Idx => A m c (ix2 (row t (i 0)) (i 1 : Fin 2048)) := by
  funext i
  blk_ext [iblk, V, idx t]
  rfl

theorem blk1 (t : Fin cfg0.N) : iblk m c 1 t = fun i : S2048x1024.Idx => B m c (ix2 (i 0 : Fin 2048) (col t (i 1))) := by
  funext i
  blk_ext [iblk, V, idx t]
  rfl

/-- The body: one product. -/
theorem out (x0 : Vec Ideal S1024x2048 .bf16) (x1 : Vec Ideal S2048x1024 .bf16) (y : S1024x1024.Idx) :
    out0_2 x0 x1 y = ∑ k : Fin 2048, (x0 (ix2 (y 0 : Fin 1024) k) : EReal) * x1 (ix2 k (y 1 : Fin 1024)) := by
  unfold out0_2
  canon_tiles x h
  obtain rfl : y = x := funext fun a => by fin_cases a <;> exact Fin.ext (by assumption)
  open_payloads
  pointwise

theorem final : (dats m 0 c).arrAt 2 cfg0.N = fun y : S2048x6144.Idx => nn (A m c) (B m c) (y 0 : Fin 2048) (y 1 : Fin 6144) := by
  refine (dats m 0 c).arrAt_eq_of_covers 2 _ (by decide +kernel) fun t hf y => ?_
  blk_simp
  rw [after0_2, blk0, blk1]
  refine (out _ _ y).trans ?_
  exact congrArg₂ (nn (A m c) (B m c)) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => nn (A m c) (B m c) (y 0 : Fin 2048) (y 1 : Fin 6144) : S2048x6144.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.In1Ideal.Value.run_blocks m ρ)

end Cert.In1Ideal.Product

namespace Cert.In1RefIdeal.Product

open Cert.In1RefIdeal Cert.In1RefIdeal.Gen _root_.Product

variable (m : (ℓ : Loc nD τ sig) → Buf (Elt Ideal) ℓ) (c : Dev nD)

abbrev A : S2048x2048.Idx → EReal := m ((c.tc : Thread nD τ).loc main_arg0)
abbrev B : S2048x6144.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => nn (A m c) (B m c) (y 0 : Fin 2048) (y 1 : Fin 6144) : S2048x6144.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      unfold nn
      pointwise!), (h c).2⟩) (Cert.In1RefIdeal.Value.run m ρ)

end Cert.In1RefIdeal.Product

namespace Cert.In1DwIdeal.Product

open Cert.In1DwIdeal Cert.In1DwIdeal.Gen _root_.Product

theorem idx : ∀ t : Fin cfg0.N, win0_0.index t = ![0, t.val / 6] ∧ win0_1.index t = ![t.val % 6 / 2, 0, t.val % 6 % 2] ∧ win0_2.index t = ![t.val / 6, t.val % 6] :=
  (by decide +kernel : ∀ t : Fin grid0.N, _)

variable (m : (ℓ : Loc nD τ sig) → Buf (Elt Ideal) ℓ) (c : Dev nD)

/-- The two argument arrays. -/
abbrev A : S2048x2048.Idx → EReal := m ((c.tc : Thread nD τ).loc main_arg0)
abbrev B : S3x2048x2048.Idx → EReal := m ((c.tc : Thread nD τ).loc main_arg1)

/-- The row and the column of an output block's element. -/
def row (t : Fin cfg0.N) (i : Fin 1024) : Fin 2048 := ⟨t.val / 6 * 1024 + i.val, by have : t.val < 12 := t.isLt; omega⟩
def col (t : Fin cfg0.N) (j : Fin 1024) : Fin 6144 := ⟨t.val % 6 * 1024 + j.val, by omega⟩

/-- The two input windows' blocks at grid point `t`. -/
theorem blk0 (t : Fin cfg0.N) : iblk m c 0 t = fun i : S2048x1024.Idx => A m c (ix2 (i 0 : Fin 2048) (row t (i 1))) := by
  funext i
  blk_ext [iblk, V, idx t]
  rfl

theorem blk1 (t : Fin cfg0.N) : iblk m c 1 t = fun i : S1x2048x1024.Idx => packed (B m c) (ix2 (i 1 : Fin 2048) (col t (i 2))) := by
  funext i
  blk_ext [iblk, V, idx t, packed]
  all_goals show _ = _; simp only [col]; omega

/-- The body: one product. -/
theorem out (x0 : Vec Ideal S2048x1024 .bf16) (x1 : Vec Ideal S1x2048x1024 .bf16) (y : S1024x1024.Idx) :
    out0_2 x0 x1 y = ∑ k : Fin 2048, (x0 (ix2 k (y 0 : Fin 1024)) : EReal) * x1 (ix3 (0 : Fin 1) k (y 1 : Fin 1024)) := by
  unfold out0_2
  canon_tiles x h
  obtain rfl : y = x := funext fun a => by fin_cases a <;> exact Fin.ext (by assumption)
  open_payloads
  pointwise

theorem final : (dats m 0 c).arrAt 2 cfg0.N = fun y : S2048x6144.Idx => tn (A m c) (packed (B m c)) (y 0 : Fin 2048) (y 1 : Fin 6144) := by
  refine (dats m 0 c).arrAt_eq_of_covers 2 _ (by decide +kernel) fun t hf y => ?_
  blk_simp
  rw [after0_2, blk0, blk1]
  refine (out _ _ y).trans ?_
  exact congrArg₂ (tn (A m c) (packed (B m c))) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => tn (A m c) (packed (B m c)) (y 0 : Fin 2048) (y 1 : Fin 6144) : S2048x6144.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.In1DwIdeal.Value.run_blocks m ρ)

end Cert.In1DwIdeal.Product

namespace Cert.In1DwRefIdeal.Product

open Cert.In1DwRefIdeal Cert.In1DwRefIdeal.Gen _root_.Product

variable (m : (ℓ : Loc nD τ sig) → Buf (Elt Ideal) ℓ) (c : Dev nD)

abbrev A : S2048x2048.Idx → EReal := m ((c.tc : Thread nD τ).loc main_arg0)
abbrev B : S3x2048x2048.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v20) = (fun y => tn (A m c) (packed (B m c)) (y 0 : Fin 2048) (y 1 : Fin 6144) : S2048x6144.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      refine Eq.trans ?_ (tn_comm _ _ _ _).symm
      pointwise!
      exact Finset.sum_congr rfl fun x _ => congrArg (· * _) (parts (B m c) x (y 1 : Fin 6144))), (h c).2⟩) (Cert.In1DwRefIdeal.Value.run m ρ)

end Cert.In1DwRefIdeal.Product

namespace Cert.In1DxIdeal.Product

open Cert.In1DxIdeal Cert.In1DxIdeal.Gen _root_.Product

theorem idx : ∀ t : Fin cfg0.N, win0_0.index t = ![t.val % 3, t.val / 6, 0] ∧ win0_1.index t = ![t.val / 3 % 2, t.val % 3] ∧ win0_2.index t = ![t.val / 6, t.val / 3 % 2] :=
  (by decide +kernel : ∀ t : Fin grid0.N, _)

variable (m : (ℓ : Loc nD τ sig) → Buf (Elt Ideal) ℓ) (c : Dev nD)

/-- The two argument arrays. -/
abbrev A : S3x2048x2048.Idx → EReal := m ((c.tc : Thread nD τ).loc main_arg0)
abbrev B : S2048x6144.Idx → EReal := m ((c.tc : Thread nD τ).loc main_arg1)

/-- The row and the column of an output block's element, and the summed column of a partial product's. -/
def row (t : Fin cfg0.N) (i : Fin 1024) : Fin 2048 := ⟨t.val / 6 * 1024 + i.val, by have : t.val < 12 := t.isLt; omega⟩
def col (t : Fin cfg0.N) (j : Fin 1024) : Fin 2048 := ⟨t.val / 3 % 2 * 1024 + j.val, by omega⟩
def mid (t : Fin cfg0.N) (k : Fin 2048) : Fin 6144 := ⟨t.val % 3 * 2048 + k.val, by omega⟩

/-- The two input windows' blocks at grid point `t`. -/
theorem blk0 (t : Fin cfg0.N) : iblk m c 0 t = fun i : S1x1024x2048.Idx => packed (A m c) (ix2 (row t (i 1)) (mid t (i 2))) := by
  funext i
  blk_ext [iblk, V, idx t, packed]
  all_goals show _ = _
  all_goals simp only [row, mid]
  all_goals omega

theorem blk1 (t : Fin cfg0.N) : iblk m c 1 t = fun i : S1024x2048.Idx => B m c (ix2 (col t (i 0)) (mid t (i 1))) := by
  funext i
  blk_ext [iblk, V, idx t] <;> rfl

/-- A partial product. -/
def part (t : Fin cfg0.N) (y : S1024x1024.Idx) : EReal :=
  ∑ k : Fin 2048, packed (A m c) (ix2 (row t (y 0)) (mid t k)) * B m c (ix2 (col t (y 1)) (mid t k))

theorem pay (t : Fin cfg0.N) (y : S1024x1024.Idx) : k0_pay1 (F := Ideal) (iblk m c 0 t) (iblk m c 1 t) y = part m c t y := by
  rw [blk0, blk1]
  unfold part k0_pay1
  pointwise

/-- The sum's buffer: a run's first point writes it, and the other adds to it. -/
theorem first (t : Fin cfg0.N) (h : t.val % 3 = 0) (y : S1024x1024.Idx) : (outsAt0 m c t.val t.isLt).2 y = 0 + part m c t y := by
  rw [outsAt0_A m c t h (by omega) (by omega)]
  frame_out
  rw [← pay, zero_add]
  unfold k0_pay2
  pointwise

theorem next (t : Fin cfg0.N) (h : ¬t.val % 3 = 0) (y : S1024x1024.Idx) :
    (outsAt0 m c t.val t.isLt).2 y = (outsAt0 m c (t.val - 1) (Nat.lt_of_le_of_lt (Nat.sub_le _ _) t.isLt)).2 y + part m c t y := by
  by_cases hl : t.val % 3 = 2
  · rw [outsAt0_C m c t h (by omega) hl]
    frame_out
    rw [← pay]
    unfold k0_pay3
    pointwise
    rw [read_unread_whole]
  · rw [outsAt0_B m c t h (by omega) hl]
    frame_out
    rw [← pay]
    unfold k0_pay3
    pointwise
    rw [read_unread_whole]

/-- The last point copies it out. -/
theorem last (t : Fin cfg0.N) (h : t.val % 3 = 2) : (outsAt0 m c t.val t.isLt).1 = (outsAt0 m c t.val t.isLt).2 := by
  rw [outsAt0_C m c t (by omega) (by omega) h]
  frame_out

theorem out (t : Fin cfg0.N) (h : t.val % 3 = 2) (y : S1024x1024.Idx) :
    (outsAt0 m c t.val t.isLt).1 y = nt (packed (A m c)) (B m c) (row t (y 0)) (col t (y 1)) := by
  rw [last m c t h]
  refine nt_of_parts 3 (fun n h => (outsAt0 m c n h).2) (packed (A m c)) (B m c) row col mid rfl (fun t s h => ?_) (fun t s h => ?_) (fun _ _ => rfl) (first m c) (next m c) t h y
  · funext i; exact Fin.ext (by show t.val / 6 * 1024 + i.val = s.val / 6 * 1024 + i.val; omega)
  · funext i; exact Fin.ext (by show t.val / 3 % 2 * 1024 + i.val = s.val / 3 % 2 * 1024 + i.val; omega)

theorem final : (dats m 0 c).arrAt 2 cfg0.N = fun y : S2048x2048.Idx => nt (packed (A m c)) (B m c) (y 0 : Fin 2048) (y 1 : Fin 2048) := by
  refine (dats m 0 c).arrAt_eq_of_covers 2 _ (by decide +kernel) fun t hf y => ?_
  blk_simp
  rw [after0_2]
  refine (out m c t ((flush0_2 t).mp hf) y).trans ?_
  exact congrArg₂ (nt (packed (A m c)) (B m c)) (Fin.ext (spot_row (idx t).2.2 _)) (Fin.ext (spot_col (idx t).2.2 _))

theorem run (ρ : Dev nD → PrngReg) :
    θ_run defs (onTc (τ := τ) (main (F := Ideal))) ⟨m, fun _ => 0, ρ⟩ fun r => ∀ c : Dev nD,
      r.2.mem ((c.tc : Thread nD τ).loc main_v0) = (fun y => nt (packed (A m c)) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Cert.In1DxIdeal.Value.run_blocks m ρ)

end Cert.In1DxIdeal.Product

namespace Cert.In1DxRefIdeal.Product

open Cert.In1DxRefIdeal Cert.In1DxRefIdeal.Gen _root_.Product

variable (m : (ℓ : Loc nD τ sig) → Buf (Elt Ideal) ℓ) (c : Dev nD)

abbrev A : S3x2048x2048.Idx → EReal := m ((c.tc : Thread nD τ).loc main_arg0)
abbrev B : S2048x6144.Idx → EReal := m ((c.tc : Thread nD τ).loc main_arg1)

theorem run (ρ : Dev nD → PrngReg) :
    θ_run defs (onTc (τ := τ) (main (F := Ideal))) ⟨m, fun _ => 0, ρ⟩ fun r => ∀ c : Dev nD,
      r.2.mem ((c.tc : Thread nD τ).loc main_v18) = (fun y => nt (packed (A m c)) (B m c) (y 0 : Fin 2048) (y 1 : Fin 2048) : S2048x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by
      funext y
      unfold nt
      pointwise!
      exact Finset.sum_congr rfl fun x _ => congrArg (· * _) (parts (A m c) (y 0 : Fin 2048) x)), (h c).2⟩) (Cert.In1DxRefIdeal.Value.run m ρ)

end Cert.In1DxRefIdeal.Product

end
-- ==== Proof.Adam.lean ====
/-
  AdamW: what one element's weight, gradient and moments make of it.
-/
module

public import Idealize.ShloMosaic.Lib.Pipeline.ValueKit
public import Idealize.ShloMosaic.Lib.Pipeline.ReadBack
public import Idealize.ShloMosaic.Lib.Pointwise

@[expose] public section

noncomputable section

open Idealize.ShloMosaic

namespace Adam

/-- The new first moment and the new second, each part of the old and the rest of the gradient or of its square. -/
def mean (g m : EReal) : EReal := Ideal.ofBits .f32 0x3F666666#32 * m + Ideal.ofBits .f32 0x3DCCCCCD#32 * g
def square (g v : EReal) : EReal := Ideal.ofBits .f32 0x3F7FBE77#32 * v + Ideal.ofBits .f32 0x3A83126F#32 * (g * g)

/-- What is added to the weight: minus the rate times the corrected mean over the square's root and part of the weight. -/
def delta (w g m v : EReal) : EReal :=
  Ideal.ofBits .f32 0xBA83126F#32 *
    (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

/-- An array of weights with an axis of one layer before its rows, and that of their gradient without. -/
abbrev Arr (R C : ℕ) : Type := (⟨3, ![1, R, C]⟩ : Shape).Idx → EReal
abbrev Mat (R C : ℕ) : Type := (⟨2, ![R, C]⟩ : Shape).Idx → EReal

variable {r R C : ℕ}

/-- The four results: the gradient under the weight's shape, the difference, and the two moments. -/
def grads (g : Mat R C) : Arr R C := fun y => g (ix2 (y 1 : Fin R) (y 2 : Fin C))
def deltas (w : Arr R C) (g : Mat R C) (m v : Arr R C) : Arr R C := fun y => delta (w y) (grads g y) (m y) (v y)
def means (g : Mat R C) (m : Arr R C) : Arr R C := fun y => mean (grads g y) (m y)
def squares (g : Mat R C) (v : Arr R C) : Arr R C := fun y => square (grads g y) (v y)

/-! As the reference computes them. -/

theorem grads_eq (g : FVec Ideal ⟨2, ![R, C]⟩ .f32) (h) : broadcastInDim (⟨3, ![1, R, C]⟩ : Shape) ![1, 2] h g = grads g := by
  funext y
  refine congrArg g (funext fun a => ?_)
  split
  · next h1 =>
    refine Fin.ext ?_
    fin_cases a
    · have : (y 1).val < R := (y 1).isLt
      have h1 : R = 1 := h1
      show 0 = (y 1).val
      omega
    · have : (y 2).val < C := (y 2).isLt
      have h1 : C = 1 := h1
      show 0 = (y 2).val
      omega
  · fin_cases a <;> rfl

/-- A number under an array's shape. -/
abbrev lit (b : BitVec 32) (h : (⟨0, ![]⟩ : Shape).BroadcastsInDim ⟨3, ![1, R, C]⟩ (![] : Fin 0 → Fin 3)) : FVec Ideal ⟨3, ![1, R, C]⟩ .f32 := broadcastInDim (⟨3, ![1, R, C]⟩ : Shape) ![] h (constant (⟨0, ![]⟩ : Shape) .f32 b)

theorem means_eq (g : FVec Ideal ⟨2, ![R, C]⟩ .f32) (m : FVec Ideal ⟨3, ![1, R, C]⟩ .f32) (h h') :
    addf (mulf (lit 0x3F666666#32 h) m) (mulf (lit 0x3DCCCCCD#32 h) (broadcastInDim (⟨3, ![1, R, C]⟩ : Shape) ![1, 2] h' g)) = means g m := by
  rw [grads_eq]
  rfl

theorem squares_eq (g : FVec Ideal ⟨2, ![R, C]⟩ .f32) (v : FVec Ideal ⟨3, ![1, R, C]⟩ .f32) (h h') :
    addf (mulf (lit 0x3F7FBE77#32 h) v) (mulf (lit 0x3A83126F#32 h)
      (mulf (broadcastInDim (⟨3, ![1, R, C]⟩ : Shape) ![1, 2] h' g) (broadcastInDim (⟨3, ![1, R, C]⟩ : Shape) ![1, 2] h' g))) = squares g v := by
  rw [grads_eq]
  rfl

theorem deltas_eq (w : FVec Ideal ⟨3, ![1, R, C]⟩ .f32) (g : FVec Ideal ⟨2, ![R, C]⟩ .f32) (m v : FVec Ideal ⟨3, ![1, R, C]⟩ .f32) (h) :
    mulf (lit 0xBA83126F#32 h) (addf (Host.divf (Host.divf (means g m : FVec Ideal ⟨3, ![1, R, C]⟩ .f32) (lit 0x3F26BD02#32 h))
      (addf (Host.sqrt (Host.divf (squares g v : FVec Ideal ⟨3, ![1, R, C]⟩ .f32) (lit 0x3C231ACC#32 h))) (lit 0x322BCC77#32 h))) (mulf (lit 0x3C23D70A#32 h) w))
      = deltas w g m v := rfl

/-- Where an element of a block of rows lies in the array, by the rows' places. -/
def spot (row : Fin r → Fin R) (i : (⟨3, ![1, r, C]⟩ : Shape).Idx) : (⟨3, ![1, R, C]⟩ : Shape).Idx := ix3 (i 0 : Fin 1) (row (i 1)) (i 2 : Fin C)

theorem spot_eq {row : Fin r → Fin R} {p : ℕ} (hr : ∀ j, (row j).val = p * r + j.val) {w : Fin 3 → ℕ} (hw : w = ![0, p, 0])
    (i : (⟨3, ![1, r, C]⟩ : Shape).Idx) (a : (⟨3, ![1, R, C]⟩ : Shape).Idx) (ha : ∀ x, (a x).val = w x * ![1, r, C] x + 1 * (i x).val) : spot row i = a := by
  subst hw
  funext x
  refine Fin.ext (Eq.trans ?_ (ha x).symm)
  fin_cases x
  · show (i 0).val = 0 * 1 + 1 * (i 0).val
    omega
  · show (row (i 1)).val = p * r + 1 * (i 1).val
    exact (hr (i 1)).trans (by rw [one_mul])
  · show (i 2).val = 0 * C + 1 * (i 2).val
    omega

/-- One layer of an array of two, and an array that both layers of one hold. -/
def layer (l : Fin 2) (a : (⟨3, ![2, R, C]⟩ : Shape).Idx → EReal) : Arr R C := fun y => a (ix3 l (y 1 : Fin R) (y 2 : Fin C))
def both (f : Arr R C) : (⟨3, ![2, R, C]⟩ : Shape).Idx → EReal := fun i => f (ix3 (0 : Fin 1) (i 1 : Fin R) (i 2 : Fin C))

theorem both_spot (f : Arr R C) {row : Fin r → Fin R} {p l : ℕ} (hr : ∀ j, (row j).val = p * r + j.val) {w : Fin 3 → ℕ} (hw : w = ![l, p, 0])
    (i : (⟨3, ![1, r, C]⟩ : Shape).Idx) (a : (⟨3, ![2, R, C]⟩ : Shape).Idx) (ha : ∀ x, (a x).val = w x * ![1, r, C] x + 1 * (i x).val) :
    f (spot row i) = both f a := by
  subst hw
  refine congrArg f (spot_eq hr rfl i _ fun x => ?_)
  fin_cases x
  · show 0 = 0 * 1 + 1 * (i 0).val
    have : (i 0).val < 1 := (i 0).isLt
    omega
  · exact ha 1
  · exact ha 2

end Adam
-- ==== Proof.AdamWhole.lean ====
/-
  AdamW of the weights that one grid point takes whole.
-/
module

public import proofs.«01_k».proof.Proof.Gen.AdamGainsIdeal.Value
public import proofs.«01_k».proof.Proof.Gen.AdamPoolIdeal.Value
public import proofs.«01_k».proof.Proof.Gen.AdamChannelsIdeal.Value
public import proofs.«01_k».proof.Proof.Gen.AdamTapsIdeal.Value
public import proofs.«01_k».proof.Proof.Gen.AdamShortTapsIdeal.Value
public import proofs.«01_k».proof.Proof.Adam

@[expose] public section

set_option maxRecDepth 16384

noncomputable section

open Idealize.ShloMosaic

namespace Cert.AdamGainsIdeal.Adam

open Cert.AdamGainsIdeal Cert.AdamGainsIdeal.Gen _root_.Adam

theorem same (w : S1x2x2048.Idx → EReal) (g : S2x2048.Idx → EReal) (m v : S1x2x2048.Idx → EReal) :
    Value.G4 (F := Ideal) w g m v = grads g ∧ Value.G5 (F := Ideal) w g m v = deltas w g m v ∧ Value.G6 (F := Ideal) w g m v = means g m
      ∧ Value.G7 (F := Ideal) w g m v = squares g v := by
  refine ⟨?_, ?_, ?_, ?_⟩ <;>
  · funext y
    simp only [deltas, means, squares, delta, mean, square, grads]
    pointwise [Value.G4, Value.G5, Value.G6, Value.G7, k0_pay1, k0_pay2, k0_pay3, k0_pay4, k0_pay5, k0_pay6, k0_pay7]

end Cert.AdamGainsIdeal.Adam

namespace Cert.AdamPoolIdeal.Adam

open Cert.AdamPoolIdeal Cert.AdamPoolIdeal.Gen _root_.Adam

theorem same (w : S1x256x256.Idx → EReal) (g : S256x256.Idx → EReal) (m v : S1x256x256.Idx → EReal) :
    Value.G4 (F := Ideal) w g m v = grads g ∧ Value.G5 (F := Ideal) w g m v = deltas w g m v ∧ Value.G6 (F := Ideal) w g m v = means g m
      ∧ Value.G7 (F := Ideal) w g m v = squares g v := by
  refine ⟨?_, ?_, ?_, ?_⟩ <;>
  · funext y
    simp only [deltas, means, squares, delta, mean, square, grads]
    pointwise [Value.G4, Value.G5, Value.G6, Value.G7, k0_pay1, k0_pay2, k0_pay3, k0_pay4, k0_pay5, k0_pay6, k0_pay7]

end Cert.AdamPoolIdeal.Adam

namespace Cert.AdamChannelsIdeal.Adam

open Cert.AdamChannelsIdeal Cert.AdamChannelsIdeal.Gen _root_.Adam

theorem same (w : S1x1x1024.Idx → EReal) (g : S1x1024.Idx → EReal) (m v : S1x1x1024.Idx → EReal) :
    Value.G4 (F := Ideal) w g m v = grads g ∧ Value.G5 (F := Ideal) w g m v = deltas w g m v ∧ Value.G6 (F := Ideal) w g m v = means g m
      ∧ Value.G7 (F := Ideal) w g m v = squares g v := by
  refine ⟨?_, ?_, ?_, ?_⟩ <;>
  · funext y
    simp only [deltas, means, squares, delta, mean, square, grads]
    pointwise [Value.G4, Value.G5, Value.G6, Value.G7, k0_pay1, k0_pay2, k0_pay3, k0_pay4, k0_pay5, k0_pay6, k0_pay7]
    rw [show (0 : Fin 1) = y 1 from Subsingleton.elim (α := Fin 1) _ _]

end Cert.AdamChannelsIdeal.Adam

namespace Cert.AdamTapsIdeal.Adam

open Cert.AdamTapsIdeal Cert.AdamTapsIdeal.Gen _root_.Adam

theorem same (w : S1x31x256.Idx → EReal) (g : S31x256.Idx → EReal) (m v : S1x31x256.Idx → EReal) :
    Value.G4 (F := Ideal) w g m v = grads g ∧ Value.G5 (F := Ideal) w g m v = deltas w g m v ∧ Value.G6 (F := Ideal) w g m v = means g m
      ∧ Value.G7 (F := Ideal) w g m v = squares g v := by
  refine ⟨?_, ?_, ?_, ?_⟩ <;>
  · funext y
    simp only [deltas, means, squares, delta, mean, square, grads]
    pointwise [Value.G4, Value.G5, Value.G6, Value.G7, k0_pay1, k0_pay2, k0_pay3, k0_pay4, k0_pay5, k0_pay6, k0_pay7]

end Cert.AdamTapsIdeal.Adam

namespace Cert.AdamShortTapsIdeal.Adam

open Cert.AdamShortTapsIdeal Cert.AdamShortTapsIdeal.Gen _root_.Adam

theorem same (w : S1x3x512.Idx → EReal) (g : S3x512.Idx → EReal) (m v : S1x3x512.Idx → EReal) :
    Value.G4 (F := Ideal) w g m v = grads g ∧ Value.G5 (F := Ideal) w g m v = deltas w g m v ∧ Value.G6 (F := Ideal) w g m v = means g m
      ∧ Value.G7 (F := Ideal) w g m v = squares g v := by
  refine ⟨?_, ?_, ?_, ?_⟩ <;>
  · funext y
    simp only [deltas, means, squares, delta, mean, square, grads]
    pointwise [Value.G4, Value.G5, Value.G6, Value.G7, k0_pay1, k0_pay2, k0_pay3, k0_pay4, k0_pay5, k0_pay6, k0_pay7]

end Cert.AdamShortTapsIdeal.Adam
-- ==== Proof.AdamBlocks.lean ====
/-
  AdamW of the weights that the grid's points take in blocks of rows.
-/
module

public import proofs.«01_k».proof.Proof.Gen.AdamAbInIdeal.Value
public import proofs.«01_k».proof.Proof.Gen.AdamOutIdeal.Value
public import proofs.«01_k».proof.Proof.Gen.AdamShortInIdeal.Value
public import proofs.«01_k».proof.Proof.Adam

@[expose] public section

set_option maxRecDepth 16384

noncomputable section

open Idealize.ShloMosaic Idealize.ShloMosaic.TcCoe Idealize.SL.Sem

namespace Cert.AdamAbInIdeal.Adam

open Cert.AdamAbInIdeal Cert.AdamAbInIdeal.Gen _root_.Adam

theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

variable (m : (ℓ : Loc nD τ sig) → Buf (Elt Ideal) ℓ) (c : Dev nD)

/-- The weight, its gradient, and the two moments. -/
abbrev W : S1x2048x768.Idx → EReal := m ((c.tc : Thread nD τ).loc main_arg0)
abbrev G : S2048x768.Idx → EReal := m ((c.tc : Thread nD τ).loc main_arg1)
abbrev M : S1x2048x768.Idx → EReal := m ((c.tc : Thread nD τ).loc main_arg2)
abbrev Q : S1x2048x768.Idx → EReal := m ((c.tc : Thread nD τ).loc main_arg3)

/-- The rows of grid point `t`'s blocks. -/
def row (t : Fin cfg0.N) (i : Fin 512) : Fin 2048 := ⟨t.val * 512 + i.val, by have : t.val < 4 := t.isLt; omega⟩

theorem blk (t : Fin cfg0.N) : iblk m c 0 t = (fun i => W m c (spot (row t) i) : S1x512x768.Idx → EReal)
    ∧ iblk m c 1 t = (fun i => G m c (ix2 (row t (i 0)) (i 1 : Fin 768)) : S512x768.Idx → EReal)
    ∧ iblk m c 2 t = (fun i => M m c (spot (row t) i) : S1x512x768.Idx → EReal)
    ∧ iblk m c 3 t = (fun i => Q m c (spot (row t) i) : S1x512x768.Idx → EReal) := by
  refine ⟨?_, ?_, ?_, ?_⟩ <;> funext i <;> blk_ext [iblk, V, idx t] <;> rfl

/-- The body, element by element. -/
theorem out (x0 : Vec Ideal S1x512x768 .f32) (x1 : Vec Ideal S512x768 .f32) (x2 x3 : Vec Ideal S1x512x768 .f32) (y : S1x512x768.Idx) :
    out0_4 x0 x1 x2 x3 y = x1 (ix2 (y 1 : Fin 512) (y 2 : Fin 768))
    ∧ out0_5 x0 x1 x2 x3 y = delta (x0 y) (x1 (ix2 (y 1 : Fin 512) (y 2 : Fin 768))) (x2 y) (x3 y)
    ∧ out0_6 x0 x1 x2 x3 y = mean (x1 (ix2 (y 1 : Fin 512) (y 2 : Fin 768))) (x2 y)
    ∧ out0_7 x0 x1 x2 x3 y = square (x1 (ix2 (y 1 : Fin 512) (y 2 : Fin 768))) (x3 y) := by
  refine ⟨?_, ?_, ?_, ?_⟩ <;>
  · first | unfold out0_4 | unfold out0_5 delta mean square | unfold out0_6 mean | unfold out0_7 square
    canon_tiles x h
    obtain rfl : y = x := funext fun a => by fin_cases a <;> exact Fin.ext (by assumption)
    open_payloads
    pointwise

theorem final : (dats m 0 c).arrAt 4 cfg0.N = grads (G m c) ∧ (dats m 0 c).arrAt 5 cfg0.N = deltas (W m c) (G m c) (M m c) (Q m c)
    ∧ (dats m 0 c).arrAt 6 cfg0.N = means (G m c) (M m c) ∧ (dats m 0 c).arrAt 7 cfg0.N = squares (G m c) (Q m c) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩ <;> blk_simp
  · rw [after0_4, (blk m c t).2.1]
    refine (out _ _ _ _ y).1.trans ?_
    exact congrArg (grads (G m c)) (spot_eq (row := row t) (fun _ => rfl) (idx t).2.2.2.2.1 y ((win0_4.blk t).view.emb y) fun _ => rfl)
  · rw [after0_5, (blk m c t).1, (blk m c t).2.1, (blk m c t).2.2.1, (blk m c t).2.2.2]
    exact (out _ _ _ _ y).2.1.trans (congrArg (deltas (W m c) (G m c) (M m c) (Q m c)) (spot_eq (fun _ => rfl) (idx t).2.2.2.2.2.1 y _ fun _ => rfl))
  · rw [after0_6, (blk m c t).2.1, (blk m c t).2.2.1]
    exact (out _ _ _ _ y).2.2.1.trans (congrArg (means (G m c) (M m c)) (spot_eq (fun _ => rfl) (idx t).2.2.2.2.2.2.1 y _ fun _ => rfl))
  · rw [after0_7, (blk m c t).2.1, (blk m c t).2.2.2]
    exact (out _ _ _ _ y).2.2.2.trans (congrArg (squares (G m c) (Q m c)) (spot_eq (fun _ => rfl) (idx t).2.2.2.2.2.2.2 y _ fun _ => rfl))

theorem run (ρ : Dev nD → PrngReg) :
    θ_run defs (onTc (τ := τ) (main (F := Ideal))) ⟨m, fun _ => 0, ρ⟩ fun r => ∀ c : Dev nD,
      r.2.mem ((c.tc : Thread nD τ).loc main_v0_0) = grads (G m c)
      ∧ r.2.mem ((c.tc : Thread nD τ).loc main_v0_1) = deltas (W m c) (G m c) (M m c) (Q m c)
      ∧ r.2.mem ((c.tc : Thread nD τ).loc main_v0_2) = means (G m c) (M m c)
      ∧ r.2.mem ((c.tc : Thread nD τ).loc main_v0_3) = squares (G m c) (Q m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c).1, (h c).2.1.trans (final m c).2.1, (h c).2.2.1.trans (final m c).2.2.1,
    (h c).2.2.2.1.trans (final m c).2.2.2, (h c).2.2.2.2⟩) (Cert.AdamAbInIdeal.Value.run_blocks m ρ)

end Cert.AdamAbInIdeal.Adam

namespace Cert.AdamOutIdeal.Adam

open Cert.AdamOutIdeal Cert.AdamOutIdeal.Gen _root_.Adam

theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

variable (m : (ℓ : Loc nD τ sig) → Buf (Elt Ideal) ℓ) (c : Dev nD)

/-- The weight, its gradient, and the two moments. -/
abbrev W : S1x512x2048.Idx → EReal := m ((c.tc : Thread nD τ).loc main_arg0)
abbrev G : S512x2048.Idx → EReal := m ((c.tc : Thread nD τ).loc main_arg1)
abbrev M : S1x512x2048.Idx → EReal := m ((c.tc : Thread nD τ).loc main_arg2)
abbrev Q : S1x512x2048.Idx → EReal := m ((c.tc : Thread nD τ).loc main_arg3)

/-- The rows of grid point `t`'s blocks. -/
def row (t : Fin cfg0.N) (i : Fin 256) : Fin 512 := ⟨t.val * 256 + i.val, by have : t.val < 2 := t.isLt; omega⟩

theorem blk (t : Fin cfg0.N) : iblk m c 0 t = (fun i => W m c (spot (row t) i) : S1x256x2048.Idx → EReal)
    ∧ iblk m c 1 t = (fun i => G m c (ix2 (row t (i 0)) (i 1 : Fin 2048)) : S256x2048.Idx → EReal)
    ∧ iblk m c 2 t = (fun i => M m c (spot (row t) i) : S1x256x2048.Idx → EReal)
    ∧ iblk m c 3 t = (fun i => Q m c (spot (row t) i) : S1x256x2048.Idx → EReal) := by
  refine ⟨?_, ?_, ?_, ?_⟩ <;> funext i <;> blk_ext [iblk, V, idx t] <;> rfl

/-- The body, element by element. -/
theorem out (x0 : Vec Ideal S1x256x2048 .f32) (x1 : Vec Ideal S256x2048 .f32) (x2 x3 : Vec Ideal S1x256x2048 .f32) (y : S1x256x2048.Idx) :
    out0_4 x0 x1 x2 x3 y = x1 (ix2 (y 1 : Fin 256) (y 2 : Fin 2048))
    ∧ out0_5 x0 x1 x2 x3 y = delta (x0 y) (x1 (ix2 (y 1 : Fin 256) (y 2 : Fin 2048))) (x2 y) (x3 y)
    ∧ out0_6 x0 x1 x2 x3 y = mean (x1 (ix2 (y 1 : Fin 256) (y 2 : Fin 2048))) (x2 y)
    ∧ out0_7 x0 x1 x2 x3 y = square (x1 (ix2 (y 1 : Fin 256) (y 2 : Fin 2048))) (x3 y) := by
  refine ⟨?_, ?_, ?_, ?_⟩ <;>
  · first | unfold out0_4 | unfold out0_5 delta mean square | unfold out0_6 mean | unfold out0_7 square
    canon_tiles x h
    obtain rfl : y = x := funext fun a => by fin_cases a <;> exact Fin.ext (by assumption)
    open_payloads
    pointwise

theorem final : (dats m 0 c).arrAt 4 cfg0.N = grads (G m c) ∧ (dats m 0 c).arrAt 5 cfg0.N = deltas (W m c) (G m c) (M m c) (Q m c)
    ∧ (dats m 0 c).arrAt 6 cfg0.N = means (G m c) (M m c) ∧ (dats m 0 c).arrAt 7 cfg0.N = squares (G m c) (Q m c) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩ <;> blk_simp
  · rw [after0_4, (blk m c t).2.1]
    refine (out _ _ _ _ y).1.trans ?_
    exact congrArg (grads (G m c)) (spot_eq (row := row t) (fun _ => rfl) (idx t).2.2.2.2.1 y ((win0_4.blk t).view.emb y) fun _ => rfl)
  · rw [after0_5, (blk m c t).1, (blk m c t).2.1, (blk m c t).2.2.1, (blk m c t).2.2.2]
    exact (out _ _ _ _ y).2.1.trans (congrArg (deltas (W m c) (G m c) (M m c) (Q m c)) (spot_eq (fun _ => rfl) (idx t).2.2.2.2.2.1 y _ fun _ => rfl))
  · rw [after0_6, (blk m c t).2.1, (blk m c t).2.2.1]
    exact (out _ _ _ _ y).2.2.1.trans (congrArg (means (G m c) (M m c)) (spot_eq (fun _ => rfl) (idx t).2.2.2.2.2.2.1 y _ fun _ => rfl))
  · rw [after0_7, (blk m c t).2.1, (blk m c t).2.2.2]
    exact (out _ _ _ _ y).2.2.2.trans (congrArg (squares (G m c) (Q m c)) (spot_eq (fun _ => rfl) (idx t).2.2.2.2.2.2.2 y _ fun _ => rfl))

theorem run (ρ : Dev nD → PrngReg) :
    θ_run defs (onTc (τ := τ) (main (F := Ideal))) ⟨m, fun _ => 0, ρ⟩ fun r => ∀ c : Dev nD,
      r.2.mem ((c.tc : Thread nD τ).loc main_v0_0) = grads (G m c)
      ∧ r.2.mem ((c.tc : Thread nD τ).loc main_v0_1) = deltas (W m c) (G m c) (M m c) (Q m c)
      ∧ r.2.mem ((c.tc : Thread nD τ).loc main_v0_2) = means (G m c) (M m c)
      ∧ r.2.mem ((c.tc : Thread nD τ).loc main_v0_3) = squares (G m c) (Q m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c).1, (h c).2.1.trans (final m c).2.1, (h c).2.2.1.trans (final m c).2.2.1,
    (h c).2.2.2.1.trans (final m c).2.2.2, (h c).2.2.2.2⟩) (Cert.AdamOutIdeal.Value.run_blocks m ρ)

end Cert.AdamOutIdeal.Adam

namespace Cert.AdamShortInIdeal.Adam

open Cert.AdamShortInIdeal Cert.AdamShortInIdeal.Gen _root_.Adam

theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

variable (m : (ℓ : Loc nD τ sig) → Buf (Elt Ideal) ℓ) (c : Dev nD)

/-- The weight, its gradient, and the two moments. -/
abbrev W : S1x2048x1536.Idx → EReal := m ((c.tc : Thread nD τ).loc main_arg0)
abbrev G : S2048x1536.Idx → EReal := m ((c.tc : Thread nD τ).loc main_arg1)
abbrev M : S1x2048x1536.Idx → EReal := m ((c.tc : Thread nD τ).loc main_arg2)
abbrev Q : S1x2048x1536.Idx → EReal := m ((c.tc : Thread nD τ).loc main_arg3)

/-- The rows of grid point `t`'s blocks. -/
def row (t : Fin cfg0.N) (i : Fin 256) : Fin 2048 := ⟨t.val * 256 + i.val, by have : t.val < 8 := t.isLt; omega⟩

theorem blk (t : Fin cfg0.N) : iblk m c 0 t = (fun i => W m c (spot (row t) i) : S1x256x1536.Idx → EReal)
    ∧ iblk m c 1 t = (fun i => G m c (ix2 (row t (i 0)) (i 1 : Fin 1536)) : S256x1536.Idx → EReal)
    ∧ iblk m c 2 t = (fun i => M m c (spot (row t) i) : S1x256x1536.Idx → EReal)
    ∧ iblk m c 3 t = (fun i => Q m c (spot (row t) i) : S1x256x1536.Idx → EReal) := by
  refine ⟨?_, ?_, ?_, ?_⟩ <;> funext i <;> blk_ext [iblk, V, idx t] <;> rfl

/-- The body, element by element. -/
theorem out (x0 : Vec Ideal S1x256x1536 .f32) (x1 : Vec Ideal S256x1536 .f32) (x2 x3 : Vec Ideal S1x256x1536 .f32) (y : S1x256x1536.Idx) :
    out0_4 x0 x1 x2 x3 y = x1 (ix2 (y 1 : Fin 256) (y 2 : Fin 1536))
    ∧ out0_5 x0 x1 x2 x3 y = delta (x0 y) (x1 (ix2 (y 1 : Fin 256) (y 2 : Fin 1536))) (x2 y) (x3 y)
    ∧ out0_6 x0 x1 x2 x3 y = mean (x1 (ix2 (y 1 : Fin 256) (y 2 : Fin 1536))) (x2 y)
    ∧ out0_7 x0 x1 x2 x3 y = square (x1 (ix2 (y 1 : Fin 256) (y 2 : Fin 1536))) (x3 y) := by
  refine ⟨?_, ?_, ?_, ?_⟩ <;>
  · first | unfold out0_4 | unfold out0_5 delta mean square | unfold out0_6 mean | unfold out0_7 square
    canon_tiles x h
    obtain rfl : y = x := funext fun a => by fin_cases a <;> exact Fin.ext (by assumption)
    open_payloads
    pointwise

theorem final : (dats m 0 c).arrAt 4 cfg0.N = grads (G m c) ∧ (dats m 0 c).arrAt 5 cfg0.N = deltas (W m c) (G m c) (M m c) (Q m c)
    ∧ (dats m 0 c).arrAt 6 cfg0.N = means (G m c) (M m c) ∧ (dats m 0 c).arrAt 7 cfg0.N = squares (G m c) (Q m c) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩ <;> blk_simp
  · rw [after0_4, (blk m c t).2.1]
    refine (out _ _ _ _ y).1.trans ?_
    exact congrArg (grads (G m c)) (spot_eq (row := row t) (fun _ => rfl) (idx t).2.2.2.2.1 y ((win0_4.blk t).view.emb y) fun _ => rfl)
  · rw [after0_5, (blk m c t).1, (blk m c t).2.1, (blk m c t).2.2.1, (blk m c t).2.2.2]
    exact (out _ _ _ _ y).2.1.trans (congrArg (deltas (W m c) (G m c) (M m c) (Q m c)) (spot_eq (fun _ => rfl) (idx t).2.2.2.2.2.1 y _ fun _ => rfl))
  · rw [after0_6, (blk m c t).2.1, (blk m c t).2.2.1]
    exact (out _ _ _ _ y).2.2.1.trans (congrArg (means (G m c) (M m c)) (spot_eq (fun _ => rfl) (idx t).2.2.2.2.2.2.1 y _ fun _ => rfl))
  · rw [after0_7, (blk m c t).2.1, (blk m c t).2.2.2]
    exact (out _ _ _ _ y).2.2.2.trans (congrArg (squares (G m c) (Q m c)) (spot_eq (fun _ => rfl) (idx t).2.2.2.2.2.2.2 y _ fun _ => rfl))

theorem run (ρ : Dev nD → PrngReg) :
    θ_run defs (onTc (τ := τ) (main (F := Ideal))) ⟨m, fun _ => 0, ρ⟩ fun r => ∀ c : Dev nD,
      r.2.mem ((c.tc : Thread nD τ).loc main_v0_0) = grads (G m c)
      ∧ r.2.mem ((c.tc : Thread nD τ).loc main_v0_1) = deltas (W m c) (G m c) (M m c) (Q m c)
      ∧ r.2.mem ((c.tc : Thread nD τ).loc main_v0_2) = means (G m c) (M m c)
      ∧ r.2.mem ((c.tc : Thread nD τ).loc main_v0_3) = squares (G m c) (Q m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c).1, (h c).2.1.trans (final m c).2.1, (h c).2.2.1.trans (final m c).2.2.1,
    (h c).2.2.2.1.trans (final m c).2.2.2, (h c).2.2.2.2⟩) (Cert.AdamShortInIdeal.Value.run_blocks m ρ)

end Cert.AdamShortInIdeal.Adam
-- ==== Proof.AdamFfn.lean ====
/-
  AdamW of the MLP's weights, a layer to a call: the second's call leaves the first's half of the arrays, and the first's
  takes the second's half on.
-/
module

public import proofs.«01_k».proof.Proof.Gen.AdamFfnAIdeal.Value
public import proofs.«01_k».proof.Proof.Gen.AdamFfnBIdeal.Frame
public import proofs.«01_k».proof.Proof.Gen.AdamFfnARefIdeal.Run
public import proofs.«01_k».proof.Proof.Adam

@[expose] public section

set_option maxRecDepth 16384

noncomputable section

open Idealize.ShloMosaic Idealize.ShloMosaic.TcCoe Idealize.SL.Sem

namespace Cert.AdamFfnBIdeal.Adam

open Cert.AdamFfnBIdeal Cert.AdamFfnBIdeal.Gen _root_.Adam

theorem idx : ∀ t : Fin cfg0.N, win0_0.index t = ![1, t.val, 0] ∧ win0_1.index t = ![t.val, 0] ∧ win0_2.index t = ![1, t.val, 0]
    ∧ win0_3.index t = ![1, t.val, 0] ∧ win0_4.index t = ![1, t.val, 0] ∧ win0_5.index t = ![1, t.val, 0] ∧ win0_6.index t = ![1, t.val, 0]
    ∧ win0_7.index t = ![1, t.val, 0] :=
  (by decide +kernel : ∀ t : Fin grid0.N, _)

variable (m : (ℓ : Loc nD τ sig) → Buf (Elt Ideal) ℓ) (c : Dev nD)

/-- The layer's weight, its gradient, and the layer's two moments. -/
abbrev W : S1x2048x2048.Idx → EReal := layer 1 (m ((c.tc : Thread nD τ).loc main_arg0))
abbrev G : S2048x2048.Idx → EReal := m ((c.tc : Thread nD τ).loc main_arg1)
abbrev M : S1x2048x2048.Idx → EReal := layer 1 (m ((c.tc : Thread nD τ).loc main_arg2))
abbrev Q : S1x2048x2048.Idx → EReal := layer 1 (m ((c.tc : Thread nD τ).loc main_arg3))

/-- The rows of grid point `t`'s blocks. -/
def row (t : Fin cfg0.N) (i : Fin 256) : Fin 2048 := ⟨t.val * 256 + i.val, by have : t.val < 8 := t.isLt; omega⟩

theorem blk (t : Fin cfg0.N) : iblk m c 0 t = (fun i => W m c (spot (row t) i) : S1x256x2048.Idx → EReal)
    ∧ iblk m c 1 t = (fun i => G m c (ix2 (row t (i 0)) (i 1 : Fin 2048)) : S256x2048.Idx → EReal)
    ∧ iblk m c 2 t = (fun i => M m c (spot (row t) i) : S1x256x2048.Idx → EReal)
    ∧ iblk m c 3 t = (fun i => Q m c (spot (row t) i) : S1x256x2048.Idx → EReal) := by
  refine ⟨?_, ?_, ?_, ?_⟩ <;> funext i <;> blk_ext [iblk, V, idx t] <;> rfl

/-- The body, element by element. -/
theorem out (x0 : Vec Ideal S1x256x2048 .f32) (x1 : Vec Ideal S256x2048 .f32) (x2 x3 : Vec Ideal S1x256x2048 .f32) (y : S1x256x2048.Idx) :
    out0_4 x0 x1 x2 x3 y = x1 (ix2 (y 1 : Fin 256) (y 2 : Fin 2048))
    ∧ out0_5 x0 x1 x2 x3 y = delta (x0 y) (x1 (ix2 (y 1 : Fin 256) (y 2 : Fin 2048))) (x2 y) (x3 y)
    ∧ out0_6 x0 x1 x2 x3 y = mean (x1 (ix2 (y 1 : Fin 256) (y 2 : Fin 2048))) (x2 y)
    ∧ out0_7 x0 x1 x2 x3 y = square (x1 (ix2 (y 1 : Fin 256) (y 2 : Fin 2048))) (x3 y) := by
  refine ⟨?_, ?_, ?_, ?_⟩ <;>
  · first | unfold out0_4 | unfold out0_5 delta mean square | unfold out0_6 mean | unfold out0_7 square
    canon_tiles x h
    obtain rfl : y = x := funext fun a => by fin_cases a <;> exact Fin.ext (by assumption)
    open_payloads
    pointwise

/-- The arrays' second layer, and what was in the first. -/
theorem final : (dats m 0 c).arrAt 4 cfg0.N = (fun i => if (i 0).val / 1 = 1 then both (grads (G m c)) i else (dats m 0 c).A 4 i)
    ∧ (dats m 0 c).arrAt 5 cfg0.N = (fun i => if (i 0).val / 1 = 1 then both (deltas (W m c) (G m c) (M m c) (Q m c)) i else (dats m 0 c).A 5 i)
    ∧ (dats m 0 c).arrAt 6 cfg0.N = (fun i => if (i 0).val / 1 = 1 then both (means (G m c) (M m c)) i else (dats m 0 c).A 6 i)
    ∧ (dats m 0 c).arrAt 7 cfg0.N = (fun i => if (i 0).val / 1 = 1 then both (squares (G m c) (Q m c)) i else (dats m 0 c).A 7 i) := by
  refine ⟨(dats m 0 c).arrAt_eq_of_coversWhere 4 _ (fun β => β (0 : Fin _) = 1) (by decide +kernel) (fun t hf y => ?_) (fun j => Iff.rfl), (dats m 0 c).arrAt_eq_of_coversWhere 5 _ (fun β => β (0 : Fin _) = 1) (by decide +kernel) (fun t hf y => ?_) (fun j => Iff.rfl), (dats m 0 c).arrAt_eq_of_coversWhere 6 _ (fun β => β (0 : Fin _) = 1) (by decide +kernel) (fun t hf y => ?_) (fun j => Iff.rfl), (dats m 0 c).arrAt_eq_of_coversWhere 7 _ (fun β => β (0 : Fin _) = 1) (by decide +kernel) (fun t hf y => ?_) (fun j => Iff.rfl)⟩ <;> blk_simp
  · rw [after0_4, (blk m c t).2.1]
    refine (out _ _ _ _ y).1.trans ?_
    exact both_spot (grads (G m c)) (row := row t) (fun _ => rfl) (idx t).2.2.2.2.1 y ((win0_4.blk t).view.emb y) fun _ => rfl
  · rw [after0_5, (blk m c t).1, (blk m c t).2.1, (blk m c t).2.2.1, (blk m c t).2.2.2]
    refine (out _ _ _ _ y).2.1.trans ?_
    exact both_spot (deltas (W m c) (G m c) (M m c) (Q m c)) (row := row t) (fun _ => rfl) (idx t).2.2.2.2.2.1 y ((win0_5.blk t).view.emb y) fun _ => rfl
  · rw [after0_6, (blk m c t).2.1, (blk m c t).2.2.1]
    refine (out _ _ _ _ y).2.2.1.trans ?_
    exact both_spot (means (G m c) (M m c)) (row := row t) (fun _ => rfl) (idx t).2.2.2.2.2.2.1 y ((win0_6.blk t).view.emb y) fun _ => rfl
  · rw [after0_7, (blk m c t).2.1, (blk m c t).2.2.2]
    refine (out _ _ _ _ y).2.2.2.trans ?_
    exact both_spot (squares (G m c) (Q m c)) (row := row t) (fun _ => rfl) (idx t).2.2.2.2.2.2.2 y ((win0_7.blk t).view.emb y) fun _ => rfl

/-- The lines after the region: each takes the second layer of one array. -/
theorem tail (X : Valuation τ sig (Elt Ideal)) : StableHlo.after (List.flatten [hostOps1]) X (Proc.devRef .tc main_v1) = extractStridedSlice S1x2048x2048 ![1, 0, 0] (X (Proc.devRef .tc main_v0_0)) slices_S2x2048x2048_S1x2048x2048_1_0_0
    ∧ StableHlo.after (List.flatten [hostOps1]) X (Proc.devRef .tc main_v2) = extractStridedSlice S1x2048x2048 ![1, 0, 0] (X (Proc.devRef .tc main_v0_1)) slices_S2x2048x2048_S1x2048x2048_1_0_0
    ∧ StableHlo.after (List.flatten [hostOps1]) X (Proc.devRef .tc main_v3) = extractStridedSlice S1x2048x2048 ![1, 0, 0] (X (Proc.devRef .tc main_v0_2)) slices_S2x2048x2048_S1x2048x2048_1_0_0
    ∧ StableHlo.after (List.flatten [hostOps1]) X (Proc.devRef .tc main_v4) = extractStridedSlice S1x2048x2048 ![1, 0, 0] (X (Proc.devRef .tc main_v0_3)) slices_S2x2048x2048_S1x2048x2048_1_0_0 := by
  have e : List.flatten [(hostOps1 : List (HloOp τ sig (Elt Ideal)))] = hostOps1 := by rw [List.flatten_cons, List.flatten_nil, List.append_nil]
  rw [e]
  refine ⟨?_, ?_, ?_, ?_⟩ <;> after_results

/-- The second layer of an array that is known there. -/
theorem slice {X Y : S2x2048x2048.Idx → EReal} {f : S1x2048x2048.Idx → EReal} (h : X = fun i => if (i 0).val / 1 = 1 then both f i else Y i) :
    (extractStridedSlice S1x2048x2048 ![1, 0, 0] (X : FVec Ideal S2x2048x2048 .f32) slices_S2x2048x2048_S1x2048x2048_1_0_0 : S1x2048x2048.Idx → EReal) = f := by
  subst h
  funext y
  pointwise
  exact congrArg f (funext fun a => by
    fin_cases a
    · exact Subsingleton.elim (α := Fin 1) _ _
    · rfl
    · rfl)

theorem run (ρ : Dev nD → PrngReg) :
    θ_run defs (onTc (τ := τ) (main (F := Ideal))) ⟨m, fun _ => 0, ρ⟩ fun r => ∀ c : Dev nD,
      r.2.mem ((c.tc : Thread nD τ).loc main_v1) = grads (G m c)
      ∧ r.2.mem ((c.tc : Thread nD τ).loc main_v2) = deltas (W m c) (G m c) (M m c) (Q m c)
      ∧ r.2.mem ((c.tc : Thread nD τ).loc main_v3) = means (G m c) (M m c)
      ∧ r.2.mem ((c.tc : Thread nD τ).loc main_v4) = squares (G m c) (Q m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m ρ) (unchanged m ρ))
  have e0 : r.2.mem ((c.tc : Thread nD τ).loc main_v1) = _ := (h.1 c).2 main_v1 (by decide)
  have e1 : r.2.mem ((c.tc : Thread nD τ).loc main_v2) = _ := (h.1 c).2 main_v2 (by decide)
  have e2 : r.2.mem ((c.tc : Thread nD τ).loc main_v3) = _ := (h.1 c).2 main_v3 (by decide)
  have e3 : r.2.mem ((c.tc : Thread nD τ).loc main_v4) = _ := (h.1 c).2 main_v4 (by decide)
  have w (x) := Pipeline.withArrays_arr (cfgs 0).spec launch0.win.arr_inj c (V0 m c) (fun w => (dats m 0 c).arrAt w (cfgs 0).N) x
  refine ⟨e0.trans (((tail _).1.trans (congrArg (extractStridedSlice S1x2048x2048 ![1, 0, 0] · slices_S2x2048x2048_S1x2048x2048_1_0_0) (w 4))).trans (slice (final m c).1)), e1.trans (((tail _).2.1.trans (congrArg (extractStridedSlice S1x2048x2048 ![1, 0, 0] · slices_S2x2048x2048_S1x2048x2048_1_0_0) (w 5))).trans (slice (final m c).2.1)), e2.trans (((tail _).2.2.1.trans (congrArg (extractStridedSlice S1x2048x2048 ![1, 0, 0] · slices_S2x2048x2048_S1x2048x2048_1_0_0) (w 6))).trans (slice (final m c).2.2.1)), e3.trans (((tail _).2.2.2.trans (congrArg (extractStridedSlice S1x2048x2048 ![1, 0, 0] · slices_S2x2048x2048_S1x2048x2048_1_0_0) (w 7))).trans (slice (final m c).2.2.2)), h.2 c⟩

end Cert.AdamFfnBIdeal.Adam

namespace Cert.AdamFfnAIdeal.Adam

open Cert.AdamFfnAIdeal Cert.AdamFfnAIdeal.Gen _root_.Adam

theorem idx : ∀ t : Fin cfg0.N, win0_0.index t = ![0, t.val, 0] ∧ win0_1.index t = ![t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

variable (m : (ℓ : Loc nD τ sig) → Buf (Elt Ideal) ℓ) (c : Dev nD)

/-- The layer's weight, its gradient, and the layer's two moments. -/
abbrev W : Arr 2048 2048 := layer 0 (m ((c.tc : Thread nD τ).loc main_arg0))
abbrev G : S2048x2048.Idx → EReal := m ((c.tc : Thread nD τ).loc main_arg1)
abbrev M : Arr 2048 2048 := layer 0 (m ((c.tc : Thread nD τ).loc main_arg2))
abbrev Q : Arr 2048 2048 := layer 0 (m ((c.tc : Thread nD τ).loc main_arg3))

/-- The rows of grid point `t`'s blocks. -/
def row (t : Fin cfg0.N) (i : Fin 256) : Fin 2048 := ⟨t.val * 256 + i.val, by have : t.val < 8 := t.isLt; omega⟩

theorem blk (t : Fin cfg0.N) : iblk m c 0 t = (fun i => W m c (spot (row t) i) : S1x256x2048.Idx → EReal)
    ∧ iblk m c 1 t = (fun i => G m c (ix2 (row t (i 0)) (i 1 : Fin 2048)) : S256x2048.Idx → EReal)
    ∧ iblk m c 2 t = (fun i => M m c (spot (row t) i) : S1x256x2048.Idx → EReal)
    ∧ iblk m c 3 t = (fun i => Q m c (spot (row t) i) : S1x256x2048.Idx → EReal) := by
  refine ⟨?_, ?_, ?_, ?_⟩ <;> funext i <;> blk_ext [iblk, V_main_arg0, V_main_arg1, V_main_arg2, V_main_arg3, idx t] <;> rfl

/-- The body, element by element. -/
theorem out (x0 : Vec Ideal S1x256x2048 .f32) (x1 : Vec Ideal S256x2048 .f32) (x2 x3 : Vec Ideal S1x256x2048 .f32) (y : S1x256x2048.Idx) :
    k0_pay7 x1 y = x1 (ix2 (y 1 : Fin 256) (y 2 : Fin 2048))
    ∧ k0_pay1 (k0_pay6 x1 x0 x2 x3) y = delta (x0 y) (x1 (ix2 (y 1 : Fin 256) (y 2 : Fin 2048))) (x2 y) (x3 y)
    ∧ k0_pay2 (k0_pay4 x1 x2) y = mean (x1 (ix2 (y 1 : Fin 256) (y 2 : Fin 2048))) (x2 y)
    ∧ k0_pay3 (k0_pay5 x1 x3) y = square (x1 (ix2 (y 1 : Fin 256) (y 2 : Fin 2048))) (x3 y) := by
  refine ⟨?_, ?_, ?_, ?_⟩ <;> (try unfold delta) <;> (try unfold mean) <;> (try unfold square) <;>
    pointwise [k0_pay1, k0_pay2, k0_pay3, k0_pay4, k0_pay5, k0_pay6, k0_pay7]

/-- What a call is given of the other layer. -/
theorem given : (dats m 0 c).A 4 = m ((c.tc : Thread nD τ).loc main_arg4)
    ∧ (dats m 0 c).A 5 = m ((c.tc : Thread nD τ).loc main_arg5)
    ∧ (dats m 0 c).A 6 = m ((c.tc : Thread nD τ).loc main_arg6)
    ∧ (dats m 0 c).A 7 = m ((c.tc : Thread nD τ).loc main_arg7) := by
  refine ⟨?_, ?_, ?_, ?_⟩ <;> rw [A_eq] <;> show V m c _ = _ <;> unfold V <;> after_results <;> rfl

/-- The arrays' first layer, and what was in the second. -/
theorem final : (dats m 0 c).arrAt 4 cfg0.N = (fun i => if (i 0).val / 1 = 0 then both (grads (G m c)) i else (dats m 0 c).A 4 i)
    ∧ (dats m 0 c).arrAt 5 cfg0.N = (fun i => if (i 0).val / 1 = 0 then both (deltas (W m c) (G m c) (M m c) (Q m c)) i else (dats m 0 c).A 5 i)
    ∧ (dats m 0 c).arrAt 6 cfg0.N = (fun i => if (i 0).val / 1 = 0 then both (means (G m c) (M m c)) i else (dats m 0 c).A 6 i)
    ∧ (dats m 0 c).arrAt 7 cfg0.N = (fun i => if (i 0).val / 1 = 0 then both (squares (G m c) (Q m c)) i else (dats m 0 c).A 7 i) := by
  refine ⟨(dats m 0 c).arrAt_eq_of_coversWhere 4 _ (fun β => β (0 : Fin _) = 0) (by decide +kernel) (fun t hf y => ?_) (fun j => Iff.rfl), (dats m 0 c).arrAt_eq_of_coversWhere 5 _ (fun β => β (0 : Fin _) = 0) (by decide +kernel) (fun t hf y => ?_) (fun j => Iff.rfl), (dats m 0 c).arrAt_eq_of_coversWhere 6 _ (fun β => β (0 : Fin _) = 0) (by decide +kernel) (fun t hf y => ?_) (fun j => Iff.rfl), (dats m 0 c).arrAt_eq_of_coversWhere 7 _ (fun β => β (0 : Fin _) = 0) (by decide +kernel) (fun t hf y => ?_) (fun j => Iff.rfl)⟩ <;> blk_simp
  · rw [after0_4, outsAt0]
    frame_out
    rw [(blk m c t).2.1]
    refine (out (fun i => W m c (spot (row t) i)) _ (fun i => M m c (spot (row t) i)) (fun i => Q m c (spot (row t) i)) y).1.trans ?_
    exact both_spot (grads (G m c)) (row := row t) (fun _ => rfl) (idx t).2.2.2.2.1 y ((win0_4.blk t).view.emb y) fun _ => rfl
  · rw [after0_5, outsAt0]
    frame_out
    rw [(blk m c t).1, (blk m c t).2.1, (blk m c t).2.2.1, (blk m c t).2.2.2]
    refine (out _ _ _ _ y).2.1.trans ?_
    exact both_spot (deltas (W m c) (G m c) (M m c) (Q m c)) (row := row t) (fun _ => rfl) (idx t).2.2.2.2.2.1 y ((win0_5.blk t).view.emb y) fun _ => rfl
  · rw [after0_6, outsAt0]
    frame_out
    rw [(blk m c t).2.1, (blk m c t).2.2.1]
    refine (out (fun i => W m c (spot (row t) i)) _ _ (fun i => Q m c (spot (row t) i)) y).2.2.1.trans ?_
    exact both_spot (means (G m c) (M m c)) (row := row t) (fun _ => rfl) (idx t).2.2.2.2.2.2.1 y ((win0_6.blk t).view.emb y) fun _ => rfl
  · rw [after0_7, outsAt0]
    frame_out
    rw [(blk m c t).2.1, (blk m c t).2.2.2]
    refine (out (fun i => W m c (spot (row t) i)) _ (fun i => M m c (spot (row t) i)) _ y).2.2.2.trans ?_
    exact both_spot (squares (G m c) (Q m c)) (row := row t) (fun _ => rfl) (idx t).2.2.2.2.2.2.2 y ((win0_7.blk t).view.emb y) fun _ => rfl

/-- An array whose first layer is known is that layer and the second of what it was. -/
theorem stack (f : Arr 2048 2048) (X : S2x2048x2048.Idx → EReal) (h h') :
    (concatenate S2x2048x2048 0 [⟨Cert.AdamFfnARefIdeal.S1x2048x2048, (f : FVec Ideal Cert.AdamFfnARefIdeal.S1x2048x2048 .f32)⟩, ⟨Cert.AdamFfnARefIdeal.S1x2048x2048, extractStridedSlice Cert.AdamFfnARefIdeal.S1x2048x2048 ![1, 0, 0] (X : FVec Ideal S2x2048x2048 .f32) h⟩]
      h' : S2x2048x2048.Idx → EReal) = fun i => if (i 0).val / 1 = 0 then both f i else X i := by
  funext i
  pointwise
  have h1 : (i 0).val < 2 := (i 0).isLt
  by_cases h0 : (i 0).val = 0
  · rw [dif_pos (by omega), if_pos h0]
    exact congrArg f (funext fun a => by
      fin_cases a
      · exact Subsingleton.elim (α := Fin 1) _ _
      · rfl
      · rfl)
  · rw [dif_neg (by omega), if_neg h0]
    refine congrArg X (funext fun a => ?_)
    fin_cases a
    · exact Fin.ext (show 1 + ((i 0).val - 1) = (i 0).val by omega)
    · rfl
    · rfl

/-- A layer of an array, as the reference takes it. -/
theorem layer_eq (a : S2x2048x2048.Idx → EReal) (h h') :
    (extractStridedSlice Cert.AdamFfnARefIdeal.S1x2048x2048 ![0, 0, 0] (a : FVec Ideal S2x2048x2048 .f32) h : Arr 2048 2048) = layer 0 a
    ∧ (extractStridedSlice Cert.AdamFfnARefIdeal.S1x2048x2048 ![1, 0, 0] (a : FVec Ideal S2x2048x2048 .f32) h' : Arr 2048 2048) = layer 1 a := by
  refine ⟨?_, ?_⟩ <;>
  · funext y
    pointwise
    exact congrArg a (funext fun x => by
      fin_cases x
      · have : (y 0).val < 1 := (y 0).isLt
        exact Fin.ext (by first | (show (y 0).val = 0; omega) | (show 1 + (y 0).val = 1; omega) | (show (y 0).val + 1 = 1; omega) | rfl)
      · rfl
      · rfl)

theorem run (ρ : Dev nD → PrngReg) :
    θ_run defs (onTc (τ := τ) (main (F := Ideal))) ⟨m, fun _ => 0, ρ⟩ fun r => ∀ c : Dev nD,
      r.2.mem ((c.tc : Thread nD τ).loc main_v0_0) = (fun i => if (i 0).val / 1 = 0 then both (grads (G m c)) i else m ((c.tc : Thread nD τ).loc main_arg4) i)
      ∧ r.2.mem ((c.tc : Thread nD τ).loc main_v0_1) = (fun i => if (i 0).val / 1 = 0 then both (deltas (W m c) (G m c) (M m c) (Q m c)) i else m ((c.tc : Thread nD τ).loc main_arg5) i)
      ∧ r.2.mem ((c.tc : Thread nD τ).loc main_v0_2) = (fun i => if (i 0).val / 1 = 0 then both (means (G m c) (M m c)) i else m ((c.tc : Thread nD τ).loc main_arg6) i)
      ∧ r.2.mem ((c.tc : Thread nD τ).loc main_v0_3) = (fun i => if (i 0).val / 1 = 0 then both (squares (G m c) (Q m c)) i else m ((c.tc : Thread nD τ).loc main_arg7) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run_blocks m ρ)
  obtain ⟨f4, f5, f6, f7⟩ := final m c
  rw [(given m c).1] at f4
  rw [(given m c).2.1] at f5
  rw [(given m c).2.2.1] at f6
  rw [(given m c).2.2.2] at f7
  exact ⟨(h c).1.trans f4, (h c).2.1.trans f5, (h c).2.2.1.trans f6, (h c).2.2.2.1.trans f7, (h c).2.2.2.2⟩

end Cert.AdamFfnAIdeal.Adam
-- ==== Proof.Norm.lean ====
/-
  The root-mean-square norm's gradient: the derivative's sum of two equal terms against the kernel's one product.
-/
module

public import Idealize.ShloMosaic.Lib.Pipeline.ValueKit
public import Idealize.ShloMosaic.Lib.Pipeline.ReadBack
public import Idealize.ShloMosaic.Lib.Pointwise

@[expose] public section

noncomputable section

open Idealize.ShloMosaic

namespace Norm

theorem width_bits : Ideal.ofBits .f32 0x45000000#32 = ((2048 : ℝ) : EReal) := by
  simp [Ideal.ofBits, Ideal.ieee, -EReal.coe_mul]; norm_num

theorem inverse_bits : Ideal.ofBits .f32 0x3A000000#32 = ((1 / 2048 : ℝ) : EReal) := by
  simp [Ideal.ofBits, Ideal.ieee, -EReal.coe_mul]; norm_num

theorem half_bits : Ideal.ofBits .f32 0x3F000000#32 = ((1 / 2 : ℝ) : EReal) := by
  simp [Ideal.ofBits, Ideal.ieee, -EReal.coe_mul]; norm_num

theorem twice_bits : Ideal.ofBits .f32 0x40000000#32 = ((2 : ℝ) : EReal) := by
  simp [Ideal.ofBits, Ideal.ieee, -EReal.coe_mul]; norm_num

theorem minus_half_bits : Ideal.ofBits .f32 0xBF000000#32 = ((-(1 / 2) : ℝ) : EReal) := by
  simp [Ideal.ofBits, Ideal.ieee, -EReal.coe_mul]; norm_num

theorem eps_bits : ∃ e : ℝ, 0 < e ∧ Ideal.ofBits .f32 0x358637BD#32 = (e : EReal) :=
  ⟨8796093 / 2 ^ 43, by positivity, by simp [Ideal.ofBits, Ideal.ieee, -EReal.coe_mul]; norm_num⟩

variable {n : ℕ}

theorem sum_mul_coe (f : Fin n → EReal) {ρ : ℝ} (h : 0 ≤ ρ) : (∑ k, f k) * (ρ : EReal) = ∑ k, f k * (ρ : EReal) := by
  induction n with
  | zero => simp
  | succ n ih => rw [Fin.sum_univ_succ, Fin.sum_univ_succ, EReal.right_distrib_of_nonneg_of_ne_top (by exact_mod_cast h) (EReal.coe_ne_top _), ih]

theorem coe_sum (f : Fin n → ℝ) : ∑ k, (f k : EReal) = ((∑ k, f k : ℝ) : EReal) := by
  induction n with
  | zero => simp
  | succ n ih => rw [Fin.sum_univ_succ, Fin.sum_univ_succ, ih, EReal.coe_add]

theorem mul_self_nonneg' (a : EReal) : 0 ≤ a * a := by
  rcases le_total 0 a with h | h
  · exact mul_nonneg h h
  · rw [← neg_mul_neg]
    exact mul_nonneg (EReal.neg_nonneg.mpr h) (EReal.neg_nonneg.mpr h)

/-- A row's mean square, with what keeps it from zero, and its root's inverse. -/
def ms (x : Fin n → EReal) : EReal := Ideal.div (∑ k, x k * x k) (Ideal.ofBits .f32 0x45000000#32) + Ideal.ofBits .f32 0x358637BD#32
def isq (x : Fin n → EReal) : EReal := Ideal.rsqrt (ms x)

/-- A row with an infinite entry has an infinite mean square; of a row of reals the mean square is positive. -/
theorem cases (x : Fin n → EReal) : (ms x = ⊤ ∧ isq x = 0) ∨
    ∃ (a : Fin n → ℝ) (s ρ : ℝ), (∀ k, x k = a k) ∧ ms x = s ∧ isq x = ρ ∧ 0 < s ∧ 0 < ρ ∧ ρ * ρ * s = 1 := by
  obtain ⟨e, he, hb⟩ := eps_bits
  by_cases hx : ∀ k, ∃ a : ℝ, x k = a
  · choose a ha using hx
    right
    have hs : ms x = (((∑ k, a k * a k) * (1 / 2048) + e : ℝ) : EReal) := by
      unfold ms
      rw [hb, width_bits, Ideal.div_coe (by norm_num), Finset.sum_congr rfl fun k _ => by rw [ha k, ← EReal.coe_mul], coe_sum,
        ← EReal.coe_mul, ← EReal.coe_add]
    have hp : 0 < (∑ k, a k * a k) * (1 / 2048) + e := by
      have : 0 ≤ ∑ k, a k * a k := Finset.sum_nonneg fun k _ => mul_self_nonneg _
      positivity
    refine ⟨a, _, _, ha, hs, ?_, hp, inv_pos.mpr (Real.sqrt_pos.mpr hp), ?_⟩
    · unfold isq
      rw [hs, Ideal.rsqrt_coe, if_neg (not_lt.mpr hp.le), if_neg hp.ne']
    · have := Real.mul_self_sqrt hp.le
      rw [← mul_inv, this, inv_mul_cancel₀ hp.ne']
  · push Not at hx
    obtain ⟨j, hj⟩ := hx
    left
    have ht : x j * x j = ⊤ := by
      induction h : x j with
      | bot => rfl
      | top => rfl
      | coe r => exact absurd h (hj r)
    have hs : ∑ k, x k * x k = ⊤ := top_le_iff.mp (ht ▸ Finset.single_le_sum (f := fun k => x k * x k) (fun k _ => mul_self_nonneg' _) (Finset.mem_univ j))
    have hm : ms x = ⊤ := by
      unfold ms
      rw [hs, hb, width_bits, Ideal.div_coe (by norm_num), EReal.top_mul_coe_of_pos (by norm_num), EReal.top_add_coe]
    exact ⟨hm, by unfold isq; rw [hm]; rfl⟩

/-- The gradient at one entry of a row, from its cotangents times the gain. -/
def grad (u x : Fin n → EReal) (i : Fin n) : EReal :=
  isq x * (u i - x i * isq x * Ideal.div (∑ k, u k * (x k * isq x)) (Ideal.ofBits .f32 0x45000000#32))

theorem grad_eq (u x : Fin n → EReal) (i : Fin n) :
    let q := Ideal.div ((∑ k, u k * x k) * (Ideal.ofBits .f32 0xBF000000#32 * Ideal.div (isq x) (ms x))) (Ideal.ofBits .f32 0x45000000#32)
    u i * isq x + (q * x i + q * x i) = grad u x i := by
  intro q
  unfold grad
  rcases cases x with ⟨hs, hr⟩ | ⟨a, s, ρ, ha, hs, hr, hsp, hrp, h1⟩
  · have hq : q = 0 := by
      show Ideal.div _ _ = _
      rw [hr, width_bits, Ideal.div_coe (by norm_num)]
      have : Ideal.div 0 (ms x) = 0 := by rw [hs]; simp [Ideal.div]
      rw [this, mul_zero, mul_zero, zero_mul]
    rw [hq, hr]
    simp
  · set S := ∑ k, u k * x k with hS
    have hsum : ∑ k, u k * (x k * isq x) = S * (ρ : EReal) := by
      rw [hr, hS, sum_mul_coe _ hrp.le]
      exact Finset.sum_congr rfl fun k _ => (mul_assoc _ _ _).symm
    have hd : Ideal.div (isq x) (ms x) = ((ρ * ρ * ρ : ℝ) : EReal) := by
      rw [hr, hs, Ideal.div_coe hsp.ne', ← EReal.coe_mul]
      congr 1
      field_simp
      nlinarith [h1]
    have hq : q = S * ((-(1 / 2) * (ρ * ρ * ρ) * (1 / 2048) : ℝ) : EReal) := by
      show Ideal.div _ _ = _
      rw [hd, minus_half_bits, width_bits, Ideal.div_coe (by norm_num), ← EReal.coe_mul, mul_assoc, ← EReal.coe_mul]
    have two (y : EReal) : y + y = y * ((2 : ℝ) : EReal) := by
      induction y with
      | bot => rw [EReal.bot_mul_coe_of_pos two_pos]; rfl
      | top => rw [EReal.top_mul_coe_of_pos two_pos]; rfl
      | coe r => rw [← EReal.coe_add, ← EReal.coe_mul, mul_two]
    rw [hsum, hq, two, hr, ha i, width_bits, Ideal.div_coe (by norm_num)]
    rw [sub_eq_add_neg, EReal.left_distrib_of_nonneg_of_ne_top (by exact_mod_cast hrp.le) (EReal.coe_ne_top _), mul_comm (u i)]
    congr 1
    have e : (ρ : EReal) * ((a i : EReal) * ρ * (S * ρ * ((1 / 2048 : ℝ) : EReal))) = S * ((ρ * (a i * ρ * (ρ * (1 / 2048))) : ℝ) : EReal) := by
      simp only [EReal.coe_mul]
      ac_rfl
    rw [mul_neg, e, ← mul_neg, ← EReal.coe_neg, mul_assoc, mul_assoc, ← EReal.coe_mul, ← EReal.coe_mul]
    congr 2
    ring

/-- The same of arrays of rows: the gradient of the rows, and of the gain, which sums over them. -/
abbrev Arr (r c : ℕ) : Type := (⟨2, ![r, c]⟩ : Shape).Idx → EReal

variable {r c : ℕ}

def row (x : Arr r c) (i : Fin r) : Fin c → EReal := fun k => x (ix2 i k)
def under (dy : Arr r c) (g : Arr 1 c) (i : Fin r) : Fin c → EReal := fun k => dy (ix2 i k) * g (ix2 0 k)
def pull (dy x : Arr r c) (g : Arr 1 c) : Arr r c := fun y => grad (under dy g (y 0)) (row x (y 0)) (y 1)
def gain (dy x : Arr r c) : Arr 1 c := fun y => ∑ i : Fin r, dy (ix2 i (y 1 : Fin c)) * (x (ix2 i (y 1 : Fin c)) * isq (row x i))

/-- The rows of a tile. -/
def tile {R : ℕ} (rows : Fin r → Fin R) (x : Arr R c) : Arr r c := fun y => x (ix2 (rows (y 0)) (y 1 : Fin c))

theorem pull_tile {R : ℕ} (rows : Fin r → Fin R) (dy x : Arr R c) (g : Arr 1 c) (y : (⟨2, ![r, c]⟩ : Shape).Idx) :
    pull (tile rows dy) (tile rows x) g y = pull dy x g (ix2 (rows (y 0)) (y 1 : Fin c)) := rfl

theorem spot_eq {R : ℕ} {rows : Fin r → Fin R} {p : ℕ} (hr : ∀ j, (rows j).val = p * r + j.val) {w : Fin 2 → ℕ} (hw : w = ![p, 0])
    (y : (⟨2, ![r, c]⟩ : Shape).Idx) (z : (⟨2, ![R, c]⟩ : Shape).Idx) (hz : ∀ d, (z d).val = w d * ![r, c] d + 1 * (y d).val) :
    ix2 (rows (y 0)) (y 1 : Fin c) = z := by
  subst hw
  funext d
  refine Fin.ext (Eq.trans ?_ (hz d).symm)
  fin_cases d
  · show (rows (y 0)).val = p * r + 1 * (y 0).val
    exact (hr (y 0)).trans (by rw [one_mul])
  · show (y 1).val = 0 * c + 1 * (y 1).val
    omega

theorem whole_eq {w : Fin 2 → ℕ} (hw : w = ![0, 0]) (y z : (⟨2, ![r, c]⟩ : Shape).Idx) (hz : ∀ d, (z d).val = w d * ![r, c] d + 1 * (y d).val) : y = z := by
  subst hw
  funext d
  refine Fin.ext (Eq.trans ?_ (hz d).symm)
  fin_cases d
  · show (y 0).val = 0 * r + 1 * (y 0).val
    omega
  · show (y 1).val = 0 * c + 1 * (y 1).val
    omega

/-- What is added up over the grid points, a tile of rows to each, is the sum over all rows. -/
theorem sum_of_steps {N R : ℕ} (f : Fin R → EReal) (at' : Fin N → Fin r → Fin R) (ha : ∀ t i, (at' t i).val = t.val * r + i.val) (hR : R = N * r)
    (O : (n : ℕ) → n < N → EReal) (h0 : ∀ h, O 0 h = ∑ i, f (at' ⟨0, h⟩ i))
    (hs : ∀ n (h : n + 1 < N), O (n + 1) h = O n (Nat.lt_of_succ_lt h) + ∑ i, f (at' ⟨n + 1, h⟩ i)) (n : ℕ) (h : n < N) (hn : n + 1 = N) :
    O n h = ∑ l, f l := by
  have e (n : ℕ) (h : n < N) : O n h = ∑ s ∈ Finset.range (n + 1), if h : s < N then ∑ i, f (at' ⟨s, h⟩ i) else 0 := by
    induction n with
    | zero => rw [Finset.sum_range_one, dif_pos h, h0]
    | succ n ih => rw [Finset.sum_range_succ, dif_pos h, hs, ih]
  rw [e, hn, Finset.sum_range]
  refine (Finset.sum_congr rfl fun s _ => dif_pos s.isLt).trans ?_
  refine Fin.sum_mul_add_congr (fun s k hl => congrArg f (Fin.ext (ha s k))) hR

theorem gain_of_steps {N R : ℕ} (dy x : Arr R c) (at' : Fin N → Fin r → Fin R) (ha : ∀ t i, (at' t i).val = t.val * r + i.val) (hR : R = N * r)
    (O : (n : ℕ) → n < N → Arr 1 c) (h0 : ∀ h, O 0 h = gain (tile (at' ⟨0, h⟩) dy) (tile (at' ⟨0, h⟩) x))
    (hs : ∀ n (h : n + 1 < N) y, O (n + 1) h y = O n (Nat.lt_of_succ_lt h) y + gain (tile (at' ⟨n + 1, h⟩) dy) (tile (at' ⟨n + 1, h⟩) x) y)
    (n : ℕ) (h : n < N) (hn : n + 1 = N) : O n h = gain dy x := by
  funext y
  exact sum_of_steps (fun l => dy (ix2 l (y 1)) * (x (ix2 l (y 1)) * isq (row x l))) at' ha hR (fun n h => O n h y) (fun h => congrFun (h0 h) y)
    (fun n h => hs n h y) n h hn

end Norm
end
-- ==== Proof.NormIn.lean ====
/-
  The backward pass of the norm before the first layer.
-/
module

public import proofs.«01_k».proof.Proof.Gen.NormInIdeal.Value
public import proofs.«01_k».proof.Proof.Norm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.NormInIdeal.Norm

open Cert.NormInIdeal Cert.NormInIdeal.Gen _root_.Norm

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

variable (m : (ℓ : Loc nD τ sig) → Buf (Elt Ideal) ℓ) (c : Dev nD)

/-- The residual's gradient, the normed input's, the input and the gain. -/
abbrev DX : S2048x2048.Idx → EReal := m ((c.tc : Thread nD τ).loc main_arg0)
abbrev DH : S2048x2048.Idx → EReal := m ((c.tc : Thread nD τ).loc main_arg1)
abbrev X : S2048x2048.Idx → EReal := m ((c.tc : Thread nD τ).loc main_arg2)
abbrev G : S1x2048.Idx → EReal := m ((c.tc : Thread nD τ).loc main_arg3)

/-- The rows of grid point `t`'s blocks. -/
def rows (t : Fin cfg0.N) (i : Fin 256) : Fin 2048 := ⟨t.val * 256 + i.val, by have : t.val < 8 := t.isLt; omega⟩

theorem blk (t : Fin cfg0.N) : iblk m c 0 t = (tile (rows t) (DX m c) : S256x2048.Idx → EReal)
    ∧ iblk m c 1 t = (tile (rows t) (DH m c) : S256x2048.Idx → EReal)
    ∧ iblk m c 2 t = (tile (rows t) (X m c) : S256x2048.Idx → EReal)
    ∧ iblk m c 3 t = G m c := by
  refine ⟨?_, ?_, ?_, ?_⟩ <;> funext i <;> blk_ext [iblk, V, idx t] <;> rfl

/-- The body, of its blocks. -/
theorem pull_eq (x0 x1 x2 : Vec Ideal S256x2048 .f32) (x3 : Vec Ideal S1x2048 .f32) : k0_pay5 x1 x2 x3 x0 = fun y => x0 y + pull x1 x2 x3 y := by
  funext y
  unfold pull grad isq ms row under
  pointwise [k0_pay5, k0_pay3, k0_pay2]

theorem gain_eq (x1 x2 : Vec Ideal S256x2048 .f32) : k0_pay4 x1 x2 = gain x1 x2 := by
  funext y
  unfold gain isq ms row
  pointwise [k0_pay4, k0_pay3, k0_pay2]

theorem step (a b : Vec Ideal S1x2048 .f32) (y : S1x2048.Idx) : k0_pay1 a b y = b y + a y := by
  pointwise [k0_pay1]

/-- What a grid point leaves. -/
theorem first (h : 0 < cfg0.N) : outsAt0 m c 0 h = (k0_pay5 (iblk m c 1 ⟨0, h⟩) (iblk m c 2 ⟨0, h⟩) (iblk m c 3 ⟨0, h⟩) (iblk m c 0 ⟨0, h⟩), k0_pay4 (iblk m c 1 ⟨0, h⟩) (iblk m c 2 ⟨0, h⟩)) := by
  refine (outsAt0_A m c ⟨0, h⟩ rfl (show ¬1 ≤ 0 by omega)).trans ?_
  refine Prod.ext ?_ ?_
  · funext y
    frame_out
  · funext y
    frame_out

theorem next (n : ℕ) (h : n + 1 < cfg0.N) : outsAt0 m c (n + 1) h = (k0_pay5 (iblk m c 1 ⟨n + 1, h⟩) (iblk m c 2 ⟨n + 1, h⟩) (iblk m c 3 ⟨n + 1, h⟩) (iblk m c 0 ⟨n + 1, h⟩),
    k0_pay1 (k0_pay4 (iblk m c 1 ⟨n + 1, h⟩) (iblk m c 2 ⟨n + 1, h⟩)) (outsAt0 m c n (Nat.lt_of_succ_lt h)).2) := by
  have hN : n + 1 < 8 := h
  refine (outsAt0_B m c ⟨n + 1, h⟩ (show ¬(n + 1) % 8 = 0 by omega) (show 1 ≤ n + 1 by omega)).trans ?_
  refine Prod.ext ?_ ?_
  · funext y
    frame_out
  · funext y
    frame_out
    rfl

theorem dx (t : Fin cfg0.N) : (outsAt0 m c t.val t.isLt).1 = k0_pay5 (iblk m c 1 t) (iblk m c 2 t) (iblk m c 3 t) (iblk m c 0 t) := by
  obtain ⟨n, h⟩ := t
  cases n with
  | zero => exact congrArg Prod.fst (first m c h)
  | succ n => exact congrArg Prod.fst (next m c n h)

theorem final4 : (dats m 0 c).arrAt 4 cfg0.N = fun y : S2048x2048.Idx => DX m c y + pull (DH m c) (X m c) (G m c) y := by
  refine (dats m 0 c).arrAt_eq_of_covers 4 _ (by decide +kernel) fun t hf y => ?_
  blk_simp
  rw [after0_4, dx, pull_eq]
  obtain ⟨b0, b1, b2, b3⟩ := blk m c t
  rw [b0, b1, b2, b3]
  exact congrArg (fun z => DX m c z + pull (DH m c) (X m c) (G m c) z) (spot_eq (rows := rows t) (fun _ => rfl) (idx t).2.2.2.2.1 y ((win0_4.blk t).view.emb y) fun _ => rfl)

theorem final5 : (dats m 0 c).arrAt 5 cfg0.N = (gain (DH m c) (X m c) : S1x2048.Idx → EReal) := by
  refine (dats m 0 c).arrAt_eq_of_covers 5 _ (by decide +kernel) fun t hf y => ?_
  blk_simp
  rw [after0_5]
  refine (congrFun (gain_of_steps (DH m c) (X m c) rows (fun _ _ => rfl) rfl (fun n h => (outsAt0 m c n h).2) (fun h => ?_) (fun n h y => ?_) t.val t.isLt
    ((by decide +kernel : ∀ t : Fin grid0.N, win0_5.flush t = true → t.val + 1 = 8) t hf)) y).trans ?_
  · obtain ⟨b0, b1, b2, b3⟩ := blk m c ⟨0, h⟩
    show (outsAt0 m c 0 h).2 = _
    rw [first, b1, b2, gain_eq]
  · obtain ⟨b0, b1, b2, b3⟩ := blk m c ⟨n + 1, h⟩
    show (outsAt0 m c (n + 1) h).2 y = _
    rw [next, b1, b2, gain_eq]
    exact step _ _ y
  · exact congrArg (gain (DH m c) (X m c)) (whole_eq (idx t).2.2.2.2.2 y ((win0_5.blk t).view.emb y) fun _ => rfl)

theorem run (ρ : Dev nD → PrngReg) :
    θ_run defs (onTc (τ := τ) (main (F := Ideal))) ⟨m, fun _ => 0, ρ⟩ fun r => ∀ c : Dev nD,
      r.2.mem ((c.tc : Thread nD τ).loc main_v0_0) = (fun y => DX m c y + pull (DH m c) (X m c) (G m c) y : S2048x2048.Idx → EReal)
      ∧ r.2.mem ((c.tc : Thread nD τ).loc main_v0_1) = (gain (DH m c) (X m c) : S1x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final4 m c), (h c).2.1.trans (final5 m c), (h c).2.2⟩) (Cert.NormInIdeal.Value.run_blocks m ρ)

end Cert.NormInIdeal.Norm
end
-- ==== Proof.Norms.lean ====
/-
  The backward pass of the two norms of a sublayer.
-/
module

public import proofs.«01_k».proof.Proof.Gen.NormsIdeal.Value
public import proofs.«01_k».proof.Proof.NormIn
public import proofs.«01_k».proof.Proof.Norm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.NormsIdeal.Norm

open Cert.NormsIdeal Cert.NormsIdeal.Gen _root_.Norm

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0]
    ∧ win0_6.index t = ![t.val, 0] ∧ win0_7.index t = ![0, 0] ∧ win0_8.index t = ![t.val, 0] ∧ win0_9.index t = ![0, 0] :=
  (by decide +kernel : ∀ t : Fin grid0.N, _)

variable (m : (ℓ : Loc nD τ sig) → Buf (Elt Ideal) ℓ) (c : Dev nD)

/-- The residual's gradient, the normed input's, the input and its gain; the sublayer's output and its gain. -/
abbrev DX : S2048x2048.Idx → EReal := m ((c.tc : Thread nD τ).loc main_arg0)
abbrev DH : S2048x2048.Idx → EReal := m ((c.tc : Thread nD τ).loc main_arg1)
abbrev X : S2048x2048.Idx → EReal := m ((c.tc : Thread nD τ).loc main_arg2)
abbrev G : S1x2048.Idx → EReal := m ((c.tc : Thread nD τ).loc main_arg3)
abbrev M : S2048x2048.Idx → EReal := m ((c.tc : Thread nD τ).loc main_arg4)
abbrev P : S1x2048.Idx → EReal := m ((c.tc : Thread nD τ).loc main_arg5)

/-- The gradient of the input. -/
def DO : S2048x2048.Idx → EReal := fun y => DX m c y + pull (DH m c) (X m c) (G m c) y

/-- The rows of grid point `t`'s blocks. -/
def rows (t : Fin cfg0.N) (i : Fin 256) : Fin 2048 := ⟨t.val * 256 + i.val, by have : t.val < 8 := t.isLt; omega⟩

theorem blk (t : Fin cfg0.N) : iblk m c 0 t = (tile (rows t) (DX m c) : S256x2048.Idx → EReal)
    ∧ iblk m c 1 t = (tile (rows t) (DH m c) : S256x2048.Idx → EReal)
    ∧ iblk m c 2 t = (tile (rows t) (X m c) : S256x2048.Idx → EReal)
    ∧ iblk m c 3 t = G m c
    ∧ iblk m c 4 t = (tile (rows t) (M m c) : S256x2048.Idx → EReal)
    ∧ iblk m c 5 t = P m c := by
  refine ⟨?_, ?_, ?_, ?_, ?_, ?_⟩ <;> funext i <;> blk_ext [iblk, V, idx t] <;> rfl

/-- The body, of its blocks. -/
theorem pre_eq (x0 x1 x2 : Vec Ideal S256x2048 .f32) (x3 : Vec Ideal S1x2048 .f32) : k0_pay10 x1 x2 x3 x0 = fun y => x0 y + pull x1 x2 x3 y :=
  Cert.NormInIdeal.Norm.pull_eq x0 x1 x2 x3

theorem pre_gain (x1 x2 : Vec Ideal S256x2048 .f32) : k0_pay9 x1 x2 = gain x1 x2 := Cert.NormInIdeal.Norm.gain_eq x1 x2

theorem post_gain (x1 x2 : Vec Ideal S256x2048 .f32) : k0_pay4 x1 x2 = gain x1 x2 := Cert.NormInIdeal.Norm.gain_eq x1 x2

theorem post_eq (x1 x2 : Vec Ideal S256x2048 .f32) (x3 : Vec Ideal S1x2048 .f32) : k0_pay5 x1 x2 x3 = (pull x1 x2 x3 : S256x2048.Idx → EReal) := by
  funext y
  unfold pull grad isq ms row under
  pointwise [k0_pay5, k0_pay3, k0_pay2]

theorem step (a b : Vec Ideal S1x2048 .f32) (y : S1x2048.Idx) : k0_pay1 a b y = b y + a y := Cert.NormInIdeal.Norm.step a b y

/-- What a grid point leaves of its blocks, with what it adds to. -/
def left (n : ℕ) (h : n < cfg0.N) (a b : S1x2048.Idx → EReal) : (S256x2048.Idx → EReal) × (S1x2048.Idx → EReal) × (S256x2048.Idx → EReal) × (S1x2048.Idx → EReal) :=
  (tile (rows ⟨n, h⟩) (DO m c), a, pull (tile (rows ⟨n, h⟩) (DO m c)) (tile (rows ⟨n, h⟩) (M m c)) (P m c), b)

theorem first (h : 0 < cfg0.N) : outsAt0 m c 0 h = left m c 0 h (gain (tile (rows ⟨0, h⟩) (DH m c)) (tile (rows ⟨0, h⟩) (X m c)))
    (gain (tile (rows ⟨0, h⟩) (DO m c)) (tile (rows ⟨0, h⟩) (M m c))) := by
  obtain ⟨b0, b1, b2, b3, b4, b5⟩ := blk m c ⟨0, h⟩
  refine (outsAt0_A m c ⟨0, h⟩ rfl (show ¬1 ≤ 0 by omega) rfl (show ¬1 ≤ 0 by omega)).trans ?_
  have e : k0_pay10 (iblk m c 1 ⟨0, h⟩) (iblk m c 2 ⟨0, h⟩) (iblk m c 3 ⟨0, h⟩) (iblk m c 0 ⟨0, h⟩) = tile (rows ⟨0, h⟩) (DO m c) := by
    rw [b0, b1, b2, b3, pre_eq]
    rfl
  unfold left
  rw [← post_eq, ← pre_gain, ← post_gain, ← e, ← b1, ← b2, ← b4, ← b5]
  refine Prod.ext ?_ (Prod.ext ?_ (Prod.ext ?_ ?_)) <;> funext y
  · frame_out
  · frame_out
  · frame_out
  · frame_out

theorem next (n : ℕ) (h : n + 1 < cfg0.N) : outsAt0 m c (n + 1) h = left m c (n + 1) h
    (fun y => (outsAt0 m c n (Nat.lt_of_succ_lt h)).2.1 y + gain (tile (rows ⟨n + 1, h⟩) (DH m c)) (tile (rows ⟨n + 1, h⟩) (X m c)) y)
    (fun y => (outsAt0 m c n (Nat.lt_of_succ_lt h)).2.2.2 y + gain (tile (rows ⟨n + 1, h⟩) (DO m c)) (tile (rows ⟨n + 1, h⟩) (M m c)) y) := by
  obtain ⟨b0, b1, b2, b3, b4, b5⟩ := blk m c ⟨n + 1, h⟩
  have hN : n + 1 < 8 := h
  have h0 : ¬(n + 1) % 8 = 0 := by omega
  have h1 : 1 ≤ n + 1 := by omega
  refine (outsAt0_B m c ⟨n + 1, h⟩ h0 h1 h0 h1).trans ?_
  have e : k0_pay10 (iblk m c 1 ⟨n + 1, h⟩) (iblk m c 2 ⟨n + 1, h⟩) (iblk m c 3 ⟨n + 1, h⟩) (iblk m c 0 ⟨n + 1, h⟩) = tile (rows ⟨n + 1, h⟩) (DO m c) := by
    rw [b0, b1, b2, b3, pre_eq]
    rfl
  unfold left
  rw [← post_eq, ← pre_gain, ← post_gain, ← e, ← b1, ← b2, ← b4, ← b5]
  refine Prod.ext ?_ (Prod.ext ?_ (Prod.ext ?_ ?_)) <;> funext y
  · frame_out
  · frame_out
    exact step _ _ y
  · frame_out
  · frame_out
    exact step _ _ y

theorem blocks (t : Fin cfg0.N) : (outsAt0 m c t.val t.isLt).1 = tile (rows t) (DO m c)
    ∧ (outsAt0 m c t.val t.isLt).2.2.1 = pull (tile (rows t) (DO m c)) (tile (rows t) (M m c)) (P m c) := by
  obtain ⟨n, h⟩ := t
  cases n with
  | zero =>
    show (outsAt0 m c 0 h).1 = _ ∧ (outsAt0 m c 0 h).2.2.1 = _
    rw [first m c h]
    exact ⟨rfl, rfl⟩
  | succ n =>
    show (outsAt0 m c (n + 1) h).1 = _ ∧ (outsAt0 m c (n + 1) h).2.2.1 = _
    rw [next m c n h]
    exact ⟨rfl, rfl⟩

theorem final6 : (dats m 0 c).arrAt 6 cfg0.N = DO m c := by
  refine (dats m 0 c).arrAt_eq_of_covers 6 _ (by decide +kernel) fun t hf y => ?_
  blk_simp
  rw [after0_6, (blocks m c t).1]
  exact congrArg (DO m c) (spot_eq (rows := rows t) (fun _ => rfl) (idx t).2.2.2.2.2.2.1 y ((win0_6.blk t).view.emb y) fun _ => rfl)

theorem final7 : (dats m 0 c).arrAt 7 cfg0.N = (gain (DH m c) (X m c) : S1x2048.Idx → EReal) := by
  refine (dats m 0 c).arrAt_eq_of_covers 7 _ (by decide +kernel) fun t hf y => ?_
  blk_simp
  rw [after0_7]
  refine (congrFun (gain_of_steps (DH m c) (X m c) rows (fun _ _ => rfl) rfl (fun n h => (outsAt0 m c n h).2.1) (fun h => ?_) (fun n h y => ?_) t.val t.isLt
    ((by decide +kernel : ∀ t : Fin grid0.N, win0_7.flush t = true → t.val + 1 = 8) t hf)) y).trans ?_
  · show (outsAt0 m c 0 h).2.1 = _
    rw [first]
    rfl
  · show (outsAt0 m c (n + 1) h).2.1 y = _
    rw [next]
    rfl
  · exact congrArg (gain (DH m c) (X m c)) (whole_eq (idx t).2.2.2.2.2.2.2.1 y ((win0_7.blk t).view.emb y) fun _ => rfl)

theorem final8 : (dats m 0 c).arrAt 8 cfg0.N = (pull (DO m c) (M m c) (P m c) : S2048x2048.Idx → EReal) := by
  refine (dats m 0 c).arrAt_eq_of_covers 8 _ (by decide +kernel) fun t hf y => ?_
  blk_simp
  rw [after0_8, (blocks m c t).2]
  refine (pull_tile (rows t) (DO m c) (M m c) (P m c) y).trans ?_
  exact congrArg (pull (DO m c) (M m c) (P m c)) (spot_eq (rows := rows t) (fun _ => rfl) (idx t).2.2.2.2.2.2.2.2.1 y ((win0_8.blk t).view.emb y) fun _ => rfl)

theorem final9 : (dats m 0 c).arrAt 9 cfg0.N = (gain (DO m c) (M m c) : S1x2048.Idx → EReal) := by
  refine (dats m 0 c).arrAt_eq_of_covers 9 _ (by decide +kernel) fun t hf y => ?_
  blk_simp
  rw [after0_9]
  refine (congrFun (gain_of_steps (DO m c) (M m c) rows (fun _ _ => rfl) rfl (fun n h => (outsAt0 m c n h).2.2.2) (fun h => ?_) (fun n h y => ?_) t.val t.isLt
    ((by decide +kernel : ∀ t : Fin grid0.N, win0_9.flush t = true → t.val + 1 = 8) t hf)) y).trans ?_
  · show (outsAt0 m c 0 h).2.2.2 = _
    rw [first]
    rfl
  · show (outsAt0 m c (n + 1) h).2.2.2 y = _
    rw [next]
    rfl
  · exact congrArg (gain (DO m c) (M m c)) (whole_eq (idx t).2.2.2.2.2.2.2.2.2 y ((win0_9.blk t).view.emb y) fun _ => rfl)

theorem run (ρ : Dev nD → PrngReg) :
    θ_run defs (onTc (τ := τ) (main (F := Ideal))) ⟨m, fun _ => 0, ρ⟩ fun r => ∀ c : Dev nD,
      r.2.mem ((c.tc : Thread nD τ).loc main_v0_0) = DO m c
      ∧ r.2.mem ((c.tc : Thread nD τ).loc main_v0_1) = (gain (DH m c) (X m c) : S1x2048.Idx → EReal)
      ∧ r.2.mem ((c.tc : Thread nD τ).loc main_v0_2) = (pull (DO m c) (M m c) (P m c) : S2048x2048.Idx → EReal)
      ∧ r.2.mem ((c.tc : Thread nD τ).loc main_v0_3) = (gain (DO m c) (M m c) : S1x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (final6 m c), (h c).2.1.trans (final7 m c), (h c).2.2.1.trans (final8 m c),
    (h c).2.2.2.1.trans (final9 m c), (h c).2.2.2.2⟩) (Cert.NormsIdeal.Value.run_blocks m ρ)

end Cert.NormsIdeal.Norm
end
-- ==== Proof.NormRef.lean ====
module

public import proofs.«01_k».proof.Proof.Gen.NormInRefIdeal.Run
public import proofs.«01_k».proof.Proof.Norm

@[expose] public section

set_option maxRecDepth 8192

noncomputable section

/-! The reference's side of the normed gradients: its operations, of whole arrays. -/
namespace Cert.NormInRefIdeal.Norm

open Cert.NormInRefIdeal Cert.NormInRefIdeal.Gen Idealize.ShloMosaic Idealize.ShloMosaic.TcCoe
open _root_.Norm

abbrev V (S : Shape) : Type := FVec Ideal S .f32

def meanSq (x : V S2048x2048) : V S2048x1 :=
  addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))

def scale (dy x : V S2048x2048) (g : V S1x2048) : V S2048 :=
  Host.reduceAdd (Host.divf (mulf (shapeCast _ (Host.reduceAdd (mulf x (mulf dy (broadcastInDim S2048x2048 ![0, 1] bcast_S1x2048_S2048x2048_0_1 g))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (meanSq x)) (meanSq x)))) (broadcastInDim S2048x1 ![] bcast_S_S2048x1 (constant S_ .f32 0x45000000#32))) (constant S_ .f32 0x00000000#32) reducesTo_S2048x1_S2048_d1 h_S_

def direct (dy x : V S2048x2048) (g : V S1x2048) : V S2048x2048 :=
  mulf (mulf dy (broadcastInDim S2048x2048 ![0, 1] bcast_S1x2048_S2048x2048_0_1 g)) (broadcastInDim S2048x2048 ![0, 1] bcast_S2048x1_S2048x2048_0_1 (Host.rsqrt (meanSq x)))

def left (dy x : V S2048x2048) (g : V S1x2048) : V S2048x2048 :=
  mulf x (broadcastInDim S2048x2048 ![0] bcast_S2048_S2048x2048_0 (scale dy x g))

def right (dy x : V S2048x2048) (g : V S1x2048) : V S2048x2048 :=
  mulf (broadcastInDim S2048x2048 ![0] bcast_S2048_S2048x2048_0 (scale dy x g)) x

def gains (dy x : V S2048x2048) : V S1x2048 :=
  shapeCast _ (Host.reduceAdd (mulf (mulf x (broadcastInDim S2048x2048 ![0, 1] bcast_S2048x1_S2048x2048_0_1 (Host.rsqrt (meanSq x)))) dy) (constant S_ .f32 0x00000000#32) reducesTo_S2048x2048_S2048_d0 h_S_) shapeCasts_S2048_S1x2048

theorem gains_eq (dy x : V S2048x2048) : gains dy x = (gain dy x : S1x2048.Idx → EReal) := by
  funext y
  unfold gain isq ms row
  pointwise [gains, meanSq]
  exact Finset.sum_congr rfl fun i _ => mul_comm _ _

theorem parts_eq (dy x : V S2048x2048) (g : V S1x2048) (y : S2048x2048.Idx) :
    direct dy x g y + (left dy x g y + right dy x g y) = pull dy x g y := by
  refine Eq.trans ?_ (grad_eq (under dy g (y 0)) (row x (y 0)) (y 1))
  unfold isq ms row under
  pointwise [direct, left, right, scale, meanSq]
  have e : ∑ k, dy (ix2 (y 0) k) * g (ix2 0 k) * x (ix2 (y 0) k) = ∑ k, x (ix2 (y 0) k) * (dy (ix2 (y 0) k) * g (ix2 0 k)) :=
    Finset.sum_congr rfl fun k _ => mul_comm _ _
  rw [e, Fin.sum_univ_one, mul_comm (x y)]

theorem sum_eq (d dy x : V S2048x2048) (g : V S1x2048) :
    addf (addf (addf d (direct dy x g)) (left dy x g)) (right dy x g) = fun y => d y + pull dy x g y := by
  funext y
  show d y + direct dy x g y + left dy x g y + right dy x g y = _
  rw [← parts_eq, add_assoc, add_assoc]

theorem pull_eq (dy x : V S2048x2048) (g : V S1x2048) (h) :
    truncf .bf16 (addf (addf (direct dy x g) (left dy x g)) (right dy x g)) h = (pull dy x g : S2048x2048.Idx → EReal) := by
  funext y
  show direct dy x g y + left dy x g y + right dy x g y = _
  rw [← parts_eq, add_assoc]

end Cert.NormInRefIdeal.Norm
end
-- ==== Proof.Loss.lean ====
/-
  The loss and the backward pass of the last norm.
-/
module

public import proofs.«01_k».proof.Proof.Gen.LossIdeal.Value
public import proofs.«01_k».proof.Proof.NormIn
public import proofs.«01_k».proof.Proof.Norm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.LossIdeal.Norm

open Cert.LossIdeal Cert.LossIdeal.Gen _root_.Norm

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0]
    ∧ win0_6.index t = ![0, 0] ∧ win0_7.index t = ![0, 0] :=
  (by decide +kernel : ∀ t : Fin grid0.N, _)

variable (m : (ℓ : Loc nD τ sig) → Buf (Elt Ideal) ℓ) (c : Dev nD)

/-- The residual, the sublayer's output, its gain and the target. -/
abbrev X : S2048x2048.Idx → EReal := m ((c.tc : Thread nD τ).loc main_arg0)
abbrev M : S2048x2048.Idx → EReal := m ((c.tc : Thread nD τ).loc main_arg1)
abbrev P : S1x2048.Idx → EReal := m ((c.tc : Thread nD τ).loc main_arg2)
abbrev T : S2048x2048.Idx → EReal := m ((c.tc : Thread nD τ).loc main_arg3)

/-- The error, its gradient, and a row's part of the loss. -/
def err {r : ℕ} (x a : Arr r 2048) (g : Arr 1 2048) (t : Arr r 2048) : Arr r 2048 := fun y => x y + a y * isq (row a (y 0)) * g (ix2 0 (y 1)) - t y
def derr {r : ℕ} (e : Arr r 2048) : Arr r 2048 := fun y => e y * Ideal.ofBits .f32 0x3A000000#32
def part {r : ℕ} (e : Arr r 2048) (i : Fin r) : EReal := Ideal.ofBits .f32 0x3F000000#32 * (∑ k, e (ix2 i k) * e (ix2 i k)) * Ideal.ofBits .f32 0x3A000000#32

/-- The rows of grid point `t`'s blocks. -/
def rows (t : Fin cfg0.N) (i : Fin 256) : Fin 2048 := ⟨t.val * 256 + i.val, by have : t.val < 8 := t.isLt; omega⟩

theorem blk (t : Fin cfg0.N) : iblk m c 0 t = (tile (rows t) (X m c) : S256x2048.Idx → EReal)
    ∧ iblk m c 1 t = (tile (rows t) (M m c) : S256x2048.Idx → EReal)
    ∧ iblk m c 2 t = P m c
    ∧ iblk m c 3 t = (tile (rows t) (T m c) : S256x2048.Idx → EReal) := by
  refine ⟨?_, ?_, ?_, ?_⟩ <;> funext i <;> blk_ext [iblk, V, idx t] <;> rfl

/-- The body, of its blocks. -/
theorem err_eq (a : Vec Ideal S256x2048 .f32) (g : Vec Ideal S1x2048 .f32) (x t : Vec Ideal S256x2048 .f32) : k0_pay6 a g x t = err x a g t := by
  funext y
  unfold err isq ms row
  pointwise [k0_pay6]

theorem derr_eq (a : Vec Ideal S256x2048 .f32) (g : Vec Ideal S1x2048 .f32) (x t : Vec Ideal S256x2048 .f32) : k0_pay7 a g x t = derr (err x a g t) := by
  rw [← err_eq]
  rfl

theorem gain_eq (e a : Vec Ideal S256x2048 .f32) : k0_pay1 e (k0_pay9 a) = gain e a := by
  funext y
  unfold gain isq ms row
  pointwise [k0_pay1, k0_pay9, k0_pay8]

theorem pull_eq (a : Vec Ideal S256x2048 .f32) (g : Vec Ideal S1x2048 .f32) (x t : Vec Ideal S256x2048 .f32) :
    k0_pay2 (k0_pay8 a) (k0_pay9 a) (k0_pay10 a g x t) (k0_pay11 a g x t) = (pull (k0_pay7 a g x t) a g : S256x2048.Idx → EReal) := by
  funext y
  unfold pull grad isq ms row under
  pointwise [k0_pay2, k0_pay11, k0_pay10, k0_pay9, k0_pay8]

theorem loss_eq (e : Vec Ideal S256x2048 .f32) : k0_pay4 (F := Ideal) e = fun _ => ∑ i, part e i := by
  funext y
  unfold part
  pointwise [k0_pay4]
  rw [inverse_bits, half_bits, mul_comm ((1 / 2 : ℝ) : EReal), sum_mul_coe _ (by norm_num), sum_mul_coe _ (by norm_num)]
  exact Finset.sum_congr rfl fun i _ => by rw [mul_comm ((1 / 2 : ℝ) : EReal)]

theorem step (a b : Vec Ideal S256x2048 .f32) (v : Vec Ideal S1x2048 .f32) (y : S1x2048.Idx) : k0_pay3 a b v y = v y + k0_pay1 (F := Ideal) a b y := by
  unfold k0_pay3
  pointwise

theorem step_loss (e : Vec Ideal S256x2048 .f32) (b : Vec Ideal S1x128 .f32) (y : S1x128.Idx) : k0_pay5 (F := Ideal) e b y = b y + k0_pay4 (F := Ideal) e y := by
  unfold k0_pay5
  pointwise

/-- The whole error and its gradient. -/
def ER : S2048x2048.Idx → EReal := err (X m c) (M m c) (P m c) (T m c)
def DE : S2048x2048.Idx → EReal := derr (ER m c)

theorem body (t : Fin cfg0.N) : k0_pay6 (iblk m c 1 t) (iblk m c 2 t) (iblk m c 0 t) (iblk m c 3 t) = tile (rows t) (ER m c)
    ∧ k0_pay7 (iblk m c 1 t) (iblk m c 2 t) (iblk m c 0 t) (iblk m c 3 t) = tile (rows t) (DE m c) := by
  obtain ⟨b0, b1, b2, b3⟩ := blk m c t
  rw [b0, b1, b2, b3, err_eq, derr_eq]
  exact ⟨rfl, rfl⟩

/-- What a grid point leaves of its blocks, with what it adds to. -/
def left (n : ℕ) (h : n < cfg0.N) (a : S1x2048.Idx → EReal) (b : S1x128.Idx → EReal) : (S256x2048.Idx → EReal) × (S256x2048.Idx → EReal) × (S1x2048.Idx → EReal) × (S1x128.Idx → EReal) :=
  (tile (rows ⟨n, h⟩) (DE m c), pull (tile (rows ⟨n, h⟩) (DE m c)) (tile (rows ⟨n, h⟩) (M m c)) (P m c), a, b)

theorem first (h : 0 < cfg0.N) : outsAt0 m c 0 h = left m c 0 h (gain (tile (rows ⟨0, h⟩) (DE m c)) (tile (rows ⟨0, h⟩) (M m c)))
    (fun _ => ∑ i, part (tile (rows ⟨0, h⟩) (ER m c)) i) := by
  obtain ⟨b0, b1, b2, b3⟩ := blk m c ⟨0, h⟩
  obtain ⟨e6, e7⟩ := body m c ⟨0, h⟩
  refine (outsAt0_A m c ⟨0, h⟩ rfl (show ¬1 ≤ 0 by omega) rfl (show ¬1 ≤ 0 by omega)).trans ?_
  unfold left
  rw [← gain_eq, ← loss_eq, ← e6, ← e7, ← b1, ← b2, ← pull_eq]
  refine Prod.ext ?_ (Prod.ext ?_ (Prod.ext ?_ ?_)) <;> funext y
  · frame_out
  · frame_out
  · frame_out
  · frame_out

theorem next (n : ℕ) (h : n + 1 < cfg0.N) : outsAt0 m c (n + 1) h = left m c (n + 1) h
    (fun y => (outsAt0 m c n (Nat.lt_of_succ_lt h)).2.2.1 y + gain (tile (rows ⟨n + 1, h⟩) (DE m c)) (tile (rows ⟨n + 1, h⟩) (M m c)) y)
    (fun y => (outsAt0 m c n (Nat.lt_of_succ_lt h)).2.2.2 y + ∑ i, part (tile (rows ⟨n + 1, h⟩) (ER m c)) i) := by
  obtain ⟨b0, b1, b2, b3⟩ := blk m c ⟨n + 1, h⟩
  obtain ⟨e6, e7⟩ := body m c ⟨n + 1, h⟩
  have hN : n + 1 < 8 := h
  have h0 : ¬(n + 1) % 8 = 0 := by omega
  have h1 : 1 ≤ n + 1 := by omega
  refine (outsAt0_B m c ⟨n + 1, h⟩ h0 h1 h0 h1).trans ?_
  unfold left
  rw [← gain_eq, ← e6, ← e7, ← b1, ← b2, ← pull_eq]
  refine Prod.ext ?_ (Prod.ext ?_ (Prod.ext ?_ ?_)) <;> funext y
  · frame_out
  · frame_out
  · frame_out
    exact step _ _ _ y
  · frame_out
    exact (step_loss _ _ y).trans (congrArg _ (congrFun (loss_eq _) y))

theorem blocks (t : Fin cfg0.N) : (outsAt0 m c t.val t.isLt).1 = tile (rows t) (DE m c)
    ∧ (outsAt0 m c t.val t.isLt).2.1 = pull (tile (rows t) (DE m c)) (tile (rows t) (M m c)) (P m c) := by
  obtain ⟨n, h⟩ := t
  cases n with
  | zero =>
    show (outsAt0 m c 0 h).1 = _ ∧ (outsAt0 m c 0 h).2.1 = _
    rw [first m c h]
    exact ⟨rfl, rfl⟩
  | succ n =>
    show (outsAt0 m c (n + 1) h).1 = _ ∧ (outsAt0 m c (n + 1) h).2.1 = _
    rw [next m c n h]
    exact ⟨rfl, rfl⟩

theorem final4 : (dats m 0 c).arrAt 4 cfg0.N = DE m c := by
  refine (dats m 0 c).arrAt_eq_of_covers 4 _ (by decide +kernel) fun t hf y => ?_
  blk_simp
  rw [after0_4, (blocks m c t).1]
  exact congrArg (DE m c) (spot_eq (rows := rows t) (fun _ => rfl) (idx t).2.2.2.2.1 y ((win0_4.blk t).view.emb y) fun _ => rfl)

theorem final5 : (dats m 0 c).arrAt 5 cfg0.N = (pull (DE m c) (M m c) (P m c) : S2048x2048.Idx → EReal) := by
  refine (dats m 0 c).arrAt_eq_of_covers 5 _ (by decide +kernel) fun t hf y => ?_
  blk_simp
  rw [after0_5, (blocks m c t).2]
  refine (pull_tile (rows t) (DE m c) (M m c) (P m c) y).trans ?_
  exact congrArg (pull (DE m c) (M m c) (P m c)) (spot_eq (rows := rows t) (fun _ => rfl) (idx t).2.2.2.2.2.1 y ((win0_5.blk t).view.emb y) fun _ => rfl)

theorem final6 : (dats m 0 c).arrAt 6 cfg0.N = (gain (DE m c) (M m c) : S1x2048.Idx → EReal) := by
  refine (dats m 0 c).arrAt_eq_of_covers 6 _ (by decide +kernel) fun t hf y => ?_
  blk_simp
  rw [after0_6]
  refine (congrFun (gain_of_steps (DE m c) (M m c) rows (fun _ _ => rfl) rfl (fun n h => (outsAt0 m c n h).2.2.1) (fun h => ?_) (fun n h y => ?_) t.val t.isLt
    ((by decide +kernel : ∀ t : Fin grid0.N, win0_6.flush t = true → t.val + 1 = 8) t hf)) y).trans ?_
  · show (outsAt0 m c 0 h).2.2.1 = _
    rw [first]
    rfl
  · show (outsAt0 m c (n + 1) h).2.2.1 y = _
    rw [next]
    rfl
  · exact congrArg (gain (DE m c) (M m c)) (whole_eq (idx t).2.2.2.2.2.2.1 y ((win0_6.blk t).view.emb y) fun _ => rfl)

theorem final7 : (dats m 0 c).arrAt 7 cfg0.N = (fun _ => ∑ l, part (ER m c) l : S1x128.Idx → EReal) := by
  refine (dats m 0 c).arrAt_eq_of_covers 7 _ (by decide +kernel) fun t hf y => ?_
  blk_simp
  rw [after0_7]
  refine sum_of_steps (part (ER m c)) rows (fun _ _ => rfl) rfl (fun n h => (outsAt0 m c n h).2.2.2 y) (fun h => ?_) (fun n h => ?_) t.val t.isLt
    ((by decide +kernel : ∀ t : Fin grid0.N, win0_7.flush t = true → t.val + 1 = 8) t hf)
  · show (outsAt0 m c 0 h).2.2.2 y = _
    rw [first]
    rfl
  · show (outsAt0 m c (n + 1) h).2.2.2 y = _
    rw [next]
    rfl

theorem run (ρ : Dev nD → PrngReg) :
    θ_run defs (onTc (τ := τ) (main (F := Ideal))) ⟨m, fun _ => 0, ρ⟩ fun r => ∀ c : Dev nD,
      r.2.mem ((c.tc : Thread nD τ).loc main_v0_0) = DE m c
      ∧ r.2.mem ((c.tc : Thread nD τ).loc main_v0_1) = (pull (DE m c) (M m c) (P m c) : S2048x2048.Idx → EReal)
      ∧ r.2.mem ((c.tc : Thread nD τ).loc main_v0_2) = (gain (DE m c) (M m c) : S1x2048.Idx → EReal)
      ∧ r.2.mem ((c.tc : Thread nD τ).loc main_v0_3) = (fun _ => ∑ l, part (ER m c) l : S1x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final4 m c), (h c).2.1.trans (final5 m c), (h c).2.2.1.trans (final6 m c),
    (h c).2.2.2.1.trans (final7 m c), (h c).2.2.2.2⟩) (Cert.LossIdeal.Value.run_blocks m ρ)

end Cert.LossIdeal.Norm
end
-- ==== Proof.LossRef.lean ====
/-
  The reference's loss and its gradients.
-/
module

public import proofs.«01_k».proof.Proof.Gen.LossRefIdeal.Run
public import proofs.«01_k».proof.Proof.NormRef
public import proofs.«01_k».proof.Proof.Loss

@[expose] public section

set_option maxRecDepth 8192

noncomputable section

namespace Cert.LossRefIdeal.Norm

open Cert.LossRefIdeal Cert.LossRefIdeal.Gen Idealize.ShloMosaic Idealize.ShloMosaic.TcCoe
open _root_.Norm Cert.LossIdeal.Norm
open Cert.NormInRefIdeal.Norm (V meanSq)

def error (x a : V S2048x2048) (g : V S1x2048) (t : V S2048x2048) : V S2048x2048 :=
  subf (addf x (mulf (mulf a (broadcastInDim S2048x2048 ![0, 1] bcast_S2048x1_S2048x2048_0_1 (Host.rsqrt (meanSq a)))) (broadcastInDim S2048x2048 ![0, 1] bcast_S1x2048_S2048x2048_0_1 g))) t

theorem error_eq (x a : V S2048x2048) (g : V S1x2048) (t : V S2048x2048) : error x a g t = err x a g t := by
  funext y
  unfold err isq ms row
  pointwise [error, meanSq]

theorem error_grad (e : V S2048x2048) :
    mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32)))) (mulf (broadcastInDim S2048x2048 ![] bcast_S_S2048x2048 (constant S_ .f32 0x40000000#32)) e) = derr e := by
  funext y
  unfold derr
  pointwise
  rw [half_bits, width_bits, twice_bits, inverse_bits, Ideal.div_coe (by norm_num), ← mul_assoc, ← EReal.coe_mul, ← EReal.coe_mul, mul_comm]
  norm_num

theorem loss (e : V S2048x2048) :
    broadcastInDim S1x128 ![] bcast_S_S1x128 (mulf (constant S_ .f32 0x3F000000#32) (Host.reduceAdd (Host.divf (Host.reduceAdd (mulf e e) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_)) = fun _ => ∑ l, part e l := by
  funext y
  unfold part
  pointwise
  simp only [half_bits, width_bits, inverse_bits, Ideal.div_coe (show (2048 : ℝ) ≠ 0 by norm_num)]
  rw [mul_comm, sum_mul_coe _ (by norm_num)]
  exact Finset.sum_congr rfl fun l _ => by rw [mul_comm, mul_assoc]

end Cert.LossRefIdeal.Norm
end
-- ==== Proof.PoolDw.lean ====
/-
  The backward pass of the pooling mixer's linear maps: the gradients of the maps and of the scale.
-/
module

public import proofs.«01_k».proof.Proof.Gen.PoolDwIdeal.Value
public import proofs.«01_k».proof.Proof.Gen.PoolDwRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Pool

abbrev Rows : Shape := ⟨2, ![2048, 1024]⟩
abbrev Wide : Shape := ⟨2, ![2048, 2048]⟩
abbrev Maps : Shape := ⟨3, ![4, 256, 256]⟩
abbrev Scales : Shape := ⟨2, ![1, 1024]⟩

/-- Channel `j` of group `g`, and a channel's group and place in it. -/
def col (g : Fin 4) (j : Fin 256) : Fin 1024 := ⟨g.val * 256 + j.val, by omega⟩
def grp (n : Fin 1024) : Fin 4 := ⟨n.val / 256, by omega⟩
def lane (n : Fin 1024) : Fin 256 := ⟨n.val % 256, by omega⟩

/-- The columns of the gradient that are the pooled channels'. -/
def wide (n : Fin 1024) : Fin 2048 := ⟨n.val, by omega⟩

variable (D : Wide.Idx → EReal) (P : Rows.Idx → EReal) (W : Maps.Idx → EReal) (S : Scales.Idx → EReal)

/-- The gradient of group `g`'s map, and that of a channel's scale. -/
def dMap (g : Fin 4) (a b : Fin 256) : EReal := ∑ i : Fin 2048, P (ix2 i (col g a)) * (D (ix2 i (wide (col g b))) * S (ix2 0 (col g b)))
def dScale (g : Fin 4) (j : Fin 256) : EReal := ∑ i : Fin 2048, D (ix2 i (wide (col g j))) * ∑ k : Fin 256, P (ix2 i (col g k)) * W (ix3 g k j)

def maps : Maps.Idx → EReal := fun y => dMap D P S (y 0) (y 1) (y 2)
def scales : Scales.Idx → EReal := fun y => dScale D P W (grp (y 1)) (lane (y 1))

end Pool

namespace Cert.PoolDwIdeal.Pool

open Cert.PoolDwIdeal Cert.PoolDwIdeal.Gen _root_.Pool

theorem idx : ∀ t : Fin cfg0.N, win0_0.index t = ![0, t.val] ∧ win0_1.index t = ![0, t.val] ∧ win0_2.index t = ![t.val, 0, 0]
    ∧ win0_3.index t = ![0, t.val] ∧ win0_5.index t = ![t.val, 0, 0] ∧ win0_6.index t = ![0, t.val] :=
  (by decide +kernel : ∀ t : Fin grid0.N, _)

variable (m : (ℓ : Loc nD τ sig) → Buf (Elt Ideal) ℓ) (c : Dev nD)

abbrev D : Wide.Idx → EReal := m ((c.tc : Thread nD τ).loc main_arg0)
abbrev P : Rows.Idx → EReal := m ((c.tc : Thread nD τ).loc main_arg1)
abbrev W : Maps.Idx → EReal := m ((c.tc : Thread nD τ).loc main_arg2)
abbrev S : Scales.Idx → EReal := m ((c.tc : Thread nD τ).loc main_arg3)

/-- Grid point `t` works on group `t`. -/
def group (t : Fin cfg0.N) : Fin 4 := ⟨t.val, t.isLt⟩

theorem blk_d (t : Fin cfg0.N) : iblk m c 0 t = (fun i => D m c (ix2 (i 0 : Fin 2048) (wide (col (group t) (i 1)))) : S2048x256.Idx → EReal) := by
  funext i
  blk_ext [iblk, V, idx t]
  rfl
theorem blk_p (t : Fin cfg0.N) : iblk m c 1 t = (fun i => P m c (ix2 (i 0 : Fin 2048) (col (group t) (i 1))) : S2048x256.Idx → EReal) := by
  funext i
  blk_ext [iblk, V, idx t]
  rfl
theorem blk_w (t : Fin cfg0.N) : iblk m c 2 t = (fun i => W m c (ix3 (group t) (i 1 : Fin 256) (i 2 : Fin 256)) : S1x256x256.Idx → EReal) := by
  funext i
  blk_ext [iblk, V, idx t]
  rfl
theorem blk_s (t : Fin cfg0.N) : iblk m c 3 t = (fun i => S m c (ix2 0 (col (group t) (i 1))) : S1x256.Idx → EReal) := by
  funext i
  blk_ext [iblk, V, idx t]
  rfl

theorem out_map (t : Fin cfg0.N) (y : S1x256x256.Idx) : (outsAt0 m c t).2.1 y = dMap (D m c) (P m c) (S m c) (group t) (y 1) (y 2) := by
  unfold outsAt0
  frame_out
  rw [blk_d, blk_p, blk_s]
  unfold dMap
  pointwise [k0_pay20, k0_pay19]

theorem out_scale (t : Fin cfg0.N) (y : S1x256.Idx) : (outsAt0 m c t).2.2 y = dScale (D m c) (P m c) (W m c) (group t) (y 1) := by
  unfold outsAt0
  frame_out
  rw [blk_d, blk_p, blk_w]
  unfold dScale
  pointwise [k0_pay18, k0_pay17]

theorem final5 : (dats m 0 c).arrAt 5 cfg0.N = (maps (D m c) (P m c) (S m c) : S4x256x256.Idx → EReal) := by
  refine (dats m 0 c).arrAt_eq_of_covers 5 _ (by decide +kernel) fun t hf y => ?_
  blk_simp
  rw [after0_5]
  refine (out_map m c t y).trans ?_
  obtain ⟨-, -, -, -, h, -⟩ := idx t
  have y0 : (y 0).val < 1 := (y 0).isLt
  unfold maps
  congr 1
  · refine Fin.ext ?_
    show t.val = win0_5.index t 0 * 1 + 1 * (y 0).val
    rw [h]; simp
  · refine Fin.ext ?_
    show (y 1).val = win0_5.index t 1 * 256 + 1 * (y 1).val
    rw [h]; simp
  · refine Fin.ext ?_
    show (y 2).val = win0_5.index t 2 * 256 + 1 * (y 2).val
    rw [h]; simp

theorem final6 : (dats m 0 c).arrAt 6 cfg0.N = (scales (D m c) (P m c) (W m c) : S1x1024.Idx → EReal) := by
  refine (dats m 0 c).arrAt_eq_of_covers 6 _ (by decide +kernel) fun t hf y => ?_
  blk_simp
  rw [after0_6]
  refine (out_scale m c t y).trans ?_
  obtain ⟨-, -, -, -, -, h⟩ := idx t
  have y1 : (y 1).val < 256 := (y 1).isLt
  unfold scales
  have e : (((win0_6.blk t).view.emb y 1 : Fin 1024)).val = t.val * 256 + (y 1).val := by
    show win0_6.index t 1 * 256 + 1 * (y 1).val = _
    rw [h]; simp
  congr 1
  · refine Fin.ext ?_
    show t.val = ((win0_6.blk t).view.emb y 1 : Fin 1024).val / 256
    rw [e]; omega
  · refine Fin.ext ?_
    show (y 1).val = ((win0_6.blk t).view.emb y 1 : Fin 1024).val % 256
    rw [e]; omega

theorem run (ρ : Dev nD → PrngReg) :
    θ_run defs (onTc (τ := τ) (main (F := Ideal))) ⟨m, fun _ => 0, ρ⟩ fun r => ∀ c : Dev nD,
      r.2.mem ((c.tc : Thread nD τ).loc main_v0_1) = (maps (D m c) (P m c) (S m c) : S4x256x256.Idx → EReal)
      ∧ r.2.mem ((c.tc : Thread nD τ).loc main_v0_2) = (scales (D m c) (P m c) (W m c) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).2.1.trans (final5 m c), (h c).2.2.1.trans (final6 m c), (h c).2.2.2⟩) (Cert.PoolDwIdeal.Value.run_blocks m ρ)

end Cert.PoolDwIdeal.Pool

namespace Cert.PoolDwRefIdeal.Pool

open Cert.PoolDwRefIdeal Cert.PoolDwRefIdeal.Gen _root_.Pool

theorem maps_eq (D : FVec Ideal S2048x2048 .f32) (P : FVec Ideal S2048x1024 .bf16) (S : FVec Ideal S1x1024 .f32) :
    transpose S4x256x256 [0, 2, 1] (Host.dotGeneral dot_S4x256x2048_S2048x4x256_S4x256x256_2_0_1_2_0_1 none (transpose S4x256x2048 [1, 2, 0] (shapeCast _ (mulf (extractStridedSlice S2048x1024 ![0, 0] D slices_S2048x2048_S2048x1024_0_0) (broadcastInDim S2048x1024 ![0, 1] bcast_S1x1024_S2048x1024_0_1 S)) shapeCasts_S2048x1024_S2048x4x256) transposes_S2048x4x256_S4x256x2048_1_2_0) (shapeCast _ (extf .f32 P bitsLt_bf16_f32) shapeCasts_S2048x1024_S2048x4x256)) transposes_S4x256x256_S4x256x256_0_2_1
      = (maps D P S : S4x256x256.Idx → EReal) := by
  funext y
  unfold maps dMap
  pointwise
  exact Finset.sum_congr rfl fun i _ => mul_comm _ _

theorem scales_eq (D : FVec Ideal S2048x2048 .f32) (P : FVec Ideal S2048x1024 .bf16) (W : FVec Ideal S4x256x256 .f32) :
    shapeCast S1x1024 (Host.reduceAdd (mulf (shapeCast S2048x1024 (transpose S2048x4x256 [2, 0, 1] (Host.dotGeneral dot_S4x256x256_S2048x4x256_S4x256x2048_1_2_2_0_0_1 none W (shapeCast _ (extf .f32 P bitsLt_bf16_f32) shapeCasts_S2048x1024_S2048x4x256)) transposes_S4x256x2048_S2048x4x256_2_0_1) shapeCasts_S2048x4x256_S2048x1024) (extractStridedSlice S2048x1024 ![0, 0] D slices_S2048x2048_S2048x1024_0_0)) (constant S_ .f32 0x00000000#32) reducesTo_S2048x1024_S1024_d0 h_S_) shapeCasts_S1024_S1x1024
      = (scales D P W : S1x1024.Idx → EReal) := by
  funext y
  unfold scales dScale
  pointwise
  refine Finset.sum_congr rfl fun i _ => (mul_comm _ _).trans ?_
  have e : wide (col (grp (y 1)) (lane (y 1))) = wide (y 1) := Fin.ext (show (y 1).val / 256 * 256 + (y 1).val % 256 = (y 1).val by omega)
  rw [e]
  exact congrArg _ (Finset.sum_congr rfl fun k _ => mul_comm _ _)

end Cert.PoolDwRefIdeal.Pool
end
-- ==== Proof.Silu.lean ====
/-
  The backward pass of the Conformer convolution's layer norm and of the silu after it: the gradients of gain and bias.
-/
module

public import proofs.«01_k».proof.Proof.Gen.SiluIdeal.Value
public import proofs.«01_k».proof.Proof.Norm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Silu

open _root_.Norm

theorem zero_sub (a : EReal) : 0 - a = -a := by rw [sub_eq_add_neg, zero_add]

/-- The logistic, and the silu's gradient: the kernel's product is the derivative's sum. -/
def sg (y : EReal) : EReal := Ideal.div 1 (1 + Ideal.exp (-y))

theorem grad_eq (d : ℝ) (y : EReal) : (d : EReal) * sg y + y * d * (sg y * (1 - sg y)) = d * (sg y * (1 + y * (1 - sg y))) := by
  induction y with
  | bot =>
    have : (1 : EReal) + ⊤ = ⊤ := EReal.coe_add_top 1
    have : sg ⊥ = 0 := by simp [sg, Ideal.div, this]
    rw [this]
    simp
  | top =>
    have : sg ⊤ = 1 := by simp [sg, Ideal.div]
    rw [this]
    have : (1 : EReal) - 1 = 0 := by rw [← EReal.coe_one, ← EReal.coe_sub]; simp
    rw [this]
    simp
  | coe r =>
    have hp : (1 + Real.exp (-r)) ≠ 0 := by positivity
    have : sg r = ((1 / (1 + Real.exp (-r)) : ℝ) : EReal) := by
      rw [sg, ← EReal.coe_neg, Ideal.exp_coe, ← EReal.coe_one, ← EReal.coe_add, Ideal.div_coe hp, ← EReal.coe_mul, one_mul]
    rw [this, ← EReal.coe_one]
    simp only [← EReal.coe_add, ← EReal.coe_sub, ← EReal.coe_mul]
    congr 1
    ring

variable {r c : ℕ}

/-- A row less its mean, over the root of its mean square; then with gain and bias. -/
def center (x : Fin c → EReal) (k : Fin c) : EReal := x k - Ideal.div (∑ j, x j) (Ideal.ofBits .f32 0x44800000#32)
def unit (x : Fin c → EReal) (k : Fin c) : EReal :=
  center x k * Ideal.rsqrt (Ideal.div (∑ j, center x j * center x j) (Ideal.ofBits .f32 0x44800000#32) + Ideal.ofBits .f32 0x358637BD#32)
def normed (x : Arr r c) (g b : Arr 1 c) : Arr r c := fun y => unit (row x (y 0)) (y 1) * g (ix2 0 (y 1)) + b (ix2 0 (y 1))

/-- The gradient of the normed rows, and from it those of the gain and of the bias. -/
def back (dy x : Arr r c) (g b : Arr 1 c) : Arr r c := fun y =>
  dy y * (sg (normed x g b y) * (1 + normed x g b y * (1 - sg (normed x g b y))))
def gains (dy x : Arr r c) (g b : Arr 1 c) : Arr 1 c := fun y => ∑ i : Fin r, back dy x g b (ix2 i (y 1 : Fin c)) * unit (row x i) (y 1)
def biases (dy x : Arr r c) (g b : Arr 1 c) : Arr 1 c := fun y => ∑ i : Fin r, back dy x g b (ix2 i (y 1 : Fin c))

end Silu

namespace Cert.SiluIdeal.Norm

open Cert.SiluIdeal Cert.SiluIdeal.Gen _root_.Norm _root_.Silu

theorem idx : ∀ t : Fin cfg0.N, win0_0.index t = ![t.val, 1] ∧ win0_1.index t = ![t.val, 0] ∧ win0_2.index t = ![0, 0]
    ∧ win0_3.index t = ![0, 0] ∧ win0_5.index t = ![0, 0] ∧ win0_6.index t = ![0, 0] :=
  (by decide +kernel : ∀ t : Fin grid0.N, _)

variable (m : (ℓ : Loc nD τ sig) → Buf (Elt Ideal) ℓ) (c : Dev nD)

/-- The columns of the gradient that are the convolution's. -/
def half (dy : S2048x2048.Idx → EReal) : S2048x1024.Idx → EReal := fun y => dy (ix2 (y 0 : Fin 2048) (⟨1024 + (y 1).val, by have : (y 1).val < 1024 := (y 1).isLt; omega⟩ : Fin 2048))

abbrev DY : S2048x1024.Idx → EReal := half (m ((c.tc : Thread nD τ).loc main_arg0))
abbrev X : S2048x1024.Idx → EReal := m ((c.tc : Thread nD τ).loc main_arg1)
abbrev G : S1x1024.Idx → EReal := m ((c.tc : Thread nD τ).loc main_arg2)
abbrev B : S1x1024.Idx → EReal := m ((c.tc : Thread nD τ).loc main_arg3)

/-- The rows of grid point `t`'s blocks. -/
def rows (t : Fin cfg0.N) (i : Fin 256) : Fin 2048 := ⟨t.val * 256 + i.val, by have : t.val < 8 := t.isLt; omega⟩

theorem blk (t : Fin cfg0.N) : iblk m c 0 t = (tile (rows t) (DY m c) : S256x1024.Idx → EReal)
    ∧ iblk m c 1 t = (tile (rows t) (X m c) : S256x1024.Idx → EReal) ∧ iblk m c 2 t = G m c ∧ iblk m c 3 t = B m c := by
  refine ⟨?_, ?_, ?_, ?_⟩ <;> funext i <;> blk_ext [iblk, V, idx t] <;> rfl

/-- The body, of its blocks. -/
theorem back_eq (x0 x1 : Vec Ideal S256x1024 .f32) (x2 x3 : Vec Ideal S1x1024 .f32) : k0_pay9 x2 x1 x3 x0 = back x0 x1 x2 x3 := by
  funext y
  unfold back normed unit center row sg
  pointwise [k0_pay9, k0_pay8, k0_pay7, k0_pay6]
  simp only [zero_sub]

theorem unit_eq (x1 : Vec Ideal S256x1024 .f32) (y : S256x1024.Idx) : k0_pay8 x1 y = unit (row x1 (y 0)) (y 1) := by
  unfold unit center row
  pointwise [k0_pay8, k0_pay7, k0_pay6]

theorem gain_first (x0 x1 : Vec Ideal S256x1024 .f32) (x2 x3 : Vec Ideal S1x1024 .f32) : k0_pay1 (k0_pay10 x2 x1 x3 x0) = gains x0 x1 x2 x3 := by
  have e : k0_pay10 x2 x1 x3 x0 = multiReduction .add [0] S1024 (mulf (back x0 x1 x2 x3) (k0_pay8 x1)) 0x00000000#32 reduces_S256x1024_S1024 (.inl rfl) rfl := by
    unfold k0_pay10
    rw [back_eq]
  funext y
  rw [e]
  unfold gains
  pointwise [k0_pay1, unit_eq]

theorem bias_first (x0 x1 : Vec Ideal S256x1024 .f32) (x2 x3 : Vec Ideal S1x1024 .f32) : k0_pay3 (k0_pay9 x2 x1 x3 x0) = biases x0 x1 x2 x3 := by
  rw [back_eq]
  funext y
  unfold biases
  pointwise [k0_pay3]

theorem gain_step (a : FVec Ideal S1024 .f32) (b : Vec Ideal S1x1024 .f32) (y : S1x1024.Idx) : k0_pay2 a b y = b y + k0_pay1 a y := by
  pointwise [k0_pay2]

theorem bias_step (a : FVec Ideal S256x1024 .f32) (b : Vec Ideal S1x1024 .f32) (y : S1x1024.Idx) : k0_pay4 a b y = b y + k0_pay3 a y := by
  pointwise [k0_pay4]

/-- What a tile of rows adds to the two sums. -/
def tileGains (n : ℕ) (h : n < cfg0.N) : S1x1024.Idx → EReal := gains (tile (rows ⟨n, h⟩) (DY m c)) (tile (rows ⟨n, h⟩) (X m c)) (G m c) (B m c)
def tileBiases (n : ℕ) (h : n < cfg0.N) : S1x1024.Idx → EReal := biases (tile (rows ⟨n, h⟩) (DY m c)) (tile (rows ⟨n, h⟩) (X m c)) (G m c) (B m c)

theorem first (h : 0 < cfg0.N) : (outsAt0 m c 0 h).2 = (tileGains m c 0 h, tileBiases m c 0 h) := by
  obtain ⟨b0, b1, b2, b3⟩ := blk m c ⟨0, h⟩
  refine (congrArg Prod.snd (outsAt0_A m c ⟨0, h⟩ rfl (show ¬1 ≤ 0 by omega) rfl (show ¬1 ≤ 0 by omega))).trans ?_
  unfold tileGains tileBiases
  rw [← gain_first, ← bias_first, ← b0, ← b1, ← b2, ← b3]
  refine Prod.ext ?_ ?_ <;> funext y
  · frame_out
  · frame_out

theorem next (n : ℕ) (h : n + 1 < cfg0.N) : (outsAt0 m c (n + 1) h).2
    = (fun y => (outsAt0 m c n (Nat.lt_of_succ_lt h)).2.1 y + tileGains m c (n + 1) h y, fun y => (outsAt0 m c n (Nat.lt_of_succ_lt h)).2.2 y + tileBiases m c (n + 1) h y) := by
  obtain ⟨b0, b1, b2, b3⟩ := blk m c ⟨n + 1, h⟩
  have hN : n + 1 < 8 := h
  have h0 : ¬(n + 1) % 8 = 0 := by omega
  have h1 : 1 ≤ n + 1 := by omega
  refine (congrArg Prod.snd (outsAt0_B m c ⟨n + 1, h⟩ h0 h1 h0 h1)).trans ?_
  unfold tileGains tileBiases
  rw [← gain_first, ← bias_first, ← b0, ← b1, ← b2, ← b3]
  refine Prod.ext ?_ ?_ <;> funext y
  · frame_out
    exact gain_step _ _ y
  · frame_out
    exact bias_step _ _ y

theorem final5 : (dats m 0 c).arrAt 5 cfg0.N = (gains (DY m c) (X m c) (G m c) (B m c) : S1x1024.Idx → EReal) := by
  refine (dats m 0 c).arrAt_eq_of_covers 5 _ (by decide +kernel) fun t hf y => ?_
  blk_simp
  rw [after0_5]
  refine (sum_of_steps (fun l : Fin 2048 => back (DY m c) (X m c) (G m c) (B m c) (ix2 l (y 1 : Fin 1024)) * unit (row (X m c) l) (y 1 : Fin 1024)) rows (fun _ _ => rfl) rfl
    (fun n h => (outsAt0 m c n h).2.1 y) (fun h => ?_) (fun n h => ?_) t.val t.isLt ((by decide +kernel : ∀ t : Fin grid0.N, win0_5.flush t = true → t.val + 1 = 8) t hf)).trans ?_
  · show (outsAt0 m c 0 h).2.1 y = _
    rw [first]
    rfl
  · show (outsAt0 m c (n + 1) h).2.1 y = _
    rw [next]
    rfl
  · exact congrArg (gains (DY m c) (X m c) (G m c) (B m c)) (whole_eq (idx t).2.2.2.2.1 y ((win0_5.blk t).view.emb y) fun _ => rfl)

theorem final6 : (dats m 0 c).arrAt 6 cfg0.N = (biases (DY m c) (X m c) (G m c) (B m c) : S1x1024.Idx → EReal) := by
  refine (dats m 0 c).arrAt_eq_of_covers 6 _ (by decide +kernel) fun t hf y => ?_
  blk_simp
  rw [after0_6]
  refine (sum_of_steps (fun l : Fin 2048 => back (DY m c) (X m c) (G m c) (B m c) (ix2 l (y 1 : Fin 1024))) rows (fun _ _ => rfl) rfl
    (fun n h => (outsAt0 m c n h).2.2 y) (fun h => ?_) (fun n h => ?_) t.val t.isLt ((by decide +kernel : ∀ t : Fin grid0.N, win0_6.flush t = true → t.val + 1 = 8) t hf)).trans ?_
  · show (outsAt0 m c 0 h).2.2 y = _
    rw [first]
    rfl
  · show (outsAt0 m c (n + 1) h).2.2 y = _
    rw [next]
    rfl
  · exact congrArg (biases (DY m c) (X m c) (G m c) (B m c)) (whole_eq (idx t).2.2.2.2.2 y ((win0_6.blk t).view.emb y) fun _ => rfl)

theorem run (ρ : Dev nD → PrngReg) :
    θ_run defs (onTc (τ := τ) (main (F := Ideal))) ⟨m, fun _ => 0, ρ⟩ fun r => ∀ c : Dev nD,
      r.2.mem ((c.tc : Thread nD τ).loc main_v0_1) = (gains (DY m c) (X m c) (G m c) (B m c) : S1x1024.Idx → EReal)
      ∧ r.2.mem ((c.tc : Thread nD τ).loc main_v0_2) = (biases (DY m c) (X m c) (G m c) (B m c) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).2.1.trans (final5 m c), (h c).2.2.1.trans (final6 m c), (h c).2.2.2⟩) (Cert.SiluIdeal.Value.run_blocks m ρ)

end Cert.SiluIdeal.Norm
end
-- ==== Proof.SiluRef.lean ====
module

public import proofs.«01_k».proof.Proof.Gen.SiluRefIdeal.Run
public import proofs.«01_k».proof.Pre_gradient_finite
public import proofs.«01_k».proof.Proof.Silu

@[expose] public section

set_option maxRecDepth 8192

noncomputable section

/-! The reference's side of the silu of the layer norm: its operations, of whole arrays. -/
namespace Cert.SiluRefIdeal.Norm

open Cert.SiluRefIdeal Cert.SiluRefIdeal.Gen Idealize.ShloMosaic Idealize.ShloMosaic.TcCoe
open _root_.Norm _root_.Silu

abbrev V (S : Shape) : Type := FVec Ideal S .f32

def average (x : V S2048x1024) : V S2048x1 :=
  Host.divf (broadcastInDim S2048x1 ![0] bcast_S2048_S2048x1_0 (Host.reduceAdd x (constant S_ .f32 0x00000000#32) reducesTo_S2048x1024_S2048_d1 h_S_)) (broadcastInDim S2048x1 ![] bcast_S_S2048x1 (constant S_ .f32 0x44800000#32))

def centered (x : V S2048x1024) : V S2048x1024 := subf x (broadcastInDim S2048x1024 ![0, 1] bcast_S2048x1_S2048x1024_0_1 (average x))

def scaled (x : V S2048x1024) : V S2048x1024 :=
  mulf (centered x) (broadcastInDim S2048x1024 ![0, 1] bcast_S2048x1_S2048x1024_0_1 (Host.rsqrt (addf (average (mulf (centered x) (centered x))) (broadcastInDim S2048x1 ![] bcast_S_S2048x1 (constant S_ .f32 0x358637BD#32)))))

def shifted (x : V S2048x1024) (g b : V S1x1024) : V S2048x1024 :=
  addf (mulf (scaled x) (broadcastInDim S2048x1024 ![0, 1] bcast_S1x1024_S2048x1024_0_1 g)) (broadcastInDim S2048x1024 ![0, 1] bcast_S1x1024_S2048x1024_0_1 b)

abbrev ones : V S2048x1024 := broadcastInDim S2048x1024 ![] bcast_S_S2048x1024 (constant S_ .f32 0x3F800000#32)

def logistic (y : V S2048x1024) : V S2048x1024 := Host.divf ones (addf ones (Host.exp (Host.negf y)))

def upper (dy : V S2048x2048) : V S2048x1024 := extractStridedSlice S2048x1024 ![0, 1024] dy slices_S2048x2048_S2048x1024_0_1024

def pulled (dy y : V S2048x1024) : V S2048x1024 :=
  addf (mulf dy (logistic y)) (mulf (mulf y dy) (mulf (logistic y) (subf ones (logistic y))))

theorem upper_eq (dy : V S2048x2048) : upper dy = (SiluIdeal.Norm.half dy : S2048x1024.Idx → EReal) := by
  funext y
  unfold SiluIdeal.Norm.half
  pointwise [upper]

theorem scaled_eq (x : V S2048x1024) (y : S2048x1024.Idx) : scaled x y = unit (row x (y 0)) (y 1) := by
  unfold unit center row
  pointwise [scaled, centered, average]

theorem shifted_eq (x : V S2048x1024) (g b : V S1x1024) : shifted x g b = (normed x g b : S2048x1024.Idx → EReal) := by
  funext y
  unfold normed
  pointwise [shifted, scaled_eq]

theorem pulled_eq (dy x : V S2048x1024) (g b : V S1x1024) (h : ∀ y : S2048x1024.Idx, ∃ r : ℝ, dy y = (r : EReal)) :
    pulled dy (shifted x g b) = (back dy x g b : S2048x1024.Idx → EReal) := by
  funext y
  obtain ⟨r, hr⟩ := h y
  unfold back
  rw [shifted_eq, hr]
  refine Eq.trans ?_ (grad_eq r (normed x g b y))
  unfold sg
  pointwise [pulled, logistic, hr]

def gainsOf (dy x : V S2048x1024) (g b : V S1x1024) : V S1x1024 :=
  shapeCast _ (Host.reduceAdd (mulf (scaled x) (pulled dy (shifted x g b))) (constant S_ .f32 0x00000000#32) reducesTo_S2048x1024_S1024_d0 h_S_) shapeCasts_S1024_S1x1024

def biasesOf (dy x : V S2048x1024) (g b : V S1x1024) : V S1x1024 :=
  shapeCast _ (Host.reduceAdd (pulled dy (shifted x g b)) (constant S_ .f32 0x00000000#32) reducesTo_S2048x1024_S1024_d0 h_S_) shapeCasts_S1024_S1x1024

theorem gains_eq (dy x : V S2048x1024) (g b : V S1x1024) (h : ∀ y : S2048x1024.Idx, ∃ r : ℝ, dy y = (r : EReal)) :
    gainsOf dy x g b = (gains dy x g b : S1x1024.Idx → EReal) := by
  funext y
  unfold gainsOf gains
  rw [pulled_eq dy x g b h]
  pointwise [scaled_eq]
  exact Finset.sum_congr rfl fun i _ => mul_comm _ _

theorem biases_eq (dy x : V S2048x1024) (g b : V S1x1024) (h : ∀ y : S2048x1024.Idx, ∃ r : ℝ, dy y = (r : EReal)) :
    biasesOf dy x g b = (biases dy x g b : S1x1024.Idx → EReal) := by
  funext y
  unfold biasesOf biases
  rw [pulled_eq dy x g b h]
  pointwise

/-- Where the precondition holds, every entry of the gradient's upper columns is a real. -/
theorem real_of_finite [Cert.Pre_gradient_finite.Facts] (dy : V S2048x2048) (x : V S2048x1024) (g b : V S1x1024)
    (h : Cert.Pre_gradient_finite.fn (F := Ideal) dy x g b = fun _ => 1#1) (y : S2048x1024.Idx) :
    ∃ r : ℝ, upper dy y = (r : EReal) := by
  have h := congrFun h y
  have top : Ideal.ofBits .f32 0x7F800000#32 = ⊤ := by simp [Ideal.ofBits, Ideal.ieee]
  have h' : Ideal.cmp .olt (max (upper dy y) (-upper dy y)) (Ideal.ofBits .f32 0x7F800000#32) = 1#1 := h
  rw [top] at h'
  generalize (upper dy y : EReal) = a at h' ⊢
  change EReal at a
  induction a using EReal.rec with
  | bot => simp [Ideal.cmp] at h'
  | top => simp [Ideal.cmp] at h'
  | coe r => exact ⟨r, rfl⟩

variable (m : (ℓ : Loc nD τ sig) → Buf (Elt Ideal) ℓ) (c : Dev nD)

theorem gain_term : Cert.SiluRefIdeal.Value.res_out0 m c = gainsOf (upper (m ((c.tc : Thread nD τ).loc main_arg0))) (m ((c.tc : Thread nD τ).loc main_arg1)) (m ((c.tc : Thread nD τ).loc main_arg2)) (m ((c.tc : Thread nD τ).loc main_arg3)) := by
  unfold Cert.SiluRefIdeal.Value.res_out0 Cert.SiluRefIdeal.Value.res_main_v27
  rfl

theorem bias_term : Cert.SiluRefIdeal.Value.res_out1 m c = biasesOf (upper (m ((c.tc : Thread nD τ).loc main_arg0))) (m ((c.tc : Thread nD τ).loc main_arg1)) (m ((c.tc : Thread nD τ).loc main_arg2)) (m ((c.tc : Thread nD τ).loc main_arg3)) := by
  unfold Cert.SiluRefIdeal.Value.res_out1 Cert.SiluRefIdeal.Value.res_main_v24
  rfl

end Cert.SiluRefIdeal.Norm
end
-- ==== Proof.Conv.lean ====
/-
  The convolution mixer's backward kernel: what it leaves in the gradients of the taps and of the bias.
-/
module

public import proofs.«01_k».proof.Proof.Gen.ConvIdeal.Value
public import proofs.«01_k».proof.Proof.ShortSpec

@[expose] public section

set_option maxRecDepth 16384

noncomputable section

open Idealize.ShloMosaic Idealize.ShloMosaic.TcCoe Idealize.SL.Sem

namespace Conv

abbrev Rows : Shape := ⟨2, ![2048, 1024]⟩
abbrev Taps : Shape := ⟨2, ![31, 1024]⟩
abbrev Biases : Shape := ⟨2, ![1, 1024]⟩

variable (D A : Rows.Idx → EReal)

/-- Row `n` of the input under thirty rows of zeros. -/
@[irreducible] def under (n : ℕ) (j : Fin 1024) : EReal := if h : 30 ≤ n ∧ n - 30 < 2048 then A (ix2 ⟨n - 30, h.2⟩ j) else 0

theorem under_in (n : Fin 2048) (k : ℕ) (hk : k = n.val + 30) (j : Fin 1024) : under A k j = A (ix2 n j) := by
  subst hk
  rw [under, dif_pos (by omega)]
  rfl
theorem under_out (k : ℕ) (hk : k < 30) (j : Fin 1024) : under A k j = 0 := by
  rw [under, dif_neg (by omega)]

/-- Row `n` of the gradient. -/
@[irreducible] def grad (n : ℕ) (j : Fin 1024) : EReal := if h : n < 2048 then D (ix2 ⟨n, h⟩ j) else 0

theorem grad_in (n : Fin 2048) (k : ℕ) (hk : n.val = k) (j : Fin 1024) : grad D k j = D (ix2 n j) := by
  subst hk
  rw [grad, dif_pos n.isLt]

/-- The gradient of tap `k`, and that of the bias. -/
def tap (k : ℕ) (j : Fin 1024) : EReal := ∑ n : Fin 2048, grad D n.val j * under A (n.val + k) j
def taps : Taps.Idx → EReal := fun y => tap D A (y 0).val (y 1)
def bias : Biases.Idx → EReal := fun y => ∑ n : Fin 2048, D (ix2 n (y 1 : Fin 1024))

theorem tap_congr {k k' : ℕ} {j j' : Fin 1024} (hk : k = k') (hj : j = j') : tap D A k j = tap D A k' j' := by
  rw [hk, hj]

/-- The gradient of a tap, its rows in eight chunks of 32 groups of eight. -/
theorem tap_chunks {l : ℕ} {j k : Fin 1024} (hj : k = j) {a0 b0 b1 b2 b3 b4 b5 b6 b7 a1 a2 a3 a4 a5 a6 a7 : Fin 32 → Fin 8 → ℕ}
    (h0 : ∀ u v, a0 u v = 256 * 0 + (u.val * 8 + v.val) ∧ b0 u v = a0 u v + l)
    (h1 : ∀ u v, a1 u v = 256 * 1 + (u.val * 8 + v.val) ∧ b1 u v = a1 u v + l)
    (h2 : ∀ u v, a2 u v = 256 * 2 + (u.val * 8 + v.val) ∧ b2 u v = a2 u v + l)
    (h3 : ∀ u v, a3 u v = 256 * 3 + (u.val * 8 + v.val) ∧ b3 u v = a3 u v + l)
    (h4 : ∀ u v, a4 u v = 256 * 4 + (u.val * 8 + v.val) ∧ b4 u v = a4 u v + l)
    (h5 : ∀ u v, a5 u v = 256 * 5 + (u.val * 8 + v.val) ∧ b5 u v = a5 u v + l)
    (h6 : ∀ u v, a6 u v = 256 * 6 + (u.val * 8 + v.val) ∧ b6 u v = a6 u v + l)
    (h7 : ∀ u v, a7 u v = 256 * 7 + (u.val * 8 + v.val) ∧ b7 u v = a7 u v + l) :
    ∑ i : Fin 8, ((((((((∑ u : Fin 32, grad D (a0 u i) k * under A (b0 u i) k) + ∑ u : Fin 32, grad D (a1 u i) k * under A (b1 u i) k)
      + ∑ u : Fin 32, grad D (a2 u i) k * under A (b2 u i) k) + ∑ u : Fin 32, grad D (a3 u i) k * under A (b3 u i) k)
      + ∑ u : Fin 32, grad D (a4 u i) k * under A (b4 u i) k) + ∑ u : Fin 32, grad D (a5 u i) k * under A (b5 u i) k)
      + ∑ u : Fin 32, grad D (a6 u i) k * under A (b6 u i) k) + ∑ u : Fin 32, grad D (a7 u i) k * under A (b7 u i) k) = tap D A l j := by
  subst hj
  simp only [h0, h1, h2, h3, h4, h5, h6, h7]
  exact Short.sum_chunks (fun n => grad D n k * under A (n + l) k) (fun e u i => grad D (256 * e + (u.val * 8 + i.val)) k
    * under A (256 * e + (u.val * 8 + i.val) + l) k) fun _ _ _ _ => rfl

end Conv

namespace Cert.ConvIdeal.Conv

open Cert.ConvIdeal Cert.ConvIdeal.Gen _root_.Conv

theorem idx : ∀ t : Fin cfg0.N, win0_0.index t = ![0, t.val] ∧ win0_1.index t = ![0, t.val]
    ∧ win0_7.index t = ![0, t.val] ∧ win0_8.index t = ![0, t.val] :=
  (by decide +kernel : ∀ t : Fin grid0.N, _)

variable (m : (ℓ : Loc nD τ sig) → Buf (Elt Ideal) ℓ) (c : Dev nD)

abbrev D : Rows.Idx → EReal := m ((c.tc : Thread nD τ).loc main_arg0)
abbrev A : Rows.Idx → EReal := m ((c.tc : Thread nD τ).loc main_arg1)

/-- Column `j` of tile `t`. -/
def col (t : Fin cfg0.N) (j : Fin 128) : Fin 1024 := ⟨t.val * 128 + j.val, by have : t.val < 8 := t.isLt; omega⟩

theorem blk_d (t : Fin cfg0.N) : iblk m c 0 t = (fun i => D m c (ix2 (i 0 : Fin 2048) (col t (i 1))) : S2048x128.Idx → EReal) := by
  funext i
  blk_ext [iblk, V, idx t]
  rfl
theorem blk_a (t : Fin cfg0.N) : iblk m c 1 t = (fun i => A m c (ix2 (i 0 : Fin 2048) (col t (i 1))) : S2048x128.Idx → EReal) := by
  funext i
  blk_ext [iblk, V, idx t]
  rfl

theorem zeros (i : S32x128.Idx) : k0_pay2 (F := Ideal) i = 0 := by
  pointwise [k0_pay2]
theorem same (x : Vec Ideal S2048x128 .f32) : k0_pay3 (F := Ideal) x = x := by
  funext i
  pointwise [k0_pay3]

/-- The padded buffer, read back 256 rows at a time. -/
theorem read_under {sp : Space} {κ : Kind} (v : View sig κ sp S2080x128 .f32) (t : Fin cfg0.N) (o : ℕ) (i1 i2 inb) :
    v.readCov (Val := Elt Ideal) [⟨Rect.unit ![32, 0] ![2048, 128] i1, k0_pay3 (F := Ideal) (iblk m c 1 t)⟩, ⟨Rect.unit ![0, 0] ![32, 128] i2, k0_pay2 (F := Ideal)⟩]
      (Rect.unit ![o, 0] ![256, 128] inb).toLoadRect
      = (fun x : S256x128.Idx => under (A m c) (o + (x 0).val - 2) (col t (x 1)) : S256x128.Idx → Elt Ideal .f32) := by
  rw [View.readCov_eq_canon']
  funext x
  have e0 : ((Rect.unit (s := S2080x128) ![o, 0] ![256, 128] inb).toLoadRect.idx x 0).val = o + (x 0).val := by
    show o + 1 * (x 0).val = _; omega
  have e1 : ((Rect.unit (s := S2080x128) ![o, 0] ![256, 128] inb).toLoadRect.idx x 1).val = (x 1).val := by
    show 0 + 1 * (x 1).val = _; omega
  have x1 : (x 1).val < 128 := (x 1).isLt
  generalize (Rect.unit (s := S2080x128) ![o, 0] ![256, 128] inb).toLoadRect.idx x = w at *
  have w0 : (w 0).val < 2080 := (w 0).isLt
  have inX : 32 ≤ (w 0).val ∧ (w 0).val < 32 + 2048 → w ∈ (Rect.unit (s := S2080x128) ![32, 0] ![2048, 128] i1).set := fun h =>
    Rect.mem_set_unit.mpr fun a => by fin_cases a <;> simp <;> omega
  have inZ : (w 0).val < 32 → w ∈ (Rect.unit (s := S2080x128) ![0, 0] ![32, 128] i2).set := fun h =>
    Rect.mem_set_unit.mpr fun a => by fin_cases a <;> simp <;> omega
  have atX : ∀ z : S2048x128.Idx, (Rect.unit (s := S2080x128) ![32, 0] ![2048, 128] i1).idx z = w → k0_pay3 (F := Ideal) (iblk m c 1 t) z = under (A m c) (o + (x 0).val - 2) (col t (x 1)) := by
    rintro z hz
    have h0 : 32 + 1 * (z 0).val = (w 0).val := congrArg Fin.val (congrFun hz 0)
    have h1 : 0 + 1 * (z 1).val = (w 1).val := congrArg Fin.val (congrFun hz 1)
    have hc : col t (z 1) = col t (x 1) := Fin.ext (show t.val * 128 + (z 1).val = t.val * 128 + (x 1).val by omega)
    rw [same, blk_a, ← hc]
    exact (under_in (A m c) (z 0) _ (by omega) _).symm
  have atZ : ∀ z : S32x128.Idx, (Rect.unit (s := S2080x128) ![0, 0] ![32, 128] i2).idx z = w → k0_pay2 (F := Ideal) z = under (A m c) (o + (x 0).val - 2) (col t (x 1)) := by
    rintro z hz
    have h0 : 0 + 1 * (z 0).val = (w 0).val := congrArg Fin.val (congrFun hz 0)
    have z0 : (z 0).val < 32 := (z 0).isLt
    exact (zeros z).trans (under_out (A m c) _ (by omega) _).symm
  apply View.canon_eq_of_allAt
  · by_cases hw : 32 ≤ (w 0).val ∧ (w 0).val < 32 + 2048
    · exact ⟨_, List.mem_cons_self, inX hw⟩
    · exact ⟨_, List.mem_cons_of_mem _ List.mem_cons_self, inZ (by omega)⟩
  · exact View.allAt_cons _ _ _ atX (View.allAt_cons _ _ _ atZ (View.allAt_nil _ _))

/-- The gradient's block, read 256 rows at a time. -/
theorem load_grad (t : Fin cfg0.N) (o : ℕ) (inb) : View.ld (Val := Elt Ideal) (iblk m c 0 t) (Rect.unit (s := S2048x128) ![o, 0] ![256, 128] inb)
    = (fun x : S256x128.Idx => grad (D m c) (o + (x 0).val) (col t (x 1)) : S256x128.Idx → Elt Ideal .f32) := by
  funext x
  rw [blk_d]
  have h0 : ((Rect.unit (s := S2048x128) ![o, 0] ![256, 128] inb).idx x 0).val = o + (x 0).val := by
    show o + 1 * (x 0).val = _; omega
  have h1 : ((Rect.unit (s := S2048x128) ![o, 0] ![256, 128] inb).idx x 1).val = (x 1).val := by
    show 0 + 1 * (x 1).val = _; omega
  have hc : col t ((Rect.unit (s := S2048x128) ![o, 0] ![256, 128] inb).idx x 1) = col t (x 1) := Fin.ext (congrArg (t.val * 128 + ·) h1)
  rw [← hc]
  exact (grad_in (D m c) _ _ h0 _).symm

theorem out_bias (t : Fin cfg0.N) (y : S1x128.Idx) : (outsAt0 m c t).2.2.2 y = bias (D m c) (ix2 0 (col t (y 1))) := by
  unfold outsAt0
  frame_out
  rw [blk_d]
  unfold bias
  pointwise [k0_pay6]

set_option maxHeartbeats 4000000 in
theorem out_taps (t : Fin cfg0.N) (y : S31x128.Idx) : (outsAt0 m c t).2.2.1 y = tap (D m c) (A m c) (y 0).val (col t (y 1)) := by
  unfold outsAt0
  frame_out
  simp only [read_under, load_grad]
  generalize hQ : under (A m c) = Q
  generalize hR : grad (D m c) = R
  canon_tiles x h <;> (open_payloads; pointwise; subst hQ hR)
  all_goals
    exact tap_chunks _ _ (Fin.ext (congrArg (t.val * 128 + ·) h1.symm)) (fun u v => by constructor <;> omega) (fun u v => by constructor <;> omega)
      (fun u v => by constructor <;> omega) (fun u v => by constructor <;> omega) (fun u v => by constructor <;> omega)
      (fun u v => by constructor <;> omega) (fun u v => by constructor <;> omega) (fun u v => by constructor <;> omega)

/-- The two result arrays after the region. -/
theorem final7 : (dats m 0 c).arrAt 7 cfg0.N = (taps (D m c) (A m c) : S31x1024.Idx → EReal) := by
  refine (dats m 0 c).arrAt_eq_of_covers 7 _ (by decide +kernel) fun t hf y => ?_
  blk_simp
  rw [after0_7]
  refine (out_taps m c t y).trans ?_
  obtain ⟨-, -, h, -⟩ := idx t
  refine tap_congr _ _ ?_ (Fin.ext ?_)
  · show (y 0).val = win0_7.index t 0 * 31 + 1 * (y 0).val
    rw [h]; simp
  · show t.val * 128 + (y 1).val = win0_7.index t 1 * 128 + 1 * (y 1).val
    rw [h]; simp

theorem final8 : (dats m 0 c).arrAt 8 cfg0.N = (bias (D m c) : S1x1024.Idx → EReal) := by
  refine (dats m 0 c).arrAt_eq_of_covers 8 _ (by decide +kernel) fun t hf y => ?_
  blk_simp
  rw [after0_8]
  refine (out_bias m c t y).trans ?_
  obtain ⟨-, -, -, h⟩ := idx t
  unfold bias
  refine Finset.sum_congr rfl fun n _ => congrArg _ (congrArg _ (Fin.ext ?_))
  show t.val * 128 + (y 1).val = win0_8.index t 1 * 128 + 1 * (y 1).val
  rw [h]; simp

theorem run (ρ : Dev nD → PrngReg) :
    θ_run defs (onTc (τ := τ) (main (F := Ideal))) ⟨m, fun _ => 0, ρ⟩ fun r => ∀ c : Dev nD,
      r.2.mem ((c.tc : Thread nD τ).loc main_v0_2) = (taps (D m c) (A m c) : S31x1024.Idx → EReal)
      ∧ r.2.mem ((c.tc : Thread nD τ).loc main_v0_3) = (bias (D m c) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).2.2.1.trans (final7 m c), (h c).2.2.2.1.trans (final8 m c), (h c).2.2.2.2⟩) (Cert.ConvIdeal.Value.run_blocks m ρ)

end Cert.ConvIdeal.Conv
end
-- ==== Proof.ConvRef.lean ====
/-
  The convolution's reference: the gradients of the taps and of the bias, of the forward lines.
-/
module

public import proofs.«01_k».proof.Proof.Gen.ConvRefIdeal.Run
public import proofs.«01_k».proof.Proof.Conv

@[expose] public section

set_option maxRecDepth 100000

noncomputable section

open Idealize.ShloMosaic Idealize.ShloMosaic.TcCoe Idealize.SL.Sem

namespace Cert.ConvRefIdeal.Conv

open Cert.ConvRefIdeal Cert.ConvRefIdeal.Gen Cert.ConvRefIdeal.Value _root_.Conv

abbrev V (S : Shape) : Type := FVec Ideal S .f32

/-- The input under its rows of zeros, from row `k` on. -/
theorem shift_apply (k : ℕ) (h) (a : V S2048x1024) (n : Fin 2048) (j : Fin 1024) :
    extractStridedSlice S2048x1024 ![k, 0] (concatenate S2078x1024 0 [⟨S30x1024, (broadcastInDim S30x1024 ![] bcast_S_S30x1024 (constant S_ .f32 0x00000000#32))⟩, ⟨S2048x1024, a⟩] concatenates_S30x1024_S2048x1024_S2078x1024_d0) h (ix2 n j)
      = under (a : Rows.Idx → EReal) (n.val + k) j := by
  have hk : k + 2048 ≤ 2078 := h.2 0
  pointwise
  by_cases h : k + n.val < 30
  · rw [dif_pos h, under_out _ _ (by omega)]
  · rw [dif_neg h, under, dif_pos (by omega)]
    simp only [Nat.add_comm k]

/-- One tap's gradient, in its row of the taps' array. -/
theorem place_apply (lo hi : ℕ) (h) (d x : V S2048x1024) (k : Fin 31) (j : Fin 1024) :
    pad S31x1024 ![lo, 0] ![hi, 0] ![0, 0] (broadcastInDim S1x1024 ![1] bcast_S1024_S1x1024_1 (Host.reduceAdd (shapeCast _ (Host.reduceAdd (mulf d x) (constant S_ .f32 0x00000000#32) reducesTo_S2048x1024_S1024_d0 h_S_) shapeCasts_S1024_S1x1024) (constant S_ .f32 0x00000000#32) reducesTo_S1x1024_S1024_d0 h_S_)) (constant S_ .f32 0x00000000#32) h h_S_ (ix2 k j)
      = if k.val = lo then ∑ n : Fin 2048, d (ix2 n j) * x (ix2 n j) else 0 := by
  pointwise
  by_cases e : k.val = lo
  · rw [dif_pos (by omega), if_pos e, Fin.sum_univ_one]
  · rw [dif_neg (by omega), if_neg e]

theorem tap_eq (D A : Rows.Idx → EReal) (k : ℕ) (j : Fin 1024) : ∑ n : Fin 2048, D (ix2 n j) * under A (n.val + k) j = tap D A k j :=
  Finset.sum_congr rfl fun n _ => by rw [grad_in D n n.val rfl]

/-- So one tap's gradient, in its row. -/
theorem tap_apply (lo hi : ℕ) (h) (h') (d a : V S2048x1024) (k : Fin 31) (j : Fin 1024) :
    pad S31x1024 ![lo, 0] ![hi, 0] ![0, 0] (broadcastInDim S1x1024 ![1] bcast_S1024_S1x1024_1 (Host.reduceAdd (shapeCast _ (Host.reduceAdd (mulf d (extractStridedSlice S2048x1024 ![lo, 0] (concatenate S2078x1024 0 [⟨S30x1024, (broadcastInDim S30x1024 ![] bcast_S_S30x1024 (constant S_ .f32 0x00000000#32))⟩, ⟨S2048x1024, a⟩] concatenates_S30x1024_S2048x1024_S2078x1024_d0) h')) (constant S_ .f32 0x00000000#32) reducesTo_S2048x1024_S1024_d0 h_S_) shapeCasts_S1024_S1x1024) (constant S_ .f32 0x00000000#32) reducesTo_S1x1024_S1024_d0 h_S_)) (constant S_ .f32 0x00000000#32) h h_S_ (ix2 k j)
      = if k.val = lo then tap (d : Rows.Idx → EReal) (a : Rows.Idx → EReal) lo j else 0 := by
  rw [place_apply, ← tap_eq]
  exact if_congr Iff.rfl (Finset.sum_congr rfl fun n _ => congrArg _ (shift_apply _ _ _ _ _)) rfl

variable (m : (ℓ : Loc nD τ sig) → Buf (Elt Ideal) ℓ) (c : Dev nD)

abbrev D : Rows.Idx → EReal := m ((c.tc : Thread nD τ).loc main_arg0)
abbrev A : Rows.Idx → EReal := m ((c.tc : Thread nD τ).loc main_arg1)

theorem grad_arr : res_main_v223 (F := Ideal) (StableHlo.launchContents m c) = D m c := by
  unfold res_main_v223
  exact shapeCast_self (s := S2048x1024) _ _

set_option maxHeartbeats 4000000 in -- the sum over 31 taps
theorem run (ρ : Dev nD → PrngReg) :
    θ_run defs (onTc (τ := τ) (main (F := Ideal))) ⟨m, fun _ => 0, ρ⟩ fun r => ∀ c : Dev nD,
      r.2.mem ((c.tc : Thread nD τ).loc main_v441) = (taps (D m c) (A m c) : S31x1024.Idx → EReal)
      ∧ r.2.mem ((c.tc : Thread nD τ).loc main_v225) = (bias (D m c) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (by
      funext y
      obtain ⟨k, j, rfl⟩ : ∃ (k : Fin 31) (j : Fin 1024), y = ix2 k j := ⟨_, _, eq_ix2 y⟩
      simp only [res_main_v434, res_main_v364, res_main_v294, grad_arr, StableHlo.launchContents_devRef, res_main_v2, res_main_v5, res_main_v13, res_main_v20,
    res_main_v27, res_main_v34, res_main_v41, res_main_v48, res_main_v55, res_main_v62, res_main_v69, res_main_v76,
    res_main_v83, res_main_v90, res_main_v97, res_main_v104, res_main_v111, res_main_v118, res_main_v125, res_main_v132,
    res_main_v139, res_main_v146, res_main_v153, res_main_v160, res_main_v167, res_main_v174, res_main_v181, res_main_v188,
    res_main_v195, res_main_v202, res_main_v209, res_main_v216]
      simp only [ValueIdx.addf_apply]
      repeat rw [tap_apply]
      show _ = tap (D m c) (A m c) k.val j
      fin_cases k <;> simp <;> rfl), (h c).2.1.trans (by
      funext y
      unfold bias
      pointwise), (h c).2.2⟩) (Value.run m ρ)

end Cert.ConvRefIdeal.Conv
end
-- ==== Proof.lean ====
/-
  The certificate's claims, put together from the runs of the programs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import Idealize.ShloMosaic.Adequacy
public import Idealize.ShloMosaic.Init
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.AdamGains
public import proofs.«01_k».proof.Proof.Gen.AdamGains.Skeleton
public import proofs.«01_k».proof.Proof.Gen.AdamGains.Launch
public import proofs.«01_k».proof.Proof.Gen.AdamGains.Points
public import proofs.«01_k».proof.Proof.Gen.AdamGains.Frame
public import proofs.«01_k».proof.Proof.Gen.AdamGainsIdeal
public import proofs.«01_k».proof.Proof.Gen.AdamGainsIdeal.Skeleton
public import proofs.«01_k».proof.Proof.Gen.AdamGainsIdeal.Launch
public import proofs.«01_k».proof.Proof.Gen.AdamGainsIdeal.Points
public import proofs.«01_k».proof.Proof.Gen.AdamGainsIdeal.Frame
public import proofs.«01_k».proof.Proof.Gen.AdamGainsIdeal.Value
public import proofs.«01_k».proof.Proof.Gen.AdamGainsRefIdeal
public import proofs.«01_k».proof.Proof.Gen.AdamGainsRefIdeal.Run
public import proofs.«01_k».proof.Proof.Gen.AdamAbIn
public import proofs.«01_k».proof.Proof.Gen.AdamAbIn.Skeleton
public import proofs.«01_k».proof.Proof.Gen.AdamAbIn.Launch
public import proofs.«01_k».proof.Proof.Gen.AdamAbIn.Points
public import proofs.«01_k».proof.Proof.Gen.AdamAbIn.Frame
public import proofs.«01_k».proof.Proof.Gen.AdamAbInIdeal
public import proofs.«01_k».proof.Proof.Gen.AdamAbInIdeal.Skeleton
public import proofs.«01_k».proof.Proof.Gen.AdamAbInIdeal.Launch
public import proofs.«01_k».proof.Proof.Gen.AdamAbInIdeal.Points
public import proofs.«01_k».proof.Proof.Gen.AdamAbInIdeal.Frame
public import proofs.«01_k».proof.Proof.Gen.AdamAbInIdeal.Value
public import proofs.«01_k».proof.Proof.Gen.AdamAbInRefIdeal
public import proofs.«01_k».proof.Proof.Gen.AdamAbInRefIdeal.Run
public import proofs.«01_k».proof.Proof.Gen.AdamFfnB
public import proofs.«01_k».proof.Proof.Gen.AdamFfnB.Skeleton
public import proofs.«01_k».proof.Proof.Gen.AdamFfnB.Launch
public import proofs.«01_k».proof.Proof.Gen.AdamFfnB.Points
public import proofs.«01_k».proof.Proof.Gen.AdamFfnB.Frame
public import proofs.«01_k».proof.Proof.Gen.AdamFfnBIdeal
public import proofs.«01_k».proof.Proof.Gen.AdamFfnBIdeal.Skeleton
public import proofs.«01_k».proof.Proof.Gen.AdamFfnBIdeal.Launch
public import proofs.«01_k».proof.Proof.Gen.AdamFfnBIdeal.Points
public import proofs.«01_k».proof.Proof.Gen.AdamFfnBIdeal.Frame
public import proofs.«01_k».proof.Proof.Gen.AdamFfnBRefIdeal
public import proofs.«01_k».proof.Proof.Gen.AdamFfnBRefIdeal.Run
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolIdeal.Value
public import proofs.«01_k».proof.Proof.Gen.AdamPoolRefIdeal
public import proofs.«01_k».proof.Proof.Gen.AdamPoolRefIdeal.Run
public import proofs.«01_k».proof.Proof.Gen.AdamChannels
public import proofs.«01_k».proof.Proof.Gen.AdamChannels.Skeleton
public import proofs.«01_k».proof.Proof.Gen.AdamChannels.Launch
public import proofs.«01_k».proof.Proof.Gen.AdamChannels.Points
public import proofs.«01_k».proof.Proof.Gen.AdamChannels.Frame
public import proofs.«01_k».proof.Proof.Gen.AdamChannelsIdeal
public import proofs.«01_k».proof.Proof.Gen.AdamChannelsIdeal.Skeleton
public import proofs.«01_k».proof.Proof.Gen.AdamChannelsIdeal.Launch
public import proofs.«01_k».proof.Proof.Gen.AdamChannelsIdeal.Points
public import proofs.«01_k».proof.Proof.Gen.AdamChannelsIdeal.Frame
public import proofs.«01_k».proof.Proof.Gen.AdamChannelsIdeal.Value
public import proofs.«01_k».proof.Proof.Gen.AdamChannelsRefIdeal
public import proofs.«01_k».proof.Proof.Gen.AdamChannelsRefIdeal.Run
public import proofs.«01_k».proof.Proof.Gen.AdamTaps
public import proofs.«01_k».proof.Proof.Gen.AdamTaps.Skeleton
public import proofs.«01_k».proof.Proof.Gen.AdamTaps.Launch
public import proofs.«01_k».proof.Proof.Gen.AdamTaps.Points
public import proofs.«01_k».proof.Proof.Gen.AdamTaps.Frame
public import proofs.«01_k».proof.Proof.Gen.AdamTapsIdeal
public import proofs.«01_k».proof.Proof.Gen.AdamTapsIdeal.Skeleton
public import proofs.«01_k».proof.Proof.Gen.AdamTapsIdeal.Launch
public import proofs.«01_k».proof.Proof.Gen.AdamTapsIdeal.Points
public import proofs.«01_k».proof.Proof.Gen.AdamTapsIdeal.Frame
public import proofs.«01_k».proof.Proof.Gen.AdamTapsIdeal.Value
public import proofs.«01_k».proof.Proof.Gen.AdamTapsRefIdeal
public import proofs.«01_k».proof.Proof.Gen.AdamTapsRefIdeal.Run
public import proofs.«01_k».proof.Proof.Gen.AdamShortTaps
public import proofs.«01_k».proof.Proof.Gen.AdamShortTaps.Skeleton
public import proofs.«01_k».proof.Proof.Gen.AdamShortTaps.Launch
public import proofs.«01_k».proof.Proof.Gen.AdamShortTaps.Points
public import proofs.«01_k».proof.Proof.Gen.AdamShortTaps.Frame
public import proofs.«01_k».proof.Proof.Gen.AdamShortTapsIdeal
public import proofs.«01_k».proof.Proof.Gen.AdamShortTapsIdeal.Skeleton
public import proofs.«01_k».proof.Proof.Gen.AdamShortTapsIdeal.Launch
public import proofs.«01_k».proof.Proof.Gen.AdamShortTapsIdeal.Points
public import proofs.«01_k».proof.Proof.Gen.AdamShortTapsIdeal.Frame
public import proofs.«01_k».proof.Proof.Gen.AdamShortTapsIdeal.Value
public import proofs.«01_k».proof.Proof.Gen.AdamShortTapsRefIdeal
public import proofs.«01_k».proof.Proof.Gen.AdamShortTapsRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamShortIn
public import proofs.«01_k».proof.Proof.Gen.AdamShortIn.Skeleton
public import proofs.«01_k».proof.Proof.Gen.AdamShortIn.Launch
public import proofs.«01_k».proof.Proof.Gen.AdamShortIn.Points
public import proofs.«01_k».proof.Proof.Gen.AdamShortIn.Frame
public import proofs.«01_k».proof.Proof.Gen.AdamShortInIdeal
public import proofs.«01_k».proof.Proof.Gen.AdamShortInIdeal.Skeleton
public import proofs.«01_k».proof.Proof.Gen.AdamShortInIdeal.Launch
public import proofs.«01_k».proof.Proof.Gen.AdamShortInIdeal.Points
public import proofs.«01_k».proof.Proof.Gen.AdamShortInIdeal.Frame
public import proofs.«01_k».proof.Proof.Gen.AdamShortInIdeal.Value
public import proofs.«01_k».proof.Proof.Gen.AdamShortInRefIdeal
public import proofs.«01_k».proof.Proof.Gen.AdamShortInRefIdeal.Run
public import proofs.«01_k».proof.Proof.Gen.AdamFfnA
public import proofs.«01_k».proof.Proof.Gen.AdamFfnA.Skeleton
public import proofs.«01_k».proof.Proof.Gen.AdamFfnA.Launch
public import proofs.«01_k».proof.Proof.Gen.AdamFfnA.Points
public import proofs.«01_k».proof.Proof.Gen.AdamFfnA.Frame
public import proofs.«01_k».proof.Proof.Gen.AdamFfnAIdeal
public import proofs.«01_k».proof.Proof.Gen.AdamFfnAIdeal.Skeleton
public import proofs.«01_k».proof.Proof.Gen.AdamFfnAIdeal.Launch
public import proofs.«01_k».proof.Proof.Gen.AdamFfnAIdeal.Points
public import proofs.«01_k».proof.Proof.Gen.AdamFfnAIdeal.Frame
public import proofs.«01_k».proof.Proof.Gen.AdamFfnAIdeal.Value
public import proofs.«01_k».proof.Proof.Gen.AdamFfnARefIdeal
public import proofs.«01_k».proof.Proof.Gen.AdamFfnARefIdeal.Run
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.In1Dw
public import proofs.«01_k».proof.Proof.Gen.In1Dw.Skeleton
public import proofs.«01_k».proof.Proof.Gen.In1Dw.Launch
public import proofs.«01_k».proof.Proof.Gen.In1Dw.Points
public import proofs.«01_k».proof.Proof.Gen.In1Dw.Frame
public import proofs.«01_k».proof.Proof.Gen.In1DwIdeal
public import proofs.«01_k».proof.Proof.Gen.In1DwIdeal.Skeleton
public import proofs.«01_k».proof.Proof.Gen.In1DwIdeal.Launch
public import proofs.«01_k».proof.Proof.Gen.In1DwIdeal.Points
public import proofs.«01_k».proof.Proof.Gen.In1DwIdeal.Frame
public import proofs.«01_k».proof.Proof.Gen.In1DwIdeal.Value
public import proofs.«01_k».proof.Proof.Gen.In1DwRefIdeal
public import proofs.«01_k».proof.Proof.Gen.In1DwRefIdeal.Run
public import proofs.«01_k».proof.Proof.Gen.In1Dx
public import proofs.«01_k».proof.Proof.Gen.In1Dx.Skeleton
public import proofs.«01_k».proof.Proof.Gen.In1Dx.Launch
public import proofs.«01_k».proof.Proof.Gen.In1Dx.Points
public import proofs.«01_k».proof.Proof.Gen.In1Dx.Frame
public import proofs.«01_k».proof.Proof.Gen.In1DxIdeal
public import proofs.«01_k».proof.Proof.Gen.In1DxIdeal.Skeleton
public import proofs.«01_k».proof.Proof.Gen.In1DxIdeal.Launch
public import proofs.«01_k».proof.Proof.Gen.In1DxIdeal.Points
public import proofs.«01_k».proof.Proof.Gen.In1DxIdeal.Frame
public import proofs.«01_k».proof.Proof.Gen.In1DxIdeal.Value
public import proofs.«01_k».proof.Proof.Gen.In1DxRefIdeal
public import proofs.«01_k».proof.Proof.Gen.In1DxRefIdeal.Run
public import proofs.«01_k».proof.Proof.Gen.In1
public import proofs.«01_k».proof.Proof.Gen.In1.Skeleton
public import proofs.«01_k».proof.Proof.Gen.In1.Launch
public import proofs.«01_k».proof.Proof.Gen.In1.Points
public import proofs.«01_k».proof.Proof.Gen.In1.Frame
public import proofs.«01_k».proof.Proof.Gen.In1Ideal
public import proofs.«01_k».proof.Proof.Gen.In1Ideal.Skeleton
public import proofs.«01_k».proof.Proof.Gen.In1Ideal.Launch
public import proofs.«01_k».proof.Proof.Gen.In1Ideal.Points
public import proofs.«01_k».proof.Proof.Gen.In1Ideal.Frame
public import proofs.«01_k».proof.Proof.Gen.In1Ideal.Value
public import proofs.«01_k».proof.Proof.Gen.In1RefIdeal
public import proofs.«01_k».proof.Proof.Gen.In1RefIdeal.Run
public import proofs.«01_k».proof.Proof.Gen.In0Dw
public import proofs.«01_k».proof.Proof.Gen.In0Dw.Skeleton
public import proofs.«01_k».proof.Proof.Gen.In0Dw.Launch
public import proofs.«01_k».proof.Proof.Gen.In0Dw.Points
public import proofs.«01_k».proof.Proof.Gen.In0Dw.Frame
public import proofs.«01_k».proof.Proof.Gen.In0DwIdeal
public import proofs.«01_k».proof.Proof.Gen.In0DwIdeal.Skeleton
public import proofs.«01_k».proof.Proof.Gen.In0DwIdeal.Launch
public import proofs.«01_k».proof.Proof.Gen.In0DwIdeal.Points
public import proofs.«01_k».proof.Proof.Gen.In0DwIdeal.Frame
public import proofs.«01_k».proof.Proof.Gen.In0DwIdeal.Value
public import proofs.«01_k».proof.Proof.Gen.In0DwRefIdeal
public import proofs.«01_k».proof.Proof.Gen.In0DwRefIdeal.Run
public import proofs.«01_k».proof.Proof.Gen.In0Dx
public import proofs.«01_k».proof.Proof.Gen.In0Dx.Skeleton
public import proofs.«01_k».proof.Proof.Gen.In0Dx.Launch
public import proofs.«01_k».proof.Proof.Gen.In0Dx.Points
public import proofs.«01_k».proof.Proof.Gen.In0Dx.Frame
public import proofs.«01_k».proof.Proof.Gen.In0DxIdeal
public import proofs.«01_k».proof.Proof.Gen.In0DxIdeal.Skeleton
public import proofs.«01_k».proof.Proof.Gen.In0DxIdeal.Launch
public import proofs.«01_k».proof.Proof.Gen.In0DxIdeal.Points
public import proofs.«01_k».proof.Proof.Gen.In0DxIdeal.Frame
public import proofs.«01_k».proof.Proof.Gen.In0DxIdeal.Value
public import proofs.«01_k».proof.Proof.Gen.In0DxRefIdeal
public import proofs.«01_k».proof.Proof.Gen.In0DxRefIdeal.Run
public import proofs.«01_k».proof.Proof.Gen.In0
public import proofs.«01_k».proof.Proof.Gen.In0.Skeleton
public import proofs.«01_k».proof.Proof.Gen.In0.Launch
public import proofs.«01_k».proof.Proof.Gen.In0.Points
public import proofs.«01_k».proof.Proof.Gen.In0.Frame
public import proofs.«01_k».proof.Proof.Gen.In0Ideal
public import proofs.«01_k».proof.Proof.Gen.In0Ideal.Skeleton
public import proofs.«01_k».proof.Proof.Gen.In0Ideal.Launch
public import proofs.«01_k».proof.Proof.Gen.In0Ideal.Points
public import proofs.«01_k».proof.Proof.Gen.In0Ideal.Frame
public import proofs.«01_k».proof.Proof.Gen.In0Ideal.Value
public import proofs.«01_k».proof.Proof.Gen.In0RefIdeal
public import proofs.«01_k».proof.Proof.Gen.In0RefIdeal.Run
public import proofs.«01_k».proof.Proof.Gen.Norms.Skeleton
public import proofs.«01_k».proof.Proof.Gen.Norms.Launch
public import proofs.«01_k».proof.Proof.Gen.Norms.Points
public import proofs.«01_k».proof.Proof.Gen.Norms.Frame
public import proofs.«01_k».proof.Proof.Gen.NormsIdeal.Skeleton
public import proofs.«01_k».proof.Proof.Gen.NormsIdeal.Launch
public import proofs.«01_k».proof.Proof.Gen.NormsIdeal.Points
public import proofs.«01_k».proof.Proof.Gen.NormsIdeal.Frame
public import proofs.«01_k».proof.Proof.Gen.NormsIdeal.Value
public import proofs.«01_k».proof.Proof.Gen.NormsRefIdeal.Run
public import proofs.«01_k».proof.Proof.Gen.Norms
public import proofs.«01_k».proof.Proof.Gen.NormsIdeal
public import proofs.«01_k».proof.Proof.Gen.NormsRefIdeal
public import proofs.«01_k».proof.Proof.Gen.NormIn.Skeleton
public import proofs.«01_k».proof.Proof.Gen.NormIn.Launch
public import proofs.«01_k».proof.Proof.Gen.NormIn.Points
public import proofs.«01_k».proof.Proof.Gen.NormIn.Frame
public import proofs.«01_k».proof.Proof.Gen.NormInIdeal.Skeleton
public import proofs.«01_k».proof.Proof.Gen.NormInIdeal.Launch
public import proofs.«01_k».proof.Proof.Gen.NormInIdeal.Points
public import proofs.«01_k».proof.Proof.Gen.NormInIdeal.Frame
public import proofs.«01_k».proof.Proof.Gen.NormInIdeal.Value
public import proofs.«01_k».proof.Proof.Gen.NormInRefIdeal.Run
public import proofs.«01_k».proof.Proof.Gen.NormIn
public import proofs.«01_k».proof.Proof.Gen.NormInIdeal
public import proofs.«01_k».proof.Proof.Gen.NormInRefIdeal
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal.Run
public import proofs.«01_k».proof.Proof.Gen.Loss
public import proofs.«01_k».proof.Proof.Gen.LossIdeal
public import proofs.«01_k».proof.Proof.Gen.LossRefIdeal
public import proofs.«01_k».proof.Proof.Gen.PoolDw
public import proofs.«01_k».proof.Proof.Gen.PoolDw.Skeleton
public import proofs.«01_k».proof.Proof.Gen.PoolDw.Launch
public import proofs.«01_k».proof.Proof.Gen.PoolDw.Points
public import proofs.«01_k».proof.Proof.Gen.PoolDw.Frame
public import proofs.«01_k».proof.Proof.Gen.PoolDwIdeal
public import proofs.«01_k».proof.Proof.Gen.PoolDwIdeal.Skeleton
public import proofs.«01_k».proof.Proof.Gen.PoolDwIdeal.Launch
public import proofs.«01_k».proof.Proof.Gen.PoolDwIdeal.Points
public import proofs.«01_k».proof.Proof.Gen.PoolDwIdeal.Frame
public import proofs.«01_k».proof.Proof.Gen.PoolDwIdeal.Value
public import proofs.«01_k».proof.Proof.Gen.PoolDwRefIdeal
public import proofs.«01_k».proof.Proof.Gen.PoolDwRefIdeal.Run
public import proofs.«01_k».proof.Proof.Gen.Silu
public import proofs.«01_k».proof.Proof.Gen.Silu.Skeleton
public import proofs.«01_k».proof.Proof.Gen.Silu.Launch
public import proofs.«01_k».proof.Proof.Gen.Silu.Points
public import proofs.«01_k».proof.Proof.Gen.Silu.Frame
public import proofs.«01_k».proof.Proof.Gen.SiluIdeal
public import proofs.«01_k».proof.Proof.Gen.SiluIdeal.Skeleton
public import proofs.«01_k».proof.Proof.Gen.SiluIdeal.Launch
public import proofs.«01_k».proof.Proof.Gen.SiluIdeal.Points
public import proofs.«01_k».proof.Proof.Gen.SiluIdeal.Frame
public import proofs.«01_k».proof.Proof.Gen.SiluIdeal.Value
public import proofs.«01_k».proof.Proof.Gen.SiluRefIdeal
public import proofs.«01_k».proof.Proof.Gen.SiluRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Short
public import proofs.«01_k».proof.Proof.ShortRef
public import proofs.«01_k».proof.Proof.DownProducts
public import proofs.«01_k».proof.Proof.UpProducts
public import proofs.«01_k».proof.Proof.OutProducts
public import proofs.«01_k».proof.Proof.In0Products
public import proofs.«01_k».proof.Proof.In1Products
public import proofs.«01_k».proof.Proof.AdamWhole
public import proofs.«01_k».proof.Proof.AdamBlocks
public import proofs.«01_k».proof.Proof.AdamFfn
public import proofs.«01_k».proof.Proof.Norm
public import proofs.«01_k».proof.Proof.NormIn
public import proofs.«01_k».proof.Proof.Norms
public import proofs.«01_k».proof.Proof.NormRef
public import proofs.«01_k».proof.Proof.Loss
public import proofs.«01_k».proof.Proof.LossRef
public import proofs.«01_k».proof.Proof.PoolDw
public import proofs.«01_k».proof.Proof.Silu
public import proofs.«01_k».proof.Proof.SiluRef
public import proofs.«01_k».proof.Proof.Conv
public import proofs.«01_k».proof.Proof.ConvRef

@[expose] public section

noncomputable section

namespace Cert.Proof

open Idealize.ShloMosaic Idealize.SL.Sem

/-- The short convolution's backward kernel and the derivative of the forward lines leave the same arrays. -/
theorem short : Cert.algebraic_KernelIdeal_ReferenceIdeal := by
  intro m g m' g' _ hm
  refine ⟨_, _, Cert.KernelIdeal.Short.run m g, ?_⟩
  refine (θ_run _ _ _).mono (fun r h c => ?_) (Cert.ReferenceIdeal.Short.run m' g')
  obtain ⟨e0, e1, e2⟩ := hm c
  refine ⟨(h c).1.trans ?_, (h c).2.1.trans ?_, (h c).2.2⟩
  · show (fun y => _) = fun y => _
    unfold Cert.ReferenceIdeal.Short.A Cert.ReferenceIdeal.Short.Z Cert.ReferenceIdeal.Short.W
    rw [e0, e1, e2]
  · show (fun y => _) = fun y => _
    unfold Cert.ReferenceIdeal.Short.A Cert.ReferenceIdeal.Short.Z
    rw [e0, e1]

/-- The products: kernel and reference leave the same array. -/
theorem down_dw : Cert.algebraic_DownDwIdeal_DownDwRefIdeal := by
  intro m g m' g' _ hm
  refine ⟨_, Cert.DownDwIdeal.Product.run m g, (θ_run _ _ _).mono (fun r h c => ?_) (Cert.DownDwRefIdeal.Product.run m' g')⟩
  obtain ⟨e0, e1⟩ := hm c
  refine ⟨(h c).1.trans ?_, (h c).2⟩
  unfold Cert.DownDwRefIdeal.Product.X Cert.DownDwRefIdeal.Product.Y
  rw [e0, e1]

theorem down_dx : Cert.algebraic_DownDxIdeal_DownDxRefIdeal := by
  intro m g m' g' _ hm
  refine ⟨_, Cert.DownDxIdeal.Product.run m g, (θ_run _ _ _).mono (fun r h c => ?_) (Cert.DownDxRefIdeal.Product.run m' g')⟩
  obtain ⟨e0, e1, e2⟩ := hm c
  refine ⟨(h c).1.trans ?_, (h c).2⟩
  unfold Cert.DownDxRefIdeal.Product.dx Cert.DownDxRefIdeal.Product.X Cert.DownDxRefIdeal.Product.W Cert.DownDxRefIdeal.Product.G
  rw [e0, e1, e2]
  rfl

theorem up_dx : Cert.algebraic_UpDxIdeal_UpDxRefIdeal := by
  intro m g m' g' _ hm
  refine ⟨_, Cert.UpDxIdeal.Product.run m g, (θ_run _ _ _).mono (fun r h c => ?_) (Cert.UpDxRefIdeal.Product.run m' g')⟩
  obtain ⟨e0, e1⟩ := hm c
  refine ⟨(h c).1.trans ?_, (h c).2⟩
  unfold Cert.UpDxRefIdeal.Product.A Cert.UpDxRefIdeal.Product.B
  rw [e0, e1]

theorem up_dw : Cert.algebraic_UpDwIdeal_UpDwRefIdeal := by
  intro m g m' g' _ hm
  refine ⟨_, Cert.UpDwIdeal.Product.run m g, (θ_run _ _ _).mono (fun r h c => ?_) (Cert.UpDwRefIdeal.Product.run m' g')⟩
  obtain ⟨e0, e1⟩ := hm c
  refine ⟨(h c).1.trans ?_, (h c).2⟩
  unfold Cert.UpDwRefIdeal.Product.A Cert.UpDwRefIdeal.Product.B
  rw [e0, e1]

theorem up : Cert.algebraic_UpIdeal_UpRefIdeal := by
  intro m g m' g' _ hm
  refine ⟨_, _, Cert.UpIdeal.Product.run m g, (θ_run _ _ _).mono (fun r h c => ?_) (Cert.UpRefIdeal.Product.run m' g')⟩
  obtain ⟨e0, e1⟩ := hm c
  refine ⟨(h c).1.trans ?_, (h c).2.1.trans ?_, (h c).2.2⟩
  all_goals
    unfold Cert.UpRefIdeal.Product.p Cert.UpRefIdeal.Product.A Cert.UpRefIdeal.Product.B
    rw [e0, e1]
    rfl

theorem out_dw : Cert.algebraic_OutDwIdeal_OutDwRefIdeal := by
  intro m g m' g' _ hm
  refine ⟨_, Cert.OutDwIdeal.Product.run m g, (θ_run _ _ _).mono (fun r h c => ?_) (Cert.OutDwRefIdeal.Product.run m' g')⟩
  obtain ⟨e0, e1⟩ := hm c
  refine ⟨(h c).1.trans ?_, (h c).2⟩
  unfold Cert.OutDwRefIdeal.Product.A Cert.OutDwRefIdeal.Product.B
  rw [e0, e1]

theorem out_dx : Cert.algebraic_OutDxIdeal_OutDxRefIdeal := by
  intro m g m' g' _ hm
  refine ⟨_, Cert.OutDxIdeal.Product.run m g, (θ_run _ _ _).mono (fun r h c => ?_) (Cert.OutDxRefIdeal.Product.run m' g')⟩
  obtain ⟨e0, e1⟩ := hm c
  refine ⟨(h c).1.trans ?_, (h c).2⟩
  unfold Cert.OutDxRefIdeal.Product.A Cert.OutDxRefIdeal.Product.B
  rw [e0, e1]

theorem out : Cert.algebraic_OutIdeal_OutRefIdeal := by
  intro m g m' g' _ hm
  refine ⟨_, Cert.OutIdeal.Product.run m g, (θ_run _ _ _).mono (fun r h c => ?_) (Cert.OutRefIdeal.Product.run m' g')⟩
  obtain ⟨e0, e1⟩ := hm c
  refine ⟨(h c).1.trans ?_, (h c).2⟩
  unfold Cert.OutRefIdeal.Product.A Cert.OutRefIdeal.Product.B
  rw [e0, e1]

theorem in1_dw : Cert.algebraic_In1DwIdeal_In1DwRefIdeal := by
  intro m g m' g' _ hm
  refine ⟨_, Cert.In1DwIdeal.Product.run m g, (θ_run _ _ _).mono (fun r h c => ?_) (Cert.In1DwRefIdeal.Product.run m' g')⟩
  obtain ⟨e0, e1⟩ := hm c
  refine ⟨(h c).1.trans ?_, (h c).2⟩
  unfold Cert.In1DwRefIdeal.Product.A Cert.In1DwRefIdeal.Product.B
  rw [e0, e1]

theorem in1_dx : Cert.algebraic_In1DxIdeal_In1DxRefIdeal := by
  intro m g m' g' _ hm
  refine ⟨_, Cert.In1DxIdeal.Product.run m g, (θ_run _ _ _).mono (fun r h c => ?_) (Cert.In1DxRefIdeal.Product.run m' g')⟩
  obtain ⟨e0, e1⟩ := hm c
  refine ⟨(h c).1.trans ?_, (h c).2⟩
  unfold Cert.In1DxRefIdeal.Product.A Cert.In1DxRefIdeal.Product.B
  rw [e0, e1]

theorem in1 : Cert.algebraic_In1Ideal_In1RefIdeal := by
  intro m g m' g' _ hm
  refine ⟨_, Cert.In1Ideal.Product.run m g, (θ_run _ _ _).mono (fun r h c => ?_) (Cert.In1RefIdeal.Product.run m' g')⟩
  obtain ⟨e0, e1⟩ := hm c
  refine ⟨(h c).1.trans ?_, (h c).2⟩
  unfold Cert.In1RefIdeal.Product.A Cert.In1RefIdeal.Product.B
  rw [e0, e1]

theorem in0_dw : Cert.algebraic_In0DwIdeal_In0DwRefIdeal := by
  intro m g m' g' _ hm
  refine ⟨_, Cert.In0DwIdeal.Product.run m g, (θ_run _ _ _).mono (fun r h c => ?_) (Cert.In0DwRefIdeal.Product.run m' g')⟩
  obtain ⟨e0, e1⟩ := hm c
  refine ⟨(h c).1.trans ?_, (h c).2⟩
  unfold Cert.In0DwRefIdeal.Product.A Cert.In0DwRefIdeal.Product.B
  rw [e0, e1]

theorem in0_dx : Cert.algebraic_In0DxIdeal_In0DxRefIdeal := by
  intro m g m' g' _ hm
  refine ⟨_, Cert.In0DxIdeal.Product.run m g, (θ_run _ _ _).mono (fun r h c => ?_) (Cert.In0DxRefIdeal.Product.run m' g')⟩
  obtain ⟨e0, e1⟩ := hm c
  refine ⟨(h c).1.trans ?_, (h c).2⟩
  unfold Cert.In0DxRefIdeal.Product.A Cert.In0DxRefIdeal.Product.B
  rw [e0, e1]

theorem in0 : Cert.algebraic_In0Ideal_In0RefIdeal := by
  intro m g m' g' _ hm
  refine ⟨_, Cert.In0Ideal.Product.run m g, (θ_run _ _ _).mono (fun r h c => ?_) (Cert.In0RefIdeal.Product.run m' g')⟩
  obtain ⟨e0, e1⟩ := hm c
  refine ⟨(h c).1.trans ?_, (h c).2⟩
  unfold Cert.In0RefIdeal.Product.A Cert.In0RefIdeal.Product.B
  rw [e0, e1]

/-- The norms' gradients and the loss. -/
theorem norms : Cert.algebraic_NormsIdeal_NormsRefIdeal := by
  intro m g m' g' _ hm
  refine ⟨_, _, _, _, Cert.NormsIdeal.Norm.run m g, (θ_run _ _ _).mono (fun r h c => ?_) (Cert.NormsRefIdeal.Value.run m' g')⟩
  obtain ⟨e0, e1, e2, e3, e4, e5⟩ := hm c
  unfold Cert.NormsIdeal.Norm.DO Cert.NormsIdeal.Norm.DX Cert.NormsIdeal.Norm.DH Cert.NormsIdeal.Norm.X Cert.NormsIdeal.Norm.G Cert.NormsIdeal.Norm.M Cert.NormsIdeal.Norm.P
  rw [← e0, ← e1, ← e2, ← e3, ← e4, ← e5]
  rw [← Cert.NormInRefIdeal.Norm.sum_eq]
  exact ⟨(h c).1, (h c).2.1.trans (Cert.NormInRefIdeal.Norm.gains_eq _ _),
    (h c).2.2.1.trans (Cert.NormInRefIdeal.Norm.pull_eq _ _ _ _), (h c).2.2.2.1.trans (Cert.NormInRefIdeal.Norm.gains_eq _ _), (h c).2.2.2.2⟩

theorem norm_in : Cert.algebraic_NormInIdeal_NormInRefIdeal := by
  intro m g m' g' _ hm
  refine ⟨_, _, Cert.NormInIdeal.Norm.run m g, (θ_run _ _ _).mono (fun r h c => ?_) (Cert.NormInRefIdeal.Value.run m' g')⟩
  obtain ⟨e0, e1, e2, e3⟩ := hm c
  unfold Cert.NormInIdeal.Norm.DX Cert.NormInIdeal.Norm.DH Cert.NormInIdeal.Norm.X Cert.NormInIdeal.Norm.G
  rw [← e0, ← e1, ← e2, ← e3]
  exact ⟨(h c).1.trans (Cert.NormInRefIdeal.Norm.sum_eq _ _ _ _), (h c).2.1.trans (Cert.NormInRefIdeal.Norm.gains_eq _ _), (h c).2.2⟩

theorem loss : Cert.algebraic_LossIdeal_LossRefIdeal := by
  intro m g m' g' _ hm
  refine ⟨_, _, _, _, Cert.LossIdeal.Norm.run m g, (θ_run _ _ _).mono (fun r h c => ?_) (Cert.LossRefIdeal.Value.run m' g')⟩
  obtain ⟨e0, e1, e2, e3⟩ := hm c
  unfold Cert.LossIdeal.Norm.DE Cert.LossIdeal.Norm.ER Cert.LossIdeal.Norm.X Cert.LossIdeal.Norm.M Cert.LossIdeal.Norm.P Cert.LossIdeal.Norm.T
  rw [← e0, ← e1, ← e2, ← e3, ← Cert.LossRefIdeal.Norm.error_eq, ← Cert.LossRefIdeal.Norm.error_grad, ← Cert.LossRefIdeal.Norm.loss]
  exact ⟨(h c).1, (h c).2.1.trans (Cert.NormInRefIdeal.Norm.pull_eq _ _ _ _), (h c).2.2.1.trans (Cert.NormInRefIdeal.Norm.gains_eq _ _), (h c).2.2.2⟩

/-- The pooled maps, the norm under silu, and the convolution. -/
theorem pool_dw : Cert.algebraic_PoolDwIdeal_PoolDwRefIdeal := by
  intro m g m' g' _ hm
  refine ⟨_, _, Cert.PoolDwIdeal.Pool.run m g, (θ_run _ _ _).mono (fun r h c => ?_) (Cert.PoolDwRefIdeal.Value.run m' g')⟩
  obtain ⟨e0, e1, e2, e3⟩ := hm c
  unfold Cert.PoolDwIdeal.Pool.D Cert.PoolDwIdeal.Pool.P Cert.PoolDwIdeal.Pool.W Cert.PoolDwIdeal.Pool.S
  rw [← e0, ← e1, ← e2, ← e3]
  exact ⟨(h c).1.trans (Cert.PoolDwRefIdeal.Pool.maps_eq _ _ _), (h c).2.1.trans (Cert.PoolDwRefIdeal.Pool.scales_eq _ _ _), (h c).2.2⟩

theorem silu [Cert.Pre_gradient_finite.Facts] : Cert.algebraic_SiluIdeal_SiluRefIdeal_pre_gradient_finite := by
  intro m g m' g' hp hm
  refine ⟨_, _, Cert.SiluIdeal.Norm.run m g, (θ_run _ _ _).mono (fun r h c => ?_) (Cert.SiluRefIdeal.Value.run m' g')⟩
  obtain ⟨e0, e1, e2, e3⟩ := hm c
  have hr := Cert.SiluRefIdeal.Norm.real_of_finite _ _ _ _ (hp c)
  unfold Cert.SiluIdeal.Norm.DY Cert.SiluIdeal.Norm.X Cert.SiluIdeal.Norm.G Cert.SiluIdeal.Norm.B
  rw [← e0] at hr
  rw [← e0, ← e1, ← e2, ← e3, ← Cert.SiluRefIdeal.Norm.upper_eq]
  exact ⟨(h c).1.trans ((Cert.SiluRefIdeal.Norm.gain_term m' c).trans (Cert.SiluRefIdeal.Norm.gains_eq _ _ _ _ hr)),
    (h c).2.1.trans ((Cert.SiluRefIdeal.Norm.bias_term m' c).trans (Cert.SiluRefIdeal.Norm.biases_eq _ _ _ _ hr)), (h c).2.2⟩

theorem conv : Cert.algebraic_ConvIdeal_ConvRefIdeal := by
  intro m g m' g' _ hm
  refine ⟨_, _, Cert.ConvIdeal.Conv.run m g, (θ_run _ _ _).mono (fun r h c => ?_) (Cert.ConvRefIdeal.Conv.run m' g')⟩
  obtain ⟨e0, e1, -, -⟩ := hm c
  unfold Cert.ConvIdeal.Conv.D Cert.ConvIdeal.Conv.A
  rw [← e0, ← e1]
  exact h c

/-- AdamW: the kernel's and the reference's four arrays are the same. -/
theorem adam_gains : Cert.algebraic_AdamGainsIdeal_AdamGainsRefIdeal := by
  intro m g m' g' _ hm
  refine ⟨_, _, _, _, Cert.AdamGainsIdeal.Value.run m g, (θ_run _ _ _).mono (fun r h c => ?_) (Cert.AdamGainsRefIdeal.Value.run m' g')⟩
  obtain ⟨e0, e1, e2, e3⟩ := hm c
  obtain ⟨s4, s5, s6, s7⟩ := Cert.AdamGainsIdeal.Adam.same (m' (c.tc.loc Cert.AdamGainsRefIdeal.main_arg0)) (m' (c.tc.loc Cert.AdamGainsRefIdeal.main_arg1))
    (m' (c.tc.loc Cert.AdamGainsRefIdeal.main_arg2)) (m' (c.tc.loc Cert.AdamGainsRefIdeal.main_arg3))
  rw [← e0, ← e1, ← e2, ← e3, s4, s5, s6, s7]
  exact ⟨(h c).1.trans (Adam.grads_eq _ _), (h c).2.1.trans (by rw [Adam.means_eq, Adam.squares_eq, Adam.deltas_eq]),
    (h c).2.2.1.trans (Adam.means_eq _ _ _ _), (h c).2.2.2.1.trans (Adam.squares_eq _ _ _ _), (h c).2.2.2.2⟩

theorem adam_ab_in : Cert.algebraic_AdamAbInIdeal_AdamAbInRefIdeal := by
  intro m g m' g' _ hm
  refine ⟨_, _, _, _, Cert.AdamAbInIdeal.Adam.run m g, (θ_run _ _ _).mono (fun r h c => ?_) (Cert.AdamAbInRefIdeal.Value.run m' g')⟩
  obtain ⟨e0, e1, e2, e3⟩ := hm c
  unfold Cert.AdamAbInIdeal.Adam.W Cert.AdamAbInIdeal.Adam.G Cert.AdamAbInIdeal.Adam.M Cert.AdamAbInIdeal.Adam.Q
  rw [← e0, ← e1, ← e2, ← e3]
  exact ⟨(h c).1.trans (Adam.grads_eq _ _), (h c).2.1.trans (by rw [Adam.means_eq, Adam.squares_eq, Adam.deltas_eq]),
    (h c).2.2.1.trans (Adam.means_eq _ _ _ _), (h c).2.2.2.1.trans (Adam.squares_eq _ _ _ _), (h c).2.2.2.2⟩

theorem adam_pool : Cert.algebraic_AdamPoolIdeal_AdamPoolRefIdeal := by
  intro m g m' g' _ hm
  refine ⟨_, _, _, _, Cert.AdamPoolIdeal.Value.run m g, (θ_run _ _ _).mono (fun r h c => ?_) (Cert.AdamPoolRefIdeal.Value.run m' g')⟩
  obtain ⟨e0, e1, e2, e3⟩ := hm c
  obtain ⟨s4, s5, s6, s7⟩ := Cert.AdamPoolIdeal.Adam.same (m' (c.tc.loc Cert.AdamPoolRefIdeal.main_arg0)) (m' (c.tc.loc Cert.AdamPoolRefIdeal.main_arg1))
    (m' (c.tc.loc Cert.AdamPoolRefIdeal.main_arg2)) (m' (c.tc.loc Cert.AdamPoolRefIdeal.main_arg3))
  rw [← e0, ← e1, ← e2, ← e3, s4, s5, s6, s7]
  exact ⟨(h c).1.trans (Adam.grads_eq _ _), (h c).2.1.trans (by rw [Adam.means_eq, Adam.squares_eq, Adam.deltas_eq]),
    (h c).2.2.1.trans (Adam.means_eq _ _ _ _), (h c).2.2.2.1.trans (Adam.squares_eq _ _ _ _), (h c).2.2.2.2⟩

theorem adam_channels : Cert.algebraic_AdamChannelsIdeal_AdamChannelsRefIdeal := by
  intro m g m' g' _ hm
  refine ⟨_, _, _, _, Cert.AdamChannelsIdeal.Value.run m g, (θ_run _ _ _).mono (fun r h c => ?_) (Cert.AdamChannelsRefIdeal.Value.run m' g')⟩
  obtain ⟨e0, e1, e2, e3⟩ := hm c
  obtain ⟨s4, s5, s6, s7⟩ := Cert.AdamChannelsIdeal.Adam.same (m' (c.tc.loc Cert.AdamChannelsRefIdeal.main_arg0)) (m' (c.tc.loc Cert.AdamChannelsRefIdeal.main_arg1))
    (m' (c.tc.loc Cert.AdamChannelsRefIdeal.main_arg2)) (m' (c.tc.loc Cert.AdamChannelsRefIdeal.main_arg3))
  rw [← e0, ← e1, ← e2, ← e3, s4, s5, s6, s7]
  exact ⟨(h c).1.trans (Adam.grads_eq _ _), (h c).2.1.trans (by rw [Adam.means_eq, Adam.squares_eq, Adam.deltas_eq]),
    (h c).2.2.1.trans (Adam.means_eq _ _ _ _), (h c).2.2.2.1.trans (Adam.squares_eq _ _ _ _), (h c).2.2.2.2⟩

theorem adam_taps : Cert.algebraic_AdamTapsIdeal_AdamTapsRefIdeal := by
  intro m g m' g' _ hm
  refine ⟨_, _, _, _, Cert.AdamTapsIdeal.Value.run m g, (θ_run _ _ _).mono (fun r h c => ?_) (Cert.AdamTapsRefIdeal.Value.run m' g')⟩
  obtain ⟨e0, e1, e2, e3⟩ := hm c
  obtain ⟨s4, s5, s6, s7⟩ := Cert.AdamTapsIdeal.Adam.same (m' (c.tc.loc Cert.AdamTapsRefIdeal.main_arg0)) (m' (c.tc.loc Cert.AdamTapsRefIdeal.main_arg1))
    (m' (c.tc.loc Cert.AdamTapsRefIdeal.main_arg2)) (m' (c.tc.loc Cert.AdamTapsRefIdeal.main_arg3))
  rw [← e0, ← e1, ← e2, ← e3, s4, s5, s6, s7]
  exact ⟨(h c).1.trans (Adam.grads_eq _ _), (h c).2.1.trans (by rw [Adam.means_eq, Adam.squares_eq, Adam.deltas_eq]),
    (h c).2.2.1.trans (Adam.means_eq _ _ _ _), (h c).2.2.2.1.trans (Adam.squares_eq _ _ _ _), (h c).2.2.2.2⟩

theorem adam_short_taps : Cert.algebraic_AdamShortTapsIdeal_AdamShortTapsRefIdeal := by
  intro m g m' g' _ hm
  refine ⟨_, _, _, _, Cert.AdamShortTapsIdeal.Value.run m g, (θ_run _ _ _).mono (fun r h c => ?_) (Cert.AdamShortTapsRefIdeal.Value.run m' g')⟩
  obtain ⟨e0, e1, e2, e3⟩ := hm c
  obtain ⟨s4, s5, s6, s7⟩ := Cert.AdamShortTapsIdeal.Adam.same (m' (c.tc.loc Cert.AdamShortTapsRefIdeal.main_arg0)) (m' (c.tc.loc Cert.AdamShortTapsRefIdeal.main_arg1))
    (m' (c.tc.loc Cert.AdamShortTapsRefIdeal.main_arg2)) (m' (c.tc.loc Cert.AdamShortTapsRefIdeal.main_arg3))
  rw [← e0, ← e1, ← e2, ← e3, s4, s5, s6, s7]
  exact ⟨(h c).1.trans (Adam.grads_eq _ _), (h c).2.1.trans (by rw [Adam.means_eq, Adam.squares_eq, Adam.deltas_eq]),
    (h c).2.2.1.trans (Adam.means_eq _ _ _ _), (h c).2.2.2.1.trans (Adam.squares_eq _ _ _ _), (h c).2.2.2.2⟩

theorem adam_out : Cert.algebraic_AdamOutIdeal_AdamOutRefIdeal := by
  intro m g m' g' _ hm
  refine ⟨_, _, _, _, Cert.AdamOutIdeal.Adam.run m g, (θ_run _ _ _).mono (fun r h c => ?_) (Cert.AdamOutRefIdeal.Value.run m' g')⟩
  obtain ⟨e0, e1, e2, e3⟩ := hm c
  unfold Cert.AdamOutIdeal.Adam.W Cert.AdamOutIdeal.Adam.G Cert.AdamOutIdeal.Adam.M Cert.AdamOutIdeal.Adam.Q
  rw [← e0, ← e1, ← e2, ← e3]
  exact ⟨(h c).1.trans (Adam.grads_eq _ _), (h c).2.1.trans (by rw [Adam.means_eq, Adam.squares_eq, Adam.deltas_eq]),
    (h c).2.2.1.trans (Adam.means_eq _ _ _ _), (h c).2.2.2.1.trans (Adam.squares_eq _ _ _ _), (h c).2.2.2.2⟩

theorem adam_short_in : Cert.algebraic_AdamShortInIdeal_AdamShortInRefIdeal := by
  intro m g m' g' _ hm
  refine ⟨_, _, _, _, Cert.AdamShortInIdeal.Adam.run m g, (θ_run _ _ _).mono (fun r h c => ?_) (Cert.AdamShortInRefIdeal.Value.run m' g')⟩
  obtain ⟨e0, e1, e2, e3⟩ := hm c
  unfold Cert.AdamShortInIdeal.Adam.W Cert.AdamShortInIdeal.Adam.G Cert.AdamShortInIdeal.Adam.M Cert.AdamShortInIdeal.Adam.Q
  rw [← e0, ← e1, ← e2, ← e3]
  exact ⟨(h c).1.trans (Adam.grads_eq _ _), (h c).2.1.trans (by rw [Adam.means_eq, Adam.squares_eq, Adam.deltas_eq]),
    (h c).2.2.1.trans (Adam.means_eq _ _ _ _), (h c).2.2.2.1.trans (Adam.squares_eq _ _ _ _), (h c).2.2.2.2⟩

theorem adam_ffn_b : Cert.algebraic_AdamFfnBIdeal_AdamFfnBRefIdeal := by
  intro m g m' g' _ hm
  refine ⟨_, _, _, _, Cert.AdamFfnBIdeal.Adam.run m g, (θ_run _ _ _).mono (fun r h c => ?_) (Cert.AdamFfnBRefIdeal.Value.run m' g')⟩
  obtain ⟨e0, e1, e2, e3⟩ := hm c
  have l (a h') := (Cert.AdamFfnAIdeal.Adam.layer_eq a (by decide +kernel) h').2
  unfold Cert.AdamFfnBIdeal.Adam.W Cert.AdamFfnBIdeal.Adam.G Cert.AdamFfnBIdeal.Adam.M Cert.AdamFfnBIdeal.Adam.Q
  rw [← e0, ← e1, ← e2, ← e3]
  exact ⟨(h c).1.trans (Adam.grads_eq _ _), (h c).2.1.trans (by rw [Adam.means_eq, Adam.squares_eq, Adam.deltas_eq, l, l, l]),
    (h c).2.2.1.trans (by rw [Adam.means_eq, l]), (h c).2.2.2.1.trans (by rw [Adam.squares_eq, l]), (h c).2.2.2.2⟩

theorem adam_ffn_a : Cert.algebraic_AdamFfnAIdeal_AdamFfnARefIdeal := by
  intro m g m' g' _ hm
  refine ⟨_, _, _, _, Cert.AdamFfnAIdeal.Adam.run m g, (θ_run _ _ _).mono (fun r h c => ?_) (Cert.AdamFfnARefIdeal.Value.run m' g')⟩
  obtain ⟨e0, e1, e2, e3, e4, e5, e6, e7⟩ := hm c
  have l (a h) := (Cert.AdamFfnAIdeal.Adam.layer_eq a h (by decide +kernel)).1
  unfold Cert.AdamFfnAIdeal.Adam.W Cert.AdamFfnAIdeal.Adam.G Cert.AdamFfnAIdeal.Adam.M Cert.AdamFfnAIdeal.Adam.Q
  rw [← e0, ← e1, ← e2, ← e3, ← e4, ← e5, ← e6, ← e7, ← Cert.AdamFfnAIdeal.Adam.stack, ← Cert.AdamFfnAIdeal.Adam.stack, ← Cert.AdamFfnAIdeal.Adam.stack, ← Cert.AdamFfnAIdeal.Adam.stack]
  exact ⟨(h c).1.trans (by rw [Adam.grads_eq]), (h c).2.1.trans (by rw [Adam.means_eq, Adam.squares_eq, Adam.deltas_eq, l, l, l]),
    (h c).2.2.1.trans (by rw [Adam.means_eq, l]), (h c).2.2.2.1.trans (by rw [Adam.squares_eq, l]), (h c).2.2.2.2⟩

theorem finite_facts : Cert.Pre_gradient_finite.Facts := ⟨by decide, by decide⟩

theorem claim : Cert.Claim := ⟨Cert.Kernel.Gen.facts, Cert.KernelIdeal.Gen.facts, Cert.ReferenceIdeal.Gen.facts,
  Cert.DownDw.Gen.facts, Cert.DownDwIdeal.Gen.facts, Cert.DownDwRefIdeal.Gen.facts,
  Cert.DownDx.Gen.facts, Cert.DownDxIdeal.Gen.facts, Cert.DownDxRefIdeal.Gen.facts,
  Cert.UpDx.Gen.facts, Cert.UpDxIdeal.Gen.facts, Cert.UpDxRefIdeal.Gen.facts,
  Cert.UpDw.Gen.facts, Cert.UpDwIdeal.Gen.facts, Cert.UpDwRefIdeal.Gen.facts,
  Cert.Up.Gen.facts, Cert.UpIdeal.Gen.facts, Cert.UpRefIdeal.Gen.facts,
  Cert.OutDw.Gen.facts, Cert.OutDwIdeal.Gen.facts, Cert.OutDwRefIdeal.Gen.facts,
  Cert.OutDx.Gen.facts, Cert.OutDxIdeal.Gen.facts, Cert.OutDxRefIdeal.Gen.facts,
  Cert.Out.Gen.facts, Cert.OutIdeal.Gen.facts, Cert.OutRefIdeal.Gen.facts,
  Cert.In1Dw.Gen.facts, Cert.In1DwIdeal.Gen.facts, Cert.In1DwRefIdeal.Gen.facts,
  Cert.In1Dx.Gen.facts, Cert.In1DxIdeal.Gen.facts, Cert.In1DxRefIdeal.Gen.facts,
  Cert.In1.Gen.facts, Cert.In1Ideal.Gen.facts, Cert.In1RefIdeal.Gen.facts,
  Cert.In0Dw.Gen.facts, Cert.In0DwIdeal.Gen.facts, Cert.In0DwRefIdeal.Gen.facts,
  Cert.In0Dx.Gen.facts, Cert.In0DxIdeal.Gen.facts, Cert.In0DxRefIdeal.Gen.facts,
  Cert.In0.Gen.facts, Cert.In0Ideal.Gen.facts, Cert.In0RefIdeal.Gen.facts,
  Cert.Norms.Gen.facts, Cert.NormsIdeal.Gen.facts, Cert.NormsRefIdeal.Gen.facts,
  Cert.NormIn.Gen.facts, Cert.NormInIdeal.Gen.facts, Cert.NormInRefIdeal.Gen.facts,
  Cert.Loss.Gen.facts, Cert.LossIdeal.Gen.facts, Cert.LossRefIdeal.Gen.facts,
  Cert.PoolDw.Gen.facts, Cert.PoolDwIdeal.Gen.facts, Cert.PoolDwRefIdeal.Gen.facts,
  Cert.Silu.Gen.facts, Cert.SiluIdeal.Gen.facts, Cert.SiluRefIdeal.Gen.facts,
  Cert.Conv.Gen.facts, Cert.ConvIdeal.Gen.facts, Cert.ConvRefIdeal.Gen.facts,
  Cert.AdamGains.Gen.facts, Cert.AdamGainsIdeal.Gen.facts, Cert.AdamGainsRefIdeal.Gen.facts,
  Cert.AdamAbIn.Gen.facts, Cert.AdamAbInIdeal.Gen.facts, Cert.AdamAbInRefIdeal.Gen.facts,
  Cert.AdamPool.Gen.facts, Cert.AdamPoolIdeal.Gen.facts, Cert.AdamPoolRefIdeal.Gen.facts,
  Cert.AdamChannels.Gen.facts, Cert.AdamChannelsIdeal.Gen.facts, Cert.AdamChannelsRefIdeal.Gen.facts,
  Cert.AdamTaps.Gen.facts, Cert.AdamTapsIdeal.Gen.facts, Cert.AdamTapsRefIdeal.Gen.facts,
  Cert.AdamShortTaps.Gen.facts, Cert.AdamShortTapsIdeal.Gen.facts, Cert.AdamShortTapsRefIdeal.Gen.facts,
  Cert.AdamOut.Gen.facts, Cert.AdamOutIdeal.Gen.facts, Cert.AdamOutRefIdeal.Gen.facts,
  Cert.AdamShortIn.Gen.facts, Cert.AdamShortInIdeal.Gen.facts, Cert.AdamShortInRefIdeal.Gen.facts,
  Cert.AdamFfnB.Gen.facts, Cert.AdamFfnBIdeal.Gen.facts, Cert.AdamFfnBRefIdeal.Gen.facts,
  Cert.AdamFfnA.Gen.facts, Cert.AdamFfnAIdeal.Gen.facts, Cert.AdamFfnARefIdeal.Gen.facts, finite_facts,
  fun m ρ _ => Cert.Kernel.Gen.frame m ρ, fun m ρ _ => Cert.KernelIdeal.Gen.frame m ρ,
  fun m ρ _ => (θ_run _ _ _).mono (fun r h => ⟨fun c => (h c).2.2, sem_eq_zero_of_no_sems (by decide) r.2⟩) (Cert.ReferenceIdeal.Short.run m ρ),
  fun m ρ _ => Cert.DownDw.Gen.frame m ρ, fun m ρ _ => Cert.DownDwIdeal.Gen.frame m ρ,
  fun m ρ _ => (θ_run _ _ _).mono (fun r h => ⟨fun c => (h c).2, sem_eq_zero_of_no_sems (by decide) r.2⟩) (Cert.DownDwRefIdeal.Product.run m ρ),
  fun m ρ _ => Cert.DownDx.Gen.frame m ρ, fun m ρ _ => Cert.DownDxIdeal.Gen.frame m ρ,
  fun m ρ _ => (θ_run _ _ _).mono (fun r h => ⟨fun c => (h c).2, sem_eq_zero_of_no_sems (by decide) r.2⟩) (Cert.DownDxRefIdeal.Product.run m ρ),
  fun m ρ _ => Cert.UpDx.Gen.frame m ρ, fun m ρ _ => Cert.UpDxIdeal.Gen.frame m ρ,
  fun m ρ _ => (θ_run _ _ _).mono (fun r h => ⟨fun c => (h c).2, sem_eq_zero_of_no_sems (by decide) r.2⟩) (Cert.UpDxRefIdeal.Product.run m ρ),
  fun m ρ _ => Cert.UpDw.Gen.frame m ρ, fun m ρ _ => Cert.UpDwIdeal.Gen.frame m ρ,
  fun m ρ _ => (θ_run _ _ _).mono (fun r h => ⟨fun c => (h c).2, sem_eq_zero_of_no_sems (by decide) r.2⟩) (Cert.UpDwRefIdeal.Product.run m ρ),
  fun m ρ _ => Cert.Up.Gen.frame m ρ, fun m ρ _ => Cert.UpIdeal.Gen.frame m ρ,
  fun m ρ _ => (θ_run _ _ _).mono (fun r h => ⟨fun c => (h c).2.2, sem_eq_zero_of_no_sems (by decide) r.2⟩) (Cert.UpRefIdeal.Product.run m ρ),
  fun m ρ _ => Cert.OutDw.Gen.frame m ρ, fun m ρ _ => Cert.OutDwIdeal.Gen.frame m ρ,
  fun m ρ _ => (θ_run _ _ _).mono (fun r h => ⟨fun c => (h c).2, sem_eq_zero_of_no_sems (by decide) r.2⟩) (Cert.OutDwRefIdeal.Product.run m ρ),
  fun m ρ _ => Cert.OutDx.Gen.frame m ρ, fun m ρ _ => Cert.OutDxIdeal.Gen.frame m ρ,
  fun m ρ _ => (θ_run _ _ _).mono (fun r h => ⟨fun c => (h c).2, sem_eq_zero_of_no_sems (by decide) r.2⟩) (Cert.OutDxRefIdeal.Product.run m ρ),
  fun m ρ _ => Cert.Out.Gen.frame m ρ, fun m ρ _ => Cert.OutIdeal.Gen.frame m ρ,
  fun m ρ _ => (θ_run _ _ _).mono (fun r h => ⟨fun c => (h c).2, sem_eq_zero_of_no_sems (by decide) r.2⟩) (Cert.OutRefIdeal.Product.run m ρ),
  fun m ρ _ => Cert.In1Dw.Gen.frame m ρ, fun m ρ _ => Cert.In1DwIdeal.Gen.frame m ρ,
  fun m ρ _ => (θ_run _ _ _).mono (fun r h => ⟨fun c => (h c).2, sem_eq_zero_of_no_sems (by decide) r.2⟩) (Cert.In1DwRefIdeal.Product.run m ρ),
  fun m ρ _ => Cert.In1Dx.Gen.frame m ρ, fun m ρ _ => Cert.In1DxIdeal.Gen.frame m ρ,
  fun m ρ _ => (θ_run _ _ _).mono (fun r h => ⟨fun c => (h c).2, sem_eq_zero_of_no_sems (by decide) r.2⟩) (Cert.In1DxRefIdeal.Product.run m ρ),
  fun m ρ _ => Cert.In1.Gen.frame m ρ, fun m ρ _ => Cert.In1Ideal.Gen.frame m ρ,
  fun m ρ _ => (θ_run _ _ _).mono (fun r h => ⟨fun c => (h c).2, sem_eq_zero_of_no_sems (by decide) r.2⟩) (Cert.In1RefIdeal.Product.run m ρ),
  fun m ρ _ => Cert.In0Dw.Gen.frame m ρ, fun m ρ _ => Cert.In0DwIdeal.Gen.frame m ρ,
  fun m ρ _ => (θ_run _ _ _).mono (fun r h => ⟨fun c => (h c).2, sem_eq_zero_of_no_sems (by decide) r.2⟩) (Cert.In0DwRefIdeal.Product.run m ρ),
  fun m ρ _ => Cert.In0Dx.Gen.frame m ρ, fun m ρ _ => Cert.In0DxIdeal.Gen.frame m ρ,
  fun m ρ _ => (θ_run _ _ _).mono (fun r h => ⟨fun c => (h c).2, sem_eq_zero_of_no_sems (by decide) r.2⟩) (Cert.In0DxRefIdeal.Product.run m ρ),
  fun m ρ _ => Cert.In0.Gen.frame m ρ, fun m ρ _ => Cert.In0Ideal.Gen.frame m ρ,
  fun m ρ _ => (θ_run _ _ _).mono (fun r h => ⟨fun c => (h c).2, sem_eq_zero_of_no_sems (by decide) r.2⟩) (Cert.In0RefIdeal.Product.run m ρ),
  fun m ρ _ => Cert.Norms.Gen.frame m ρ, fun m ρ _ => Cert.NormsIdeal.Gen.frame m ρ,
  fun m ρ _ => (θ_run _ _ _).mono (fun r h => ⟨fun c => (h c).2.2.2.2, sem_eq_zero_of_no_sems (by decide) r.2⟩) (Cert.NormsRefIdeal.Value.run m ρ),
  fun m ρ _ => Cert.NormIn.Gen.frame m ρ, fun m ρ _ => Cert.NormInIdeal.Gen.frame m ρ,
  fun m ρ _ => (θ_run _ _ _).mono (fun r h => ⟨fun c => (h c).2.2, sem_eq_zero_of_no_sems (by decide) r.2⟩) (Cert.NormInRefIdeal.Value.run m ρ),
  fun m ρ _ => Cert.Loss.Gen.frame m ρ, fun m ρ _ => Cert.LossIdeal.Gen.frame m ρ,
  fun m ρ _ => (θ_run _ _ _).mono (fun r h => ⟨fun c => (h c).2.2.2.2, sem_eq_zero_of_no_sems (by decide) r.2⟩) (Cert.LossRefIdeal.Value.run m ρ),
  fun m ρ _ => Cert.PoolDw.Gen.frame m ρ, fun m ρ _ => Cert.PoolDwIdeal.Gen.frame m ρ,
  fun m ρ _ => (θ_run _ _ _).mono (fun r h => ⟨fun c => (h c).2.2, sem_eq_zero_of_no_sems (by decide) r.2⟩) (Cert.PoolDwRefIdeal.Value.run m ρ),
  fun m ρ _ => Cert.Silu.Gen.frame m ρ, fun m ρ _ => Cert.SiluIdeal.Gen.frame m ρ, fun m ρ _ => Cert.SiluIdeal.Gen.frame m ρ,
  fun m ρ _ => (θ_run _ _ _).mono (fun r h => ⟨fun c => (h c).2.2, sem_eq_zero_of_no_sems (by decide) r.2⟩) (Cert.SiluRefIdeal.Value.run m ρ),
  fun m ρ _ => (θ_run _ _ _).mono (fun r h => ⟨fun c => (h c).2.2, sem_eq_zero_of_no_sems (by decide) r.2⟩) (Cert.SiluRefIdeal.Value.run m ρ),
  fun m ρ _ => Cert.Conv.Gen.frame m ρ, fun m ρ _ => Cert.ConvIdeal.Gen.frame m ρ,
  fun m ρ _ => (θ_run _ _ _).mono (fun r h => ⟨fun c => (h c).2.2, sem_eq_zero_of_no_sems (by decide) r.2⟩) (Cert.ConvRefIdeal.Conv.run m ρ),
  fun m ρ _ => Cert.AdamGains.Gen.frame m ρ, fun m ρ _ => Cert.AdamGainsIdeal.Gen.frame m ρ,
  fun m ρ _ => (θ_run _ _ _).mono (fun r h => ⟨fun c => (h c).2.2.2.2, sem_eq_zero_of_no_sems (by decide) r.2⟩) (Cert.AdamGainsRefIdeal.Value.run m ρ),
  fun m ρ _ => Cert.AdamAbIn.Gen.frame m ρ, fun m ρ _ => Cert.AdamAbInIdeal.Gen.frame m ρ,
  fun m ρ _ => (θ_run _ _ _).mono (fun r h => ⟨fun c => (h c).2.2.2.2, sem_eq_zero_of_no_sems (by decide) r.2⟩) (Cert.AdamAbInRefIdeal.Value.run m ρ),
  fun m ρ _ => Cert.AdamPool.Gen.frame m ρ, fun m ρ _ => Cert.AdamPoolIdeal.Gen.frame m ρ,
  fun m ρ _ => (θ_run _ _ _).mono (fun r h => ⟨fun c => (h c).2.2.2.2, sem_eq_zero_of_no_sems (by decide) r.2⟩) (Cert.AdamPoolRefIdeal.Value.run m ρ),
  fun m ρ _ => Cert.AdamChannels.Gen.frame m ρ, fun m ρ _ => Cert.AdamChannelsIdeal.Gen.frame m ρ,
  fun m ρ _ => (θ_run _ _ _).mono (fun r h => ⟨fun c => (h c).2.2.2.2, sem_eq_zero_of_no_sems (by decide) r.2⟩) (Cert.AdamChannelsRefIdeal.Value.run m ρ),
  fun m ρ _ => Cert.AdamTaps.Gen.frame m ρ, fun m ρ _ => Cert.AdamTapsIdeal.Gen.frame m ρ,
  fun m ρ _ => (θ_run _ _ _).mono (fun r h => ⟨fun c => (h c).2.2.2.2, sem_eq_zero_of_no_sems (by decide) r.2⟩) (Cert.AdamTapsRefIdeal.Value.run m ρ),
  fun m ρ _ => Cert.AdamShortTaps.Gen.frame m ρ, fun m ρ _ => Cert.AdamShortTapsIdeal.Gen.frame m ρ,
  fun m ρ _ => (θ_run _ _ _).mono (fun r h => ⟨fun c => (h c).2.2.2.2, sem_eq_zero_of_no_sems (by decide) r.2⟩) (Cert.AdamShortTapsRefIdeal.Value.run m ρ),
  fun m ρ _ => Cert.AdamOut.Gen.frame m ρ, fun m ρ _ => Cert.AdamOutIdeal.Gen.frame m ρ,
  fun m ρ _ => (θ_run _ _ _).mono (fun r h => ⟨fun c => (h c).2.2.2.2, sem_eq_zero_of_no_sems (by decide) r.2⟩) (Cert.AdamOutRefIdeal.Value.run m ρ),
  fun m ρ _ => Cert.AdamShortIn.Gen.frame m ρ, fun m ρ _ => Cert.AdamShortInIdeal.Gen.frame m ρ,
  fun m ρ _ => (θ_run _ _ _).mono (fun r h => ⟨fun c => (h c).2.2.2.2, sem_eq_zero_of_no_sems (by decide) r.2⟩) (Cert.AdamShortInRefIdeal.Value.run m ρ),
  fun m ρ _ => Cert.AdamFfnB.Gen.frame m ρ, fun m ρ _ => Cert.AdamFfnBIdeal.Gen.frame m ρ,
  fun m ρ _ => (θ_run _ _ _).mono (fun r h => ⟨fun c => (h c).2.2.2.2, sem_eq_zero_of_no_sems (by decide) r.2⟩) (Cert.AdamFfnBRefIdeal.Value.run m ρ),
  fun m ρ _ => Cert.AdamFfnA.Gen.frame m ρ, fun m ρ _ => Cert.AdamFfnAIdeal.Gen.frame m ρ,
  fun m ρ _ => (θ_run _ _ _).mono (fun r h => ⟨fun c => (h c).2.2.2.2, sem_eq_zero_of_no_sems (by decide) r.2⟩) (Cert.AdamFfnARefIdeal.Value.run m ρ),
  trivial, short, trivial, down_dw, trivial, down_dx, trivial, up_dx, trivial, up_dw, trivial, up, trivial, out_dw, trivial, out_dx, trivial, out, trivial, in1_dw, trivial, in1_dx, trivial, in1, trivial, in0_dw, trivial, in0_dx, trivial, in0, trivial, norms, trivial, norm_in, trivial, loss, trivial, pool_dw, trivial, @silu finite_facts, trivial, conv, trivial, adam_gains, trivial, adam_ab_in, trivial, adam_pool, trivial, adam_channels, trivial, adam_taps, trivial, adam_short_taps, trivial, adam_out, trivial, adam_short_in, trivial, adam_ffn_b, trivial, adam_ffn_a⟩

end Cert.Proof

end
